-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_SconvKernel (m : (ℓ : Loc Cert.SconvKernel.nD Cert.SconvKernel.τ Cert.SconvKernel.sig) → Buf (Elt Bits) ℓ) : Prop :=
  True

def Pre_SconvKernelIdeal (m : (ℓ : Loc Cert.SconvKernelIdeal.nD Cert.SconvKernelIdeal.τ Cert.SconvKernelIdeal.sig) → Buf (Elt Ideal) ℓ) : Prop :=
  True

def Pre_SconvReferenceIdeal (m : (ℓ : Loc Cert.SconvReferenceIdeal.nD Cert.SconvReferenceIdeal.τ Cert.SconvReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_ConfKernel (m : (ℓ : Loc Cert.ConfKernel.nD Cert.ConfKernel.τ Cert.ConfKernel.sig) → Buf (Elt Bits) ℓ) : Prop :=
  True

def Pre_ConfKernelIdeal (m : (ℓ : Loc Cert.ConfKernelIdeal.nD Cert.ConfKernelIdeal.τ Cert.ConfKernelIdeal.sig) → Buf (Elt Ideal) ℓ) : Prop :=
  True

def Pre_ConfReferenceIdeal (m : (ℓ : Loc Cert.ConfReferenceIdeal.nD Cert.ConfReferenceIdeal.τ Cert.ConfReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_SconvKernel [hSconvKernel : Cert.SconvKernel.Facts] : Prop :=
  ∀ (m : (ℓ : Loc Cert.SconvKernel.nD Cert.SconvKernel.τ Cert.SconvKernel.sig) → Buf (Elt Bits) ℓ) (g : Dev Cert.SconvKernel.nD → PrngReg), Pre_SconvKernel m →
    θ_run (Cert.SconvKernel.defs (F := Bits)) (onTc (τ := Cert.SconvKernel.τ) (Cert.SconvKernel.main (F := Bits))) ⟨m, fun _ => 0, g⟩ (fun r => (∀ c : Dev Cert.SconvKernel.nD,
      r.2.mem ((c.tc : Thread Cert.SconvKernel.nD Cert.SconvKernel.τ).loc Cert.SconvKernel.main_arg0) = m ((c.tc : Thread Cert.SconvKernel.nD Cert.SconvKernel.τ).loc Cert.SconvKernel.main_arg0)
      ∧ r.2.mem ((c.tc : Thread Cert.SconvKernel.nD Cert.SconvKernel.τ).loc Cert.SconvKernel.main_arg1) = m ((c.tc : Thread Cert.SconvKernel.nD Cert.SconvKernel.τ).loc Cert.SconvKernel.main_arg1)
      ∧ r.2.mem ((c.tc : Thread Cert.SconvKernel.nD Cert.SconvKernel.τ).loc Cert.SconvKernel.main_arg2) = m ((c.tc : Thread Cert.SconvKernel.nD Cert.SconvKernel.τ).loc Cert.SconvKernel.main_arg2)
      ∧ r.2.mem ((c.tc : Thread Cert.SconvKernel.nD Cert.SconvKernel.τ).loc Cert.SconvKernel.main_arg3) = m ((c.tc : Thread Cert.SconvKernel.nD Cert.SconvKernel.τ).loc Cert.SconvKernel.main_arg3)
      ∧ r.2.mem ((c.tc : Thread Cert.SconvKernel.nD Cert.SconvKernel.τ).loc Cert.SconvKernel.main_arg4) = m ((c.tc : Thread Cert.SconvKernel.nD Cert.SconvKernel.τ).loc Cert.SconvKernel.main_arg4)
      ∧ r.2.mem ((c.tc : Thread Cert.SconvKernel.nD Cert.SconvKernel.τ).loc Cert.SconvKernel.main_arg5) = m ((c.tc : Thread Cert.SconvKernel.nD Cert.SconvKernel.τ).loc Cert.SconvKernel.main_arg5))
      ∧ r.2.sem = fun _ => 0)

def quiescent_SconvKernelIdeal [hSconvKernelIdeal : Cert.SconvKernelIdeal.Facts] : Prop :=
  ∀ (m : (ℓ : Loc Cert.SconvKernelIdeal.nD Cert.SconvKernelIdeal.τ Cert.SconvKernelIdeal.sig) → Buf (Elt Ideal) ℓ) (g : Dev Cert.SconvKernelIdeal.nD → PrngReg), Pre_SconvKernelIdeal m →
    θ_run (Cert.SconvKernelIdeal.defs (F := Ideal)) (onTc (τ := Cert.SconvKernelIdeal.τ) (Cert.SconvKernelIdeal.main (F := Ideal))) ⟨m, fun _ => 0, g⟩ (fun r => (∀ c : Dev Cert.SconvKernelIdeal.nD,
      r.2.mem ((c.tc : Thread Cert.SconvKernelIdeal.nD Cert.SconvKernelIdeal.τ).loc Cert.SconvKernelIdeal.main_arg0) = m ((c.tc : Thread Cert.SconvKernelIdeal.nD Cert.SconvKernelIdeal.τ).loc Cert.SconvKernelIdeal.main_arg0)
      ∧ r.2.mem ((c.tc : Thread Cert.SconvKernelIdeal.nD Cert.SconvKernelIdeal.τ).loc Cert.SconvKernelIdeal.main_arg1) = m ((c.tc : Thread Cert.SconvKernelIdeal.nD Cert.SconvKernelIdeal.τ).loc Cert.SconvKernelIdeal.main_arg1)
      ∧ r.2.mem ((c.tc : Thread Cert.SconvKernelIdeal.nD Cert.SconvKernelIdeal.τ).loc Cert.SconvKernelIdeal.main_arg2) = m ((c.tc : Thread Cert.SconvKernelIdeal.nD Cert.SconvKernelIdeal.τ).loc Cert.SconvKernelIdeal.main_arg2)
      ∧ r.2.mem ((c.tc : Thread Cert.SconvKernelIdeal.nD Cert.SconvKernelIdeal.τ).loc Cert.SconvKernelIdeal.main_arg3) = m ((c.tc : Thread Cert.SconvKernelIdeal.nD Cert.SconvKernelIdeal.τ).loc Cert.SconvKernelIdeal.main_arg3)
      ∧ r.2.mem ((c.tc : Thread Cert.SconvKernelIdeal.nD Cert.SconvKernelIdeal.τ).loc Cert.SconvKernelIdeal.main_arg4) = m ((c.tc : Thread Cert.SconvKernelIdeal.nD Cert.SconvKernelIdeal.τ).loc Cert.SconvKernelIdeal.main_arg4)
      ∧ r.2.mem ((c.tc : Thread Cert.SconvKernelIdeal.nD Cert.SconvKernelIdeal.τ).loc Cert.SconvKernelIdeal.main_arg5) = m ((c.tc : Thread Cert.SconvKernelIdeal.nD Cert.SconvKernelIdeal.τ).loc Cert.SconvKernelIdeal.main_arg5))
      ∧ r.2.sem = fun _ => 0)

def quiescent_SconvReferenceIdeal [hSconvReferenceIdeal : Cert.SconvReferenceIdeal.Facts] : Prop :=
  ∀ (m : (ℓ : Loc Cert.SconvReferenceIdeal.nD Cert.SconvReferenceIdeal.τ Cert.SconvReferenceIdeal.sig) → Buf (Elt Ideal) ℓ) (g : Dev Cert.SconvReferenceIdeal.nD → PrngReg), Pre_SconvReferenceIdeal m →
    θ_run (Cert.SconvReferenceIdeal.defs (F := Ideal)) (onTc (τ := Cert.SconvReferenceIdeal.τ) (Cert.SconvReferenceIdeal.main (F := Ideal))) ⟨m, fun _ => 0, g⟩ (fun r => (∀ c : Dev Cert.SconvReferenceIdeal.nD,
      r.2.mem ((c.tc : Thread Cert.SconvReferenceIdeal.nD Cert.SconvReferenceIdeal.τ).loc Cert.SconvReferenceIdeal.main_arg0) = m ((c.tc : Thread Cert.SconvReferenceIdeal.nD Cert.SconvReferenceIdeal.τ).loc Cert.SconvReferenceIdeal.main_arg0)
      ∧ r.2.mem ((c.tc : Thread Cert.SconvReferenceIdeal.nD Cert.SconvReferenceIdeal.τ).loc Cert.SconvReferenceIdeal.main_arg1) = m ((c.tc : Thread Cert.SconvReferenceIdeal.nD Cert.SconvReferenceIdeal.τ).loc Cert.SconvReferenceIdeal.main_arg1)
      ∧ r.2.mem ((c.tc : Thread Cert.SconvReferenceIdeal.nD Cert.SconvReferenceIdeal.τ).loc Cert.SconvReferenceIdeal.main_arg2) = m ((c.tc : Thread Cert.SconvReferenceIdeal.nD Cert.SconvReferenceIdeal.τ).loc Cert.SconvReferenceIdeal.main_arg2)
      ∧ r.2.mem ((c.tc : Thread Cert.SconvReferenceIdeal.nD Cert.SconvReferenceIdeal.τ).loc Cert.SconvReferenceIdeal.main_arg3) = m ((c.tc : Thread Cert.SconvReferenceIdeal.nD Cert.SconvReferenceIdeal.τ).loc Cert.SconvReferenceIdeal.main_arg3)
      ∧ r.2.mem ((c.tc : Thread Cert.SconvReferenceIdeal.nD Cert.SconvReferenceIdeal.τ).loc Cert.SconvReferenceIdeal.main_arg4) = m ((c.tc : Thread Cert.SconvReferenceIdeal.nD Cert.SconvReferenceIdeal.τ).loc Cert.SconvReferenceIdeal.main_arg4)
      ∧ r.2.mem ((c.tc : Thread Cert.SconvReferenceIdeal.nD Cert.SconvReferenceIdeal.τ).loc Cert.SconvReferenceIdeal.main_arg5) = m ((c.tc : Thread Cert.SconvReferenceIdeal.nD Cert.SconvReferenceIdeal.τ).loc Cert.SconvReferenceIdeal.main_arg5))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3)
      ∧ r.2.mem ((c.tc : Thread Cert.PoolKernel.nD Cert.PoolKernel.τ).loc Cert.PoolKernel.main_arg4) = m ((c.tc : Thread Cert.PoolKernel.nD Cert.PoolKernel.τ).loc Cert.PoolKernel.main_arg4)
      ∧ r.2.mem ((c.tc : Thread Cert.PoolKernel.nD Cert.PoolKernel.τ).loc Cert.PoolKernel.main_arg5) = m ((c.tc : Thread Cert.PoolKernel.nD Cert.PoolKernel.τ).loc Cert.PoolKernel.main_arg5)
      ∧ r.2.mem ((c.tc : Thread Cert.PoolKernel.nD Cert.PoolKernel.τ).loc Cert.PoolKernel.main_arg6) = m ((c.tc : Thread Cert.PoolKernel.nD Cert.PoolKernel.τ).loc Cert.PoolKernel.main_arg6))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4)
      ∧ r.2.mem ((c.tc : Thread Cert.PoolKernelIdeal.nD Cert.PoolKernelIdeal.τ).loc Cert.PoolKernelIdeal.main_arg5) = m ((c.tc : Thread Cert.PoolKernelIdeal.nD Cert.PoolKernelIdeal.τ).loc Cert.PoolKernelIdeal.main_arg5)
      ∧ r.2.mem ((c.tc : Thread Cert.PoolKernelIdeal.nD Cert.PoolKernelIdeal.τ).loc Cert.PoolKernelIdeal.main_arg6) = m ((c.tc : Thread Cert.PoolKernelIdeal.nD Cert.PoolKernelIdeal.τ).loc Cert.PoolKernelIdeal.main_arg6))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def quiescent_ConfKernel [hConfKernel : Cert.ConfKernel.Facts] : Prop :=
  ∀ (m : (ℓ : Loc Cert.ConfKernel.nD Cert.ConfKernel.τ Cert.ConfKernel.sig) → Buf (Elt Bits) ℓ) (g : Dev Cert.ConfKernel.nD → PrngReg), Pre_ConfKernel m →
    θ_run (Cert.ConfKernel.defs (F := Bits)) (onTc (τ := Cert.ConfKernel.τ) (Cert.ConfKernel.main (F := Bits))) ⟨m, fun _ => 0, g⟩ (fun r => (∀ c : Dev Cert.ConfKernel.nD,
      r.2.mem ((c.tc : Thread Cert.ConfKernel.nD Cert.ConfKernel.τ).loc Cert.ConfKernel.main_arg0) = m ((c.tc : Thread Cert.ConfKernel.nD Cert.ConfKernel.τ).loc Cert.ConfKernel.main_arg0)
      ∧ r.2.mem ((c.tc : Thread Cert.ConfKernel.nD Cert.ConfKernel.τ).loc Cert.ConfKernel.main_arg1) = m ((c.tc : Thread Cert.ConfKernel.nD Cert.ConfKernel.τ).loc Cert.ConfKernel.main_arg1)
      ∧ r.2.mem ((c.tc : Thread Cert.ConfKernel.nD Cert.ConfKernel.τ).loc Cert.ConfKernel.main_arg2) = m ((c.tc : Thread Cert.ConfKernel.nD Cert.ConfKernel.τ).loc Cert.ConfKernel.main_arg2)
      ∧ r.2.mem ((c.tc : Thread Cert.ConfKernel.nD Cert.ConfKernel.τ).loc Cert.ConfKernel.main_arg3) = m ((c.tc : Thread Cert.ConfKernel.nD Cert.ConfKernel.τ).loc Cert.ConfKernel.main_arg3)
      ∧ r.2.mem ((c.tc : Thread Cert.ConfKernel.nD Cert.ConfKernel.τ).loc Cert.ConfKernel.main_arg4) = m ((c.tc : Thread Cert.ConfKernel.nD Cert.ConfKernel.τ).loc Cert.ConfKernel.main_arg4)
      ∧ r.2.mem ((c.tc : Thread Cert.ConfKernel.nD Cert.ConfKernel.τ).loc Cert.ConfKernel.main_arg5) = m ((c.tc : Thread Cert.ConfKernel.nD Cert.ConfKernel.τ).loc Cert.ConfKernel.main_arg5)
      ∧ r.2.mem ((c.tc : Thread Cert.ConfKernel.nD Cert.ConfKernel.τ).loc Cert.ConfKernel.main_arg6) = m ((c.tc : Thread Cert.ConfKernel.nD Cert.ConfKernel.τ).loc Cert.ConfKernel.main_arg6)
      ∧ r.2.mem ((c.tc : Thread Cert.ConfKernel.nD Cert.ConfKernel.τ).loc Cert.ConfKernel.main_arg7) = m ((c.tc : Thread Cert.ConfKernel.nD Cert.ConfKernel.τ).loc Cert.ConfKernel.main_arg7)
      ∧ r.2.mem ((c.tc : Thread Cert.ConfKernel.nD Cert.ConfKernel.τ).loc Cert.ConfKernel.main_arg8) = m ((c.tc : Thread Cert.ConfKernel.nD Cert.ConfKernel.τ).loc Cert.ConfKernel.main_arg8))
      ∧ r.2.sem = fun _ => 0)

def quiescent_ConfKernelIdeal [hConfKernelIdeal : Cert.ConfKernelIdeal.Facts] : Prop :=
  ∀ (m : (ℓ : Loc Cert.ConfKernelIdeal.nD Cert.ConfKernelIdeal.τ Cert.ConfKernelIdeal.sig) → Buf (Elt Ideal) ℓ) (g : Dev Cert.ConfKernelIdeal.nD → PrngReg), Pre_ConfKernelIdeal m →
    θ_run (Cert.ConfKernelIdeal.defs (F := Ideal)) (onTc (τ := Cert.ConfKernelIdeal.τ) (Cert.ConfKernelIdeal.main (F := Ideal))) ⟨m, fun _ => 0, g⟩ (fun r => (∀ c : Dev Cert.ConfKernelIdeal.nD,
      r.2.mem ((c.tc : Thread Cert.ConfKernelIdeal.nD Cert.ConfKernelIdeal.τ).loc Cert.ConfKernelIdeal.main_arg0) = m ((c.tc : Thread Cert.ConfKernelIdeal.nD Cert.ConfKernelIdeal.τ).loc Cert.ConfKernelIdeal.main_arg0)
      ∧ r.2.mem ((c.tc : Thread Cert.ConfKernelIdeal.nD Cert.ConfKernelIdeal.τ).loc Cert.ConfKernelIdeal.main_arg1) = m ((c.tc : Thread Cert.ConfKernelIdeal.nD Cert.ConfKernelIdeal.τ).loc Cert.ConfKernelIdeal.main_arg1)
      ∧ r.2.mem ((c.tc : Thread Cert.ConfKernelIdeal.nD Cert.ConfKernelIdeal.τ).loc Cert.ConfKernelIdeal.main_arg2) = m ((c.tc : Thread Cert.ConfKernelIdeal.nD Cert.ConfKernelIdeal.τ).loc Cert.ConfKernelIdeal.main_arg2)
      ∧ r.2.mem ((c.tc : Thread Cert.ConfKernelIdeal.nD Cert.ConfKernelIdeal.τ).loc Cert.ConfKernelIdeal.main_arg3) = m ((c.tc : Thread Cert.ConfKernelIdeal.nD Cert.ConfKernelIdeal.τ).loc Cert.ConfKernelIdeal.main_arg3)
      ∧ r.2.mem ((c.tc : Thread Cert.ConfKernelIdeal.nD Cert.ConfKernelIdeal.τ).loc Cert.ConfKernelIdeal.main_arg4) = m ((c.tc : Thread Cert.ConfKernelIdeal.nD Cert.ConfKernelIdeal.τ).loc Cert.ConfKernelIdeal.main_arg4)
      ∧ r.2.mem ((c.tc : Thread Cert.ConfKernelIdeal.nD Cert.ConfKernelIdeal.τ).loc Cert.ConfKernelIdeal.main_arg5) = m ((c.tc : Thread Cert.ConfKernelIdeal.nD Cert.ConfKernelIdeal.τ).loc Cert.ConfKernelIdeal.main_arg5)
      ∧ r.2.mem ((c.tc : Thread Cert.ConfKernelIdeal.nD Cert.ConfKernelIdeal.τ).loc Cert.ConfKernelIdeal.main_arg6) = m ((c.tc : Thread Cert.ConfKernelIdeal.nD Cert.ConfKernelIdeal.τ).loc Cert.ConfKernelIdeal.main_arg6)
      ∧ r.2.mem ((c.tc : Thread Cert.ConfKernelIdeal.nD Cert.ConfKernelIdeal.τ).loc Cert.ConfKernelIdeal.main_arg7) = m ((c.tc : Thread Cert.ConfKernelIdeal.nD Cert.ConfKernelIdeal.τ).loc Cert.ConfKernelIdeal.main_arg7)
      ∧ r.2.mem ((c.tc : Thread Cert.ConfKernelIdeal.nD Cert.ConfKernelIdeal.τ).loc Cert.ConfKernelIdeal.main_arg8) = m ((c.tc : Thread Cert.ConfKernelIdeal.nD Cert.ConfKernelIdeal.τ).loc Cert.ConfKernelIdeal.main_arg8))
      ∧ r.2.sem = fun _ => 0)

def quiescent_ConfReferenceIdeal [hConfReferenceIdeal : Cert.ConfReferenceIdeal.Facts] : Prop :=
  ∀ (m : (ℓ : Loc Cert.ConfReferenceIdeal.nD Cert.ConfReferenceIdeal.τ Cert.ConfReferenceIdeal.sig) → Buf (Elt Ideal) ℓ) (g : Dev Cert.ConfReferenceIdeal.nD → PrngReg), Pre_ConfReferenceIdeal m →
    θ_run (Cert.ConfReferenceIdeal.defs (F := Ideal)) (onTc (τ := Cert.ConfReferenceIdeal.τ) (Cert.ConfReferenceIdeal.main (F := Ideal))) ⟨m, fun _ => 0, g⟩ (fun r => (∀ c : Dev Cert.ConfReferenceIdeal.nD,
      r.2.mem ((c.tc : Thread Cert.ConfReferenceIdeal.nD Cert.ConfReferenceIdeal.τ).loc Cert.ConfReferenceIdeal.main_arg0) = m ((c.tc : Thread Cert.ConfReferenceIdeal.nD Cert.ConfReferenceIdeal.τ).loc Cert.ConfReferenceIdeal.main_arg0)
      ∧ r.2.mem ((c.tc : Thread Cert.ConfReferenceIdeal.nD Cert.ConfReferenceIdeal.τ).loc Cert.ConfReferenceIdeal.main_arg1) = m ((c.tc : Thread Cert.ConfReferenceIdeal.nD Cert.ConfReferenceIdeal.τ).loc Cert.ConfReferenceIdeal.main_arg1)
      ∧ r.2.mem ((c.tc : Thread Cert.ConfReferenceIdeal.nD Cert.ConfReferenceIdeal.τ).loc Cert.ConfReferenceIdeal.main_arg2) = m ((c.tc : Thread Cert.ConfReferenceIdeal.nD Cert.ConfReferenceIdeal.τ).loc Cert.ConfReferenceIdeal.main_arg2)
      ∧ r.2.mem ((c.tc : Thread Cert.ConfReferenceIdeal.nD Cert.ConfReferenceIdeal.τ).loc Cert.ConfReferenceIdeal.main_arg3) = m ((c.tc : Thread Cert.ConfReferenceIdeal.nD Cert.ConfReferenceIdeal.τ).loc Cert.ConfReferenceIdeal.main_arg3)
      ∧ r.2.mem ((c.tc : Thread Cert.ConfReferenceIdeal.nD Cert.ConfReferenceIdeal.τ).loc Cert.ConfReferenceIdeal.main_arg4) = m ((c.tc : Thread Cert.ConfReferenceIdeal.nD Cert.ConfReferenceIdeal.τ).loc Cert.ConfReferenceIdeal.main_arg4)
      ∧ r.2.mem ((c.tc : Thread Cert.ConfReferenceIdeal.nD Cert.ConfReferenceIdeal.τ).loc Cert.ConfReferenceIdeal.main_arg5) = m ((c.tc : Thread Cert.ConfReferenceIdeal.nD Cert.ConfReferenceIdeal.τ).loc Cert.ConfReferenceIdeal.main_arg5)
      ∧ r.2.mem ((c.tc : Thread Cert.ConfReferenceIdeal.nD Cert.ConfReferenceIdeal.τ).loc Cert.ConfReferenceIdeal.main_arg6) = m ((c.tc : Thread Cert.ConfReferenceIdeal.nD Cert.ConfReferenceIdeal.τ).loc Cert.ConfReferenceIdeal.main_arg6)
      ∧ r.2.mem ((c.tc : Thread Cert.ConfReferenceIdeal.nD Cert.ConfReferenceIdeal.τ).loc Cert.ConfReferenceIdeal.main_arg7) = m ((c.tc : Thread Cert.ConfReferenceIdeal.nD Cert.ConfReferenceIdeal.τ).loc Cert.ConfReferenceIdeal.main_arg7)
      ∧ r.2.mem ((c.tc : Thread Cert.ConfReferenceIdeal.nD Cert.ConfReferenceIdeal.τ).loc Cert.ConfReferenceIdeal.main_arg8) = m ((c.tc : Thread Cert.ConfReferenceIdeal.nD Cert.ConfReferenceIdeal.τ).loc Cert.ConfReferenceIdeal.main_arg8))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5)
      ∧ r.2.mem ((c.tc : Thread Cert.SguKernel.nD Cert.SguKernel.τ).loc Cert.SguKernel.main_arg6) = m ((c.tc : Thread Cert.SguKernel.nD Cert.SguKernel.τ).loc Cert.SguKernel.main_arg6)
      ∧ r.2.mem ((c.tc : Thread Cert.SguKernel.nD Cert.SguKernel.τ).loc Cert.SguKernel.main_arg7) = m ((c.tc : Thread Cert.SguKernel.nD Cert.SguKernel.τ).loc Cert.SguKernel.main_arg7)
      ∧ r.2.mem ((c.tc : Thread Cert.SguKernel.nD Cert.SguKernel.τ).loc Cert.SguKernel.main_arg8) = m ((c.tc : Thread Cert.SguKernel.nD Cert.SguKernel.τ).loc Cert.SguKernel.main_arg8))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
      ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
      ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7)
      ∧ r.2.mem ((c.tc : Thread Cert.SguKernelIdeal.nD Cert.SguKernelIdeal.τ).loc Cert.SguKernelIdeal.main_arg8) = m ((c.tc : Thread Cert.SguKernelIdeal.nD Cert.SguKernelIdeal.τ).loc Cert.SguKernelIdeal.main_arg8))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7)
      ∧ r.2.mem ((c.tc : Thread Cert.SguReferenceIdeal.nD Cert.SguReferenceIdeal.τ).loc Cert.SguReferenceIdeal.main_arg8) = m ((c.tc : Thread Cert.SguReferenceIdeal.nD Cert.SguReferenceIdeal.τ).loc Cert.SguReferenceIdeal.main_arg8))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v6) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_SconvKernel_SconvKernelIdeal : Prop :=
  True

def algebraic_SconvKernelIdeal_SconvReferenceIdeal [hSconvKernelIdeal : Cert.SconvKernelIdeal.Facts] [hSconvReferenceIdeal : Cert.SconvReferenceIdeal.Facts] : Prop :=
  ∀ (m : (ℓ : Loc Cert.SconvKernelIdeal.nD Cert.SconvKernelIdeal.τ Cert.SconvKernelIdeal.sig) → Buf (Elt Ideal) ℓ) (g : Dev Cert.SconvKernelIdeal.nD → PrngReg)
    (m' : (ℓ : Loc Cert.SconvReferenceIdeal.nD Cert.SconvReferenceIdeal.τ Cert.SconvReferenceIdeal.sig) → Buf (Elt Ideal) ℓ) (g' : Dev Cert.SconvReferenceIdeal.nD → PrngReg), Pre_SconvKernelIdeal m →
    (∀ c : Dev Cert.SconvKernelIdeal.nD,
      m' ((c.tc : Thread Cert.SconvReferenceIdeal.nD Cert.SconvReferenceIdeal.τ).loc Cert.SconvReferenceIdeal.main_arg0) = m ((c.tc : Thread Cert.SconvKernelIdeal.nD Cert.SconvKernelIdeal.τ).loc Cert.SconvKernelIdeal.main_arg0)
      ∧ m' ((c.tc : Thread Cert.SconvReferenceIdeal.nD Cert.SconvReferenceIdeal.τ).loc Cert.SconvReferenceIdeal.main_arg1) = m ((c.tc : Thread Cert.SconvKernelIdeal.nD Cert.SconvKernelIdeal.τ).loc Cert.SconvKernelIdeal.main_arg1)
      ∧ m' ((c.tc : Thread Cert.SconvReferenceIdeal.nD Cert.SconvReferenceIdeal.τ).loc Cert.SconvReferenceIdeal.main_arg2) = m ((c.tc : Thread Cert.SconvKernelIdeal.nD Cert.SconvKernelIdeal.τ).loc Cert.SconvKernelIdeal.main_arg2)
      ∧ m' ((c.tc : Thread Cert.SconvReferenceIdeal.nD Cert.SconvReferenceIdeal.τ).loc Cert.SconvReferenceIdeal.main_arg3) = m ((c.tc : Thread Cert.SconvKernelIdeal.nD Cert.SconvKernelIdeal.τ).loc Cert.SconvKernelIdeal.main_arg3)
      ∧ m' ((c.tc : Thread Cert.SconvReferenceIdeal.nD Cert.SconvReferenceIdeal.τ).loc Cert.SconvReferenceIdeal.main_arg4) = m ((c.tc : Thread Cert.SconvKernelIdeal.nD Cert.SconvKernelIdeal.τ).loc Cert.SconvKernelIdeal.main_arg4)
      ∧ m' ((c.tc : Thread Cert.SconvReferenceIdeal.nD Cert.SconvReferenceIdeal.τ).loc Cert.SconvReferenceIdeal.main_arg5) = m ((c.tc : Thread Cert.SconvKernelIdeal.nD Cert.SconvKernelIdeal.τ).loc Cert.SconvKernelIdeal.main_arg5)) →
    ∃ (v0 : (c : Dev Cert.SconvKernelIdeal.nD) → Buf (Elt Ideal) ((c.tc : Thread Cert.SconvKernelIdeal.nD Cert.SconvKernelIdeal.τ).loc Cert.SconvKernelIdeal.main_v5)),
      θ_run (Cert.SconvKernelIdeal.defs (F := Ideal)) (onTc (τ := Cert.SconvKernelIdeal.τ) (Cert.SconvKernelIdeal.main (F := Ideal))) ⟨m, fun _ => 0, g⟩ (fun r => ∀ c : Dev Cert.SconvKernelIdeal.nD,
          r.2.mem ((c.tc : Thread Cert.SconvKernelIdeal.nD Cert.SconvKernelIdeal.τ).loc Cert.SconvKernelIdeal.main_v5) = v0 c
          ∧ r.2.mem ((c.tc : Thread Cert.SconvKernelIdeal.nD Cert.SconvKernelIdeal.τ).loc Cert.SconvKernelIdeal.main_arg0) = m ((c.tc : Thread Cert.SconvKernelIdeal.nD Cert.SconvKernelIdeal.τ).loc Cert.SconvKernelIdeal.main_arg0)
          ∧ r.2.mem ((c.tc : Thread Cert.SconvKernelIdeal.nD Cert.SconvKernelIdeal.τ).loc Cert.SconvKernelIdeal.main_arg1) = m ((c.tc : Thread Cert.SconvKernelIdeal.nD Cert.SconvKernelIdeal.τ).loc Cert.SconvKernelIdeal.main_arg1)
          ∧ r.2.mem ((c.tc : Thread Cert.SconvKernelIdeal.nD Cert.SconvKernelIdeal.τ).loc Cert.SconvKernelIdeal.main_arg2) = m ((c.tc : Thread Cert.SconvKernelIdeal.nD Cert.SconvKernelIdeal.τ).loc Cert.SconvKernelIdeal.main_arg2)
          ∧ r.2.mem ((c.tc : Thread Cert.SconvKernelIdeal.nD Cert.SconvKernelIdeal.τ).loc Cert.SconvKernelIdeal.main_arg3) = m ((c.tc : Thread Cert.SconvKernelIdeal.nD Cert.SconvKernelIdeal.τ).loc Cert.SconvKernelIdeal.main_arg3)
          ∧ r.2.mem ((c.tc : Thread Cert.SconvKernelIdeal.nD Cert.SconvKernelIdeal.τ).loc Cert.SconvKernelIdeal.main_arg4) = m ((c.tc : Thread Cert.SconvKernelIdeal.nD Cert.SconvKernelIdeal.τ).loc Cert.SconvKernelIdeal.main_arg4)
          ∧ r.2.mem ((c.tc : Thread Cert.SconvKernelIdeal.nD Cert.SconvKernelIdeal.τ).loc Cert.SconvKernelIdeal.main_arg5) = m ((c.tc : Thread Cert.SconvKernelIdeal.nD Cert.SconvKernelIdeal.τ).loc Cert.SconvKernelIdeal.main_arg5))
      ∧ θ_run (Cert.SconvReferenceIdeal.defs (F := Ideal)) (onTc (τ := Cert.SconvReferenceIdeal.τ) (Cert.SconvReferenceIdeal.main (F := Ideal))) ⟨m', fun _ => 0, g'⟩ (fun r => ∀ c : Dev Cert.SconvReferenceIdeal.nD,
          r.2.mem ((c.tc : Thread Cert.SconvReferenceIdeal.nD Cert.SconvReferenceIdeal.τ).loc Cert.SconvReferenceIdeal.main_v57) = v0 c
          ∧ r.2.mem ((c.tc : Thread Cert.SconvReferenceIdeal.nD Cert.SconvReferenceIdeal.τ).loc Cert.SconvReferenceIdeal.main_arg0) = m' ((c.tc : Thread Cert.SconvReferenceIdeal.nD Cert.SconvReferenceIdeal.τ).loc Cert.SconvReferenceIdeal.main_arg0)
          ∧ r.2.mem ((c.tc : Thread Cert.SconvReferenceIdeal.nD Cert.SconvReferenceIdeal.τ).loc Cert.SconvReferenceIdeal.main_arg1) = m' ((c.tc : Thread Cert.SconvReferenceIdeal.nD Cert.SconvReferenceIdeal.τ).loc Cert.SconvReferenceIdeal.main_arg1)
          ∧ r.2.mem ((c.tc : Thread Cert.SconvReferenceIdeal.nD Cert.SconvReferenceIdeal.τ).loc Cert.SconvReferenceIdeal.main_arg2) = m' ((c.tc : Thread Cert.SconvReferenceIdeal.nD Cert.SconvReferenceIdeal.τ).loc Cert.SconvReferenceIdeal.main_arg2)
          ∧ r.2.mem ((c.tc : Thread Cert.SconvReferenceIdeal.nD Cert.SconvReferenceIdeal.τ).loc Cert.SconvReferenceIdeal.main_arg3) = m' ((c.tc : Thread Cert.SconvReferenceIdeal.nD Cert.SconvReferenceIdeal.τ).loc Cert.SconvReferenceIdeal.main_arg3)
          ∧ r.2.mem ((c.tc : Thread Cert.SconvReferenceIdeal.nD Cert.SconvReferenceIdeal.τ).loc Cert.SconvReferenceIdeal.main_arg4) = m' ((c.tc : Thread Cert.SconvReferenceIdeal.nD Cert.SconvReferenceIdeal.τ).loc Cert.SconvReferenceIdeal.main_arg4)
          ∧ r.2.mem ((c.tc : Thread Cert.SconvReferenceIdeal.nD Cert.SconvReferenceIdeal.τ).loc Cert.SconvReferenceIdeal.main_arg5) = m' ((c.tc : Thread Cert.SconvReferenceIdeal.nD Cert.SconvReferenceIdeal.τ).loc Cert.SconvReferenceIdeal.main_arg5))

def preserves_PoolKernel_PoolKernelIdeal : Prop :=
  True

def algebraic_PoolKernelIdeal_PoolReferenceIdeal [hPoolKernelIdeal : Cert.PoolKernelIdeal.Facts] [hPoolReferenceIdeal : Cert.PoolReferenceIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)
      ∧ m' ((c.tc : Thread Cert.PoolReferenceIdeal.nD Cert.PoolReferenceIdeal.τ).loc Cert.PoolReferenceIdeal.main_arg4) = m ((c.tc : Thread Cert.PoolKernelIdeal.nD Cert.PoolKernelIdeal.τ).loc Cert.PoolKernelIdeal.main_arg4)
      ∧ m' ((c.tc : Thread Cert.PoolReferenceIdeal.nD Cert.PoolReferenceIdeal.τ).loc Cert.PoolReferenceIdeal.main_arg5) = m ((c.tc : Thread Cert.PoolKernelIdeal.nD Cert.PoolKernelIdeal.τ).loc Cert.PoolKernelIdeal.main_arg5)
      ∧ m' ((c.tc : Thread Cert.PoolReferenceIdeal.nD Cert.PoolReferenceIdeal.τ).loc Cert.PoolReferenceIdeal.main_arg6) = m ((c.tc : Thread Cert.PoolKernelIdeal.nD Cert.PoolKernelIdeal.τ).loc Cert.PoolKernelIdeal.main_arg6)) →
    ∃ (v0 : (c : Dev Cert.PoolKernelIdeal.nD) → Buf (Elt Ideal) ((c.tc : Thread Cert.PoolKernelIdeal.nD Cert.PoolKernelIdeal.τ).loc Cert.PoolKernelIdeal.main_v7)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v7) = v0 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
          ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4)
          ∧ r.2.mem ((c.tc : Thread Cert.PoolKernelIdeal.nD Cert.PoolKernelIdeal.τ).loc Cert.PoolKernelIdeal.main_arg5) = m ((c.tc : Thread Cert.PoolKernelIdeal.nD Cert.PoolKernelIdeal.τ).loc Cert.PoolKernelIdeal.main_arg5)
          ∧ r.2.mem ((c.tc : Thread Cert.PoolKernelIdeal.nD Cert.PoolKernelIdeal.τ).loc Cert.PoolKernelIdeal.main_arg6) = m ((c.tc : Thread Cert.PoolKernelIdeal.nD Cert.PoolKernelIdeal.τ).loc Cert.PoolKernelIdeal.main_arg6))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v171) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4)
          ∧ r.2.mem ((c.tc : Thread Cert.PoolReferenceIdeal.nD Cert.PoolReferenceIdeal.τ).loc Cert.PoolReferenceIdeal.main_arg5) = m' ((c.tc : Thread Cert.PoolReferenceIdeal.nD Cert.PoolReferenceIdeal.τ).loc Cert.PoolReferenceIdeal.main_arg5)
          ∧ r.2.mem ((c.tc : Thread Cert.PoolReferenceIdeal.nD Cert.PoolReferenceIdeal.τ).loc Cert.PoolReferenceIdeal.main_arg6) = m' ((c.tc : Thread Cert.PoolReferenceIdeal.nD Cert.PoolReferenceIdeal.τ).loc Cert.PoolReferenceIdeal.main_arg6))

def preserves_ConfKernel_ConfKernelIdeal : Prop :=
  True

def algebraic_ConfKernelIdeal_ConfReferenceIdeal [hConfKernelIdeal : Cert.ConfKernelIdeal.Facts] [hConfReferenceIdeal : Cert.ConfReferenceIdeal.Facts] : Prop :=
  ∀ (m : (ℓ : Loc Cert.ConfKernelIdeal.nD Cert.ConfKernelIdeal.τ Cert.ConfKernelIdeal.sig) → Buf (Elt Ideal) ℓ) (g : Dev Cert.ConfKernelIdeal.nD → PrngReg)
    (m' : (ℓ : Loc Cert.ConfReferenceIdeal.nD Cert.ConfReferenceIdeal.τ Cert.ConfReferenceIdeal.sig) → Buf (Elt Ideal) ℓ) (g' : Dev Cert.ConfReferenceIdeal.nD → PrngReg), Pre_ConfKernelIdeal m →
    (∀ c : Dev Cert.ConfKernelIdeal.nD,
      m' ((c.tc : Thread Cert.ConfReferenceIdeal.nD Cert.ConfReferenceIdeal.τ).loc Cert.ConfReferenceIdeal.main_arg0) = m ((c.tc : Thread Cert.ConfKernelIdeal.nD Cert.ConfKernelIdeal.τ).loc Cert.ConfKernelIdeal.main_arg0)
      ∧ m' ((c.tc : Thread Cert.ConfReferenceIdeal.nD Cert.ConfReferenceIdeal.τ).loc Cert.ConfReferenceIdeal.main_arg1) = m ((c.tc : Thread Cert.ConfKernelIdeal.nD Cert.ConfKernelIdeal.τ).loc Cert.ConfKernelIdeal.main_arg1)
      ∧ m' ((c.tc : Thread Cert.ConfReferenceIdeal.nD Cert.ConfReferenceIdeal.τ).loc Cert.ConfReferenceIdeal.main_arg2) = m ((c.tc : Thread Cert.ConfKernelIdeal.nD Cert.ConfKernelIdeal.τ).loc Cert.ConfKernelIdeal.main_arg2)
      ∧ m' ((c.tc : Thread Cert.ConfReferenceIdeal.nD Cert.ConfReferenceIdeal.τ).loc Cert.ConfReferenceIdeal.main_arg3) = m ((c.tc : Thread Cert.ConfKernelIdeal.nD Cert.ConfKernelIdeal.τ).loc Cert.ConfKernelIdeal.main_arg3)
      ∧ m' ((c.tc : Thread Cert.ConfReferenceIdeal.nD Cert.ConfReferenceIdeal.τ).loc Cert.ConfReferenceIdeal.main_arg4) = m ((c.tc : Thread Cert.ConfKernelIdeal.nD Cert.ConfKernelIdeal.τ).loc Cert.ConfKernelIdeal.main_arg4)
      ∧ m' ((c.tc : Thread Cert.ConfReferenceIdeal.nD Cert.ConfReferenceIdeal.τ).loc Cert.ConfReferenceIdeal.main_arg5) = m ((c.tc : Thread Cert.ConfKernelIdeal.nD Cert.ConfKernelIdeal.τ).loc Cert.ConfKernelIdeal.main_arg5)
      ∧ m' ((c.tc : Thread Cert.ConfReferenceIdeal.nD Cert.ConfReferenceIdeal.τ).loc Cert.ConfReferenceIdeal.main_arg6) = m ((c.tc : Thread Cert.ConfKernelIdeal.nD Cert.ConfKernelIdeal.τ).loc Cert.ConfKernelIdeal.main_arg6)
      ∧ m' ((c.tc : Thread Cert.ConfReferenceIdeal.nD Cert.ConfReferenceIdeal.τ).loc Cert.ConfReferenceIdeal.main_arg7) = m ((c.tc : Thread Cert.ConfKernelIdeal.nD Cert.ConfKernelIdeal.τ).loc Cert.ConfKernelIdeal.main_arg7)
      ∧ m' ((c.tc : Thread Cert.ConfReferenceIdeal.nD Cert.ConfReferenceIdeal.τ).loc Cert.ConfReferenceIdeal.main_arg8) = m ((c.tc : Thread Cert.ConfKernelIdeal.nD Cert.ConfKernelIdeal.τ).loc Cert.ConfKernelIdeal.main_arg8)) →
    ∃ (v0 : (c : Dev Cert.ConfKernelIdeal.nD) → Buf (Elt Ideal) ((c.tc : Thread Cert.ConfKernelIdeal.nD Cert.ConfKernelIdeal.τ).loc Cert.ConfKernelIdeal.main_v8)),
      θ_run (Cert.ConfKernelIdeal.defs (F := Ideal)) (onTc (τ := Cert.ConfKernelIdeal.τ) (Cert.ConfKernelIdeal.main (F := Ideal))) ⟨m, fun _ => 0, g⟩ (fun r => ∀ c : Dev Cert.ConfKernelIdeal.nD,
          r.2.mem ((c.tc : Thread Cert.ConfKernelIdeal.nD Cert.ConfKernelIdeal.τ).loc Cert.ConfKernelIdeal.main_v8) = v0 c
          ∧ r.2.mem ((c.tc : Thread Cert.ConfKernelIdeal.nD Cert.ConfKernelIdeal.τ).loc Cert.ConfKernelIdeal.main_arg0) = m ((c.tc : Thread Cert.ConfKernelIdeal.nD Cert.ConfKernelIdeal.τ).loc Cert.ConfKernelIdeal.main_arg0)
          ∧ r.2.mem ((c.tc : Thread Cert.ConfKernelIdeal.nD Cert.ConfKernelIdeal.τ).loc Cert.ConfKernelIdeal.main_arg1) = m ((c.tc : Thread Cert.ConfKernelIdeal.nD Cert.ConfKernelIdeal.τ).loc Cert.ConfKernelIdeal.main_arg1)
          ∧ r.2.mem ((c.tc : Thread Cert.ConfKernelIdeal.nD Cert.ConfKernelIdeal.τ).loc Cert.ConfKernelIdeal.main_arg2) = m ((c.tc : Thread Cert.ConfKernelIdeal.nD Cert.ConfKernelIdeal.τ).loc Cert.ConfKernelIdeal.main_arg2)
          ∧ r.2.mem ((c.tc : Thread Cert.ConfKernelIdeal.nD Cert.ConfKernelIdeal.τ).loc Cert.ConfKernelIdeal.main_arg3) = m ((c.tc : Thread Cert.ConfKernelIdeal.nD Cert.ConfKernelIdeal.τ).loc Cert.ConfKernelIdeal.main_arg3)
          ∧ r.2.mem ((c.tc : Thread Cert.ConfKernelIdeal.nD Cert.ConfKernelIdeal.τ).loc Cert.ConfKernelIdeal.main_arg4) = m ((c.tc : Thread Cert.ConfKernelIdeal.nD Cert.ConfKernelIdeal.τ).loc Cert.ConfKernelIdeal.main_arg4)
          ∧ r.2.mem ((c.tc : Thread Cert.ConfKernelIdeal.nD Cert.ConfKernelIdeal.τ).loc Cert.ConfKernelIdeal.main_arg5) = m ((c.tc : Thread Cert.ConfKernelIdeal.nD Cert.ConfKernelIdeal.τ).loc Cert.ConfKernelIdeal.main_arg5)
          ∧ r.2.mem ((c.tc : Thread Cert.ConfKernelIdeal.nD Cert.ConfKernelIdeal.τ).loc Cert.ConfKernelIdeal.main_arg6) = m ((c.tc : Thread Cert.ConfKernelIdeal.nD Cert.ConfKernelIdeal.τ).loc Cert.ConfKernelIdeal.main_arg6)
          ∧ r.2.mem ((c.tc : Thread Cert.ConfKernelIdeal.nD Cert.ConfKernelIdeal.τ).loc Cert.ConfKernelIdeal.main_arg7) = m ((c.tc : Thread Cert.ConfKernelIdeal.nD Cert.ConfKernelIdeal.τ).loc Cert.ConfKernelIdeal.main_arg7)
          ∧ r.2.mem ((c.tc : Thread Cert.ConfKernelIdeal.nD Cert.ConfKernelIdeal.τ).loc Cert.ConfKernelIdeal.main_arg8) = m ((c.tc : Thread Cert.ConfKernelIdeal.nD Cert.ConfKernelIdeal.τ).loc Cert.ConfKernelIdeal.main_arg8))
      ∧ θ_run (Cert.ConfReferenceIdeal.defs (F := Ideal)) (onTc (τ := Cert.ConfReferenceIdeal.τ) (Cert.ConfReferenceIdeal.main (F := Ideal))) ⟨m', fun _ => 0, g'⟩ (fun r => ∀ c : Dev Cert.ConfReferenceIdeal.nD,
          r.2.mem ((c.tc : Thread Cert.ConfReferenceIdeal.nD Cert.ConfReferenceIdeal.τ).loc Cert.ConfReferenceIdeal.main_v283) = v0 c
          ∧ r.2.mem ((c.tc : Thread Cert.ConfReferenceIdeal.nD Cert.ConfReferenceIdeal.τ).loc Cert.ConfReferenceIdeal.main_arg0) = m' ((c.tc : Thread Cert.ConfReferenceIdeal.nD Cert.ConfReferenceIdeal.τ).loc Cert.ConfReferenceIdeal.main_arg0)
          ∧ r.2.mem ((c.tc : Thread Cert.ConfReferenceIdeal.nD Cert.ConfReferenceIdeal.τ).loc Cert.ConfReferenceIdeal.main_arg1) = m' ((c.tc : Thread Cert.ConfReferenceIdeal.nD Cert.ConfReferenceIdeal.τ).loc Cert.ConfReferenceIdeal.main_arg1)
          ∧ r.2.mem ((c.tc : Thread Cert.ConfReferenceIdeal.nD Cert.ConfReferenceIdeal.τ).loc Cert.ConfReferenceIdeal.main_arg2) = m' ((c.tc : Thread Cert.ConfReferenceIdeal.nD Cert.ConfReferenceIdeal.τ).loc Cert.ConfReferenceIdeal.main_arg2)
          ∧ r.2.mem ((c.tc : Thread Cert.ConfReferenceIdeal.nD Cert.ConfReferenceIdeal.τ).loc Cert.ConfReferenceIdeal.main_arg3) = m' ((c.tc : Thread Cert.ConfReferenceIdeal.nD Cert.ConfReferenceIdeal.τ).loc Cert.ConfReferenceIdeal.main_arg3)
          ∧ r.2.mem ((c.tc : Thread Cert.ConfReferenceIdeal.nD Cert.ConfReferenceIdeal.τ).loc Cert.ConfReferenceIdeal.main_arg4) = m' ((c.tc : Thread Cert.ConfReferenceIdeal.nD Cert.ConfReferenceIdeal.τ).loc Cert.ConfReferenceIdeal.main_arg4)
          ∧ r.2.mem ((c.tc : Thread Cert.ConfReferenceIdeal.nD Cert.ConfReferenceIdeal.τ).loc Cert.ConfReferenceIdeal.main_arg5) = m' ((c.tc : Thread Cert.ConfReferenceIdeal.nD Cert.ConfReferenceIdeal.τ).loc Cert.ConfReferenceIdeal.main_arg5)
          ∧ r.2.mem ((c.tc : Thread Cert.ConfReferenceIdeal.nD Cert.ConfReferenceIdeal.τ).loc Cert.ConfReferenceIdeal.main_arg6) = m' ((c.tc : Thread Cert.ConfReferenceIdeal.nD Cert.ConfReferenceIdeal.τ).loc Cert.ConfReferenceIdeal.main_arg6)
          ∧ r.2.mem ((c.tc : Thread Cert.ConfReferenceIdeal.nD Cert.ConfReferenceIdeal.τ).loc Cert.ConfReferenceIdeal.main_arg7) = m' ((c.tc : Thread Cert.ConfReferenceIdeal.nD Cert.ConfReferenceIdeal.τ).loc Cert.ConfReferenceIdeal.main_arg7)
          ∧ r.2.mem ((c.tc : Thread Cert.ConfReferenceIdeal.nD Cert.ConfReferenceIdeal.τ).loc Cert.ConfReferenceIdeal.main_arg8) = m' ((c.tc : Thread Cert.ConfReferenceIdeal.nD Cert.ConfReferenceIdeal.τ).loc Cert.ConfReferenceIdeal.main_arg8))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)
      ∧ m' ((c.tc : Thread Cert.SguReferenceIdeal.nD Cert.SguReferenceIdeal.τ).loc Cert.SguReferenceIdeal.main_arg6) = m ((c.tc : Thread Cert.SguKernelIdeal.nD Cert.SguKernelIdeal.τ).loc Cert.SguKernelIdeal.main_arg6)
      ∧ m' ((c.tc : Thread Cert.SguReferenceIdeal.nD Cert.SguReferenceIdeal.τ).loc Cert.SguReferenceIdeal.main_arg7) = m ((c.tc : Thread Cert.SguKernelIdeal.nD Cert.SguKernelIdeal.τ).loc Cert.SguKernelIdeal.main_arg7)
      ∧ m' ((c.tc : Thread Cert.SguReferenceIdeal.nD Cert.SguReferenceIdeal.τ).loc Cert.SguReferenceIdeal.main_arg8) = m ((c.tc : Thread Cert.SguKernelIdeal.nD Cert.SguKernelIdeal.τ).loc Cert.SguKernelIdeal.main_arg8)) →
    ∃ (v0 : (c : Dev Cert.SguKernelIdeal.nD) → Buf (Elt Ideal) ((c.tc : Thread Cert.SguKernelIdeal.nD Cert.SguKernelIdeal.τ).loc Cert.SguKernelIdeal.main_v9)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v9) = v0 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
          ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
          ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7)
          ∧ r.2.mem ((c.tc : Thread Cert.SguKernelIdeal.nD Cert.SguKernelIdeal.τ).loc Cert.SguKernelIdeal.main_arg8) = m ((c.tc : Thread Cert.SguKernelIdeal.nD Cert.SguKernelIdeal.τ).loc Cert.SguKernelIdeal.main_arg8))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v70) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7)
          ∧ r.2.mem ((c.tc : Thread Cert.SguReferenceIdeal.nD Cert.SguReferenceIdeal.τ).loc Cert.SguReferenceIdeal.main_arg8) = m' ((c.tc : Thread Cert.SguReferenceIdeal.nD Cert.SguReferenceIdeal.τ).loc Cert.SguReferenceIdeal.main_arg8))

def Claim : Prop :=
  ∃ (hFfnKernel : Cert.FfnKernel.Facts) (hFfnKernelIdeal : Cert.FfnKernelIdeal.Facts) (hFfnReferenceIdeal : Cert.FfnReferenceIdeal.Facts) (hSconvKernel : Cert.SconvKernel.Facts) (hSconvKernelIdeal : Cert.SconvKernelIdeal.Facts) (hSconvReferenceIdeal : Cert.SconvReferenceIdeal.Facts) (hPoolKernel : Cert.PoolKernel.Facts) (hPoolKernelIdeal : Cert.PoolKernelIdeal.Facts) (hPoolReferenceIdeal : Cert.PoolReferenceIdeal.Facts) (hConfKernel : Cert.ConfKernel.Facts) (hConfKernelIdeal : Cert.ConfKernelIdeal.Facts) (hConfReferenceIdeal : Cert.ConfReferenceIdeal.Facts) (hSguKernel : Cert.SguKernel.Facts) (hSguKernelIdeal : Cert.SguKernelIdeal.Facts) (hSguReferenceIdeal : Cert.SguReferenceIdeal.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_SconvKernel (hSconvKernel := hSconvKernel)
    ∧ quiescent_SconvKernelIdeal (hSconvKernelIdeal := hSconvKernelIdeal)
    ∧ quiescent_SconvReferenceIdeal (hSconvReferenceIdeal := hSconvReferenceIdeal)
    ∧ quiescent_PoolKernel (hPoolKernel := hPoolKernel)
    ∧ quiescent_PoolKernelIdeal (hPoolKernelIdeal := hPoolKernelIdeal)
    ∧ quiescent_PoolReferenceIdeal (hPoolReferenceIdeal := hPoolReferenceIdeal)
    ∧ quiescent_ConfKernel (hConfKernel := hConfKernel)
    ∧ quiescent_ConfKernelIdeal (hConfKernelIdeal := hConfKernelIdeal)
    ∧ quiescent_ConfReferenceIdeal (hConfReferenceIdeal := hConfReferenceIdeal)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_SconvKernel_SconvKernelIdeal
    ∧ algebraic_SconvKernelIdeal_SconvReferenceIdeal (hSconvKernelIdeal := hSconvKernelIdeal) (hSconvReferenceIdeal := hSconvReferenceIdeal)
    ∧ preserves_PoolKernel_PoolKernelIdeal
    ∧ algebraic_PoolKernelIdeal_PoolReferenceIdeal (hPoolKernelIdeal := hPoolKernelIdeal) (hPoolReferenceIdeal := hPoolReferenceIdeal)
    ∧ preserves_ConfKernel_ConfKernelIdeal
    ∧ algebraic_ConfKernelIdeal_ConfReferenceIdeal (hConfKernelIdeal := hConfKernelIdeal) (hConfReferenceIdeal := hConfReferenceIdeal)
    ∧ preserves_SguKernel_SguKernelIdeal
    ∧ algebraic_SguKernelIdeal_SguReferenceIdeal (hSguKernelIdeal := hSguKernelIdeal) (hSguReferenceIdeal := hSguReferenceIdeal)
-- ==== FfnKernel.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S32768x2048, .f32⟩
  | .hbm, ⟨7, _⟩ => ⟨S1x2048, .f32⟩
  | .hbm, ⟨8, _⟩ => ⟨S1x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S_, .f32⟩
  | .hbm, ⟨26, _⟩ => ⟨S2x16384x5632, .f32⟩
  | .hbm, ⟨27, _⟩ => ⟨S2x16384x5632, .f32⟩
  | .hbm, ⟨28, _⟩ => ⟨S_, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x2048, .f32⟩
  | .hbm, ⟨35, _⟩ => ⟨S2x16384x2048, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x2048, .f32⟩
  | .hbm, ⟨47, _⟩ => ⟨S2x16384x2048, .f32⟩
  | .hbm, ⟨48, _⟩ => ⟨S1x1x2048, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== SconvKernel.lean ====
abbrev S2x16384x2048 : Shape := ⟨3, ![2, 16384, 2048]⟩
abbrev S2048 : Shape := ⟨1, ![2048]⟩
abbrev S2048x6144 : Shape := ⟨2, ![2048, 6144]⟩
abbrev S3x2048 : Shape := ⟨2, ![3, 2048]⟩
abbrev S2048x2048 : Shape := ⟨2, ![2048, 2048]⟩
abbrev S32768x2048 : Shape := ⟨2, ![32768, 2048]⟩
abbrev S1x2048 : Shape := ⟨2, ![1, 2048]⟩
abbrev S16x2048 : Shape := ⟨2, ![16, 2048]⟩
abbrev S512x2048 : Shape := ⟨2, ![512, 2048]⟩
abbrev S2048x512 : Shape := ⟨2, ![2048, 512]⟩
abbrev S3x512 : Shape := ⟨2, ![3, 512]⟩
abbrev S544x2048 : Shape := ⟨2, ![544, 2048]⟩
abbrev S544x512 : Shape := ⟨2, ![544, 512]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 12
  | .vmem => 23
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x6144, .f32⟩
  | .hbm, ⟨4, _⟩ => ⟨S3x2048, .f32⟩
  | .hbm, ⟨5, _⟩ => ⟨S2048x2048, .f32⟩
  | .hbm, ⟨6, _⟩ => ⟨S32768x2048, .f32⟩
  | .hbm, ⟨7, _⟩ => ⟨S1x2048, .f32⟩
  | .hbm, ⟨8, _⟩ => ⟨S1x2048, .f32⟩
  | .hbm, ⟨9, _⟩ => ⟨S2048x6144, .bf16⟩
  | .hbm, ⟨10, _⟩ => ⟨S2048x2048, .bf16⟩
  | .hbm, ⟨11, _⟩ => ⟨S32768x2048, .f32⟩
  | .local _ .vmem, ⟨0, _⟩ => ⟨S16x2048, .f32⟩
  | .local _ .vmem, ⟨1, _⟩ => ⟨S16x2048, .f32⟩
  | .local _ .vmem, ⟨2, _⟩ => ⟨S512x2048, .f32⟩
  | .local _ .vmem, ⟨3, _⟩ => ⟨S512x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x512, .f32⟩
  | .local _ .vmem, ⟨15, _⟩ => ⟨S3x512, .f32⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S512x2048, .f32⟩
  | .local _ .vmem, ⟨20, _⟩ => ⟨S544x2048, .bf16⟩
  | .local _ .vmem, ⟨21, _⟩ => ⟨S544x512, .f32⟩
  | .local _ .vmem, ⟨22, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== SconvReferenceIdeal.lean ====
abbrev S2x16384x2048 : Shape := ⟨3, ![2, 16384, 2048]⟩
abbrev S2048 : Shape := ⟨1, ![2048]⟩
abbrev S2048x6144 : Shape := ⟨2, ![2048, 6144]⟩
abbrev S3x2048 : Shape := ⟨2, ![3, 2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6144 : Shape := ⟨3, ![2, 16384, 6144]⟩
abbrev S2x16386x2048 : Shape := ⟨3, ![2, 16386, 2048]⟩
abbrev S1x2048 : Shape := ⟨2, ![1, 2048]⟩
abbrev S32768x2048 : Shape := ⟨2, ![32768, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x6144, .f32⟩
  | .hbm, ⟨4, _⟩ => ⟨S3x2048, .f32⟩
  | .hbm, ⟨5, _⟩ => ⟨S2048x2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x6144, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S_, .i32⟩
  | .hbm, ⟨28, _⟩ => ⟨S_, .f32⟩
  | .hbm, ⟨29, _⟩ => ⟨S2x16386x2048, .f32⟩
  | .hbm, ⟨30, _⟩ => ⟨S2x16384x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S2x16384x2048, .f32⟩
  | .hbm, ⟨35, _⟩ => ⟨S2x16384x2048, .f32⟩
  | .hbm, ⟨36, _⟩ => ⟨S_, .f32⟩
  | .hbm, ⟨37, _⟩ => ⟨S2x16384x2048, .f32⟩
  | .hbm, ⟨38, _⟩ => ⟨S2x16384x2048, .f32⟩
  | .hbm, ⟨39, _⟩ => ⟨S2x16384x2048, .f32⟩
  | .hbm, ⟨40, _⟩ => ⟨S1x2048, .f32⟩
  | .hbm, ⟨41, _⟩ => ⟨S2048, .f32⟩
  | .hbm, ⟨42, _⟩ => ⟨S1x1x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S2x16384x2048, .f32⟩
  | .hbm, ⟨55, _⟩ => ⟨S2x16384x2048, .f32⟩
  | .hbm, ⟨56, _⟩ => ⟨S_, .f32⟩
  | .hbm, ⟨57, _⟩ => ⟨S2x16384, .f32⟩
  | .hbm, ⟨58, _⟩ => ⟨S2x16384x1, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S2x16384x1, .f32⟩
  | .hbm, ⟨66, _⟩ => ⟨S2x16384x2048, .f32⟩
  | .hbm, ⟨67, _⟩ => ⟨S2x16384x2048, .f32⟩
  | .hbm, ⟨68, _⟩ => ⟨S1x1x2048, .f32⟩
  | .hbm, ⟨69, _⟩ => ⟨S2x16384x2048, .f32⟩
  | .hbm, ⟨70, _⟩ => ⟨S2x16384x2048, .f32⟩
  | .hbm, ⟨71, _⟩ => ⟨S2x16384x2048, .f32⟩
  | .hbm, ⟨72, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== PoolKernel.lean ====
abbrev S2x16384x2048 : Shape := ⟨3, ![2, 16384, 2048]⟩
abbrev S2048 : Shape := ⟨1, ![2048]⟩
abbrev S2048x2048 : Shape := ⟨2, ![2048, 2048]⟩
abbrev S4x512x512 : Shape := ⟨3, ![4, 512, 512]⟩
abbrev S32768x2048 : Shape := ⟨2, ![32768, 2048]⟩
abbrev S1x2048 : Shape := ⟨2, ![1, 2048]⟩
abbrev S16x2048 : Shape := ⟨2, ![16, 2048]⟩
abbrev S512x2048 : Shape := ⟨2, ![512, 2048]⟩
abbrev S2048x512 : Shape := ⟨2, ![2048, 512]⟩
abbrev S1x512x512 : Shape := ⟨3, ![1, 512, 512]⟩
abbrev S1x512 : Shape := ⟨2, ![1, 512]⟩
abbrev S544x2048 : Shape := ⟨2, ![544, 2048]⟩
abbrev S544x512 : Shape := ⟨2, ![544, 512]⟩
abbrev S512x512 : Shape := ⟨2, ![512, 512]⟩
abbrev S16 : Shape := ⟨1, ![16]⟩
abbrev S16x1 : Shape := ⟨2, ![16, 1]⟩
abbrev S512 : Shape := ⟨1, ![512]⟩
abbrev S512x1 : Shape := ⟨2, ![512, 1]⟩

abbrev nBuf : Space → Nat
  | .hbm => 15
  | .vmem => 22
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S4x512x512, .f32⟩
  | .hbm, ⟨5, _⟩ => ⟨S2048, .f32⟩
  | .hbm, ⟨6, _⟩ => ⟨S2048x2048, .f32⟩
  | .hbm, ⟨7, _⟩ => ⟨S32768x2048, .f32⟩
  | .hbm, ⟨8, _⟩ => ⟨S1x2048, .f32⟩
  | .hbm, ⟨9, _⟩ => ⟨S1x2048, .f32⟩
  | .hbm, ⟨10, _⟩ => ⟨S2048x2048, .bf16⟩
  | .hbm, ⟨11, _⟩ => ⟨S4x512x512, .bf16⟩
  | .hbm, ⟨12, _⟩ => ⟨S1x2048, .f32⟩
  | .hbm, ⟨13, _⟩ => ⟨S2048x2048, .bf16⟩
  | .hbm, ⟨14, _⟩ => ⟨S32768x2048, .f32⟩
  | .local _ .vmem, ⟨0, _⟩ => ⟨S16x2048, .f32⟩
  | .local _ .vmem, ⟨1, _⟩ => ⟨S16x2048, .f32⟩
  | .local _ .vmem, ⟨2, _⟩ => ⟨S512x2048, .f32⟩
  | .local _ .vmem, ⟨3, _⟩ => ⟨S512x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S544x2048, .bf16⟩
  | .local _ .vmem, ⟨19, _⟩ => ⟨S544x512, .f32⟩
  | .local _ .vmem, ⟨20, _⟩ => ⟨S512x512, .f32⟩
  | .local _ .vmem, ⟨21, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 4], ![false, false]⟩

def k0_cond6 (i : grid0.Coords) : BitVec 1 :=
  let arg1 : BitVec 32 := BitVec.ofNat 32 (i 1).val
  let c3_i32_32 : BitVec 32 := 3#32
  let v56 : BitVec 1 := Scalar.cmpi .eq arg1 c3_i32_32
  let v57 : BitVec 32 := Scalar.extui v56
  let c0_i32_33 : BitVec 32 := 0#32
  let v58 : BitVec 1 := Scalar.cmpi .ne v57 c0_i32_33
  v58

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PoolReferenceIdeal.lean ====
abbrev S2x16384x2048 : Shape := ⟨3, ![2, 16384, 2048]⟩
abbrev S2048 : Shape := ⟨1, ![2048]⟩
abbrev S2048x2048 : Shape := ⟨2, ![2048, 2048]⟩
abbrev S4x512x512 : Shape := ⟨3, ![4, 512, 512]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4x512 : Shape := ⟨4, ![2, 16384, 4, 512]⟩
abbrev S16384 : Shape := ⟨1, ![16384]⟩
abbrev S2x16384x1x512 : Shape := ⟨4, ![2, 16384, 1, 512]⟩
abbrev S2x16384x512 : Shape := ⟨3, ![2, 16384, 512]⟩
abbrev S2x16386x512 : Shape := ⟨3, ![2, 16386, 512]⟩
abbrev S1x16384x1 : Shape := ⟨3, ![1, 16384, 1]⟩
abbrev S2x16388x512 : Shape := ⟨3, ![2, 16388, 512]⟩
abbrev S2x16392x512 : Shape := ⟨3, ![2, 16392, 512]⟩
abbrev S2x16400x512 : Shape := ⟨3, ![2, 16400, 512]⟩
abbrev S4x512x2x16384 : Shape := ⟨4, ![4, 512, 2, 16384]⟩
abbrev S32768x2048 : Shape := ⟨2, ![32768, 2048]⟩

abbrev nBuf : Space → Nat
  | .hbm => 213
  | .vmem => 0
  | .smem => 0
  | _ => 0

abbrev hbmTy0_0 (i : Nat) : BufTy := match i % 128 with
  | 0 => ⟨S2x16384x2048, .f32⟩
  | 1 => ⟨S2048, .f32⟩
  | 2 => ⟨S2048, .f32⟩
  | 3 => ⟨S2048x2048, .f32⟩
  | 4 => ⟨S4x512x512, .f32⟩
  | 5 => ⟨S2048, .f32⟩
  | 6 => ⟨S2048x2048, .f32⟩
  | 7 => ⟨S2x16384x2048, .f32⟩
  | 8 => ⟨S_, .f32⟩
  | 9 => ⟨S2x16384, .f32⟩
  | 10 => ⟨S2x16384x1, .f32⟩
  | 11 => ⟨S_, .f32⟩
  | 12 => ⟨S2x16384x1, .f32⟩
  | 13 => ⟨S2x16384x1, .f32⟩
  | 14 => ⟨S_, .f32⟩
  | 15 => ⟨S2x16384x1, .f32⟩
  | 16 => ⟨S2x16384x1, .f32⟩
  | 17 => ⟨S2x16384x1, .f32⟩
  | 18 => ⟨S2x16384x2048, .f32⟩
  | 19 => ⟨S2x16384x2048, .f32⟩
  | 20 => ⟨S1x1x2048, .f32⟩
  | 21 => ⟨S2x16384x2048, .f32⟩
  | 22 => ⟨S2x16384x2048, .f32⟩
  | 23 => ⟨S2x16384x2048, .f32⟩
  | 24 => ⟨S2x16384x4x512, .f32⟩
  | 25 => ⟨S16384, .i32⟩
  | 26 => ⟨S2x16384x1x512, .f32⟩
  | 27 => ⟨S2x16384x512, .f32⟩
  | 28 => ⟨S_, .i32⟩
  | 29 => ⟨S_, .f32⟩
  | 30 => ⟨S2x16386x512, .f32⟩
  | 31 => ⟨S2x16384x512, .f32⟩
  | 32 => ⟨S_, .f32⟩
  | 33 => ⟨S2x16384x512, .f32⟩
  | 34 => ⟨S2x16384x512, .f32⟩
  | 35 => ⟨S2x16384x512, .f32⟩
  | 36 => ⟨S2x16384x512, .f32⟩
  | 37 => ⟨S_, .i32⟩
  | 38 => ⟨S16384, .i32⟩
  | 39 => ⟨S16384, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i32⟩
  | 49 => ⟨S16384, .i32⟩
  | 50 => ⟨S16384, .f32⟩
  | 51 => ⟨S1x16384x1, .f32⟩
  | 52 => ⟨S2x16384x512, .f32⟩
  | 53 => ⟨S2x16384x512, .f32⟩
  | 54 => ⟨S2x16384x1x512, .f32⟩
  | 55 => ⟨S2x16384x512, .f32⟩
  | 56 => ⟨S_, .i32⟩
  | 57 => ⟨S_, .f32⟩
  | 58 => ⟨S2x16388x512, .f32⟩
  | 59 => ⟨S2x16384x512, .f32⟩
  | 60 => ⟨S_, .f32⟩
  | 61 => ⟨S2x16384x512, .f32⟩
  | 62 => ⟨S2x16384x512, .f32⟩
  | 63 => ⟨S2x16384x512, .f32⟩
  | 64 => ⟨S2x16384x512, .f32⟩
  | 65 => ⟨S2x16384x512, .f32⟩
  | 66 => ⟨S2x16384x512, .f32⟩
  | 67 => ⟨S2x16384x512, .f32⟩
  | 68 => ⟨S2x16384x512, .f32⟩
  | 69 => ⟨S_, .i32⟩
  | 70 => ⟨S16384, .i32⟩
  | 71 => ⟨S16384, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i32⟩
  | 81 => ⟨S16384, .i32⟩
  | 82 => ⟨S16384, .f32⟩
  | 83 => ⟨S1x16384x1, .f32⟩
  | 84 => ⟨S2x16384x512, .f32⟩
  | 85 => ⟨S2x16384x512, .f32⟩
  | 86 => ⟨S2x16384x1x512, .f32⟩
  | 87 => ⟨S2x16384x512, .f32⟩
  | 88 => ⟨S_, .i32⟩
  | 89 => ⟨S_, .f32⟩
  | 90 => ⟨S2x16392x512, .f32⟩
  | 91 => ⟨S2x16384x512, .f32⟩
  | 92 => ⟨S_, .f32⟩
  | 93 => ⟨S2x16384x512, .f32⟩
  | 94 => ⟨S2x16384x512, .f32⟩
  | 95 => ⟨S2x16384x512, .f32⟩
  | 96 => ⟨S2x16384x512, .f32⟩
  | 97 => ⟨S2x16384x512, .f32⟩
  | 98 => ⟨S2x16384x512, .f32⟩
  | 99 => ⟨S2x16384x512, .f32⟩
  | 100 => ⟨S2x16384x512, .f32⟩
  | 101 => ⟨S2x16384x512, .f32⟩
  | 102 => ⟨S2x16384x512, .f32⟩
  | 103 => ⟨S2x16384x512, .f32⟩
  | 104 => ⟨S2x16384x512, .f32⟩
  | 105 => ⟨S2x16384x512, .f32⟩
  | 106 => ⟨S2x16384x512, .f32⟩
  | 107 => ⟨S2x16384x512, .f32⟩
  | 108 => ⟨S2x16384x512, .f32⟩
  | 109 => ⟨S_, .i32⟩
  | 110 => ⟨S16384, .i32⟩
  | 111 => ⟨S16384, .i32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S_, .i32⟩
  | 119 => ⟨S16384, .i32⟩
  | 120 => ⟨S16384, .i32⟩
  | 121 => ⟨S16384, .i32⟩
  | 122 => ⟨S16384, .f32⟩
  | 123 => ⟨S1x16384x1, .f32⟩
  | 124 => ⟨S2x16384x512, .f32⟩
  | 125 => ⟨S2x16384x512, .f32⟩
  | 126 => ⟨S2x16384x1x512, .f32⟩
  | 127 => ⟨S2x16384x512, .f32⟩
  | _ => ⟨S2x16384x2048, .f32⟩

abbrev hbmTy0_1 (i : Nat) : BufTy := match i % 128 with
  | 0 => ⟨S_, .i32⟩
  | 1 => ⟨S_, .f32⟩
  | 2 => ⟨S2x16400x512, .f32⟩
  | 3 => ⟨S2x16384x512, .f32⟩
  | 4 => ⟨S_, .f32⟩
  | 5 => ⟨S2x16384x512, .f32⟩
  | 6 => ⟨S2x16384x512, .f32⟩
  | 7 => ⟨S2x16384x512, .f32⟩
  | 8 => ⟨S2x16384x512, .f32⟩
  | 9 => ⟨S2x16384x512, .f32⟩
  | 10 => ⟨S2x16384x512, .f32⟩
  | 11 => ⟨S2x16384x512, .f32⟩
  | 12 => ⟨S2x16384x512, .f32⟩
  | 13 => ⟨S2x16384x512, .f32⟩
  | 14 => ⟨S2x16384x512, .f32⟩
  | 15 => ⟨S2x16384x512, .f32⟩
  | 16 => ⟨S2x16384x512, .f32⟩
  | 17 => ⟨S2x16384x512, .f32⟩
  | 18 => ⟨S2x16384x512, .f32⟩
  | 19 => ⟨S2x16384x512, .f32⟩
  | 20 => ⟨S2x16384x512, .f32⟩
  | 21 => ⟨S2x16384x512, .f32⟩
  | 22 => ⟨S2x16384x512, .f32⟩
  | 23 => ⟨S2x16384x512, .f32⟩
  | 24 => ⟨S2x16384x512, .f32⟩
  | 25 => ⟨S2x16384x512, .f32⟩
  | 26 => ⟨S2x16384x512, .f32⟩
  | 27 => ⟨S2x16384x512, .f32⟩
  | 28 => ⟨S2x16384x512, .f32⟩
  | 29 => ⟨S2x16384x512, .f32⟩
  | 30 => ⟨S2x16384x512, .f32⟩
  | 31 => ⟨S2x16384x512, .f32⟩
  | 32 => ⟨S2x16384x512, .f32⟩
  | 33 => ⟨S2x16384x512, .f32⟩
  | 34 => ⟨S2x16384x512, .f32⟩
  | 35 => ⟨S2x16384x512, .f32⟩
  | 36 => ⟨S2x16384x512, .f32⟩
  | 37 => ⟨S_, .i32⟩
  | 38 => ⟨S16384, .i32⟩
  | 39 => ⟨S16384, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i32⟩
  | 49 => ⟨S16384, .i32⟩
  | 50 => ⟨S16384, .f32⟩
  | 51 => ⟨S1x16384x1, .f32⟩
  | 52 => ⟨S2x16384x512, .f32⟩
  | 53 => ⟨S2x16384x512, .f32⟩
  | 54 => ⟨S2x16384x1x512, .f32⟩
  | 55 => ⟨S2x16384x1x512, .f32⟩
  | 56 => ⟨S2x16384x1x512, .f32⟩
  | 57 => ⟨S2x16384x1x512, .f32⟩
  | 58 => ⟨S2x16384x4x512, .f32⟩
  | 59 => ⟨S2x16384x4x512, .f32⟩
  | 60 => ⟨S4x512x2x16384, .f32⟩
  | 61 => ⟨S2x16384x4x512, .f32⟩
  | 62 => ⟨S2x16384x2048, .f32⟩
  | 63 => ⟨S1x1x2048, .f32⟩
  | 64 => ⟨S2x16384x2048, .f32⟩
  | 65 => ⟨S2x16384x2048, .f32⟩
  | 66 => ⟨S2x16384x2048, .f32⟩
  | 67 => ⟨S2x16384x2048, .f32⟩
  | 68 => ⟨S_, .f32⟩
  | 69 => ⟨S2x16384, .f32⟩
  | 70 => ⟨S2x16384x1, .f32⟩
  | 71 => ⟨S_, .f32⟩
  | 72 => ⟨S2x16384x1, .f32⟩
  | 73 => ⟨S2x16384x1, .f32⟩
  | 74 => ⟨S_, .f32⟩
  | 75 => ⟨S2x16384x1, .f32⟩
  | 76 => ⟨S2x16384x1, .f32⟩
  | 77 => ⟨S2x16384x1, .f32⟩
  | 78 => ⟨S2x16384x2048, .f32⟩
  | 79 => ⟨S2x16384x2048, .f32⟩
  | 80 => ⟨S1x1x2048, .f32⟩
  | 81 => ⟨S2x16384x2048, .f32⟩
  | 82 => ⟨S2x16384x2048, .f32⟩
  | 83 => ⟨S2x16384x2048, .f32⟩
  | 84 => ⟨S32768x2048, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_call2_v0 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_c_17 : Ref sig .tc := ⟨.hbm, 115, rfl⟩
abbrev main_v86 : Ref sig .tc := ⟨.hbm, 116, rfl⟩
abbrev main_v87 : Ref sig .tc := ⟨.hbm, 117, rfl⟩
abbrev main_c_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_19 : Ref sig .tc := ⟨.hbm, 128, rfl⟩
abbrev main_call3_v0 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_21 : Ref sig .tc := ⟨.hbm, 165, rfl⟩
abbrev main_v131 : Ref sig .tc := ⟨.hbm, 166, rfl⟩
abbrev main_v132 : Ref sig .tc := ⟨.hbm, 167, rfl⟩
abbrev main_c_22 : Ref sig .tc := ⟨.hbm, 168, rfl⟩
abbrev main_v133 : Ref sig .tc := ⟨.hbm, 169, rfl⟩
abbrev main_v134 : Ref sig .tc := ⟨.hbm, 170, rfl⟩
abbrev main_c_23 : Ref sig .tc := ⟨.hbm, 171, rfl⟩
abbrev main_v135 : Ref sig .tc := ⟨.hbm, 172, rfl⟩
abbrev main_v136 : Ref sig .tc := ⟨.hbm, 173, rfl⟩
abbrev main_c_24 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_25 : Ref sig .tc := ⟨.hbm, 196, rfl⟩
abbrev main_v158 : Ref sig .tc := ⟨.hbm, 197, rfl⟩
abbrev main_v159 : Ref sig .tc := ⟨.hbm, 198, rfl⟩
abbrev main_cst_26 : Ref sig .tc := ⟨.hbm, 199, rfl⟩
abbrev main_v160 : Ref sig .tc := ⟨.hbm, 200, rfl⟩
abbrev main_v161 : Ref sig .tc := ⟨.hbm, 201, rfl⟩
abbrev main_cst_27 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩

abbrev nD : Nat := 1
abbrev τ : Topo := Topo.v7x

variable {F : FTy → Type} [FloatOps F]
-- ==== ConfKernel.lean ====
abbrev S2x16384x2048 : Shape := ⟨3, ![2, 16384, 2048]⟩
abbrev S2048 : Shape := ⟨1, ![2048]⟩
abbrev S2048x4096 : Shape := ⟨2, ![2048, 4096]⟩
abbrev S31x2048 : Shape := ⟨2, ![31, 2048]⟩
abbrev S2048x2048 : Shape := ⟨2, ![2048, 2048]⟩
abbrev S32768x2048 : Shape := ⟨2, ![32768, 2048]⟩
abbrev S1x2048 : Shape := ⟨2, ![1, 2048]⟩
abbrev S16x2048 : Shape := ⟨2, ![16, 2048]⟩
abbrev S512x2048 : Shape := ⟨2, ![512, 2048]⟩
abbrev S2048x512 : Shape := ⟨2, ![2048, 512]⟩
abbrev S31x512 : Shape := ⟨2, ![31, 512]⟩
abbrev S1x512 : Shape := ⟨2, ![1, 512]⟩
abbrev S544x2048 : Shape := ⟨2, ![544, 2048]⟩
abbrev S544x512 : Shape := ⟨2, ![544, 512]⟩
abbrev S4x512x512 : Shape := ⟨3, ![4, 512, 512]⟩
abbrev S16 : Shape := ⟨1, ![16]⟩
abbrev S16x1 : Shape := ⟨2, ![16, 1]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 18
  | .vmem => 24
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x4096, .f32⟩
  | .hbm, ⟨4, _⟩ => ⟨S31x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S32768x2048, .f32⟩
  | .hbm, ⟨10, _⟩ => ⟨S1x2048, .f32⟩
  | .hbm, ⟨11, _⟩ => ⟨S1x2048, .f32⟩
  | .hbm, ⟨12, _⟩ => ⟨S2048x4096, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2048x2048, .bf16⟩
  | .hbm, ⟨17, _⟩ => ⟨S32768x2048, .f32⟩
  | .local _ .vmem, ⟨0, _⟩ => ⟨S16x2048, .f32⟩
  | .local _ .vmem, ⟨1, _⟩ => ⟨S16x2048, .f32⟩
  | .local _ .vmem, ⟨2, _⟩ => ⟨S512x2048, .f32⟩
  | .local _ .vmem, ⟨3, _⟩ => ⟨S512x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S31x512, .f32⟩
  | .local _ .vmem, ⟨13, _⟩ => ⟨S31x512, .f32⟩
  | .local _ .vmem, ⟨14, _⟩ => ⟨S1x512, .f32⟩
  | .local _ .vmem, ⟨15, _⟩ => ⟨S1x512, .f32⟩
  | .local _ .vmem, ⟨16, _⟩ => ⟨S1x2048, .f32⟩
  | .local _ .vmem, ⟨17, _⟩ => ⟨S1x2048, .f32⟩
  | .local _ .vmem, ⟨18, _⟩ => ⟨S2048x2048, .bf16⟩
  | .local _ .vmem, ⟨19, _⟩ => ⟨S512x2048, .f32⟩
  | .local _ .vmem, ⟨20, _⟩ => ⟨S512x2048, .f32⟩
  | .local _ .vmem, ⟨21, _⟩ => ⟨S544x2048, .bf16⟩
  | .local _ .vmem, ⟨22, _⟩ => ⟨S544x512, .f32⟩
  | .local _ .vmem, ⟨23, _⟩ => ⟨S4x512x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![64, 4], ![false, false]⟩

def k0_off1 (i : grid0.Coords) : Fin 3 → Nat :=
  let arg1 : BitVec 32 := BitVec.ofNat 32 (i 1).val
  let v173 : Index := Scalar.indexCast arg1
  let c0_104 : Index := 0#32
  let c0_105 : Index := 0#32
  ![v173.toNat, 0, 0]
def k0_cond2 (i : grid0.Coords) : BitVec 1 :=
  let arg1 : BitVec 32 := BitVec.ofNat 32 (i 1).val
  let c3_i32 : BitVec 32 := 3#32
  let v177 : BitVec 1 := Scalar.cmpi .eq arg1 c3_i32
  let v178 : BitVec 32 := Scalar.extui v177
  let c0_i32_106 : BitVec 32 := 0#32
  let v179 : BitVec 1 := Scalar.cmpi .ne v178 c0_i32_106
  v179

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S31x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ConfReferenceIdeal.lean ====
abbrev S2x16384x2048 : Shape := ⟨3, ![2, 16384, 2048]⟩
abbrev S2048 : Shape := ⟨1, ![2048]⟩
abbrev S2048x4096 : Shape := ⟨2, ![2048, 4096]⟩
abbrev S31x2048 : Shape := ⟨2, ![31, 2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩
abbrev S2x16414x2048 : Shape := ⟨3, ![2, 16414, 2048]⟩
abbrev S1x2048 : Shape := ⟨2, ![1, 2048]⟩
abbrev S32768x2048 : Shape := ⟨2, ![32768, 2048]⟩

abbrev nBuf : Space → Nat
  | .hbm => 317
  | .vmem => 0
  | .smem => 0
  | _ => 0

abbrev hbmTy0_0 (i : Nat) : BufTy := match i % 128 with
  | 0 => ⟨S2x16384x2048, .f32⟩
  | 1 => ⟨S2048, .f32⟩
  | 2 => ⟨S2048, .f32⟩
  | 3 => ⟨S2048x4096, .f32⟩
  | 4 => ⟨S31x2048, .f32⟩
  | 5 => ⟨S2048, .f32⟩
  | 6 => ⟨S2048, .f32⟩
  | 7 => ⟨S2048, .f32⟩
  | 8 => ⟨S2048x2048, .f32⟩
  | 9 => ⟨S2x16384x2048, .f32⟩
  | 10 => ⟨S_, .f32⟩
  | 11 => ⟨S2x16384, .f32⟩
  | 12 => ⟨S2x16384x1, .f32⟩
  | 13 => ⟨S_, .f32⟩
  | 14 => ⟨S2x16384x1, .f32⟩
  | 15 => ⟨S2x16384x1, .f32⟩
  | 16 => ⟨S_, .f32⟩
  | 17 => ⟨S2x16384x1, .f32⟩
  | 18 => ⟨S2x16384x1, .f32⟩
  | 19 => ⟨S2x16384x1, .f32⟩
  | 20 => ⟨S2x16384x2048, .f32⟩
  | 21 => ⟨S2x16384x2048, .f32⟩
  | 22 => ⟨S1x1x2048, .f32⟩
  | 23 => ⟨S2x16384x2048, .f32⟩
  | 24 => ⟨S2x16384x2048, .f32⟩
  | 25 => ⟨S2x16384x4096, .f32⟩
  | 26 => ⟨S2x16384x2048, .f32⟩
  | 27 => ⟨S2x16384x2048, .f32⟩
  | 28 => ⟨S2x16384x2048, .f32⟩
  | 29 => ⟨S2x16384x2048, .f32⟩
  | 30 => ⟨S_, .f32⟩
  | 31 => ⟨S2x16384x2048, .f32⟩
  | 32 => ⟨S2x16384x2048, .f32⟩
  | 33 => ⟨S_, .f32⟩
  | 34 => ⟨S2x16384x2048, .f32⟩
  | 35 => ⟨S2x16384x2048, .f32⟩
  | 36 => ⟨S2x16384x2048, .f32⟩
  | 37 => ⟨S_, .i32⟩
  | 38 => ⟨S_, .f32⟩
  | 39 => ⟨S2x16414x2048, .f32⟩
  | 40 => ⟨S2x16384x2048, .f32⟩
  | 41 => ⟨S1x2048, .f32⟩
  | 42 => ⟨S2048, .f32⟩
  | 43 => ⟨S1x1x2048, .f32⟩
  | 44 => ⟨S2x16384x2048, .f32⟩
  | 45 => ⟨S2x16384x2048, .f32⟩
  | 46 => ⟨S_, .f32⟩
  | 47 => ⟨S2x16384x2048, .f32⟩
  | 48 => ⟨S2x16384x2048, .f32⟩
  | 49 => ⟨S2x16384x2048, .f32⟩
  | 50 => ⟨S1x2048, .f32⟩
  | 51 => ⟨S2048, .f32⟩
  | 52 => ⟨S1x1x2048, .f32⟩
  | 53 => ⟨S2x16384x2048, .f32⟩
  | 54 => ⟨S2x16384x2048, .f32⟩
  | 55 => ⟨S2x16384x2048, .f32⟩
  | 56 => ⟨S2x16384x2048, .f32⟩
  | 57 => ⟨S1x2048, .f32⟩
  | 58 => ⟨S2048, .f32⟩
  | 59 => ⟨S1x1x2048, .f32⟩
  | 60 => ⟨S2x16384x2048, .f32⟩
  | 61 => ⟨S2x16384x2048, .f32⟩
  | 62 => ⟨S2x16384x2048, .f32⟩
  | 63 => ⟨S2x16384x2048, .f32⟩
  | 64 => ⟨S1x2048, .f32⟩
  | 65 => ⟨S2048, .f32⟩
  | 66 => ⟨S1x1x2048, .f32⟩
  | 67 => ⟨S2x16384x2048, .f32⟩
  | 68 => ⟨S2x16384x2048, .f32⟩
  | 69 => ⟨S2x16384x2048, .f32⟩
  | 70 => ⟨S2x16384x2048, .f32⟩
  | 71 => ⟨S1x2048, .f32⟩
  | 72 => ⟨S2048, .f32⟩
  | 73 => ⟨S1x1x2048, .f32⟩
  | 74 => ⟨S2x16384x2048, .f32⟩
  | 75 => ⟨S2x16384x2048, .f32⟩
  | 76 => ⟨S2x16384x2048, .f32⟩
  | 77 => ⟨S2x16384x2048, .f32⟩
  | 78 => ⟨S1x2048, .f32⟩
  | 79 => ⟨S2048, .f32⟩
  | 80 => ⟨S1x1x2048, .f32⟩
  | 81 => ⟨S2x16384x2048, .f32⟩
  | 82 => ⟨S2x16384x2048, .f32⟩
  | 83 => ⟨S2x16384x2048, .f32⟩
  | 84 => ⟨S2x16384x2048, .f32⟩
  | 85 => ⟨S1x2048, .f32⟩
  | 86 => ⟨S2048, .f32⟩
  | 87 => ⟨S1x1x2048, .f32⟩
  | 88 => ⟨S2x16384x2048, .f32⟩
  | 89 => ⟨S2x16384x2048, .f32⟩
  | 90 => ⟨S2x16384x2048, .f32⟩
  | 91 => ⟨S2x16384x2048, .f32⟩
  | 92 => ⟨S1x2048, .f32⟩
  | 93 => ⟨S2048, .f32⟩
  | 94 => ⟨S1x1x2048, .f32⟩
  | 95 => ⟨S2x16384x2048, .f32⟩
  | 96 => ⟨S2x16384x2048, .f32⟩
  | 97 => ⟨S2x16384x2048, .f32⟩
  | 98 => ⟨S2x16384x2048, .f32⟩
  | 99 => ⟨S1x2048, .f32⟩
  | 100 => ⟨S2048, .f32⟩
  | 101 => ⟨S1x1x2048, .f32⟩
  | 102 => ⟨S2x16384x2048, .f32⟩
  | 103 => ⟨S2x16384x2048, .f32⟩
  | 104 => ⟨S2x16384x2048, .f32⟩
  | 105 => ⟨S2x16384x2048, .f32⟩
  | 106 => ⟨S1x2048, .f32⟩
  | 107 => ⟨S2048, .f32⟩
  | 108 => ⟨S1x1x2048, .f32⟩
  | 109 => ⟨S2x16384x2048, .f32⟩
  | 110 => ⟨S2x16384x2048, .f32⟩
  | 111 => ⟨S2x16384x2048, .f32⟩
  | 112 => ⟨S2x16384x2048, .f32⟩
  | 113 => ⟨S1x2048, .f32⟩
  | 114 => ⟨S2048, .f32⟩
  | 115 => ⟨S1x1x2048, .f32⟩
  | 116 => ⟨S2x16384x2048, .f32⟩
  | 117 => ⟨S2x16384x2048, .f32⟩
  | 118 => ⟨S2x16384x2048, .f32⟩
  | 119 => ⟨S2x16384x2048, .f32⟩
  | 120 => ⟨S1x2048, .f32⟩
  | 121 => ⟨S2048, .f32⟩
  | 122 => ⟨S1x1x2048, .f32⟩
  | 123 => ⟨S2x16384x2048, .f32⟩
  | 124 => ⟨S2x16384x2048, .f32⟩
  | 125 => ⟨S2x16384x2048, .f32⟩
  | 126 => ⟨S2x16384x2048, .f32⟩
  | 127 => ⟨S1x2048, .f32⟩
  | _ => ⟨S2x16384x2048, .f32⟩

abbrev hbmTy0_1 (i : Nat) : BufTy := match i % 128 with
  | 0 => ⟨S2048, .f32⟩
  | 1 => ⟨S1x1x2048, .f32⟩
  | 2 => ⟨S2x16384x2048, .f32⟩
  | 3 => ⟨S2x16384x2048, .f32⟩
  | 4 => ⟨S2x16384x2048, .f32⟩
  | 5 => ⟨S2x16384x2048, .f32⟩
  | 6 => ⟨S1x2048, .f32⟩
  | 7 => ⟨S2048, .f32⟩
  | 8 => ⟨S1x1x2048, .f32⟩
  | 9 => ⟨S2x16384x2048, .f32⟩
  | 10 => ⟨S2x16384x2048, .f32⟩
  | 11 => ⟨S2x16384x2048, .f32⟩
  | 12 => ⟨S2x16384x2048, .f32⟩
  | 13 => ⟨S1x2048, .f32⟩
  | 14 => ⟨S2048, .f32⟩
  | 15 => ⟨S1x1x2048, .f32⟩
  | 16 => ⟨S2x16384x2048, .f32⟩
  | 17 => ⟨S2x16384x2048, .f32⟩
  | 18 => ⟨S2x16384x2048, .f32⟩
  | 19 => ⟨S2x16384x2048, .f32⟩
  | 20 => ⟨S1x2048, .f32⟩
  | 21 => ⟨S2048, .f32⟩
  | 22 => ⟨S1x1x2048, .f32⟩
  | 23 => ⟨S2x16384x2048, .f32⟩
  | 24 => ⟨S2x16384x2048, .f32⟩
  | 25 => ⟨S2x16384x2048, .f32⟩
  | 26 => ⟨S2x16384x2048, .f32⟩
  | 27 => ⟨S1x2048, .f32⟩
  | 28 => ⟨S2048, .f32⟩
  | 29 => ⟨S1x1x2048, .f32⟩
  | 30 => ⟨S2x16384x2048, .f32⟩
  | 31 => ⟨S2x16384x2048, .f32⟩
  | 32 => ⟨S2x16384x2048, .f32⟩
  | 33 => ⟨S2x16384x2048, .f32⟩
  | 34 => ⟨S1x2048, .f32⟩
  | 35 => ⟨S2048, .f32⟩
  | 36 => ⟨S1x1x2048, .f32⟩
  | 37 => ⟨S2x16384x2048, .f32⟩
  | 38 => ⟨S2x16384x2048, .f32⟩
  | 39 => ⟨S2x16384x2048, .f32⟩
  | 40 => ⟨S2x16384x2048, .f32⟩
  | 41 => ⟨S1x2048, .f32⟩
  | 42 => ⟨S2048, .f32⟩
  | 43 => ⟨S1x1x2048, .f32⟩
  | 44 => ⟨S2x16384x2048, .f32⟩
  | 45 => ⟨S2x16384x2048, .f32⟩
  | 46 => ⟨S2x16384x2048, .f32⟩
  | 47 => ⟨S2x16384x2048, .f32⟩
  | 48 => ⟨S1x2048, .f32⟩
  | 49 => ⟨S2048, .f32⟩
  | 50 => ⟨S1x1x2048, .f32⟩
  | 51 => ⟨S2x16384x2048, .f32⟩
  | 52 => ⟨S2x16384x2048, .f32⟩
  | 53 => ⟨S2x16384x2048, .f32⟩
  | 54 => ⟨S2x16384x2048, .f32⟩
  | 55 => ⟨S1x2048, .f32⟩
  | 56 => ⟨S2048, .f32⟩
  | 57 => ⟨S1x1x2048, .f32⟩
  | 58 => ⟨S2x16384x2048, .f32⟩
  | 59 => ⟨S2x16384x2048, .f32⟩
  | 60 => ⟨S2x16384x2048, .f32⟩
  | 61 => ⟨S2x16384x2048, .f32⟩
  | 62 => ⟨S1x2048, .f32⟩
  | 63 => ⟨S2048, .f32⟩
  | 64 => ⟨S1x1x2048, .f32⟩
  | 65 => ⟨S2x16384x2048, .f32⟩
  | 66 => ⟨S2x16384x2048, .f32⟩
  | 67 => ⟨S2x16384x2048, .f32⟩
  | 68 => ⟨S2x16384x2048, .f32⟩
  | 69 => ⟨S1x2048, .f32⟩
  | 70 => ⟨S2048, .f32⟩
  | 71 => ⟨S1x1x2048, .f32⟩
  | 72 => ⟨S2x16384x2048, .f32⟩
  | 73 => ⟨S2x16384x2048, .f32⟩
  | 74 => ⟨S2x16384x2048, .f32⟩
  | 75 => ⟨S2x16384x2048, .f32⟩
  | 76 => ⟨S1x2048, .f32⟩
  | 77 => ⟨S2048, .f32⟩
  | 78 => ⟨S1x1x2048, .f32⟩
  | 79 => ⟨S2x16384x2048, .f32⟩
  | 80 => ⟨S2x16384x2048, .f32⟩
  | 81 => ⟨S2x16384x2048, .f32⟩
  | 82 => ⟨S2x16384x2048, .f32⟩
  | 83 => ⟨S1x2048, .f32⟩
  | 84 => ⟨S2048, .f32⟩
  | 85 => ⟨S1x1x2048, .f32⟩
  | 86 => ⟨S2x16384x2048, .f32⟩
  | 87 => ⟨S2x16384x2048, .f32⟩
  | 88 => ⟨S2x16384x2048, .f32⟩
  | 89 => ⟨S2x16384x2048, .f32⟩
  | 90 => ⟨S1x2048, .f32⟩
  | 91 => ⟨S2048, .f32⟩
  | 92 => ⟨S1x1x2048, .f32⟩
  | 93 => ⟨S2x16384x2048, .f32⟩
  | 94 => ⟨S2x16384x2048, .f32⟩
  | 95 => ⟨S2x16384x2048, .f32⟩
  | 96 => ⟨S2x16384x2048, .f32⟩
  | 97 => ⟨S1x2048, .f32⟩
  | 98 => ⟨S2048, .f32⟩
  | 99 => ⟨S1x1x2048, .f32⟩
  | 100 => ⟨S2x16384x2048, .f32⟩
  | 101 => ⟨S2x16384x2048, .f32⟩
  | 102 => ⟨S2x16384x2048, .f32⟩
  | 103 => ⟨S2x16384x2048, .f32⟩
  | 104 => ⟨S1x2048, .f32⟩
  | 105 => ⟨S2048, .f32⟩
  | 106 => ⟨S1x1x2048, .f32⟩
  | 107 => ⟨S2x16384x2048, .f32⟩
  | 108 => ⟨S2x16384x2048, .f32⟩
  | 109 => ⟨S2x16384x2048, .f32⟩
  | 110 => ⟨S2x16384x2048, .f32⟩
  | 111 => ⟨S1x2048, .f32⟩
  | 112 => ⟨S2048, .f32⟩
  | 113 => ⟨S1x1x2048, .f32⟩
  | 114 => ⟨S2x16384x2048, .f32⟩
  | 115 => ⟨S2x16384x2048, .f32⟩
  | 116 => ⟨S2x16384x2048, .f32⟩
  | 117 => ⟨S2x16384x2048, .f32⟩
  | 118 => ⟨S1x2048, .f32⟩
  | 119 => ⟨S2048, .f32⟩
  | 120 => ⟨S1x1x2048, .f32⟩
  | 121 => ⟨S2x16384x2048, .f32⟩
  | 122 => ⟨S2x16384x2048, .f32⟩
  | 123 => ⟨S2x16384x2048, .f32⟩
  | 124 => ⟨S2x16384x2048, .f32⟩
  | 125 => ⟨S1x2048, .f32⟩
  | 126 => ⟨S2048, .f32⟩
  | 127 => ⟨S1x1x2048, .f32⟩
  | _ => ⟨S2x16384x2048, .f32⟩

abbrev hbmTy0_2 (i : Nat) : BufTy := match i % 128 with
  | 0 => ⟨S2x16384x2048, .f32⟩
  | 1 => ⟨S2x16384x2048, .f32⟩
  | 2 => ⟨S2x16384x2048, .f32⟩
  | 3 => ⟨S1x1x2048, .f32⟩
  | 4 => ⟨S2x16384x2048, .f32⟩
  | 5 => ⟨S2x16384x2048, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S2x16384x2048, .f32⟩
  | 13 => ⟨S2x16384x2048, .f32⟩
  | 14 => ⟨S2x16384x2048, .f32⟩
  | 15 => ⟨S_, .f32⟩
  | 16 => ⟨S2x16384, .f32⟩
  | 17 => ⟨S2x16384x1, .f32⟩
  | 18 => ⟨S_, .f32⟩
  | 19 => ⟨S2x16384x1, .f32⟩
  | 20 => ⟨S2x16384x1, .f32⟩
  | 21 => ⟨S_, .f32⟩
  | 22 => ⟨S2x16384x1, .f32⟩
  | 23 => ⟨S2x16384x1, .f32⟩
  | 24 => ⟨S2x16384x1, .f32⟩
  | 25 => ⟨S2x16384x2048, .f32⟩
  | 26 => ⟨S2x16384x2048, .f32⟩
  | 27 => ⟨S1x1x2048, .f32⟩
  | 28 => ⟨S2x16384x2048, .f32⟩
  | 29 => ⟨S2x16384x2048, .f32⟩
  | 30 => ⟨S1x1x2048, .f32⟩
  | 31 => ⟨S2x16384x2048, .f32⟩
  | 32 => ⟨S2x16384x2048, .f32⟩
  | 33 => ⟨S2x16384x2048, .f32⟩
  | 34 => ⟨S2x16384x2048, .f32⟩
  | 35 => ⟨S_, .f32⟩
  | 36 => ⟨S2x16384x2048, .f32⟩
  | 37 => ⟨S2x16384x2048, .f32⟩
  | 38 => ⟨S_, .f32⟩
  | 39 => ⟨S2x16384x2048, .f32⟩
  | 40 => ⟨S2x16384x2048, .f32⟩
  | 41 => ⟨S2x16384x2048, .f32⟩
  | 42 => ⟨S2x16384x2048, .f32⟩
  | 43 => ⟨S2x16384x2048, .f32⟩
  | 44 => ⟨S_, .f32⟩
  | 45 => ⟨S2x16384, .f32⟩
  | 46 => ⟨S2x16384x1, .f32⟩
  | 47 => ⟨S_, .f32⟩
  | 48 => ⟨S2x16384x1, .f32⟩
  | 49 => ⟨S2x16384x1, .f32⟩
  | 50 => ⟨S_, .f32⟩
  | 51 => ⟨S2x16384x1, .f32⟩
  | 52 => ⟨S2x16384x1, .f32⟩
  | 53 => ⟨S2x16384x1, .f32⟩
  | 54 => ⟨S2x16384x2048, .f32⟩
  | 55 => ⟨S2x16384x2048, .f32⟩
  | 56 => ⟨S1x1x2048, .f32⟩
  | 57 => ⟨S2x16384x2048, .f32⟩
  | 58 => ⟨S2x16384x2048, .f32⟩
  | 59 => ⟨S2x16384x2048, .f32⟩
  | 60 => ⟨S32768x2048, .f32⟩
  | _ => ⟨S2x16384x2048, .f32⟩

abbrev hbmTy (i : Nat) : BufTy := match i / 128 with
  | 0 => hbmTy0_0 i
  | 1 => hbmTy0_1 i
  | 2 => hbmTy0_2 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_cst_5 : Ref sig .tc := ⟨.hbm, 262, rfl⟩
abbrev main_v245 : Ref sig .tc := ⟨.hbm, 263, rfl⟩
abbrev main_v246 : Ref sig .tc := ⟨.hbm, 264, rfl⟩
abbrev main_cst_6 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_cst_7 : Ref sig .tc := ⟨.hbm, 271, rfl⟩
abbrev main_v252 : Ref sig .tc := ⟨.hbm, 272, rfl⟩
abbrev main_v253 : Ref sig .tc := ⟨.hbm, 273, rfl⟩
abbrev main_cst_8 : Ref sig .tc := ⟨.hbm, 274, rfl⟩
abbrev main_v254 : Ref sig .tc := ⟨.hbm, 275, rfl⟩
abbrev main_v255 : Ref sig .tc := ⟨.hbm, 276, rfl⟩
abbrev main_cst_9 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_call1_v0 : Ref sig .tc := ⟨.hbm, 289, rfl⟩
abbrev main_call1_v1 : Ref sig .tc := ⟨.hbm, 290, rfl⟩
abbrev main_call1_cst : Ref sig .tc := ⟨.hbm, 291, rfl⟩
abbrev main_call1_v2 : Ref sig .tc := ⟨.hbm, 292, rfl⟩
abbrev main_call1_v3 : Ref sig .tc := ⟨.hbm, 293, rfl⟩
abbrev main_call1_cst_0 : Ref sig .tc := ⟨.hbm, 294, rfl⟩
abbrev main_call1_v4 : Ref sig .tc := ⟨.hbm, 295, rfl⟩
abbrev main_call1_v5 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_cst_10 : Ref sig .tc := ⟨.hbm, 300, rfl⟩
abbrev main_v270 : Ref sig .tc := ⟨.hbm, 301, rfl⟩
abbrev main_v271 : Ref sig .tc := ⟨.hbm, 302, rfl⟩
abbrev main_cst_11 : Ref sig .tc := ⟨.hbm, 303, rfl⟩
abbrev main_v272 : Ref sig .tc := ⟨.hbm, 304, rfl⟩
abbrev main_v273 : Ref sig .tc := ⟨.hbm, 305, rfl⟩
abbrev main_cst_12 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩

abbrev nD : Nat := 1
abbrev τ : Topo := Topo.v7x

variable {F : FTy → Type} [FloatOps F]
-- ==== SguKernel.lean ====
abbrev S2x16384x2048 : Shape := ⟨3, ![2, 16384, 2048]⟩
abbrev S2048 : Shape := ⟨1, ![2048]⟩
abbrev S2048x4096 : Shape := ⟨2, ![2048, 4096]⟩
abbrev S8x128x128 : Shape := ⟨3, ![8, 128, 128]⟩
abbrev S8x128 : Shape := ⟨2, ![8, 128]⟩
abbrev S2048x2048 : Shape := ⟨2, ![2048, 2048]⟩
abbrev S32768x2048 : Shape := ⟨2, ![32768, 2048]⟩
abbrev S1x2048 : Shape := ⟨2, ![1, 2048]⟩
abbrev S128x8 : Shape := ⟨2, ![128, 8]⟩
abbrev S512x2048 : Shape := ⟨2, ![512, 2048]⟩
abbrev S2048x512 : Shape := ⟨2, ![2048, 512]⟩
abbrev S4x512x512 : Shape := ⟨3, ![4, 512, 512]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩
abbrev S128x512 : Shape := ⟨2, ![128, 512]⟩

abbrev nBuf : Space → Nat
  | .hbm => 19
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x4096, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x2048, .f32⟩
  | .hbm, ⟨9, _⟩ => ⟨S32768x2048, .f32⟩
  | .hbm, ⟨10, _⟩ => ⟨S1x2048, .f32⟩
  | .hbm, ⟨11, _⟩ => ⟨S1x2048, .f32⟩
  | .hbm, ⟨12, _⟩ => ⟨S2048x4096, .bf16⟩
  | .hbm, ⟨13, _⟩ => ⟨S1x2048, .f32⟩
  | .hbm, ⟨14, _⟩ => ⟨S1x2048, .f32⟩
  | .hbm, ⟨15, _⟩ => ⟨S8x128x128, .bf16⟩
  | .hbm, ⟨16, _⟩ => ⟨S128x8, .f32⟩
  | .hbm, ⟨17, _⟩ => ⟨S2048x2048, .bf16⟩
  | .hbm, ⟨18, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x2048, .f32⟩
  | .local _ .vmem, ⟨9, _⟩ => ⟨S1x2048, .f32⟩
  | .local _ .vmem, ⟨10, _⟩ => ⟨S8x128x128, .bf16⟩
  | .local _ .vmem, ⟨11, _⟩ => ⟨S128x8, .f32⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S4x512x512, .f32⟩
  | .local _ .vmem, ⟨17, _⟩ => ⟨S4x512x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![64, 4], ![false, false]⟩

def k0_off1 (i : grid0.Coords) : Fin 3 → Nat :=
  let arg1 : BitVec 32 := BitVec.ofNat 32 (i 1).val
  let v15 : Index := Scalar.indexCast arg1
  let c0_7 : Index := 0#32
  let c0_8 : Index := 0#32
  ![v15.toNat, 0, 0]
def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== SguReferenceIdeal.lean ====
abbrev S2x16384x2048 : Shape := ⟨3, ![2, 16384, 2048]⟩
abbrev S2048 : Shape := ⟨1, ![2048]⟩
abbrev S2048x4096 : Shape := ⟨2, ![2048, 4096]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩
abbrev S2x128x128x8x256 : Shape := ⟨5, ![2, 128, 128, 8, 256]⟩
abbrev S8x128x2x128x256 : Shape := ⟨5, ![8, 128, 2, 128, 256]⟩
abbrev S128x8 : Shape := ⟨2, ![128, 8]⟩
abbrev S128x8x1 : Shape := ⟨3, ![128, 8, 1]⟩
abbrev S1x1x128x8x1 : Shape := ⟨5, ![1, 1, 128, 8, 1]⟩
abbrev S32768x2048 : Shape := ⟨2, ![32768, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048, .f32⟩
  | .hbm, ⟨3, _⟩ => ⟨S2048x4096, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S1x1x2048, .f32⟩
  | .hbm, ⟨23, _⟩ => ⟨S2x16384x2048, .f32⟩
  | .hbm, ⟨24, _⟩ => ⟨S2x16384x2048, .f32⟩
  | .hbm, ⟨25, _⟩ => ⟨S2x16384x4096, .f32⟩
  | .hbm, ⟨26, _⟩ => ⟨S_, .f32⟩
  | .hbm, ⟨27, _⟩ => ⟨S2x16384x4096, .f32⟩
  | .hbm, ⟨28, _⟩ => ⟨S2x16384x4096, .f32⟩
  | .hbm, ⟨29, _⟩ => ⟨S2x16384x4096, .f32⟩
  | .hbm, ⟨30, _⟩ => ⟨S_, .f32⟩
  | .hbm, ⟨31, _⟩ => ⟨S2x16384x4096, .f32⟩
  | .hbm, ⟨32, _⟩ => ⟨S2x16384x4096, .f32⟩
  | .hbm, ⟨33, _⟩ => ⟨S2x16384x4096, .f32⟩
  | .hbm, ⟨34, _⟩ => ⟨S2x16384x4096, .f32⟩
  | .hbm, ⟨35, _⟩ => ⟨S2x16384x2048, .f32⟩
  | .hbm, ⟨36, _⟩ => ⟨S2x16384x2048, .f32⟩
  | .hbm, ⟨37, _⟩ => ⟨S_, .f32⟩
  | .hbm, ⟨38, _⟩ => ⟨S2x16384, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x2048, .f32⟩
  | .hbm, ⟨57, _⟩ => ⟨S2x16384x2048, .f32⟩
  | .hbm, ⟨58, _⟩ => ⟨S1x1x2048, .f32⟩
  | .hbm, ⟨59, _⟩ => ⟨S2x16384x2048, .f32⟩
  | .hbm, ⟨60, _⟩ => ⟨S2x16384x2048, .f32⟩
  | .hbm, ⟨61, _⟩ => ⟨S1x1x2048, .f32⟩
  | .hbm, ⟨62, _⟩ => ⟨S2x16384x2048, .f32⟩
  | .hbm, ⟨63, _⟩ => ⟨S2x16384x2048, .f32⟩
  | .hbm, ⟨64, _⟩ => ⟨S2x128x128x8x256, .f32⟩
  | .hbm, ⟨65, _⟩ => ⟨S8x128x2x128x256, .f32⟩
  | .hbm, ⟨66, _⟩ => ⟨S2x128x128x8x256, .f32⟩
  | .hbm, ⟨67, _⟩ => ⟨S128x8, .f32⟩
  | .hbm, ⟨68, _⟩ => ⟨S128x8x1, .f32⟩
  | .hbm, ⟨69, _⟩ => ⟨S1x1x128x8x1, .f32⟩
  | .hbm, ⟨70, _⟩ => ⟨S2x128x128x8x256, .f32⟩
  | .hbm, ⟨71, _⟩ => ⟨S2x128x128x8x256, .f32⟩
  | .hbm, ⟨72, _⟩ => ⟨S2x16384x2048, .f32⟩
  | .hbm, ⟨73, _⟩ => ⟨S2x16384x2048, .f32⟩
  | .hbm, ⟨74, _⟩ => ⟨S2x16384x2048, .f32⟩
  | .hbm, ⟨75, _⟩ => ⟨S2x16384x2048, .f32⟩
  | .hbm, ⟨76, _⟩ => ⟨S_, .f32⟩
  | .hbm, ⟨77, _⟩ => ⟨S2x16384, .f32⟩
  | .hbm, ⟨78, _⟩ => ⟨S2x16384x1, .f32⟩
  | .hbm, ⟨79, _⟩ => ⟨S_, .f32⟩
  | .hbm, ⟨80, _⟩ => ⟨S2x16384x1, .f32⟩
  | .hbm, ⟨81, _⟩ => ⟨S2x16384x1, .f32⟩
  | .hbm, ⟨82, _⟩ => ⟨S_, .f32⟩
  | .hbm, ⟨83, _⟩ => ⟨S2x16384x1, .f32⟩
  | .hbm, ⟨84, _⟩ => ⟨S2x16384x1, .f32⟩
  | .hbm, ⟨85, _⟩ => ⟨S2x16384x1, .f32⟩
  | .hbm, ⟨86, _⟩ => ⟨S2x16384x2048, .f32⟩
  | .hbm, ⟨87, _⟩ => ⟨S2x16384x2048, .f32⟩
  | .hbm, ⟨88, _⟩ => ⟨S1x1x2048, .f32⟩
  | .hbm, ⟨89, _⟩ => ⟨S2x16384x2048, .f32⟩
  | .hbm, ⟨90, _⟩ => ⟨S2x16384x2048, .f32⟩
  | .hbm, ⟨91, _⟩ => ⟨S2x16384x2048, .f32⟩
  | .hbm, ⟨92, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Proof.Common.Spec.lean ====
/-
  The mathematics of a mixer sublayer on the extended reals, one row (one token) at a time: the RMS norm every call
  applies to its input row and to its mixer's output row, SiLU, and a long sum taken tile by tile.
-/
module

public import Idealize.ShloMosaic.PureOps.Ideal
public import Idealize.ShloMosaic.PureOps.Ideal.Laws

@[expose] public section

noncomputable section

namespace Cert.Spec

open Idealize.ShloMosaic

/-- The reciprocal of a row's root mean square: `rsqrt (mean of squares + eps)`, the mean a sum divided by the model
    width 2048. -/
def rmsScale (x : Fin 2048 → EReal) : EReal :=
  Ideal.rsqrt (Ideal.div (∑ k : Fin 2048, x k * x k) (Ideal.ofBits .f32 0x45000000#32) + Ideal.ofBits .f32 0x358637BD#32)

/-- The RMS norm of a row `x` with gain `g`. -/
def rms (x g : Fin 2048 → EReal) (k : Fin 2048) : EReal := x k * rmsScale x * g k

/-- SiLU: a number times its logistic. -/
def silu (z : EReal) : EReal := z * Ideal.logistic z

/-- Row `x` against a matrix column: the dot product over the model width. -/
def dot {n : ℕ} (x : Fin 2048 → EReal) (w : Fin 2048 → Fin n → EReal) (f : Fin n) : EReal := ∑ k : Fin 2048, x k * w k f

/-- The zero row against any column. -/
theorem dot_zero {n : ℕ} (w : Fin 2048 → Fin n → EReal) (f : Fin n) : dot (fun _ => 0) w f = 0 :=
  Finset.sum_eq_zero fun k _ => zero_mul (w k f)

/-- A sublayer around a mixer's output row `o`: the input row plus the RMS norm of `o`. -/
def residual (x o g : Fin 2048 → EReal) (n : Fin 2048) : EReal := x n + rms o g n

/-! ## A sum over `N` taken in tiles of 512 -/

/-- A function on `Fin N` continued by zero to every natural number. -/
def ext {N : ℕ} (g : Fin N → EReal) (f : ℕ) : EReal := if h : f < N then g ⟨f, h⟩ else 0

/-- The first `j` tiles' part of the sum of `g`. -/
def tiles {N : ℕ} (g : Fin N → EReal) (j : ℕ) : EReal := ∑ f ∈ Finset.range (512 * j), ext g f

theorem tiles_zero {N : ℕ} (g : Fin N → EReal) : tiles g 0 = 0 := by simp [tiles]

/-- One more tile: tile `j`'s own sum added to the tiles before it. -/
theorem tiles_succ {N : ℕ} (g : Fin N → EReal) (j : ℕ) (hj : 512 * (j + 1) ≤ N) :
    tiles g (j + 1) = tiles g j + ∑ i : Fin 512, g ⟨512 * j + i.val, by have := i.isLt; omega⟩ := by
  have e : 512 * (j + 1) = 512 * j + 512 := by omega
  unfold tiles
  rw [e, Finset.sum_range_add, Finset.sum_range (n := 512)]
  refine congrArg (_ + ·) (Finset.sum_congr rfl fun i _ => ?_)
  have hi : 512 * j + i.val < N := by have := i.isLt; omega
  exact dif_pos hi

/-- All the tiles together are the whole sum. -/
theorem tiles_all {N : ℕ} (g : Fin N → EReal) (j : ℕ) (hj : 512 * j = N) : tiles g j = ∑ i : Fin N, g i := by
  subst hj
  unfold tiles
  rw [Finset.sum_range]
  exact Finset.sum_congr rfl fun i _ => dif_pos i.isLt

/-! ## The feed-forward call's row -/

/-- The gated hidden unit `f` of a normed row. -/
def ffnHidden (xn : Fin 2048 → EReal) (wg wu : Fin 2048 → Fin 5632 → EReal) (f : Fin 5632) : EReal :=
  silu (dot xn wg f) * dot xn wu f

/-- The feed-forward mixer's output row. -/
def ffnMix (xn : Fin 2048 → EReal) (wg wu : Fin 2048 → Fin 5632 → EReal) (wd : Fin 5632 → Fin 2048 → EReal) (n : Fin 2048) : EReal :=
  ∑ f : Fin 5632, ffnHidden xn wg wu f * wd f n

/-- The feed-forward sublayer's row. -/
def ffnRow (x pre post : Fin 2048 → EReal) (wg wu : Fin 2048 → Fin 5632 → EReal) (wd : Fin 5632 → Fin 2048 → EReal) : Fin 2048 → EReal :=
  residual x (ffnMix (rms x pre) wg wu wd) post

end Cert.Spec

end
-- ==== Proof.Ffn.Payloads.lean ====
/-
  The feed-forward kernel's stored values read at an index, over the extended reals: the normed rows, the zeroed
  accumulator, one hidden tile's contribution, the closing residual norm.
-/
module

public import proofs.«01_k».proof.Proof.Common.Spec
public import proofs.«01_k».proof.Proof.Gen.FfnKernelIdeal.Skeleton
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.FfnKernelIdeal.Pay

open Cert.FfnKernelIdeal Cert.FfnKernelIdeal.Gen Idealize.ShloMosaic Cert.Spec

/-- Row `r` of a [512, 2048] block. -/
abbrev row {φ : FTy} (X : FVec Ideal S512x2048 φ) (r : Fin 512) : Fin 2048 → EReal := fun k => X (ix2 r k)

theorem pay1_apply (x : Vec Ideal S512x2048 .f32) (g : Vec Ideal S1x2048 .f32) (r : Fin 512) (k : Fin 2048) :
    k0_pay1 x g (ix2 r k) = rms (fun k => x (ix2 r k)) (fun k => g (ix2 0 k)) k := by
  unfold_payloads
  pointwise
  rfl

theorem pay2_apply (r : Fin 512) (k : Fin 2048) : k0_pay2 (F := Ideal) (ix2 r k) = 0 := by
  unfold_payloads
  pointwise

theorem pay3_apply (xn : Vec Ideal S512x2048 .bf16) (wg wu : Vec Ideal S2048x512 .bf16) (acc : Vec Ideal S512x2048 .f32)
    (wd : Vec Ideal S512x2048 .bf16) (r : Fin 512) (n : Fin 2048) :
    k0_pay3 xn wg wu acc wd (ix2 r n)
      = acc (ix2 r n) + ∑ f : Fin 512, (silu (dot (fun k => xn (ix2 r k)) (fun k f => wg (ix2 k f)) f)
          * dot (fun k => xn (ix2 r k)) (fun k f => wu (ix2 k f)) f) * wd (ix2 f n) := by
  unfold_payloads
  pointwise
  rfl

theorem pay4_apply (o x : Vec Ideal S512x2048 .f32) (g : Vec Ideal S1x2048 .f32) (r : Fin 512) (n : Fin 2048) :
    k0_pay4 o x g (ix2 r n) = residual (fun k => x (ix2 r k)) (fun k => o (ix2 r k)) (fun k => g (ix2 0 k)) n := by
  unfold_payloads
  pointwise
  rfl

end Cert.FfnKernelIdeal.Pay

end
-- ==== Proof.Ffn.Cases.lean ====
/-
  What the feed-forward kernel's body leaves at one grid point, in each of its three cases (the first hidden tile of a
  row tile, a middle one, the last one), as the stored values over the point's input blocks and the two scratches.
-/
module

public import proofs.«01_k».proof.Proof.Gen.FfnKernelIdeal.Frame
public import Idealize.ShloMosaic.Lib.Pipeline.Value

@[expose] public section

noncomputable section

namespace Cert.FfnKernelIdeal.Cases

open Cert.FfnKernelIdeal Cert.FfnKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords) (a2 : Memref sig .tc .vmem S512x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S2048x512 .bf16) (h5 : a5.IsWhole) (a6 : Memref sig .tc .vmem S2048x512 .bf16) (h6 : a6.IsWhole)
  (a7 : Memref sig .tc .vmem S512x2048 .bf16) (h7 : a7.IsWhole) (a8 : Memref sig .tc .vmem S512x2048 .f32) (h8 : a8.IsWhole)
  (a9 : Memref sig .tc .vmem S512x2048 .bf16) (h9 : a9.IsWhole) (a10 : Memref sig .tc .vmem S512x2048 .f32) (h10 : a10.IsWhole)
  (x0 : Vec F S512x2048 .f32) (x1 x2 : Vec F S1x2048 .f32) (x3 x4 : Vec F S2048x512 .bf16) (x5 : Vec F S512x2048 .bf16)
  (xs0 : Vec F S512x2048 .bf16) (xs1 : Vec F S512x2048 .f32)

/-- First hidden tile: the first scratch is left holding the normed rows. -/
theorem first_normed (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  try sl_unfold_words
  rw [View.canon_unit_zero hz]
  simp only [View.readAt_eq_ld, h2.read_unread, h3.read_unread, View.ld_unit_zero (S := S512x2048) hz, View.ld_unit_zero (S := S1x2048) hz, shapeCast_self]

/-- First hidden tile: the accumulator is left holding that tile's contribution over zeros. -/
theorem first_acc (hc0 : cond0_0 i) (hc1 : ¬cond0_1 i) :
    sout0_A_1 c i a2 h2 a3 h3 a4 h4 a5 h5 a6 h6 a7 h7 a8 h8 a9 h9 a10 h10 hc0 hc1 x0 x1 x2 x3 x4 x5
      = k0_pay3 (k0_pay1 x0 x1) x3 x4 k0_pay2 x5 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  try sl_unfold_words
  rw [View.canon_cons_unit_zero (S := S512x2048) hz]
  simp only [View.readCov_unit_zero (S := S512x2048) _ hz, View.readAt_eq_ld, h2.read_unread, h3.read_unread, h4.read_unread, h5.read_unread, h6.read_unread, h7.read_unread,
    View.ld_unit_zero (S := S512x2048) hz, View.ld_unit_zero (S := S2048x512) hz, View.ld_unit_zero (S := S1x2048) hz, shapeCast_self]

/-- Middle hidden tile: the accumulator gains that tile's contribution. -/
theorem middle_acc (hc0 : ¬cond0_0 i) (hc1 : ¬cond0_1 i) :
    sout0_B_1 c i a2 h2 a3 h3 a4 h4 a5 h5 a6 h6 a7 h7 a8 h8 a9 h9 a10 h10 hc0 hc1 x0 x1 x2 x3 x4 x5 xs0 xs1
      = k0_pay3 xs0 x3 x4 xs1 x5 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 xs0 xs1)]
  unfold kernelRun0_B
  dsimp only
  try sl_unfold_words
  rw [View.canon_unit_zero hz]
  simp only [View.readAt_eq_ld, h5.read_unread, h6.read_unread, h7.read_unread, h9.read_unread, h10.read_unread,
    View.ld_unit_zero (S := S512x2048) hz, View.ld_unit_zero (S := S2048x512) hz, shapeCast_self]

/-- A middle point leaves the normed rows as they were. -/
theorem middle_normed (hc0 : ¬cond0_0 i) (hc1 : ¬cond0_1 i) :
    sout0_B_0 c i a2 h2 a3 h3 a4 h4 a5 h5 a6 h6 a7 h7 a8 h8 a9 h9 a10 h10 hc0 hc1 x0 x1 x2 x3 x4 x5 xs0 xs1 = xs0 := rfl

/-- The last point leaves the normed rows as they were. -/
theorem last_normed (hc0 : ¬cond0_0 i) (hc1 : cond0_1 i) :
    sout0_C_0 c i a2 h2 a3 h3 a4 h4 a5 h5 a6 h6 a7 h7 a8 h8 a9 h9 a10 h10 hc0 hc1 x0 x1 x2 x3 x4 x5 xs0 xs1 = xs0 := rfl

/-- Last hidden tile: the accumulator gains that tile's contribution. -/
theorem last_acc (hc0 : ¬cond0_0 i) (hc1 : cond0_1 i) :
    sout0_C_1 c i a2 h2 a3 h3 a4 h4 a5 h5 a6 h6 a7 h7 a8 h8 a9 h9 a10 h10 hc0 hc1 x0 x1 x2 x3 x4 x5 xs0 xs1
      = k0_pay3 xs0 x3 x4 xs1 x5 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 x5 xs0 xs1)]
  unfold kernelRun0_C
  dsimp only
  try sl_unfold_words
  rw [View.canon_unit_zero hz]
  simp only [View.readAt_eq_ld, h5.read_unread, h6.read_unread, h7.read_unread, h9.read_unread, h10.read_unread,
    View.ld_unit_zero (S := S512x2048) hz, View.ld_unit_zero (S := S2048x512) hz, shapeCast_self]

/-- Last hidden tile: the output block is the closing residual norm of the finished accumulator. -/
theorem last_out (hc0 : ¬cond0_0 i) (hc1 : cond0_1 i) :
    out0_C_6 c i a2 h2 a3 h3 a4 h4 a5 h5 a6 h6 a7 h7 a8 h8 a9 h9 a10 h10 hc0 hc1 x0 x1 x2 x3 x4 x5 xs0 xs1
      = k0_pay4 (k0_pay3 xs0 x3 x4 xs1 x5) x0 x2 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 xs0 xs1)]
  unfold kernelRun0_C
  dsimp only
  try sl_unfold_words
  rw [View.canon_unit_zero hz]
  simp only [View.readCov_unit_zero (S := S512x2048) _ hz, View.readAt_eq_ld, h2.read_unread, h4.read_unread, h5.read_unread, h6.read_unread, h7.read_unread, h9.read_unread, h10.read_unread,
    View.ld_unit_zero (S := S512x2048) hz, View.ld_unit_zero (S := S2048x512) hz, View.ld_unit_zero (S := S1x2048) hz, shapeCast_self]

end

end Cert.FfnKernelIdeal.Cases

end
-- ==== Proof.Ffn.Blocks.lean ====
/-
  What the feed-forward kernel's input blocks hold at a grid point, read from the arguments: point `t` is row tile
  `t / 11`, hidden tile `t % 11`; row `R` of the flattened input is token `R % 16384` of sequence `R / 16384`.
-/
module

public import proofs.«01_k».proof.Proof.Gen.FfnKernelIdeal.Frame
public import Idealize.ShloMosaic.Lib.Pipeline.ValueKit.Point
public import Idealize.ShloMosaic.Lib.Pointwise

@[expose] public section

noncomputable section

namespace Cert.FfnKernelIdeal.Blocks

open Cert.FfnKernelIdeal Cert.FfnKernelIdeal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t 0 = t.val / 11 ∧ win0_0.index t 1 = 0 :=
  (by decide +kernel : ∀ t : Fin grid0.N, win0_0.index t 0 = t.val / 11 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = t.val % 11 :=
  (by decide +kernel : ∀ t : Fin grid0.N, win0_3.index t 0 = 0 ∧ win0_3.index t 1 = t.val % 11)
theorem idx4 : ∀ t : Fin cfg0.N, win0_4.index t 0 = 0 ∧ win0_4.index t 1 = t.val % 11 :=
  (by decide +kernel : ∀ t : Fin grid0.N, win0_4.index t 0 = 0 ∧ win0_4.index t 1 = t.val % 11)
theorem idx5 : ∀ t : Fin cfg0.N, win0_5.index t 0 = t.val % 11 ∧ win0_5.index t 1 = 0 :=
  (by decide +kernel : ∀ t : Fin grid0.N, win0_5.index t 0 = t.val % 11 ∧ win0_5.index t 1 = 0)

theorem lt_N (t : Fin cfg0.N) : t.val < 704 := lt_of_lt_of_eq t.isLt N_0

/-- The flattened row that row `r` of point `t`'s row tile is. -/
def rowOf (t : Fin cfg0.N) (r : Fin 512) : Fin 32768 := ⟨512 * (t.val / 11) + r.val, by have := lt_N t; have := r.isLt; omega⟩

/-- The hidden unit that place `f` of point `t`'s hidden tile is. -/
def unitOf (t : Fin cfg0.N) (f : Fin 512) : Fin 5632 := ⟨512 * (t.val % 11) + f.val, by have := f.isLt; omega⟩

/-- Row `R` of the flattened input. -/
def xrow (R : Fin 32768) (k : Fin 2048) : EReal :=
  (m ((c : Thread nD τ).loc main_arg0) : S2x16384x2048.Idx → EReal)
    (ix3 ⟨R.val / 16384, by have := R.isLt; omega⟩ ⟨R.val % 16384, Nat.mod_lt _ (by decide)⟩ k)

theorem blk_x (t : Fin cfg0.N) (r : Fin 512) (k : Fin 2048) : iblk m c 0 t (ix2 r k) = xrow m c (rowOf t r) k := by
  have h := lt_N t
  unfold xrow rowOf
  blk_ext! [iblk, V, idx0 t]

theorem blk_pre (t : Fin cfg0.N) (k : Fin 2048) :
    iblk m c 1 t (ix2 0 k) = (m ((c : Thread nD τ).loc main_arg1) : S2048.Idx → EReal) (ix1 k) := by
  blk_ext! [iblk, V, idx1 t]

theorem blk_post (t : Fin cfg0.N) (k : Fin 2048) :
    iblk m c 2 t (ix2 0 k) = (m ((c : Thread nD τ).loc main_arg2) : S2048.Idx → EReal) (ix1 k) := by
  blk_ext! [iblk, V, idx2 t]

theorem blk_wg (t : Fin cfg0.N) (k : Fin 2048) (f : Fin 512) :
    iblk m c 3 t (ix2 k f) = (m ((c : Thread nD τ).loc main_arg3) : S2048x5632.Idx → EReal) (ix2 k (unitOf t f)) := by
  unfold unitOf
  blk_ext! [iblk, V, idx3 t]

theorem blk_wu (t : Fin cfg0.N) (k : Fin 2048) (f : Fin 512) :
    iblk m c 4 t (ix2 k f) = (m ((c : Thread nD τ).loc main_arg4) : S2048x5632.Idx → EReal) (ix2 k (unitOf t f)) := by
  unfold unitOf
  blk_ext! [iblk, V, idx4 t]

theorem blk_wd (t : Fin cfg0.N) (f : Fin 512) (n : Fin 2048) :
    iblk m c 5 t (ix2 f n) = (m ((c : Thread nD τ).loc main_arg5) : S5632x2048.Idx → EReal) (ix2 (unitOf t f) n) := by
  unfold unitOf
  blk_ext! [iblk, V, idx5 t]

end Cert.FfnKernelIdeal.Blocks

end
-- ==== Proof.Ffn.Array.lean ====
/-
  What the feed-forward kernel's result array holds: at row `R`, column `n`, the sublayer's row applied to row `R` of the
  flattened input. The hidden tiles are summed point by point; after the last of a row tile the sum is the whole one.
-/
module

public import proofs.«01_k».proof.Proof.Ffn.Payloads
public import proofs.«01_k».proof.Proof.Ffn.Cases
public import proofs.«01_k».proof.Proof.Ffn.Blocks
public import proofs.«01_k».proof.Proof.Gen.FfnKernelIdeal.Value

@[expose] public section

noncomputable section

namespace Cert.FfnKernelIdeal.Array

open Cert.FfnKernelIdeal Cert.FfnKernelIdeal.Gen Cert.FfnKernelIdeal.Blocks Cert.FfnKernelIdeal.Pay Cert.FfnKernelIdeal.Cases
open Idealize.ShloMosaic Idealize.ShloMosaic.TcCoe Idealize.SL.Sem Cert.Spec

variable (m : (ℓ : Loc nD τ sig) → Buf (Elt Ideal) ℓ) (c : Dev nD)

/-- The gains and weights, as the functions of the mathematics. -/
def pre (k : Fin 2048) : EReal := (m ((c : Thread nD τ).loc main_arg1) : S2048.Idx → EReal) (ix1 k)
def post (k : Fin 2048) : EReal := (m ((c : Thread nD τ).loc main_arg2) : S2048.Idx → EReal) (ix1 k)
def wg (k : Fin 2048) (f : Fin 5632) : EReal := (m ((c : Thread nD τ).loc main_arg3) : S2048x5632.Idx → EReal) (ix2 k f)
def wu (k : Fin 2048) (f : Fin 5632) : EReal := (m ((c : Thread nD τ).loc main_arg4) : S2048x5632.Idx → EReal) (ix2 k f)
def wd (f : Fin 5632) (n : Fin 2048) : EReal := (m ((c : Thread nD τ).loc main_arg5) : S5632x2048.Idx → EReal) (ix2 f n)

/-- What hidden unit `f` contributes to column `n` of row `R`. -/
def contrib (R : Fin 32768) (n : Fin 2048) (f : Fin 5632) : EReal :=
  ffnHidden (rms (xrow m c R) (pre m c)) (wg m c) (wu m c) f * wd m c f n

/-- The normed rows the first scratch is given. -/
theorem normed (t : Fin cfg0.N) (r : Fin 512) (k : Fin 2048) :
    k0_pay1 (iblk m c 0 t) (iblk m c 1 t) (ix2 r k) = rms (xrow m c (rowOf t r)) (pre m c) k := by
  rw [pay1_apply]
  exact congrArg₂ (fun x g => rms x g k) (funext fun k => blk_x m c t r k) (funext fun k => blk_pre m c t k)

/-- One hidden tile added to an accumulator, the first scratch holding the normed rows. -/
theorem step (t : Fin cfg0.N) (xn : Vec Ideal S512x2048 .bf16) (acc : Vec Ideal S512x2048 .f32) (r : Fin 512) (n : Fin 2048)
    (hx : ∀ k, xn (ix2 r k) = rms (xrow m c (rowOf t r)) (pre m c) k) :
    k0_pay3 xn (iblk m c 3 t) (iblk m c 4 t) acc (iblk m c 5 t) (ix2 r n)
      = acc (ix2 r n) + ∑ f : Fin 512, contrib m c (rowOf t r) n (unitOf t f) := by
  rw [pay3_apply]
  have ex : (fun k => xn (ix2 r k)) = rms (xrow m c (rowOf t r)) (pre m c) := funext hx
  rw [ex]
  refine congrArg (acc (ix2 r n) + ·) (Finset.sum_congr rfl fun f _ => ?_)
  refine congr (congrArg _ (congr (congrArg _ (congrArg silu ?_)) ?_)) (blk_wd m c t f n)
  · exact Finset.sum_congr rfl fun k _ => congrArg (_ * ·) (blk_wg m c t k f)
  · exact Finset.sum_congr rfl fun k _ => congrArg (_ * ·) (blk_wu m c t k f)

/-- Points of one row tile are about the same rows. -/
theorem rowOf_pred (t t' : Fin cfg0.N) (h : t.val / 11 = t'.val / 11) (r : Fin 512) : rowOf t r = rowOf t' r :=
  Fin.ext (by show 512 * (t.val / 11) + r.val = 512 * (t'.val / 11) + r.val; rw [h])

/-- The tiles before point `t`'s and that tile make the tiles up to it. -/
theorem tiles_step (t : Fin cfg0.N) (g : Fin 5632 → EReal) :
    tiles g (t.val % 11) + ∑ f : Fin 512, g (unitOf t f) = tiles g (t.val % 11 + 1) :=
  (tiles_succ g (t.val % 11) (by have := Nat.mod_lt t.val (show 0 < 11 by decide); omega)).symm

/-- After every point: the first scratch holds the row tile's normed rows, the accumulator the hidden tiles so far. -/
theorem scratches : ∀ (t : ℕ) (h : t < cfg0.N) (r : Fin 512),
    (∀ k : Fin 2048, (outsAt0 m c t h).2.1 (ix2 r k) = rms (xrow m c (rowOf ⟨t, h⟩ r)) (pre m c) k)
    ∧ (∀ n : Fin 2048, (outsAt0 m c t h).2.2 (ix2 r n) = tiles (contrib m c (rowOf ⟨t, h⟩ r) n) (t % 11 + 1)) := by
  intro t
  induction t using Nat.strong_induction_on with
  | _ t ih =>
    intro h r
    have hN : t < 704 := lt_N ⟨t, h⟩
    by_cases h0 : t % 11 = 0
    · have h1 : ¬t % 11 = 10 := by omega
      rw [outsAt0_A m c ⟨t, h⟩ h0 h1]
      dsimp only
      rw [first_normed, first_acc]
      refine ⟨fun k => normed m c ⟨t, h⟩ r k, fun n => ?_⟩
      rw [step m c ⟨t, h⟩ _ _ r n (fun k => normed m c ⟨t, h⟩ r k), pay2_apply]
      have e := tiles_step ⟨t, h⟩ (contrib m c (rowOf ⟨t, h⟩ r) n)
      dsimp only at e
      rw [h0, tiles_zero] at e
      rw [h0]
      exact e
    · obtain ⟨ihx, iha⟩ := ih (t - 1) (by omega) (by omega) r
      have er : rowOf ⟨t - 1, by omega⟩ r = rowOf ⟨t, h⟩ r := rowOf_pred _ _ (by dsimp only; omega) r
      have ej : (t - 1) % 11 + 1 = t % 11 := by omega
      rw [er] at ihx iha
      rw [ej] at iha
      by_cases h1 : t % 11 = 10
      · rw [outsAt0_C m c ⟨t, h⟩ h0 h1]
        dsimp only
        rw [last_normed, last_acc]
        refine ⟨ihx, fun n => ?_⟩
        rw [step m c ⟨t, h⟩ _ _ r n ihx, iha n]
        exact tiles_step ⟨t, h⟩ _
      · rw [outsAt0_B m c ⟨t, h⟩ h0 h1]
        dsimp only
        rw [middle_normed, middle_acc]
        refine ⟨ihx, fun n => ?_⟩
        rw [step m c ⟨t, h⟩ _ _ r n ihx, iha n]
        exact tiles_step ⟨t, h⟩ _

/-- The sublayer's row of flattened row `R`. -/
def result (R : Fin 32768) : Fin 2048 → EReal :=
  ffnRow (xrow m c R) (pre m c) (post m c) (wg m c) (wu m c) (wd m c)

/-- What the last point of a row tile writes back. -/
theorem written (t : Fin cfg0.N) (ht : t.val % 11 = 10) (r : Fin 512) (n : Fin 2048) :
    (outsAt0 m c t.val t.isLt).1 (ix2 r n) = result m c (rowOf t r) n := by
  have h0 : ¬t.val % 11 = 0 := by omega
  have hN := lt_N t
  have hp : t.val - 1 < cfg0.N := lt_of_le_of_lt (Nat.sub_le _ _) t.isLt
  have er : rowOf ⟨t.val - 1, hp⟩ r = rowOf t r := rowOf_pred _ _ (by dsimp only; omega) r
  have ej : (t.val - 1) % 11 + 1 = t.val % 11 := by omega
  obtain ⟨ihx, iha⟩ := scratches m c (t.val - 1) hp r
  rw [er] at ihx iha
  rw [ej] at iha
  rw [outsAt0_C m c t h0 ht]
  dsimp only
  rw [last_out, pay4_apply]
  have eo : (fun k => k0_pay3 (outsAt0 m c (t.val - 1) hp).2.1 (iblk m c 3 t) (iblk m c 4 t) (outsAt0 m c (t.val - 1) hp).2.2
      (iblk m c 5 t) (ix2 r k)) = ffnMix (rms (xrow m c (rowOf t r)) (pre m c)) (wg m c) (wu m c) (wd m c) := by
    funext k
    rw [step m c t _ _ r k ihx, iha k, tiles_step t, ht]
    exact tiles_all _ 11 rfl
  rw [eo]
  exact congrArg₂ (fun x g => residual x _ g n) (funext fun k => blk_x m c t r k) (funext fun k => blk_post m c t k)

/-- THE ARRAY the kernel leaves, at every index. -/
theorem array (R : Fin 32768) (n : Fin 2048) : Value.G6 m c (ix2 R n) = result m c R n := by
  have hR := R.isLt
  have hn := n.isLt
  unfold Value.G6
  have hp : Value.pt6Of (ix2 R n) = 11 * (R.val / 512) + 10 := by
    show 11 * (1 * (R.val / 512 - 0) + 1 * (n.val / 2048 - 0)) + 10 = _
    omega
  have hlt : 11 * (R.val / 512) + 10 < cfg0.N := lt_of_lt_of_eq (by omega) N_0.symm
  rw [dif_pos (by rw [hp]; exact hlt)]
  have hl : Value.loc6Of (ix2 R n) = ix2 ⟨R.val % 512, Nat.mod_lt _ (by decide)⟩ n := by
    funext a
    match a with
    | ⟨0, _⟩ => rfl
    | ⟨1, _⟩ => exact Fin.ext (Nat.mod_eq_of_lt hn)
  rw [Value.fold0_congr m c _ _ (11 * (R.val / 512) + 10) (by omega) hp, hl,
    ← Value.outsAt0_sweep m c (11 * (R.val / 512) + 10) hlt]
  rw [written m c ⟨11 * (R.val / 512) + 10, hlt⟩ (by dsimp only; omega)]
  congr 1
  exact Fin.ext (by show 512 * ((11 * (R.val / 512) + 10) / 11) + R.val % 512 = R.val; omega)

end Cert.FfnKernelIdeal.Array

end
-- ==== Proof.Common.Index.lean ====
/-
  Two indices into an array of one to four axes are one index when they agree on each axis.
-/
module

public import Idealize.ShloMosaic.Lib.ValueIdx

@[expose] public section

namespace Cert.Spec

open Idealize.ShloMosaic

theorem ext1 {n : Fin 1 → ℕ} {i j : (⟨1, n⟩ : Shape).Idx} (h0 : i 0 = j 0) : i = j :=
  funext fun a => match a with | ⟨0, _⟩ => h0

theorem ext2 {n : Fin 2 → ℕ} {i j : (⟨2, n⟩ : Shape).Idx} (h0 : i 0 = j 0) (h1 : i 1 = j 1) : i = j :=
  funext fun a => match a with | ⟨0, _⟩ => h0 | ⟨1, _⟩ => h1

theorem ext3 {n : Fin 3 → ℕ} {i j : (⟨3, n⟩ : Shape).Idx} (h0 : i 0 = j 0) (h1 : i 1 = j 1) (h2 : i 2 = j 2) : i = j :=
  funext fun a => match a with | ⟨0, _⟩ => h0 | ⟨1, _⟩ => h1 | ⟨2, _⟩ => h2

theorem ext4 {n : Fin 4 → ℕ} {i j : (⟨4, n⟩ : Shape).Idx} (h0 : i 0 = j 0) (h1 : i 1 = j 1) (h2 : i 2 = j 2) (h3 : i 3 = j 3) : i = j :=
  funext fun a => match a with | ⟨0, _⟩ => h0 | ⟨1, _⟩ => h1 | ⟨2, _⟩ => h2 | ⟨3, _⟩ => h3

end Cert.Spec
-- ==== Proof.Ffn.Reference.lean ====
/-
  What the feed-forward reference computes, read at an index: the sublayer's row applied to the token's row.
-/
module

public import proofs.«01_k».proof.Proof.Common.Spec
public import proofs.«01_k».proof.Proof.Common.Index
public import proofs.«01_k».proof.Proof.Gen.FfnReferenceIdeal.Read
public import Idealize.ShloMosaic.Lib.Pointwise

@[expose] public section

noncomputable section

namespace Cert.FfnReferenceIdeal.Rows

open Cert.FfnReferenceIdeal Cert.FfnReferenceIdeal.Gen Cert.FfnReferenceIdeal.Read
open Idealize.ShloMosaic Idealize.ShloMosaic.TcCoe Idealize.SL.Sem Cert.Spec

variable (x : S2x16384x2048.Idx → EReal) (g h : S2048.Idx → EReal) (wg wu : S2048x5632.Idx → EReal) (wd : S5632x2048.Idx → EReal)

/-- The row of a token, and the weights, as the functions of the mathematics. -/
abbrev token (b : Fin 2) (s : Fin 16384) : Fin 2048 → EReal := fun k => x (ix3 b s k)
abbrev gain (g : S2048.Idx → EReal) : Fin 2048 → EReal := fun k => g (ix1 k)

/-- The normed token. -/
theorem normed (b : Fin 2) (s : Fin 16384) (k : Fin 2048) :
    val_main_v12 (F := Ideal) x g (ix3 b s k) = rms (token x b s) (gain g) k := by
  have e1 : ∀ l, idx_main_v1 (idx_main_v2 (idx_main_v8 (ix3 b s k))) l = ix3 b s l := fun l => ext3 rfl rfl rfl
  have e2 : idx_main_v10 (idx_main_v11 (ix3 b s k)) = ix1 k := ext1 rfl
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, e1, e2]
  pointwise
  rfl

/-- The gated hidden unit. -/
theorem hidden (b : Fin 2) (s : Fin 16384) (f : Fin 5632) :
    val_main_v16 (F := Ideal) x g wg wu (ix3 b s f)
      = ffnHidden (rms (token x b s) (gain g)) (fun k f => wg (ix2 k f)) (fun k f => wu (ix2 k f)) f := by
  have e1 : ∀ k, lidx_main_v13 (ix3 b s f) k = ix3 b s k := fun k => ext3 rfl rfl rfl
  have e2 : ∀ k, ridx_main_v13 (ix3 b s f) k = ix2 k f := fun k => ext2 rfl rfl
  have e3 : ∀ k, lidx_main_v15 (ix3 b s f) k = ix3 b s k := fun k => ext3 rfl rfl rfl
  have e4 : ∀ k, ridx_main_v15 (ix3 b s f) k = ix2 k f := fun k => ext2 rfl rfl
  simp only [val_main_v16_apply, val_main_v15_apply, val_main_v14_apply, val_main_call0_v5_apply, val_main_call0_v4_apply,
    val_main_call0_cst_0_apply, val_main_call0_v3_apply, val_main_call0_v2_apply, val_main_call0_cst_apply, val_main_call0_v1_apply,
    val_main_call0_v0_apply, val_main_v13_apply, e1, e2, e3, e4, normed]
  pointwise
  rfl

/-- The mixer's output row. -/
theorem mixed (b : Fin 2) (s : Fin 16384) (n : Fin 2048) :
    val_main_v17 (F := Ideal) x g wg wu wd (ix3 b s n)
      = ffnMix (rms (token x b s) (gain g)) (fun k f => wg (ix2 k f)) (fun k f => wu (ix2 k f)) (fun f n => wd (ix2 f n)) n := by
  have e1 : ∀ f, lidx_main_v17 (ix3 b s n) f = ix3 b s f := fun k => ext3 rfl rfl rfl
  have e2 : ∀ f, ridx_main_v17 (ix3 b s n) f = ix2 f n := fun k => ext2 rfl rfl
  simp only [val_main_v17_apply, e1, e2, hidden]
  rfl

/-- The sublayer's row. -/
theorem closed (b : Fin 2) (s : Fin 16384) (n : Fin 2048) :
    val_main_v31 (F := Ideal) x g h wg wu wd (ix3 b s n)
      = ffnRow (token x b s) (gain g) (gain h) (fun k f => wg (ix2 k f)) (fun k f => wu (ix2 k f)) (fun f n => wd (ix2 f n)) n := by
  have e1 : ∀ l, idx_main_v19 (idx_main_v20 (idx_main_v26 (ix3 b s n))) l = ix3 b s l := fun l => ext3 rfl rfl rfl
  have e2 : idx_main_v28 (idx_main_v29 (ix3 b s n)) = ix1 n := ext1 rfl
  simp only [val_main_v31_apply, val_main_v30_apply, val_main_v29_apply, val_main_v28_apply, val_main_v27_apply, val_main_v26_apply,
    val_main_v25_apply, val_main_v24_apply, val_main_v23_apply, val_main_cst_4_apply, val_main_v22_apply, val_main_v21_apply,
    val_main_cst_3_apply, val_main_v20_apply, val_main_v19_apply, val_main_cst_2_apply, val_main_v18_apply, e1, e2, mixed]
  pointwise
  rfl

/-- The returned array: row `R` is token `R % 16384` of sequence `R / 16384`. -/
theorem returned (R : Fin 32768) (n : Fin 2048) :
    val_main_v32 (F := Ideal) x g h wg wu wd (ix2 R n)
      = ffnRow (token x ⟨R.val / 16384, by have := R.isLt; omega⟩ ⟨R.val % 16384, Nat.mod_lt _ (by decide)⟩)
          (gain g) (gain h) (fun k f => wg (ix2 k f)) (fun k f => wu (ix2 k f)) (fun f n => wd (ix2 f n)) n := by
  have hn := n.isLt
  have e : idx_main_v32 (ix2 R n) = ix3 ⟨R.val / 16384, by have := R.isLt; omega⟩ ⟨R.val % 16384, Nat.mod_lt _ (by decide)⟩ n :=
    ext3 (Fin.ext (by show (R.val * 2048 + n.val) / 33554432 = R.val / 16384; omega))
      (Fin.ext (by show (R.val * 2048 + n.val) / 2048 % 16384 = R.val % 16384; omega))
      (Fin.ext (by show (R.val * 2048 + n.val) % 2048 = n.val; omega))
  rw [val_main_v32_apply, e, closed]

end Cert.FfnReferenceIdeal.Rows

end
-- ==== Proof.Ffn.Equation.lean ====
/-
  The feed-forward sublayer: the kernel's array is the reference's, and the reference runs cleanly.
-/
module

public import proofs.«01_k».proof.Defs
public import proofs.«01_k».proof.Proof.Ffn.Array
public import proofs.«01_k».proof.Proof.Ffn.Reference
public import proofs.«01_k».proof.Proof.Gen.FfnKernelIdeal.Value
public import proofs.«01_k».proof.Proof.Gen.FfnReferenceIdeal.Run
public import Idealize.ShloMosaic.Lib.Quiescent

@[expose] public section

noncomputable section

namespace Cert.Ffn

open Idealize.ShloMosaic Idealize.ShloMosaic.TcCoe Idealize.SL.Sem Cert.Spec

/-- The reference terminates, keeps its arguments and leaves every counter at zero: it has no semaphores. -/
theorem reference_frame : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run m ρ)

/-- From memories that agree on the six arguments, kernel and reference leave the same array. -/
theorem equation : Cert.algebraic_FfnKernelIdeal_FfnReferenceIdeal := by
  intro m g m' g' _ agree
  refine ⟨fun c => Cert.FfnKernelIdeal.Value.G6 m c, Cert.FfnKernelIdeal.Value.run m g,
    (θ_run Cert.FfnReferenceIdeal.defs _ _).mono (fun r h c => ⟨(h c).1.trans ?_, (h c).2⟩)
      (Cert.FfnReferenceIdeal.Value.run m' g')⟩
  obtain ⟨a0, a1, a2, a3, a4, a5⟩ := agree c
  rw [Cert.FfnReferenceIdeal.Read.val_main_v32_eq, a0, a1, a2, a3, a4, a5]
  funext i
  rw [eq_ix2 i]
  exact (Cert.FfnReferenceIdeal.Rows.returned _ _ _ _ _ _ (i 0) (i 1)).trans
    (Cert.FfnKernelIdeal.Array.array m c (i 0) (i 1)).symm

end Cert.Ffn

end
-- ==== Proof.Common.Halo.lean ====
/-
  Neighbouring tokens. Row `R` of the flattened batch is token `R % 16384` of sequence `R / 16384`; what lies before the
  first or after the last token of its sequence counts as zero. A kernel reads the neighbours from a row tile of 512 rows
  extended by 16 rows on either side; the reference from its sequence padded with zeros. Both read the same tap.
-/
module

public import proofs.«01_k».proof.Proof.Common.Spec
public import Idealize.ShloMosaic.Lib.Pointwise.Index
public import Idealize.ShloMosaic.Lib.KernelVsHost

@[expose] public section

noncomputable section

namespace Cert.Spec

open Idealize.ShloMosaic

/-- The sequence of a flattened row, and the token in it. -/
def seqOf (R : Fin 32768) : Fin 2 := ⟨R.val / 16384, by have := R.isLt; omega⟩
def tokOf (R : Fin 32768) : Fin 16384 := ⟨R.val % 16384, Nat.mod_lt _ (by decide)⟩

/-- The flattened row of token `s` of sequence `b`. -/
def flat (b : Fin 2) (s : Fin 16384) : Fin 32768 := ⟨16384 * b.val + s.val, by have := b.isLt; have := s.isLt; omega⟩

theorem seqOf_flat (b : Fin 2) (s : Fin 16384) : seqOf (flat b s) = b :=
  Fin.ext (by have := s.isLt; show (16384 * b.val + s.val) / 16384 = b.val; omega)

theorem tokOf_flat (b : Fin 2) (s : Fin 16384) : tokOf (flat b s) = s :=
  Fin.ext (by have := s.isLt; show (16384 * b.val + s.val) % 16384 = s.val; omega)

theorem flat_of (R : Fin 32768) : flat (seqOf R) (tokOf R) = R :=
  Fin.ext (by show 16384 * (R.val / 16384) + R.val % 16384 = R.val; omega)

/-- `P` at the token `k - h` places after row `R`'s, zero outside `R`'s sequence. -/
def tap (h : ℕ) (P : Fin 32768 → EReal) (R : Fin 32768) (k : ℕ) : EReal :=
  if hin : h ≤ R.val % 16384 + k ∧ R.val % 16384 + k < 16384 + h then
    P ⟨R.val + k - h, by have := R.isLt; omega⟩
  else 0

/-- The tap at the row itself. -/
theorem tap_self (h : ℕ) (P : Fin 32768 → EReal) (R : Fin 32768) : tap h P R h = P R := by
  unfold tap
  rw [dif_pos (by omega)]
  exact congrArg P (Fin.ext (by show R.val + h - h = R.val; omega))

/-- A row tile extended by 16 rows on either side: its row `e`, zero outside the tile's sequence. -/
def extRow (N : Fin 32768 → Fin 2048 → EReal) (i : ℕ) (hi : i < 64) (e : ℕ) : Fin 2048 → EReal :=
  if h : 16 ≤ 512 * (i % 32) + e ∧ 512 * (i % 32) + e < 16400 then N ⟨512 * i + e - 16, by omega⟩ else fun _ => 0

/-- A function of an extended tile's rows that takes the zero row to zero, `k - h` rows after row `r`, is a tap. -/
theorem ext_tap (N : Fin 32768 → Fin 2048 → EReal) (i : ℕ) (hi : i < 64) (Q : (Fin 2048 → EReal) → EReal)
    (hQ : Q (fun _ => 0) = 0) (h k e r : ℕ) (hr : r < 512) (hh : h ≤ 16) (he : e + h = 16 + k + r)
    (R : Fin 32768) (hR : R.val = 512 * i + r) :
    Q (extRow N i hi e) = tap h (fun R => Q (N R)) R k := by
  have hm : R.val % 16384 = 512 * (i % 32) + r := by omega
  unfold extRow tap
  by_cases hin : 16 ≤ 512 * (i % 32) + e ∧ 512 * (i % 32) + e < 16400
  · rw [dif_pos hin, dif_pos (by omega)]
    exact congrArg (fun R => Q (N R)) (Fin.ext (by show 512 * i + e - 16 = R.val + k - h; omega))
  · rw [dif_neg hin, dif_neg (by omega), hQ]

/-- A sequence padded with `h` zeros on either side, read `k` places after token `s`, is a tap. -/
theorem pad_tap {D M h : ℕ} (x : (⟨3, ![2, 16384, D]⟩ : Shape).Idx → EReal) {u : Shape} (v : u.Idx → EReal)
    (hp : (⟨3, ![2, 16384, D]⟩ : Shape).Pads ![0, h, 0] ![0, h, 0] ![0, 0, 0] ⟨3, ![2, M, D]⟩) (hu : 0 < u.numel)
    (hv : v (Shape.Idx.first hu) = 0) (b : Fin 2) (s : Fin 16384) (k : ℕ) (hk : s.val + k < M) (n : Fin D) :
    pad ⟨3, ![2, M, D]⟩ ![0, h, 0] ![0, h, 0] ![0, 0, 0] x v hp hu (ix3 b ⟨s.val + k, hk⟩ n)
      = tap h (fun R => x (ix3 (seqOf R) (tokOf R) n)) (flat b s) k := by
  have hs := s.isLt
  have hm : (flat b s).val % 16384 = s.val := by show (16384 * b.val + s.val) % 16384 = s.val; omega
  unfold tap
  by_cases hin : h ≤ (flat b s).val % 16384 + k ∧ (flat b s).val % 16384 + k < 16384 + h
  · rw [dif_pos hin]
    rw [hm] at hin
    refine pad_apply_of_inside _ _ _ x v hp hu _ _ (fun a => ?_)
    match a with
    | ⟨0, _⟩ =>
      show b.val = 0 + ((16384 * b.val + s.val + k - h) / 16384) * 1
      omega
    | ⟨1, _⟩ =>
      show s.val + k = h + ((16384 * b.val + s.val + k - h) % 16384) * 1
      omega
    | ⟨2, _⟩ =>
      show n.val = 0 + n.val * 1
      omega
  · rw [dif_neg hin]
    rw [hm] at hin
    refine (pad_apply_of_not_inside _ _ _ x v hp hu _ ⟨1, by show 1 < 3; decide⟩ ?_).trans hv
    show ¬(h ≤ s.val + k ∧ (s.val + k - h) % 1 = 0 ∧ (s.val + k - h) / 1 < 16384)
    rw [Nat.div_one]
    omega

end Cert.Spec

end
-- ==== Proof.Sconv.Spec.lean ====
/-
  The short-convolution sublayer, one row at a time: a normed row's gated product, three taps of it down the sequence,
  the gate over them, the output weights, the closing residual norm.
-/
module

public import proofs.«01_k».proof.Proof.Common.Halo

@[expose] public section

noncomputable section

namespace Cert.Spec

open Idealize.ShloMosaic

/-- The gated product of a normed row at channel `f`. -/
def gated {n : ℕ} (xn : Fin 2048 → EReal) (wc wh : Fin 2048 → Fin n → EReal) (f : Fin n) : EReal := dot xn wc f * dot xn wh f

theorem gated_zero {n : ℕ} (wc wh : Fin 2048 → Fin n → EReal) (f : Fin n) : gated (fun _ => 0) wc wh f = 0 := by
  unfold gated
  rw [dot_zero, zero_mul]

/-- The mixer's hidden unit: the gate times the three taps. -/
def sconvHidden (N : Fin 32768 → Fin 2048 → EReal) (wb wc wh : Fin 2048 → Fin 2048 → EReal) (cw : Fin 3 → Fin 2048 → EReal)
    (R : Fin 32768) (f : Fin 2048) : EReal :=
  dot (N R) wb f * ((cw 0 f * tap 1 (fun R => gated (N R) wc wh f) R 0 + cw 1 f * tap 1 (fun R => gated (N R) wc wh f) R 1)
    + cw 2 f * tap 1 (fun R => gated (N R) wc wh f) R 2)

/-- The mixer's output row. -/
def sconvMix (N : Fin 32768 → Fin 2048 → EReal) (wb wc wh : Fin 2048 → Fin 2048 → EReal) (cw : Fin 3 → Fin 2048 → EReal)
    (wo : Fin 2048 → Fin 2048 → EReal) (R : Fin 32768) (n : Fin 2048) : EReal :=
  ∑ f : Fin 2048, sconvHidden N wb wc wh cw R f * wo f n

/-- The sublayer's row. -/
def sconvRow (x : Fin 32768 → Fin 2048 → EReal) (pre post : Fin 2048 → EReal) (wb wc wh : Fin 2048 → Fin 2048 → EReal)
    (cw : Fin 3 → Fin 2048 → EReal) (wo : Fin 2048 → Fin 2048 → EReal) (R : Fin 32768) : Fin 2048 → EReal :=
  residual (x R) (sconvMix (fun R => rms (x R) pre) wb wc wh cw wo R) post

end Cert.Spec

end
-- ==== Proof.Common.Rows.lean ====
/-
  Rows of a buffer: loading some of them, and a row tile of 512 rows extended by 16 rows on either side, stored in three
  parts. The rows before the tile count only past the first tile of a sequence, the rows after it only before the last.
-/
module

public import Idealize.ShloMosaic.Lib.Pipeline.Value
public import Idealize.ShloMosaic.Lib.Pipeline.ValueKit.Tiles
public import Idealize.ShloMosaic.Lib.Pointwise.Index
public import Idealize.ShloMosaic.PureOps.Ideal

@[expose] public section

noncomputable section

namespace Cert.Rows

open Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- A load of a rectangle of a buffer some stores have filled reads what those stores left there. -/
theorem readCov_ld {F : FTy → Type} [FloatOps F] {sg : RefSig} {κ : Kind} {sp : Space} {S : Shape} {e : EltTy} (v : View sg κ sp S e)
    (L : List (View.Piece (Elt F) S e)) (r : Rect S) : v.readCov L r.toLoadRect = View.ld (View.canon L) r :=
  View.readCov_eq_canon' v L r.toLoadRect

/-- Row tile `v`'s number within its sequence, as a kernel's body computes it. -/
def tileOf (v : ℕ) : BitVec 32 :=
  Scalar.select
    (Scalar.andi (Scalar.xori (Scalar.cmpi CmpIPredicate.slt (Scalar.remsi (BitVec.ofNat 32 v) 32#32) 0#32) 0#1)
      (Scalar.cmpi CmpIPredicate.ne (Scalar.remsi (BitVec.ofNat 32 v) 32#32) 0#32))
    (Scalar.addi (Scalar.remsi (BitVec.ofNat 32 v) 32#32) 32#32)
    (Scalar.remsi (BitVec.ofNat 32 v) 32#32)

theorem tile_first : ∀ v : Fin 64, (Scalar.cmpi CmpIPredicate.sgt (tileOf v.val) 0#32 = 1#1) ↔ 0 < v.val % 32 := by decide +kernel

theorem tile_last : ∀ v : Fin 64, (Scalar.cmpi CmpIPredicate.slt (tileOf v.val) 31#32 = 1#1) ↔ v.val % 32 < 31 := by decide +kernel

/-- The first token of a row tile, in its sequence. -/
theorem tile_token : ∀ v : Fin 64, Scalar.muli (tileOf v.val) 512#32 = BitVec.ofNat 32 (512 * (v.val % 32)) := by decide +kernel

/-- Rows `o`, `o + 1`, … of a buffer: row `r` of what is loaded. -/
theorem ld_rows {φ : EltTy} {M N D : ℕ} (o : ℕ) (X : Vec Ideal ⟨2, ![M, D]⟩ φ) (inb) (r : Fin N) (f : Fin D) (h : o + r.val < M) :
    View.ld (Val := Elt Ideal) (e' := φ) X (Rect.unit (s := ⟨2, ![M, D]⟩) ![o, 0] ![N, D] inb) (ix2 r f) = X (ix2 ⟨o + r.val, h⟩ f) := by
  refine View.ld_unit_apply_of X _ _ inb _ _ fun a => ?_
  match a with
  | ⟨0, _⟩ => rfl
  | ⟨1, _⟩ => exact (Nat.zero_add _).symm

/-- A piece that stores rows `o`, `o + 1`, … holds what a function of the row number says. -/
theorem rows_at {φ : EltTy} {M N D : ℕ} (o : ℕ) (inb) (P : Vec Ideal ⟨2, ![N, D]⟩ φ) (E : ℕ → Fin D → Elt Ideal φ)
    (hP : ∀ (r : Fin N) (k : Fin D), P (ix2 r k) = E (o + r.val) k) (q : Fin M) (k : Fin D)
    (x : (⟨2, ![N, D]⟩ : Shape).Idx) (hx : (Rect.unit (s := ⟨2, ![M, D]⟩) ![o, 0] ![N, D] inb).emb x = ix2 q k) : P x = E q.val k := by
  have e0 : o + 1 * (x 0).val = q.val := congrArg Fin.val (congrFun hx 0)
  have e1 : 0 + 1 * (x 1).val = k.val := congrArg Fin.val (congrFun hx 1)
  have e0' : o + (x 0).val = q.val := by omega
  have e1' : x 1 = k := Fin.ext (by omega)
  rw [eq_ix2 x]
  exact (hP (x 0) (x 1)).trans (by rw [e0', e1'])

/-- Rows `o` to `o + N` of a buffer are the rectangle a store of `N` rows at `o` covers. -/
theorem mem_rows {M N D : ℕ} (o : ℕ) (inb) (q : Fin M) (k : Fin D) (h : o ≤ q.val) (h' : q.val < o + N) :
    ix2 q k ∈ (Rect.unit (s := ⟨2, ![M, D]⟩) ![o, 0] ![N, D] inb).set :=
  (Rect.mem_set_unit (s := ⟨2, ![M, D]⟩) (inb := inb)).mpr fun a => by
    match a with
    | ⟨0, _⟩ => exact ⟨h, h'⟩
    | ⟨1, _⟩ => exact ⟨Nat.zero_le _, by show k.val < 0 + D; have := k.isLt; omega⟩

/-- The extended tile, row by row, from the three parts stored: 16 rows, 512 rows, 16 rows. -/
theorem extended_apply (inb0 inb1 inb2) (P0 : Vec Ideal ⟨2, ![16, 2048]⟩ .bf16) (P1 : Vec Ideal ⟨2, ![512, 2048]⟩ .bf16)
    (P2 : Vec Ideal ⟨2, ![16, 2048]⟩ .bf16) (E : ℕ → Fin 2048 → EReal)
    (h0 : ∀ (q : Fin 16) (k : Fin 2048), P0 (ix2 q k) = E q.val k)
    (h1 : ∀ (r : Fin 512) (k : Fin 2048), P1 (ix2 r k) = E (16 + r.val) k)
    (h2 : ∀ (q : Fin 16) (k : Fin 2048), P2 (ix2 q k) = E (528 + q.val) k) (q : Fin 544) (k : Fin 2048) :
    View.canon (Val := Elt Ideal) (s := ⟨2, ![544, 2048]⟩) (e := .bf16)
      [⟨Rect.unit (s := ⟨2, ![544, 2048]⟩) ![528, 0] ![16, 2048] inb2, P2⟩,
        ⟨Rect.unit (s := ⟨2, ![544, 2048]⟩) ![16, 0] ![512, 2048] inb1, P1⟩,
        ⟨Rect.unit (s := ⟨2, ![544, 2048]⟩) ![0, 0] ![16, 2048] inb0, P0⟩] (ix2 q k) = E q.val k := by
  have hq := q.isLt
  refine View.canon_eq_of_allAt _ _ _ ?_ ?_
  · by_cases c0 : q.val < 16
    · exact ⟨_, List.mem_cons_of_mem _ (List.mem_cons_of_mem _ List.mem_cons_self), mem_rows 0 inb0 q k (Nat.zero_le _) (by omega)⟩
    · by_cases c1 : q.val < 528
      · exact ⟨_, List.mem_cons_of_mem _ List.mem_cons_self, mem_rows 16 inb1 q k (by omega) (by omega)⟩
      · exact ⟨_, List.mem_cons_self, mem_rows 528 inb2 q k (by omega) (by omega)⟩
  · intro p hp x hx
    rcases List.mem_cons.mp hp with rfl | hp
    · exact rows_at (φ := .bf16) 528 inb2 P2 E h2 q k x hx
    rcases List.mem_cons.mp hp with rfl | hp
    · exact rows_at (φ := .bf16) 16 inb1 P1 E h1 q k x hx
    rcases List.mem_cons.mp hp with rfl | hp
    · exact rows_at (φ := .bf16) 0 inb0 P0 E (fun q k => (h0 q k).trans (by rw [Nat.zero_add])) q k x hx
    · exact absurd hp List.not_mem_nil

end Cert.Rows

end
-- ==== Proof.Sconv.Cases.lean ====
/-
  What the short-convolution kernel's body leaves at one grid point, in each of its three cases (the first channel tile of
  a row tile, a middle one, the last one), as the stored values over the point's input blocks and the scratches.
-/
module

public import proofs.«01_k».proof.Proof.Gen.SconvKernelIdeal.Frame
public import proofs.«01_k».proof.Proof.Common.Rows

@[expose] public section

noncomputable section

namespace Cert.SconvKernelIdeal.Cases

open Cert.SconvKernelIdeal Cert.SconvKernelIdeal.Gen Idealize.ShloMosaic Idealize.ShloMosaic.TcCoe Idealize.SL.Sem Cert.Rows

variable {F : FTy → Type} [FloatOps F]

/-- The extended row tile: 16 rows before, the 512 rows, 16 rows after, each normed. -/
def filled (i : grid0.Coords) (x0 : Vec F S16x2048 .f32) (x1 : Vec F S512x2048 .f32) (x2 : Vec F S16x2048 .f32)
    (x3 : Vec F S1x2048 .f32) : Vec F S544x2048 .bf16 :=
  View.canon
    [⟨Rect.unit ![528, 0] ![16, 2048] inb_S544x2048_S16x2048_528_0, k0_pay8 (tileOf (i 0).val) (k0_pay5 x3 x2)⟩,
      ⟨Rect.unit ![16, 0] ![512, 2048] inb_S544x2048_S512x2048_16_0, k0_pay7 (k0_pay3 x3) x1⟩,
      ⟨Rect.unit ![0, 0] ![16, 2048] inb_S544x2048_S16x2048_0_0,
        k0_pay6 (k0_pay4 x3 x0) (Scalar.cmpi CmpIPredicate.sgt (tileOf (i 0).val) 0#32)⟩]

/-- One channel tile's contribution added to an accumulator: the three taps of the gated product, read from the rows
    one before, at and one after, times the tile's gate, through the output weights. -/
def step (xe : Vec F S544x2048 .bf16) (x5 x6 x7 : Vec F S2048x512 .bf16) (x8 : Vec F S3x512 .f32) (x9 : Vec F S512x2048 .bf16)
    (acc : Vec F S512x2048 .f32) : FVec F S512x2048 .f32 :=
  k0_pay1
    (k0_pay11 (View.ld (Val := Elt F) (e' := .f32) x8 (Rect.unit (s := S3x512) ![0, 0] ![1, 512] inb_S3x512_S1x512_0_0))
      (View.ld (Val := Elt F) (e' := .f32) (k0_pay10 xe x6 x7) (Rect.unit (s := S544x512) ![15, 0] ![512, 512] inb_S544x512_S512x512_15_0))
      (View.ld (Val := Elt F) (e' := .f32) x8 (Rect.unit (s := S3x512) ![1, 0] ![1, 512] inb_S3x512_S1x512_1_0))
      (View.ld (Val := Elt F) (e' := .f32) (k0_pay10 xe x6 x7) (Rect.unit (s := S544x512) ![16, 0] ![512, 512] inb_S544x512_S512x512_16_0))
      (View.ld (Val := Elt F) (e' := .f32) x8 (Rect.unit (s := S3x512) ![2, 0] ![1, 512] inb_S3x512_S1x512_2_0))
      (View.ld (Val := Elt F) (e' := .f32) (k0_pay10 xe x6 x7) (Rect.unit (s := S544x512) ![17, 0] ![512, 512] inb_S544x512_S512x512_17_0)))
    (View.ld (Val := Elt F) (e' := .bf16) xe (Rect.unit (s := S544x2048) ![16, 0] ![512, 2048] inb_S544x2048_S512x2048_16_0)) x5 acc x9

section
variable (c : Dev nD) (i : grid0.Coords) (a2 : Memref sig .tc .vmem S16x2048 .f32) (h2 : a2.IsWhole)
  (a3 : Memref sig .tc .vmem S512x2048 .f32) (h3 : a3.IsWhole) (a4 : Memref sig .tc .vmem S16x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S2048x512 .bf16) (h7 : a7.IsWhole) (a8 : Memref sig .tc .vmem S2048x512 .bf16) (h8 : a8.IsWhole)
  (a9 : Memref sig .tc .vmem S2048x512 .bf16) (h9 : a9.IsWhole) (a10 : Memref sig .tc .vmem S3x512 .f32) (h10 : a10.IsWhole)
  (a11 : Memref sig .tc .vmem S512x2048 .bf16) (h11 : a11.IsWhole) (a12 : Memref sig .tc .vmem S512x2048 .f32) (h12 : a12.IsWhole)
  (a13 : Memref sig .tc .vmem S544x2048 .bf16) (h13 : a13.IsWhole) (a14 : Memref sig .tc .vmem S544x512 .f32) (h14 : a14.IsWhole)
  (a15 : Memref sig .tc .vmem S512x2048 .f32) (h15 : a15.IsWhole)
  (x0 : Vec F S16x2048 .f32) (x1 : Vec F S512x2048 .f32) (x2 : Vec F S16x2048 .f32) (x3 x4 : Vec F S1x2048 .f32)
  (x5 x6 x7 : Vec F S2048x512 .bf16) (x8 : Vec F S3x512 .f32) (x9 : Vec F S512x2048 .bf16)
  (xs0 : Vec F S544x2048 .bf16) (xs2 : Vec F S512x2048 .f32)

/-- First channel tile: the first scratch is left holding the extended row tile. -/
theorem first_normed (hc0 : cond0_0 i) (hc1 : ¬cond0_1 i) :
    sout0_A_0 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 = filled i x0 x1 x2 x3 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9)]
  unfold kernelRun0_A
  dsimp only
  try sl_unfold_words
  simp only [View.readAt_eq_ld, h2.read_unread, h3.read_unread, h4.read_unread, h5.read_unread, h6.read_unread, h7.read_unread,
    h8.read_unread, h9.read_unread, h10.read_unread, h11.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, shapeCast_self]
  rfl

/-- First channel tile: the accumulator is left holding that tile's contribution over zeros. -/
theorem first_acc (hc0 : cond0_0 i) (hc1 : ¬cond0_1 i) :
    sout0_A_2 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 = step (filled i x0 x1 x2 x3) x5 x6 x7 x8 x9 k0_pay9 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9)]
  unfold kernelRun0_A
  dsimp only
  try sl_unfold_words
  rw [View.canon_cons_unit_zero (S := S512x2048) hz]
  simp only [View.readCov_unit_zero (S := S512x2048) _ hz, readCov_ld, View.canon_unit_zero (S := S544x512) hz,
    View.readAt_eq_ld, h2.read_unread, h3.read_unread, h4.read_unread, h5.read_unread, h6.read_unread, h7.read_unread,
    h8.read_unread, h9.read_unread, h10.read_unread, h11.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, shapeCast_self]
  rfl

/-- Middle channel tile: the accumulator gains that tile's contribution. -/
theorem middle_acc (hc0 : ¬cond0_0 i) (hc1 : ¬cond0_1 i) :
    sout0_B_2 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2 = step xs0 x5 x6 x7 x8 x9 xs2 := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2)]
  unfold kernelRun0_B
  dsimp only
  try sl_unfold_words
  rw [View.canon_unit_zero (S := S512x2048) hz]
  simp only [View.readCov_unit_zero (S := S512x2048) _ hz, readCov_ld, View.canon_unit_zero (S := S544x512) hz,
    View.readAt_eq_ld, h2.read_unread, h3.read_unread, h4.read_unread, h5.read_unread, h6.read_unread, h7.read_unread,
    h8.read_unread, h9.read_unread, h10.read_unread, h11.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, shapeCast_self]
  rfl

/-- A later point leaves the extended row tile as it was. -/
theorem middle_normed (hc0 : ¬cond0_0 i) (hc1 : ¬cond0_1 i) :
    sout0_B_0 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2 = xs0 := rfl

/-- A later point leaves the extended row tile as it was. -/
theorem last_normed (hc0 : ¬cond0_0 i) (hc1 : cond0_1 i) :
    sout0_C_0 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2 = xs0 := rfl

/-- Last channel tile: the accumulator gains that tile's contribution. -/
theorem last_acc (hc0 : ¬cond0_0 i) (hc1 : cond0_1 i) :
    sout0_C_2 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2 = step xs0 x5 x6 x7 x8 x9 xs2 := by
  unfold sout0_C_2
  rw [View.read_writes_eq_canon _ _ _ (scover0_C_2 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2)]
  unfold kernelRun0_C
  dsimp only
  try sl_unfold_words
  rw [View.canon_unit_zero (S := S512x2048) hz]
  simp only [View.readCov_unit_zero (S := S512x2048) _ hz, readCov_ld, View.canon_unit_zero (S := S544x512) hz,
    View.readAt_eq_ld, h2.read_unread, h3.read_unread, h4.read_unread, h5.read_unread, h6.read_unread, h7.read_unread,
    h8.read_unread, h9.read_unread, h10.read_unread, h11.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, shapeCast_self]
  rfl

/-- Last channel tile: the output block is the closing residual norm of the finished accumulator. -/
theorem last_out (hc0 : ¬cond0_0 i) (hc1 : cond0_1 i) :
    out0_C_10 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2 = k0_pay2 (step xs0 x5 x6 x7 x8 x9 xs2) x1 x4 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 a15 h15 hc0 hc1
      x0 x1 x2 x3 x4 x5 x6 x7 x8 x9 xs0 xs2)]
  unfold kernelRun0_C
  dsimp only
  try sl_unfold_words
  rw [View.canon_unit_zero (S := S512x2048) hz]
  simp only [View.readCov_unit_zero (S := S512x2048) _ hz, readCov_ld, View.canon_unit_zero (S := S544x512) hz,
    View.readAt_eq_ld, h2.read_unread, h3.read_unread, h4.read_unread, h5.read_unread, h6.read_unread, h7.read_unread,
    h8.read_unread, h9.read_unread, h10.read_unread, h11.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, shapeCast_self]
  rfl

end

end Cert.SconvKernelIdeal.Cases

end
-- ==== Proof.Sconv.Payloads.lean ====
/-
  The short-convolution kernel's stored values read at an index, over the extended reals: the rows of the extended tile,
  one channel tile's contribution, the closing residual norm.
-/
module

public import proofs.«01_k».proof.Proof.Sconv.Spec
public import proofs.«01_k».proof.Proof.Sconv.Cases
public import Idealize.ShloMosaic.Lib.Pipeline.ValueKit.Tiles
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.SconvKernelIdeal.Pay

open Cert.SconvKernelIdeal Cert.SconvKernelIdeal.Gen Cert.SconvKernelIdeal.Cases Idealize.ShloMosaic Cert.Spec Cert.Rows

/-- The 16 rows before a tile, normed. -/
theorem pay4_apply (g : Vec Ideal S1x2048 .f32) (x : Vec Ideal S16x2048 .f32) (r : Fin 16) (k : Fin 2048) :
    k0_pay4 g x (ix2 r k) = rms (fun k => x (ix2 r k)) (fun k => g (ix2 0 k)) k := by
  unfold_payloads
  pointwise
  rfl

/-- The 16 rows after a tile, normed. -/
theorem pay5_apply (g : Vec Ideal S1x2048 .f32) (x : Vec Ideal S16x2048 .f32) (r : Fin 16) (k : Fin 2048) :
    k0_pay5 g x (ix2 r k) = rms (fun k => x (ix2 r k)) (fun k => g (ix2 0 k)) k := by
  unfold_payloads
  pointwise
  rfl

/-- The tile's own rows, normed. -/
theorem pay7_apply (g : Vec Ideal S1x2048 .f32) (x : Vec Ideal S512x2048 .f32) (r : Fin 512) (k : Fin 2048) :
    k0_pay7 (k0_pay3 g) x (ix2 r k) = rms (fun k => x (ix2 r k)) (fun k => g (ix2 0 k)) k := by
  unfold_payloads
  pointwise
  rfl

/-- The rows before, kept only past the first tile of a sequence. -/
theorem pay6_apply (X : FVec Ideal S16x2048 .f32) (b : BitVec 1) (r : Fin 16) (k : Fin 2048) :
    k0_pay6 X b (ix2 r k) = if b = 1#1 then X (ix2 r k) else 0 := by
  by_cases hb : b = 1#1
  · subst hb
    unfold_payloads
    pointwise
    rfl
  · obtain rfl : b = 0#1 := by revert hb; revert b; decide
    unfold_payloads
    pointwise
    exact (if_neg (by decide)).symm

/-- The rows after, kept only before the last tile of a sequence. -/
theorem pay8_apply (v : BitVec 32) (X : FVec Ideal S16x2048 .f32) (r : Fin 16) (k : Fin 2048) :
    k0_pay8 v X (ix2 r k) = if Scalar.cmpi CmpIPredicate.slt v 31#32 = 1#1 then X (ix2 r k) else 0 := by
  unfold_payloads
  pointwise
  rfl

theorem pay9_apply (r : Fin 512) (k : Fin 2048) : k0_pay9 (F := Ideal) (ix2 r k) = 0 := by
  unfold_payloads
  pointwise

/-- The gated product over the extended tile. -/
theorem pay10_apply (xe : Vec Ideal S544x2048 .bf16) (wc wh : Vec Ideal S2048x512 .bf16) (q : Fin 544) (f : Fin 512) :
    k0_pay10 xe wc wh (ix2 q f) = gated (fun k => xe (ix2 q k)) (fun k f => wc (ix2 k f)) (fun k f => wh (ix2 k f)) f := by
  unfold_payloads
  pointwise
  rfl

theorem pay11_apply (w0 w1 w2 : Vec Ideal S1x512 .f32) (p0 p1 p2 : Vec Ideal S512x512 .f32) (r f : Fin 512) :
    k0_pay11 w0 p0 w1 p1 w2 p2 (ix2 r f)
      = (w0 (ix2 0 f) * p0 (ix2 r f) + w1 (ix2 0 f) * p1 (ix2 r f)) + w2 (ix2 0 f) * p2 (ix2 r f) := by
  unfold_payloads
  pointwise

theorem pay1_apply (y : FVec Ideal S512x512 .f32) (xc : Vec Ideal S512x2048 .bf16) (wb : Vec Ideal S2048x512 .bf16)
    (acc : Vec Ideal S512x2048 .f32) (wo : Vec Ideal S512x2048 .bf16) (r : Fin 512) (n : Fin 2048) :
    k0_pay1 y xc wb acc wo (ix2 r n)
      = acc (ix2 r n) + ∑ f : Fin 512, (dot (fun k => xc (ix2 r k)) (fun k f => wb (ix2 k f)) f * y (ix2 r f)) * wo (ix2 f n) := by
  unfold_payloads
  pointwise
  rfl

theorem pay2_apply (o x : Vec Ideal S512x2048 .f32) (g : Vec Ideal S1x2048 .f32) (r : Fin 512) (n : Fin 2048) :
    k0_pay2 o x g (ix2 r n) = residual (fun k => x (ix2 r k)) (fun k => o (ix2 r k)) (fun k => g (ix2 0 k)) n := by
  unfold_payloads
  pointwise
  rfl

/-- One channel tile's contribution at an index. -/
theorem step_apply (xe : Vec Ideal S544x2048 .bf16) (wb wc wh : Vec Ideal S2048x512 .bf16) (cw : Vec Ideal S3x512 .f32)
    (wo : Vec Ideal S512x2048 .bf16) (acc : Vec Ideal S512x2048 .f32) (r : Fin 512) (n : Fin 2048)
    (E : ℕ → Fin 2048 → EReal) (hE : ∀ (q : Fin 544) (k : Fin 2048), xe (ix2 q k) = E q.val k) :
    step xe wb wc wh cw wo acc (ix2 r n)
      = acc (ix2 r n) + ∑ f : Fin 512, (dot (E (16 + r.val)) (fun k f => wb (ix2 k f)) f
        * ((cw (ix2 0 f) * gated (E (15 + r.val)) (fun k f => wc (ix2 k f)) (fun k f => wh (ix2 k f)) f
          + cw (ix2 1 f) * gated (E (16 + r.val)) (fun k f => wc (ix2 k f)) (fun k f => wh (ix2 k f)) f)
          + cw (ix2 2 f) * gated (E (17 + r.val)) (fun k f => wc (ix2 k f)) (fun k f => wh (ix2 k f)) f)) * wo (ix2 f n) := by
  have hr := r.isLt
  have e : ∀ (o : ℕ) (h : o + r.val < 544) (f : Fin 512), k0_pay10 xe wc wh (ix2 ⟨o + r.val, h⟩ f)
      = gated (E (o + r.val)) (fun k f => wc (ix2 k f)) (fun k f => wh (ix2 k f)) f := fun o h f => by
    rw [pay10_apply]
    exact congrArg (fun x => gated x _ _ f) (funext fun k => hE _ k)
  unfold step
  rw [pay1_apply]
  refine congrArg (acc (ix2 r n) + ·) (Finset.sum_congr rfl fun f _ => ?_)
  rw [pay11_apply, ld_rows (φ := .f32) 0 cw _ (0 : Fin 1) f (by decide), ld_rows (φ := .f32) 1 cw _ (0 : Fin 1) f (by decide),
    ld_rows (φ := .f32) 2 cw _ (0 : Fin 1) f (by decide), ld_rows (φ := .f32) 15 (k0_pay10 xe wc wh) _ r f (by omega),
    ld_rows (φ := .f32) 16 (k0_pay10 xe wc wh) _ r f (by omega),
    ld_rows (φ := .f32) 17 (k0_pay10 xe wc wh) _ r f (by omega), e, e, e]
  refine congrArg (fun d => d * _ * _) (congrArg (fun x => dot x _ f) (funext fun k => ?_))
  rw [ld_rows (φ := .bf16) 16 xe _ r k (by omega)]
  exact hE _ k

/-- The extended tile, row by row, from its three parts. -/
theorem filled_apply (i : grid0.Coords) (x0 : Vec Ideal S16x2048 .f32) (x1 : Vec Ideal S512x2048 .f32) (x2 : Vec Ideal S16x2048 .f32)
    (g : Vec Ideal S1x2048 .f32) (E : ℕ → Fin 2048 → EReal)
    (hb : ∀ (q : Fin 16) (k : Fin 2048), (if 0 < (i 0).val % 32 then rms (fun k => x0 (ix2 q k)) (fun k => g (ix2 0 k)) k else 0) = E q.val k)
    (hm : ∀ (r : Fin 512) (k : Fin 2048), rms (fun k => x1 (ix2 r k)) (fun k => g (ix2 0 k)) k = E (16 + r.val) k)
    (ha : ∀ (q : Fin 16) (k : Fin 2048), (if (i 0).val % 32 < 31 then rms (fun k => x2 (ix2 q k)) (fun k => g (ix2 0 k)) k else 0) = E (528 + q.val) k)
    (q : Fin 544) (k : Fin 2048) : filled i x0 x1 x2 g (ix2 q k) = E q.val k := by
  refine extended_apply _ _ _ _ _ _ E (fun q k => ?_) (fun r k => ?_) (fun q k => ?_) q k
  · rw [pay6_apply, pay4_apply, ← hb]
    exact if_congr (tile_first (i 0)) rfl rfl
  · rw [pay7_apply, hm]
  · rw [pay8_apply, pay5_apply, ← ha]
    exact if_congr (tile_last (i 0)) rfl rfl

end Cert.SconvKernelIdeal.Pay

end
-- ==== Proof.Sconv.Blocks.lean ====
/-
  What the short-convolution kernel's input blocks hold at a grid point, read from the arguments: point `t` is row tile
  `t / 4`, channel tile `t % 4`. Beside its own rows a tile is given the 16 rows before it and the 16 rows after it.
-/
module

public import proofs.«01_k».proof.Proof.Common.Halo
public import proofs.«01_k».proof.Proof.Gen.SconvKernelIdeal.Frame
public import Idealize.ShloMosaic.Lib.Pipeline.ValueKit.Point
public import Idealize.ShloMosaic.Lib.Pointwise

@[expose] public section

noncomputable section

namespace Cert.SconvKernelIdeal.Blocks

open Cert.SconvKernelIdeal Cert.SconvKernelIdeal.Gen Idealize.ShloMosaic Idealize.ShloMosaic.TcCoe Idealize.SL.Sem Cert.Spec

variable (m : (ℓ : Loc nD τ sig) → Buf (Elt Ideal) ℓ) (c : Dev nD)

theorem idx0 : ∀ t : Fin cfg0.N, win0_0.index t 0 = t.val / 4 * 32 - 1 ∧ win0_0.index t 1 = 0 :=
  (by decide +kernel : ∀ t : Fin grid0.N, win0_0.index t 0 = t.val / 4 * 32 - 1 ∧ win0_0.index t 1 = 0)
theorem idx1 : ∀ t : Fin cfg0.N, win0_1.index t 0 = t.val / 4 ∧ win0_1.index t 1 = 0 :=
  (by decide +kernel : ∀ t : Fin grid0.N, win0_1.index t 0 = t.val / 4 ∧ win0_1.index t 1 = 0)
theorem idx2 : ∀ t : Fin cfg0.N, win0_2.index t 0 = min ((t.val / 4 + 1) * 32) 2047 ∧ win0_2.index t 1 = 0 :=
  (by decide +kernel : ∀ t : Fin grid0.N, win0_2.index t 0 = min ((t.val / 4 + 1) * 32) 2047 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = t.val % 4 :=
  (by decide +kernel : ∀ t : Fin grid0.N, win0_5.index t 0 = 0 ∧ win0_5.index t 1 = t.val % 4)
theorem idx6 : ∀ t : Fin cfg0.N, win0_6.index t 0 = 0 ∧ win0_6.index t 1 = 4 + t.val % 4 :=
  (by decide +kernel : ∀ t : Fin grid0.N, win0_6.index t 0 = 0 ∧ win0_6.index t 1 = 4 + t.val % 4)
theorem idx7 : ∀ t : Fin cfg0.N, win0_7.index t 0 = 0 ∧ win0_7.index t 1 = 8 + t.val % 4 :=
  (by decide +kernel : ∀ t : Fin grid0.N, win0_7.index t 0 = 0 ∧ win0_7.index t 1 = 8 + t.val % 4)
theorem idx8 : ∀ t : Fin cfg0.N, win0_8.index t 0 = 0 ∧ win0_8.index t 1 = t.val % 4 :=
  (by decide +kernel : ∀ t : Fin grid0.N, win0_8.index t 0 = 0 ∧ win0_8.index t 1 = t.val % 4)
theorem idx9 : ∀ t : Fin cfg0.N, win0_9.index t 0 = t.val % 4 ∧ win0_9.index t 1 = 0 :=
  (by decide +kernel : ∀ t : Fin grid0.N, win0_9.index t 0 = t.val % 4 ∧ win0_9.index t 1 = 0)
theorem idx10 : ∀ t : Fin cfg0.N, win0_10.index t 0 = t.val / 4 ∧ win0_10.index t 1 = 0 :=
  (by decide +kernel : ∀ t : Fin grid0.N, win0_10.index t 0 = t.val / 4 ∧ win0_10.index t 1 = 0)

/-- The row tile a point's grid coordinate names. -/
theorem coord0 : ∀ t : Fin cfg0.N, (grid0.coords t 0).val = t.val / 4 :=
  (by decide +kernel : ∀ t : Fin grid0.N, (grid0.coords t 0).val = t.val / 4)

theorem lt_N (t : Fin cfg0.N) : t.val < 256 := lt_of_lt_of_eq t.isLt N_0

/-- The flattened row that row `r` of point `t`'s row tile is. -/
def rowOf (t : Fin cfg0.N) (r : Fin 512) : Fin 32768 := ⟨512 * (t.val / 4) + r.val, by have := lt_N t; have := r.isLt; omega⟩

/-- The channel that place `f` of point `t`'s channel tile is, and its columns in the input weights. -/
def chanOf (t : Fin cfg0.N) (f : Fin 512) : Fin 2048 := ⟨512 * (t.val % 4) + f.val, by have := f.isLt; omega⟩
def colOf (o : Fin 3) (f : Fin 2048) : Fin 6144 := ⟨2048 * o.val + f.val, by have := f.isLt; have := o.isLt; omega⟩

/-- Row `R` of the flattened input. -/
def xrow (R : Fin 32768) (k : Fin 2048) : EReal :=
  (m ((c : Thread nD τ).loc main_arg0) : S2x16384x2048.Idx → EReal) (ix3 (seqOf R) (tokOf R) k)

theorem blk_before (t : Fin cfg0.N) (q : Fin 16) (k : Fin 2048) :
    iblk m c 0 t (ix2 q k) = xrow m c ⟨16 * (t.val / 4 * 32 - 1) + q.val, by have := lt_N t; have := q.isLt; omega⟩ k := by
  have h := lt_N t
  have hq := q.isLt
  unfold xrow seqOf tokOf
  blk_ext! [iblk, V, idx0 t]

theorem blk_x (t : Fin cfg0.N) (r : Fin 512) (k : Fin 2048) : iblk m c 1 t (ix2 r k) = xrow m c (rowOf t r) k := by
  have h := lt_N t
  unfold xrow rowOf seqOf tokOf
  blk_ext! [iblk, V, idx1 t]

theorem blk_after (t : Fin cfg0.N) (q : Fin 16) (k : Fin 2048) :
    iblk m c 2 t (ix2 q k) = xrow m c ⟨16 * min ((t.val / 4 + 1) * 32) 2047 + q.val, by have := lt_N t; have := q.isLt; omega⟩ k := by
  have h := lt_N t
  have hq := q.isLt
  unfold xrow seqOf tokOf
  blk_ext! [iblk, V, idx2 t]

theorem blk_pre (t : Fin cfg0.N) (k : Fin 2048) :
    iblk m c 3 t (ix2 0 k) = (m ((c : Thread nD τ).loc main_arg1) : S2048.Idx → EReal) (ix1 k) := by
  blk_ext! [iblk, V, idx3 t]

theorem blk_post (t : Fin cfg0.N) (k : Fin 2048) :
    iblk m c 4 t (ix2 0 k) = (m ((c : Thread nD τ).loc main_arg2) : S2048.Idx → EReal) (ix1 k) := by
  blk_ext! [iblk, V, idx4 t]

theorem blk_wb (t : Fin cfg0.N) (k : Fin 2048) (f : Fin 512) :
    iblk m c 5 t (ix2 k f) = (m ((c : Thread nD τ).loc main_arg3) : S2048x6144.Idx → EReal) (ix2 k (colOf 0 (chanOf t f))) := by
  unfold colOf chanOf
  blk_ext! [iblk, V, idx5 t]

theorem blk_wc (t : Fin cfg0.N) (k : Fin 2048) (f : Fin 512) :
    iblk m c 6 t (ix2 k f) = (m ((c : Thread nD τ).loc main_arg3) : S2048x6144.Idx → EReal) (ix2 k (colOf 1 (chanOf t f))) := by
  unfold colOf chanOf
  blk_ext! [iblk, V, idx6 t]

theorem blk_wh (t : Fin cfg0.N) (k : Fin 2048) (f : Fin 512) :
    iblk m c 7 t (ix2 k f) = (m ((c : Thread nD τ).loc main_arg3) : S2048x6144.Idx → EReal) (ix2 k (colOf 2 (chanOf t f))) := by
  unfold colOf chanOf
  blk_ext! [iblk, V, idx7 t]

theorem blk_cw (t : Fin cfg0.N) (a : Fin 3) (f : Fin 512) :
    iblk m c 8 t (ix2 a f) = (m ((c : Thread nD τ).loc main_arg4) : S3x2048.Idx → EReal) (ix2 a (chanOf t f)) := by
  unfold chanOf
  blk_ext! [iblk, V, idx8 t]

theorem blk_wo (t : Fin cfg0.N) (f : Fin 512) (n : Fin 2048) :
    iblk m c 9 t (ix2 f n) = (m ((c : Thread nD τ).loc main_arg5) : S2048x2048.Idx → EReal) (ix2 (chanOf t f) n) := by
  unfold chanOf
  blk_ext! [iblk, V, idx9 t]

end Cert.SconvKernelIdeal.Blocks

end
-- ==== Proof.Sconv.Array.lean ====
/-
  What the short-convolution kernel's result array holds: at row `R`, column `n`, the sublayer's row applied to the
  flattened input. The channel tiles are summed point by point; after the last of a row tile the sum is the whole one.
-/
module

public import proofs.«01_k».proof.Proof.Sconv.Payloads
public import proofs.«01_k».proof.Proof.Sconv.Blocks

@[expose] public section

noncomputable section

namespace Cert.SconvKernelIdeal.Array

open Cert.SconvKernelIdeal Cert.SconvKernelIdeal.Gen Cert.SconvKernelIdeal.Blocks Cert.SconvKernelIdeal.Pay Cert.SconvKernelIdeal.Cases
open Idealize.ShloMosaic Idealize.ShloMosaic.TcCoe Idealize.SL.Sem Cert.Spec

variable (m : (ℓ : Loc nD τ sig) → Buf (Elt Ideal) ℓ) (c : Dev nD)

/-- The gains and weights, as the functions of the mathematics. -/
def pre (k : Fin 2048) : EReal := (m ((c : Thread nD τ).loc main_arg1) : S2048.Idx → EReal) (ix1 k)
def post (k : Fin 2048) : EReal := (m ((c : Thread nD τ).loc main_arg2) : S2048.Idx → EReal) (ix1 k)
def win (o : Fin 3) (k f : Fin 2048) : EReal := (m ((c : Thread nD τ).loc main_arg3) : S2048x6144.Idx → EReal) (ix2 k (colOf o f))
def cw (a : Fin 3) (f : Fin 2048) : EReal := (m ((c : Thread nD τ).loc main_arg4) : S3x2048.Idx → EReal) (ix2 a f)
def wo (f n : Fin 2048) : EReal := (m ((c : Thread nD τ).loc main_arg5) : S2048x2048.Idx → EReal) (ix2 f n)

/-- The normed rows. -/
def nrm (R : Fin 32768) : Fin 2048 → EReal := rms (xrow m c R) (pre m c)

/-- What channel `f` contributes to column `n` of row `R`. -/
def contrib (R : Fin 32768) (n f : Fin 2048) : EReal :=
  sconvHidden (nrm m c) (win m c 0) (win m c 1) (win m c 2) (cw m c) R f * wo m c f n

theorem tile_lt (t : Fin cfg0.N) : t.val / 4 < 64 := by have := lt_N t; omega

/-- What the first scratch is given: the extended row tile, normed. -/
theorem extended (t : Fin cfg0.N) (q : Fin 544) (k : Fin 2048) :
    filled (grid0.coords t) (iblk m c 0 t) (iblk m c 1 t) (iblk m c 2 t) (iblk m c 3 t) (ix2 q k)
      = extRow (nrm m c) (t.val / 4) (tile_lt t) q.val k := by
  have ht := lt_N t
  have ec := coord0 t
  have eg : (fun k => iblk m c 3 t (ix2 0 k)) = pre m c := funext fun k => blk_pre m c t k
  refine filled_apply _ _ _ _ _ _ (fun q k => ?_) (fun r k => ?_) (fun q k => ?_) q k
  · have hq := q.isLt
    rw [ec]
    unfold extRow
    by_cases h : 0 < t.val / 4 % 32
    · rw [if_pos h, dif_pos (by omega), eg, show (fun k => iblk m c 0 t (ix2 q k)) = _ from funext fun k => blk_before m c t q k]
      exact congrArg (fun R => nrm m c R k) (Fin.ext (by show 16 * (t.val / 4 * 32 - 1) + q.val = 512 * (t.val / 4) + q.val - 16; omega))
    · rw [if_neg h, dif_neg (by omega)]
  · have hr := r.isLt
    unfold extRow
    rw [dif_pos (by omega), eg, show (fun k => iblk m c 1 t (ix2 r k)) = _ from funext fun k => blk_x m c t r k]
    exact congrArg (fun R => nrm m c R k) (Fin.ext (by show 512 * (t.val / 4) + r.val = 512 * (t.val / 4) + (16 + r.val) - 16; omega))
  · have hq := q.isLt
    rw [ec]
    unfold extRow
    by_cases h : t.val / 4 % 32 < 31
    · rw [if_pos h, dif_pos (by omega), eg, show (fun k => iblk m c 2 t (ix2 q k)) = _ from funext fun k => blk_after m c t q k]
      exact congrArg (fun R => nrm m c R k) (Fin.ext (by show 16 * min ((t.val / 4 + 1) * 32) 2047 + q.val = 512 * (t.val / 4) + (528 + q.val) - 16; omega))
    · rw [if_neg h, dif_neg (by omega)]

/-- The row itself in its extended tile. -/
theorem ext_self (t : Fin cfg0.N) (r : Fin 512) : extRow (nrm m c) (t.val / 4) (tile_lt t) (16 + r.val) = nrm m c (rowOf t r) := by
  have ht := lt_N t
  have hr := r.isLt
  unfold extRow
  rw [dif_pos (by omega)]
  exact congrArg (nrm m c) (Fin.ext (by show 512 * (t.val / 4) + (16 + r.val) - 16 = 512 * (t.val / 4) + r.val; omega))

/-- The gated product of the row `k` places from the one before, in the extended tile: a tap. -/
theorem gated_tap (t : Fin cfg0.N) (r f : Fin 512) (k : ℕ) (hk : k < 3) :
    gated (extRow (nrm m c) (t.val / 4) (tile_lt t) (15 + k + r.val)) (fun k f => iblk m c 6 t (ix2 k f)) (fun k f => iblk m c 7 t (ix2 k f)) f
      = tap 1 (fun R => gated (nrm m c R) (win m c 1) (win m c 2) (chanOf t f)) (rowOf t r) k := by
  have ew : gated (extRow (nrm m c) (t.val / 4) (tile_lt t) (15 + k + r.val)) (fun k f => iblk m c 6 t (ix2 k f)) (fun k f => iblk m c 7 t (ix2 k f)) f
      = gated (extRow (nrm m c) (t.val / 4) (tile_lt t) (15 + k + r.val)) (win m c 1) (win m c 2) (chanOf t f) := by
    unfold gated dot win
    simp only [blk_wc, blk_wh]
  rw [ew]
  exact ext_tap (nrm m c) _ _ (fun v => gated v (win m c 1) (win m c 2) (chanOf t f)) (gated_zero _ _ _) 1 k _ r.val r.isLt
    (by omega) (by omega) (rowOf t r) rfl

/-- One channel tile added to an accumulator, the first scratch holding the extended tile. -/
theorem added (t : Fin cfg0.N) (xe : Vec Ideal S544x2048 .bf16) (acc : Vec Ideal S512x2048 .f32) (r : Fin 512) (n : Fin 2048)
    (hx : ∀ (q : Fin 544) (k : Fin 2048), xe (ix2 q k) = extRow (nrm m c) (t.val / 4) (tile_lt t) q.val k) :
    step xe (iblk m c 5 t) (iblk m c 6 t) (iblk m c 7 t) (iblk m c 8 t) (iblk m c 9 t) acc (ix2 r n)
      = acc (ix2 r n) + ∑ f : Fin 512, contrib m c (rowOf t r) n (chanOf t f) := by
  rw [step_apply _ _ _ _ _ _ _ _ _ _ hx]
  refine congrArg (acc (ix2 r n) + ·) (Finset.sum_congr rfl fun f _ => ?_)
  have g0 := gated_tap m c t r f 0 (by decide)
  have g1 := gated_tap m c t r f 1 (by decide)
  have g2 := gated_tap m c t r f 2 (by decide)
  rw [g0, g1, g2, ext_self, blk_cw, blk_cw, blk_cw, blk_wo]
  refine congrArg (fun d => d * _ * _) (Finset.sum_congr rfl fun k _ => congrArg (_ * ·) (blk_wb m c t k f))

/-- Points of one row tile are about the same rows. -/
theorem rowOf_pred (t t' : Fin cfg0.N) (h : t.val / 4 = t'.val / 4) (r : Fin 512) : rowOf t r = rowOf t' r :=
  Fin.ext (by show 512 * (t.val / 4) + r.val = 512 * (t'.val / 4) + r.val; rw [h])

theorem extRow_pred (N : Fin 32768 → Fin 2048 → EReal) (i i' : ℕ) (hi : i < 64) (hi' : i' < 64) (h : i = i') (e : ℕ) :
    extRow N i hi e = extRow N i' hi' e := by subst h; rfl

/-- The tiles before point `t`'s and that tile make the tiles up to it. -/
theorem tiles_step (t : Fin cfg0.N) (g : Fin 2048 → EReal) :
    tiles g (t.val % 4) + ∑ f : Fin 512, g (chanOf t f) = tiles g (t.val % 4 + 1) :=
  (tiles_succ g (t.val % 4) (by have := Nat.mod_lt t.val (show 0 < 4 by decide); omega)).symm

/-- After every point: the first scratch holds the extended tile, the accumulator the channel tiles so far. -/
theorem scratches : ∀ (t : ℕ) (h : t < cfg0.N),
    (∀ (q : Fin 544) (k : Fin 2048), (outsAt0 m c t h).2.1 (ix2 q k) = extRow (nrm m c) (t / 4) (tile_lt ⟨t, h⟩) q.val k)
    ∧ (∀ (r : Fin 512) (n : Fin 2048), (outsAt0 m c t h).2.2 (ix2 r n) = tiles (contrib m c (rowOf ⟨t, h⟩ r) n) (t % 4 + 1)) := by
  intro t
  induction t using Nat.strong_induction_on with
  | _ t ih =>
    intro h
    have hN : t < 256 := lt_N ⟨t, h⟩
    by_cases h0 : t % 4 = 0
    · have h1 : ¬t % 4 = 3 := by omega
      rw [outsAt0_A m c ⟨t, h⟩ h0 h1]
      dsimp only
      rw [first_normed, first_acc]
      refine ⟨fun q k => extended m c ⟨t, h⟩ q k, fun r n => ?_⟩
      rw [added m c ⟨t, h⟩ _ _ r n (fun q k => extended m c ⟨t, h⟩ q k), pay9_apply]
      have e := tiles_step ⟨t, h⟩ (contrib m c (rowOf ⟨t, h⟩ r) n)
      dsimp only at e
      rw [h0, tiles_zero] at e
      rw [h0]
      exact e
    · obtain ⟨ihx, iha⟩ := ih (t - 1) (by omega) (by omega)
      have ihx' : ∀ (q : Fin 544) (k : Fin 2048), (outsAt0 m c (t - 1) (by omega)).2.1 (ix2 q k)
          = extRow (nrm m c) (t / 4) (tile_lt ⟨t, h⟩) q.val k := fun q k =>
        (ihx q k).trans (congrFun (extRow_pred _ _ _ _ _ (by omega) _) k)
      have iha' : ∀ (r : Fin 512) (n : Fin 2048), (outsAt0 m c (t - 1) (by omega)).2.2 (ix2 r n)
          = tiles (contrib m c (rowOf ⟨t, h⟩ r) n) (t % 4) := fun r n => by
        rw [iha r n, rowOf_pred ⟨t - 1, by omega⟩ ⟨t, h⟩ (by dsimp only; omega) r, show (t - 1) % 4 + 1 = t % 4 by omega]
      by_cases h1 : t % 4 = 3
      · rw [outsAt0_C m c ⟨t, h⟩ h0 h1]
        dsimp only
        rw [last_normed, last_acc]
        refine ⟨ihx', fun r n => ?_⟩
        rw [added m c ⟨t, h⟩ _ _ r n ihx', iha' r n]
        exact tiles_step ⟨t, h⟩ _
      · rw [outsAt0_B m c ⟨t, h⟩ h0 h1]
        dsimp only
        rw [middle_normed, middle_acc]
        refine ⟨ihx', fun r n => ?_⟩
        rw [added m c ⟨t, h⟩ _ _ r n ihx', iha' r n]
        exact tiles_step ⟨t, h⟩ _

/-- The sublayer's row of flattened row `R`. -/
def result (R : Fin 32768) : Fin 2048 → EReal :=
  sconvRow (xrow m c) (pre m c) (post m c) (win m c 0) (win m c 1) (win m c 2) (cw m c) (wo m c) R

/-- What the last point of a row tile writes back. -/
theorem written (t : Fin cfg0.N) (ht : t.val % 4 = 3) (r : Fin 512) (n : Fin 2048) :
    (outsAt0 m c t.val t.isLt).1 (ix2 r n) = result m c (rowOf t r) n := by
  have h0 : ¬t.val % 4 = 0 := by omega
  have hN := lt_N t
  have hp : t.val - 1 < cfg0.N := lt_of_le_of_lt (Nat.sub_le _ _) t.isLt
  obtain ⟨ihx, iha⟩ := scratches m c (t.val - 1) hp
  have ihx' : ∀ (q : Fin 544) (k : Fin 2048), (outsAt0 m c (t.val - 1) hp).2.1 (ix2 q k)
      = extRow (nrm m c) (t.val / 4) (tile_lt t) q.val k := fun q k =>
    (ihx q k).trans (congrFun (extRow_pred _ _ _ _ _ (by omega) _) k)
  rw [outsAt0_C m c t h0 ht]
  dsimp only
  rw [last_out, pay2_apply]
  have eo : (fun k => step (outsAt0 m c (t.val - 1) hp).2.1 (iblk m c 5 t) (iblk m c 6 t) (iblk m c 7 t) (iblk m c 8 t) (iblk m c 9 t)
      (outsAt0 m c (t.val - 1) hp).2.2 (ix2 r k))
      = sconvMix (nrm m c) (win m c 0) (win m c 1) (win m c 2) (cw m c) (wo m c) (rowOf t r) := by
    funext k
    rw [added m c t _ _ r k ihx', iha r k, rowOf_pred ⟨t.val - 1, hp⟩ t (by dsimp only; omega) r,
      show (t.val - 1) % 4 + 1 = t.val % 4 by omega, tiles_step t, ht]
    exact tiles_all _ 4 rfl
  rw [eo]
  exact congrArg₂ (fun x g => residual x _ g n) (funext fun k => blk_x m c t r k) (funext fun k => blk_post m c t k)

/-! ## The array, and the run -/

/-- THE ARRAY the kernel leaves. -/
def final : S32768x2048.Idx → EReal := fun i => result m c (i 0) (i 1)

/-- What a row tile's last point writes back is its block of the array. -/
theorem flushed (t : Fin cfg0.N) (hf : (cfg0.win 10).flush t = true) :
    (dats m 0 c).flushed 10 t = ((cfg0.win 10).blk t).view.read (Elt Ideal) (final m c) := by
  have ht : t.val % 4 = 3 := (flush0_10 t).mp hf
  show (cfg0.win 10).cut (grid0.coords t) ((dats m 0 c).after 10 t) = _
  rw [after0_10]
  obtain ⟨e0, e1⟩ := idx10 t
  funext y
  have hb0 : (((cfg0.win 10).blk t).view.emb y 0).val = win0_10.index t (0 : Fin 2) * 512 + 1 * (y 0).val := rfl
  have hb1 : (((cfg0.win 10).blk t).view.emb y 1).val = win0_10.index t (1 : Fin 2) * 2048 + 1 * (y 1).val := rfl
  have hy : (cfg0.win 10).xinj (grid0.coords t) y = ix2 (⟨(y 0).val, (y 0).isLt⟩ : Fin 512) (⟨(y 1).val, (y 1).isLt⟩ : Fin 2048) := by
    funext a
    match a with
    | ⟨0, _⟩ => rfl
    | ⟨1, _⟩ => rfl
  refine (congrArg (outsAt0 m c t.val t.isLt).1 hy).trans ((written m c t ht _ _).trans ?_)
  show _ = final m c (((cfg0.win 10).blk t).view.emb y)
  unfold final
  refine congr (congrArg (result m c) (Fin.ext ?_)) (Fin.ext ?_)
  · show 512 * (t.val / 4) + (y 0).val = _
    rw [hb0, e0]
    omega
  · show (y 1).val = _
    rw [hb1, e1]
    omega

/-- An index is in point `t`'s block when each coordinate is in the block's range on its axis. -/
theorem mem_block (t : Fin cfg0.N) (i : S32768x2048.Idx) : i ∈ ((cfg0.win 10).blk t).view.set ↔
    ∀ a : Fin 2, win0_10.index t a * S512x2048.size a ≤ (i a).val ∧ (i a).val < win0_10.index t a * S512x2048.size a + S512x2048.size a := by
  show i ∈ ((View.whole main_v5).slice (win0_10.rect t)).set ↔ _
  rw [View.set_slice_whole, Rect.mem_set_unit]
  exact Iff.rfl

/-- Every index lies in the block some row tile's last point writes back. -/
theorem covered (i : S32768x2048.Idx) : ∃ t : Fin cfg0.N, (cfg0.win 10).flush t = true ∧ i ∈ ((cfg0.win 10).blk t).view.set := by
  have h0 : (i 0).val < 32768 := (i 0).isLt
  have h1 : (i 1).val < 2048 := (i 1).isLt
  have hlt : 4 * ((i 0).val / 512) + 3 < cfg0.N := lt_of_lt_of_eq (by omega) N_0.symm
  obtain ⟨e0, e1⟩ := idx10 ⟨4 * ((i 0).val / 512) + 3, hlt⟩
  refine ⟨⟨4 * ((i 0).val / 512) + 3, hlt⟩, (flush0_10 _).mpr (by dsimp only; omega), ?_⟩
  rw [mem_block]
  intro a
  match a with
  | ⟨0, _⟩ =>
    show win0_10.index _ (0 : Fin 2) * 512 ≤ (i 0).val ∧ (i 0).val < win0_10.index _ (0 : Fin 2) * 512 + 512
    rw [e0]
    dsimp only
    omega
  | ⟨1, _⟩ =>
    show win0_10.index _ (1 : Fin 2) * 2048 ≤ (i 1).val ∧ (i 1).val < win0_10.index _ (1 : Fin 2) * 2048 + 2048
    rw [e1]
    omega

/-- The array after the run. -/
theorem array : (dats m 0 c).arrAt 10 cfg0.N = final m c :=
  (dats m 0 c).arrAt_eq_of_cover 10 _ (fun t hf => flushed m c t hf) (covered)

/-- An argument no window stages is left as it was. -/
theorem kept (r : PUnit × MemSt nD τ sig (Elt Ideal)) (h : Pipeline.FramePost cfgs (dats m) 0 (V m) r) (b : Ref sig .tc)
    (hs : b.isScoped = false) (ha : ∀ w, (spec0 w).arr.view.ref ≠ b) (hV : V m c b = m ((c : Thread nD τ).loc b)) :
    r.2.mem ((c : Thread nD τ).loc b) = m ((c : Thread nD τ).loc b) :=
  ((h c).2 b (Pipeline.mem_restRefs_of b hs ha)).trans hV

/-- The run: the result array, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 10).trans (array m c),
      kept m c r h main_arg0 (by decide) (by decide) (V_main_arg0 m c),
      kept m c r h main_arg1 (by decide) (by decide) (V_main_arg1 m c),
      kept m c r h main_arg2 (by decide) (by decide) (V_main_arg2 m c),
      kept m c r h main_arg3 (by decide) (by decide) (V_main_arg3 m c),
      ((h c).1 8).trans (((dats m 0 c).arrAt_in 8 rfl _).trans ((A_eq m c 8).trans (V_main_arg4 m c))),
      kept m c r h main_arg5 (by decide) (by decide) (V_main_arg5 m c)⟩)
    (run_main m ρ)

end Cert.SconvKernelIdeal.Array

end
-- ==== Proof.Sconv.Reference.lean ====
/-
  What the short-convolution reference computes, read at an index: the sublayer's row applied to the token's row and its
  neighbours'.
-/
module

public import proofs.«01_k».proof.Proof.Sconv.Spec
public import proofs.«01_k».proof.Proof.Common.Index
public import proofs.«01_k».proof.Proof.Gen.SconvReferenceIdeal.Read
public import Idealize.ShloMosaic.Lib.Pointwise

@[expose] public section

noncomputable section

namespace Cert.SconvReferenceIdeal.Rows

open Cert.SconvReferenceIdeal Cert.SconvReferenceIdeal.Gen Cert.SconvReferenceIdeal.Read
open Idealize.ShloMosaic Idealize.ShloMosaic.TcCoe Idealize.SL.Sem Cert.Spec

variable (x : S2x16384x2048.Idx → EReal) (g h : S2048.Idx → EReal) (w : S2048x6144.Idx → EReal) (cv : S3x2048.Idx → EReal)
  (wo : S2048x2048.Idx → EReal)

/-- The rows of the flattened input, and the gains and weights, as the functions of the mathematics. -/
abbrev rows (R : Fin 32768) : Fin 2048 → EReal := fun k => x (ix3 (seqOf R) (tokOf R) k)
abbrev gain (g : S2048.Idx → EReal) : Fin 2048 → EReal := fun k => g (ix1 k)
abbrev part (o : Fin 3) (k f : Fin 2048) : EReal :=
  w (ix2 k ⟨2048 * o.val + f.val, by have := f.isLt; have := o.isLt; omega⟩)

/-- The normed rows. -/
abbrev nrm (R : Fin 32768) : Fin 2048 → EReal := rms (rows x R) (gain g)

theorem rows_flat (b : Fin 2) (s : Fin 16384) : rows x (flat b s) = fun k => x (ix3 b s k) := by
  unfold rows
  rw [seqOf_flat, tokOf_flat]

theorem normed (b : Fin 2) (s : Fin 16384) (k : Fin 2048) :
    val_main_v12 (F := Ideal) x g (ix3 b s k) = nrm x g (flat b s) k := by
  have e1 : ∀ l, idx_main_v1 (idx_main_v2 (idx_main_v8 (ix3 b s k))) l = ix3 b s l := fun l => ext3 rfl rfl rfl
  have e2 : idx_main_v10 (idx_main_v11 (ix3 b s k)) = ix1 k := ext1 rfl
  unfold nrm
  rw [rows_flat]
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, e1, e2]
  pointwise
  rfl

/-- The input projection. -/
theorem projected (b : Fin 2) (s : Fin 16384) (f : Fin 6144) :
    val_main_v13 (F := Ideal) x g w (ix3 b s f) = dot (nrm x g (flat b s)) (fun k f => w (ix2 k f)) f := by
  have e1 : ∀ k, lidx_main_v13 (ix3 b s f) k = ix3 b s k := fun k => ext3 rfl rfl rfl
  have e2 : ∀ k, ridx_main_v13 (ix3 b s f) k = ix2 k f := fun k => ext2 rfl rfl
  simp only [val_main_v13_apply, e1, e2, normed]
  rfl

/-- The gate, and the gated product. -/
theorem gate (b : Fin 2) (s : Fin 16384) (f : Fin 2048) :
    val_main_v14 (F := Ideal) x g w (ix3 b s f) = dot (nrm x g (flat b s)) (part w 0) f := by
  have e : idx_main_v14 (ix3 b s f) = ix3 b s ⟨2048 * 0 + f.val, by have := f.isLt; omega⟩ :=
    ext3 (Fin.ext (by simp [idx_main_v14])) (Fin.ext (by simp [idx_main_v14])) (Fin.ext (by simp [idx_main_v14]))
  rw [val_main_v14_apply, e, projected]
  rfl

theorem product (b : Fin 2) (s : Fin 16384) (f : Fin 2048) :
    val_main_v17 (F := Ideal) x g w (ix3 b s f) = gated (nrm x g (flat b s)) (part w 1) (part w 2) f := by
  have hf := f.isLt
  have e1 : idx_main_v15 (ix3 b s f) = ix3 b s ⟨2048 * 1 + f.val, by omega⟩ :=
    ext3 (Fin.ext (by simp [idx_main_v15])) (Fin.ext (by simp [idx_main_v15])) (Fin.ext (by simp [idx_main_v15]))
  have e2 : idx_main_v16 (ix3 b s f) = ix3 b s ⟨2048 * 2 + f.val, by omega⟩ :=
    ext3 (Fin.ext (by simp [idx_main_v16])) (Fin.ext (by simp [idx_main_v16])) (Fin.ext (by simp [idx_main_v16]))
  rw [val_main_v17_apply, val_main_v15_apply, val_main_v16_apply, e1, e2, projected, projected]
  rfl

/-- The padded product read `k` places after a token. -/
theorem tapped (b : Fin 2) (s : Fin 16384) (k : ℕ) (hk : s.val + k < 16386) (f : Fin 2048) :
    val_main_v18 (F := Ideal) x g w (ix3 b ⟨s.val + k, hk⟩ f)
      = tap 1 (fun R => gated (nrm x g R) (part w 1) (part w 2) f) (flat b s) k := by
  unfold val_main_v18
  refine (pad_tap (h := 1) (val_main_v17 (F := Ideal) x g w) (val_main_call0_v0 (F := Ideal)) _ _ ?_ b s k hk f).trans ?_
  · rw [val_main_call0_v0_apply, val_main_c_apply]
    show (((0#32 : BitVec 32).toInt : ℝ) : EReal) = 0
    simp
  · refine congrArg (fun P => tap 1 P (flat b s) k) (funext fun R => ?_)
    rw [product, flat_of]

/-- The mixer's hidden unit. -/
theorem hidden (b : Fin 2) (s : Fin 16384) (f : Fin 2048) :
    val_main_v41 (F := Ideal) x g w cv (ix3 b s f)
      = sconvHidden (nrm x g) (part w 0) (part w 1) (part w 2) (fun a f => cv (ix2 a f)) (flat b s) f := by
  have hs := s.isLt
  have c0 : idx_main_v20 (idx_main_v21 (idx_main_v22 (idx_main_v23 (ix3 b s f)))) = ix2 (0 : Fin 3) f :=
    ext2 rfl (Fin.ext (Nat.mod_eq_of_lt f.isLt))
  have c1 : idx_main_v28 (idx_main_v29 (idx_main_v30 (idx_main_v31 (ix3 b s f)))) = ix2 (1 : Fin 3) f :=
    ext2 rfl (Fin.ext (Nat.mod_eq_of_lt f.isLt))
  have c2 : idx_main_v35 (idx_main_v36 (idx_main_v37 (idx_main_v38 (ix3 b s f)))) = ix2 (2 : Fin 3) f :=
    ext2 rfl (Fin.ext (Nat.mod_eq_of_lt f.isLt))
  have t0 : idx_main_v19 (ix3 b s f) = ix3 b ⟨s.val + 0, by omega⟩ f := ext3 rfl rfl rfl
  have t1 : idx_main_v27 (ix3 b s f) = ix3 b ⟨s.val + 1, by omega⟩ f :=
    ext3 (Fin.ext (by simp [idx_main_v27])) (Fin.ext (by simp [idx_main_v27]; omega)) (Fin.ext (by simp [idx_main_v27]))
  have t2 : idx_main_v34 (ix3 b s f) = ix3 b ⟨s.val + 2, by omega⟩ f :=
    ext3 (Fin.ext (by simp [idx_main_v34])) (Fin.ext (by simp [idx_main_v34]; omega)) (Fin.ext (by simp [idx_main_v34]))
  simp only [val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, val_main_v25_apply, val_main_cst_2_apply,
    val_main_v24_apply, val_main_v23_apply, val_main_v22_apply, val_main_v21_apply, val_main_v20_apply, val_main_v19_apply,
    c0, c1, c2, t0, t1, t2, tapped, gate]
  pointwise
  unfold sconvHidden
  simp only [mul_comm (tap _ _ _ _)]

/-- The mixer's output row. -/
theorem mixed (b : Fin 2) (s : Fin 16384) (n : Fin 2048) :
    val_main_v42 (F := Ideal) x g w cv wo (ix3 b s n)
      = sconvMix (nrm x g) (part w 0) (part w 1) (part w 2) (fun a f => cv (ix2 a f)) (fun f n => wo (ix2 f n)) (flat b s) n := by
  have e1 : ∀ f, lidx_main_v42 (ix3 b s n) f = ix3 b s f := fun k => ext3 rfl rfl rfl
  have e2 : ∀ f, ridx_main_v42 (ix3 b s n) f = ix2 f n := fun k => ext2 rfl rfl
  simp only [val_main_v42_apply, e1, e2, hidden]
  rfl

/-- The sublayer's row. -/
theorem closed (b : Fin 2) (s : Fin 16384) (n : Fin 2048) :
    val_main_v56 (F := Ideal) x g h w cv wo (ix3 b s n)
      = sconvRow (rows x) (gain g) (gain h) (part w 0) (part w 1) (part w 2) (fun a f => cv (ix2 a f)) (fun f n => wo (ix2 f n))
          (flat b s) n := by
  have e1 : ∀ l, idx_main_v44 (idx_main_v45 (idx_main_v51 (ix3 b s n))) l = ix3 b s l := fun l => ext3 rfl rfl rfl
  have e2 : idx_main_v53 (idx_main_v54 (ix3 b s n)) = ix1 n := ext1 rfl
  unfold sconvRow
  rw [rows_flat]
  simp only [val_main_v56_apply, val_main_v55_apply, val_main_v54_apply, val_main_v53_apply, val_main_v52_apply, val_main_v51_apply,
    val_main_v50_apply, val_main_v49_apply, val_main_v48_apply, val_main_cst_5_apply, val_main_v47_apply, val_main_v46_apply,
    val_main_cst_4_apply, val_main_v45_apply, val_main_v44_apply, val_main_cst_3_apply, val_main_v43_apply, e1, e2, mixed]
  pointwise
  rfl

/-- The returned array. -/
theorem returned (R : Fin 32768) (n : Fin 2048) :
    val_main_v57 (F := Ideal) x g h w cv wo (ix2 R n)
      = sconvRow (rows x) (gain g) (gain h) (part w 0) (part w 1) (part w 2) (fun a f => cv (ix2 a f)) (fun f n => wo (ix2 f n)) R n := by
  have hn := n.isLt
  have e : idx_main_v57 (ix2 R n) = ix3 (seqOf R) (tokOf R) n :=
    ext3 (Fin.ext (by show (R.val * 2048 + n.val) / 33554432 = R.val / 16384; omega))
      (Fin.ext (by show (R.val * 2048 + n.val) / 2048 % 16384 = R.val % 16384; omega))
      (Fin.ext (by show (R.val * 2048 + n.val) % 2048 = n.val; omega))
  rw [val_main_v57_apply, e, closed, flat_of]

end Cert.SconvReferenceIdeal.Rows

end
-- ==== Proof.Sconv.Equation.lean ====
/-
  The short-convolution sublayer: the kernel's array is the reference's, and the reference runs cleanly.
-/
module

public import proofs.«01_k».proof.Defs
public import proofs.«01_k».proof.Proof.Sconv.Array
public import proofs.«01_k».proof.Proof.Sconv.Reference
public import proofs.«01_k».proof.Proof.Gen.SconvReferenceIdeal.Run
public import Idealize.ShloMosaic.Lib.Quiescent

@[expose] public section

noncomputable section

namespace Cert.Sconv

open Idealize.ShloMosaic Idealize.ShloMosaic.TcCoe Idealize.SL.Sem Cert.Spec

/-- The reference terminates, keeps its arguments and leaves every counter at zero: it has no semaphores. -/
theorem reference_frame : Cert.quiescent_SconvReferenceIdeal := fun m ρ _ =>
  (θ_run Cert.SconvReferenceIdeal.defs _ _).mono
    (fun r h => ⟨fun c => (h c).2, Idealize.ShloMosaic.sem_eq_zero_of_no_sems (by decide) r.2⟩)
    (Cert.SconvReferenceIdeal.Value.run m ρ)

/-- From memories that agree on the six arguments, kernel and reference leave the same array. -/
theorem equation : Cert.algebraic_SconvKernelIdeal_SconvReferenceIdeal := by
  intro m g m' g' _ agree
  refine ⟨fun c => Cert.SconvKernelIdeal.Array.final m c, Cert.SconvKernelIdeal.Array.run m g,
    (θ_run Cert.SconvReferenceIdeal.defs _ _).mono (fun r h c => ⟨(h c).1.trans ?_, (h c).2⟩)
      (Cert.SconvReferenceIdeal.Value.run m' g')⟩
  obtain ⟨a0, a1, a2, a3, a4, a5⟩ := agree c
  rw [Cert.SconvReferenceIdeal.Read.val_main_v57_eq, a0, a1, a2, a3, a4, a5]
  funext i
  rw [eq_ix2 i]
  exact Cert.SconvReferenceIdeal.Rows.returned _ _ _ _ _ _ (i 0) (i 1)

end Cert.Sconv

end
-- ==== Proof.Pool.Spec.lean ====
/-
  The pooling sublayer, one row at a time: in each of four channel groups the mean of a normed row's projection over a
  window of tokens less the projection itself, the group's own weights and scale, the output weights, the closing
  residual norm. Group `g`'s window is the `2 ^ g` tokens before a token, the token, and the `2 ^ g - 1` after it.
-/
module

public import proofs.«01_k».proof.Proof.Common.Halo
public import Idealize.ShloMosaic.PureOps

@[expose] public section

noncomputable section

namespace Cert.Spec

open Idealize.ShloMosaic

/-- The sum over a window of `2 * h` tokens, the first `h` places before the row's. -/
def window (h : ℕ) (P : Fin 32768 → EReal) (R : Fin 32768) : EReal := ∑ k ∈ Finset.range (2 * h), tap h P R k

/-- How many tokens of the window of token `v` lie in its sequence, counted in 32-bit integers. -/
def count (h v : BitVec 32) : EReal :=
  FloatOps.sitofp (F := Ideal) .f32 (Scalar.subi (Scalar.minsi (Scalar.addi v h) 16384#32) (Scalar.maxsi (Scalar.subi v h) 0#32))

/-- A projection less its mean over the window. -/
def pooled (N : Fin 32768 → Fin 2048 → EReal) (wi : Fin 2048 → Fin 2048 → EReal) (g : Fin 4) (f : Fin 2048) (R : Fin 32768) : EReal :=
  Ideal.div (window (2 ^ g.val) (fun R => dot (N R) wi f) R) (count (BitVec.ofNat 32 (2 ^ g.val)) (BitVec.ofNat 32 (R.val % 16384)))
    - dot (N R) wi f

/-- The channel that place `d` of group `g` is; a channel's group and place. -/
def chan (g : Fin 4) (d : Fin 512) : Fin 2048 := ⟨512 * g.val + d.val, by have := g.isLt; have := d.isLt; omega⟩
def groupOf (f : Fin 2048) : Fin 4 := ⟨f.val / 512, by have := f.isLt; omega⟩
def placeOf (f : Fin 2048) : Fin 512 := ⟨f.val % 512, Nat.mod_lt _ (by decide)⟩

theorem groupOf_chan (g : Fin 4) (d : Fin 512) : groupOf (chan g d) = g :=
  Fin.ext (by have := d.isLt; show (512 * g.val + d.val) / 512 = g.val; omega)
theorem placeOf_chan (g : Fin 4) (d : Fin 512) : placeOf (chan g d) = d :=
  Fin.ext (by have := d.isLt; show (512 * g.val + d.val) % 512 = d.val; omega)
theorem chan_of (f : Fin 2048) : chan (groupOf f) (placeOf f) = f :=
  Fin.ext (by show 512 * (f.val / 512) + f.val % 512 = f.val; omega)

/-- The group's pooled channels through its weights, scaled: channel `f` of the mixer's hidden row. -/
def poolHidden (N : Fin 32768 → Fin 2048 → EReal) (wi : Fin 2048 → Fin 2048 → EReal) (wg : Fin 4 → Fin 512 → Fin 512 → EReal)
    (sc : Fin 2048 → EReal) (R : Fin 32768) (f : Fin 2048) : EReal :=
  (∑ d : Fin 512, pooled N wi (groupOf f) (chan (groupOf f) d) R * wg (groupOf f) d (placeOf f)) * sc f

/-- The mixer's output row. -/
def poolMix (N : Fin 32768 → Fin 2048 → EReal) (wi : Fin 2048 → Fin 2048 → EReal) (wg : Fin 4 → Fin 512 → Fin 512 → EReal)
    (sc : Fin 2048 → EReal) (wo : Fin 2048 → Fin 2048 → EReal) (R : Fin 32768) (n : Fin 2048) : EReal :=
  ∑ f : Fin 2048, poolHidden N wi wg sc R f * wo f n

/-- The sublayer's row. -/
def poolRow (x : Fin 32768 → Fin 2048 → EReal) (pre post : Fin 2048 → EReal) (wi : Fin 2048 → Fin 2048 → EReal)
    (wg : Fin 4 → Fin 512 → Fin 512 → EReal) (sc : Fin 2048 → EReal) (wo : Fin 2048 → Fin 2048 → EReal) (R : Fin 32768) :
    Fin 2048 → EReal :=
  residual (x R) (poolMix (fun R => rms (x R) pre) wi wg sc wo R) post

end Cert.Spec

end
-- ==== Proof.Pool.Cases.lean ====
/-
  What the pooling kernel's body leaves at one grid point, in each of its four cases (one per channel group; the first also
  fills the extended row tile, the last also closes), as the stored values over the point's input blocks and the scratches.
-/
module

public import proofs.«01_k».proof.Proof.Gen.PoolKernelIdeal.Frame
public import proofs.«01_k».proof.Proof.Common.Rows

@[expose] public section

noncomputable section

namespace Cert.PoolKernelIdeal.Cases

open Cert.PoolKernelIdeal Cert.PoolKernelIdeal.Gen Idealize.ShloMosaic Idealize.ShloMosaic.TcCoe Idealize.SL.Sem Cert.Rows

variable {F : FTy → Type} [FloatOps F]

/-- The extended row tile: 16 rows before, the 512 rows, 16 rows after, each normed. -/
def filled (i : grid0.Coords) (x0 : Vec F S16x2048 .f32) (x1 : Vec F S512x2048 .f32) (x2 : Vec F S16x2048 .f32)
    (x3 : Vec F S1x2048 .f32) : Vec F S544x2048 .bf16 :=
  View.canon
    [⟨Rect.unit ![528, 0] ![16, 2048] inb_S544x2048_S16x2048_528_0, k0_pay11 (tileOf (i 0).val) (k0_pay7 x3 x2)⟩,
      ⟨Rect.unit ![16, 0] ![512, 2048] inb_S544x2048_S512x2048_16_0, k0_pay10 (k0_pay5 x3) x1⟩,
      ⟨Rect.unit ![0, 0] ![16, 2048] inb_S544x2048_S16x2048_0_0,
        k0_pay9 (k0_pay6 x3 x0) (Scalar.cmpi CmpIPredicate.sgt (tileOf (i 0).val) 0#32)⟩]

/-- 512 rows of the projected tile from row `o` on. -/
def rowsAt (hh : Vec F S544x512 .f32) (o : ℕ) (inb : ∀ a, (![o, 0] : Fin 2 → Nat) a + S512x512.size a ≤ S544x512.size a) : Vec F S512x512 .f32 :=
  View.ld (Val := Elt F) (e' := .f32) hh (Rect.unit (s := S544x512) ![o, 0] S512x512.size inb)

/-- The window mean of each group, as the body takes it from the projected tile. -/
def meanA (i : grid0.Coords) (hh : Vec F S544x512 .f32) : Vec F S512x512 .f32 :=
  k0_pay15 i (rowsAt hh 15 inb_S544x512_S512x512_15_0) (rowsAt hh 16 inb_S544x512_S512x512_16_0)
def meanB (i : grid0.Coords) (hh : Vec F S544x512 .f32) : Vec F S512x512 .f32 :=
  k0_pay16 i (rowsAt hh 14 inb_S544x512_S512x512_14_0) (rowsAt hh 15 inb_S544x512_S512x512_15_0)
    (rowsAt hh 16 inb_S544x512_S512x512_16_0) (rowsAt hh 17 inb_S544x512_S512x512_17_0)
def meanC (i : grid0.Coords) (hh : Vec F S544x512 .f32) : Vec F S512x512 .f32 :=
  k0_pay1 (k0_pay14 i) (rowsAt hh 12 inb_S544x512_S512x512_12_0) (rowsAt hh 13 inb_S544x512_S512x512_13_0)
    (rowsAt hh 14 inb_S544x512_S512x512_14_0) (rowsAt hh 15 inb_S544x512_S512x512_15_0)
    (rowsAt hh 16 inb_S544x512_S512x512_16_0) (rowsAt hh 17 inb_S544x512_S512x512_17_0)
    (rowsAt hh 18 inb_S544x512_S512x512_18_0) (rowsAt hh 19 inb_S544x512_S512x512_19_0)
def meanD (i : grid0.Coords) (hh : Vec F S544x512 .f32) : Vec F S512x512 .f32 :=
  k0_pay2 (k0_pay14 i)
    (k0_pay8 (rowsAt hh 8 inb_S544x512_S512x512_8_0) (rowsAt hh 9 inb_S544x512_S512x512_9_0)
      (rowsAt hh 10 inb_S544x512_S512x512_10_0) (rowsAt hh 11 inb_S544x512_S512x512_11_0)
      (rowsAt hh 12 inb_S544x512_S512x512_12_0) (rowsAt hh 13 inb_S544x512_S512x512_13_0)
      (rowsAt hh 14 inb_S544x512_S512x512_14_0) (rowsAt hh 15 inb_S544x512_S512x512_15_0)
      (rowsAt hh 16 inb_S544x512_S512x512_16_0) (rowsAt hh 17 inb_S544x512_S512x512_17_0)
      (rowsAt hh 18 inb_S544x512_S512x512_18_0) (rowsAt hh 19 inb_S544x512_S512x512_19_0)
      (rowsAt hh 20 inb_S544x512_S512x512_20_0) (rowsAt hh 21 inb_S544x512_S512x512_21_0)
      (rowsAt hh 22 inb_S544x512_S512x512_22_0))
    (rowsAt hh 23 inb_S544x512_S512x512_23_0)

/-- One group's contribution added to an accumulator: the mean less the tile's own projection, through the group's weights
    and scale and the output weights. -/
def step (mean : Vec F S544x512 .f32 → Vec F S512x512 .f32) (xe : Vec F S544x2048 .bf16) (x5 : Vec F S2048x512 .bf16)
    (x6 : Vec F S1x512x512 .bf16) (x7 : Vec F S1x512 .f32) (x8 : Vec F S512x2048 .bf16) (acc : Vec F S512x2048 .f32) :
    FVec F S512x2048 .f32 :=
  k0_pay3 (mean (k0_pay13 xe x5)) (rowsAt (k0_pay13 xe x5) 16 inb_S544x512_S512x512_16_0) x6 x7 acc x8

section
variable (c : Dev nD) (i : grid0.Coords) (a2 : Memref sig .tc .vmem S16x2048 .f32) (h2 : a2.IsWhole)
  (a3 : Memref sig .tc .vmem S512x2048 .f32) (h3 : a3.IsWhole) (a4 : Memref sig .tc .vmem S16x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S2048x512 .bf16) (h7 : a7.IsWhole) (a8 : Memref sig .tc .vmem S1x512x512 .bf16) (h8 : a8.IsWhole)
  (a9 : Memref sig .tc .vmem S1x512 .f32) (h9 : a9.IsWhole) (a10 : Memref sig .tc .vmem S512x2048 .bf16) (h10 : a10.IsWhole)
  (a11 : Memref sig .tc .vmem S512x2048 .f32) (h11 : a11.IsWhole) (a12 : Memref sig .tc .vmem S544x2048 .bf16) (h12 : a12.IsWhole)
  (a13 : Memref sig .tc .vmem S544x512 .f32) (h13 : a13.IsWhole) (a14 : Memref sig .tc .vmem S512x512 .f32) (h14 : a14.IsWhole)
  (a15 : Memref sig .tc .vmem S512x2048 .f32) (h15 : a15.IsWhole)
  (x0 : Vec F S16x2048 .f32) (x1 : Vec F S512x2048 .f32) (x2 : Vec F S16x2048 .f32) (x3 x4 : Vec F S1x2048 .f32)
  (x5 : Vec F S2048x512 .bf16) (x6 : Vec F S1x512x512 .bf16) (x7 : Vec F S1x512 .f32) (x8 : Vec F S512x2048 .bf16)
  (xs0 : Vec F S544x2048 .bf16) (xs3 : Vec F S512x2048 .f32)

/-- First group: the first scratch is left holding the extended row tile. -/
theorem first_normed (hc0 : cond0_0 i) (hc1 : cond0_1 i) (hc2 : ¬cond0_2 i) (hc3 : ¬cond0_3 i) (hc4 : ¬cond0_4 i) (hc5 : ¬cond0_5 i) :
    sout0_A_0 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 = filled i x0 x1 x2 x3 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8)]
  unfold kernelRun0_A
  dsimp only
  try sl_unfold_words
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h12.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, View.ld_unit_zero (S := S1x512x512) hz3, shapeCast_self]
  rfl

/-- First group: the accumulator is left holding that group's contribution over zeros. -/
theorem first_acc (hc0 : cond0_0 i) (hc1 : cond0_1 i) (hc2 : ¬cond0_2 i) (hc3 : ¬cond0_3 i) (hc4 : ¬cond0_4 i) (hc5 : ¬cond0_5 i) :
    sout0_A_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 = step (meanA i) (filled i x0 x1 x2 x3) x5 x6 x7 x8 k0_pay12 := by
  unfold sout0_A_3
  rw [View.read_writes_eq_canon _ _ _ (scover0_A_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8)]
  unfold kernelRun0_A
  dsimp only
  try sl_unfold_words
  rw [View.canon_cons_unit_zero (S := S512x2048) hz]
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h12.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, View.ld_unit_zero (S := S1x512x512) hz3, shapeCast_self]
  rfl

/-- Second group: the accumulator gains that group's contribution. -/
theorem second_acc (hc0 : ¬cond0_0 i) (hc1 : ¬cond0_1 i) (hc2 : cond0_2 i) (hc3 : ¬cond0_3 i) (hc4 : ¬cond0_4 i) (hc5 : ¬cond0_5 i) :
    sout0_B_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = step (meanB i) xs0 x5 x6 x7 x8 xs3 := by
  unfold sout0_B_3
  rw [View.read_writes_eq_canon _ _ _ (scover0_B_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3)]
  unfold kernelRun0_B
  dsimp only
  try sl_unfold_words
  rw [View.canon_unit_zero (S := S512x2048) hz]
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h12.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, View.ld_unit_zero (S := S1x512x512) hz3, shapeCast_self]
  rfl

/-- A later point leaves the extended row tile as it was. -/
theorem second_normed (hc0 : ¬cond0_0 i) (hc1 : ¬cond0_1 i) (hc2 : cond0_2 i) (hc3 : ¬cond0_3 i) (hc4 : ¬cond0_4 i) (hc5 : ¬cond0_5 i) :
    sout0_B_0 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = xs0 := rfl

/-- Third group: the accumulator gains that group's contribution. -/
theorem third_acc (hc0 : ¬cond0_0 i) (hc1 : ¬cond0_1 i) (hc2 : ¬cond0_2 i) (hc3 : cond0_3 i) (hc4 : ¬cond0_4 i) (hc5 : ¬cond0_5 i) :
    sout0_C_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = step (meanC i) xs0 x5 x6 x7 x8 xs3 := by
  unfold sout0_C_3
  rw [View.read_writes_eq_canon _ _ _ (scover0_C_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3)]
  unfold kernelRun0_C
  dsimp only
  try sl_unfold_words
  rw [View.canon_unit_zero (S := S512x2048) hz]
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h12.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, View.ld_unit_zero (S := S1x512x512) hz3, shapeCast_self]
  rfl

/-- A later point leaves the extended row tile as it was. -/
theorem third_normed (hc0 : ¬cond0_0 i) (hc1 : ¬cond0_1 i) (hc2 : ¬cond0_2 i) (hc3 : cond0_3 i) (hc4 : ¬cond0_4 i) (hc5 : ¬cond0_5 i) :
    sout0_C_0 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = xs0 := rfl

/-- Last group: the accumulator gains that group's contribution. -/
theorem last_acc (hc0 : ¬cond0_0 i) (hc1 : ¬cond0_1 i) (hc2 : ¬cond0_2 i) (hc3 : ¬cond0_3 i) (hc4 : cond0_4 i) (hc5 : cond0_5 i) :
    sout0_D_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = step (meanD i) xs0 x5 x6 x7 x8 xs3 := by
  unfold sout0_D_3
  rw [View.read_writes_eq_canon _ _ _ (scover0_D_3 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3)]
  unfold kernelRun0_D
  dsimp only
  try sl_unfold_words
  rw [View.canon_unit_zero (S := S512x2048) hz]
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h12.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, View.ld_unit_zero (S := S1x512x512) hz3, shapeCast_self]
  rfl

/-- A later point leaves the extended row tile as it was. -/
theorem last_normed (hc0 : ¬cond0_0 i) (hc1 : ¬cond0_1 i) (hc2 : ¬cond0_2 i) (hc3 : ¬cond0_3 i) (hc4 : cond0_4 i) (hc5 : cond0_5 i) :
    sout0_D_0 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = xs0 := rfl

/-- Last group: the output block is the closing residual norm of the finished accumulator. -/
theorem last_out (hc0 : ¬cond0_0 i) (hc1 : ¬cond0_1 i) (hc2 : ¬cond0_2 i) (hc3 : ¬cond0_3 i) (hc4 : cond0_4 i) (hc5 : cond0_5 i) :
    out0_D_9 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3 = k0_pay4 (step (meanD i) xs0 x5 x6 x7 x8 xs3) x1 x4 := by
  unfold out0_D_9
  rw [View.read_writes_eq_canon _ _ _ (cover0_D_9 c i a2 h2 a3 h3 a4 h4 a5 h5 a6 h6 a7 h7 a8 h8 a9 h9 a10 h10 a11 h11 a12 h12 a13 h13 a14 h14 a15 h15 hc0 hc1 hc2 hc3 hc4 hc5
      x0 x1 x2 x3 x4 x5 x6 x7 x8 xs0 xs3)]
  unfold kernelRun0_D
  dsimp only
  try sl_unfold_words
  rw [View.canon_unit_zero (S := S512x2048) hz]
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h12.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, View.ld_unit_zero (S := S1x512x512) hz3, shapeCast_self]
  rfl

end

end Cert.PoolKernelIdeal.Cases

end
-- ==== Proof.Pool.Payloads.lean ====
/-
  The pooling kernel's stored values read at an index, over the extended reals: the rows of the extended tile, the window
  mean of each group, one group's contribution, the closing residual norm.
-/
module

public import proofs.«01_k».proof.Proof.Pool.Spec
public import proofs.«01_k».proof.Proof.Pool.Cases
public import Idealize.ShloMosaic.Lib.Pipeline.ValueKit.Tiles
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.PoolKernelIdeal.Pay

open Cert.PoolKernelIdeal Cert.PoolKernelIdeal.Gen Cert.PoolKernelIdeal.Cases Idealize.ShloMosaic Cert.Spec Cert.Rows

/-- The 16 rows before a tile, normed. -/
theorem pay6_apply (g : Vec Ideal S1x2048 .f32) (x : Vec Ideal S16x2048 .f32) (r : Fin 16) (k : Fin 2048) :
    k0_pay6 g x (ix2 r k) = rms (fun k => x (ix2 r k)) (fun k => g (ix2 0 k)) k := by
  unfold_payloads
  pointwise
  rfl

/-- The 16 rows after a tile, normed. -/
theorem pay7_apply (g : Vec Ideal S1x2048 .f32) (x : Vec Ideal S16x2048 .f32) (r : Fin 16) (k : Fin 2048) :
    k0_pay7 g x (ix2 r k) = rms (fun k => x (ix2 r k)) (fun k => g (ix2 0 k)) k := by
  unfold_payloads
  pointwise
  rfl

/-- The tile's own rows, normed. -/
theorem pay10_apply (g : Vec Ideal S1x2048 .f32) (x : Vec Ideal S512x2048 .f32) (r : Fin 512) (k : Fin 2048) :
    k0_pay10 (k0_pay5 g) x (ix2 r k) = rms (fun k => x (ix2 r k)) (fun k => g (ix2 0 k)) k := by
  unfold_payloads
  pointwise
  rfl

/-- The rows before, kept only past the first tile of a sequence. -/
theorem pay9_apply (X : FVec Ideal S16x2048 .f32) (b : BitVec 1) (r : Fin 16) (k : Fin 2048) :
    k0_pay9 X b (ix2 r k) = if b = 1#1 then X (ix2 r k) else 0 := by
  by_cases hb : b = 1#1
  · subst hb
    unfold_payloads
    pointwise
    rfl
  · obtain rfl : b = 0#1 := by revert hb; revert b; decide
    unfold_payloads
    pointwise
    exact (if_neg (by decide)).symm

/-- The rows after, kept only before the last tile of a sequence. -/
theorem pay11_apply (v : BitVec 32) (X : FVec Ideal S16x2048 .f32) (r : Fin 16) (k : Fin 2048) :
    k0_pay11 v X (ix2 r k) = if Scalar.cmpi CmpIPredicate.slt v 31#32 = 1#1 then X (ix2 r k) else 0 := by
  unfold_payloads
  pointwise
  rfl

theorem pay12_apply (r : Fin 512) (k : Fin 2048) : k0_pay12 (F := Ideal) (ix2 r k) = 0 := by
  unfold_payloads
  pointwise

/-- The projection of the extended tile. -/
theorem pay13_apply (xe : Vec Ideal S544x2048 .bf16) (w : Vec Ideal S2048x512 .bf16) (q : Fin 544) (f : Fin 512) :
    k0_pay13 xe w (ix2 q f) = dot (fun k => xe (ix2 q k)) (fun k f => w (ix2 k f)) f := by
  unfold_payloads
  pointwise
  rfl

/-- The token of row `r`, in its sequence. -/
theorem pay14_apply (i : grid0.Coords) (r : Fin 512) :
    k0_pay14 i (ix2 r 0) = BitVec.ofNat 32 (512 * ((i 0).val % 32) + r.val) := by
  have e : k0_pay14 i (ix2 r 0) = Scalar.addi (Scalar.muli (tileOf (i 0).val) 512#32) (BitVec.ofNat 32 r.val) := by
    unfold_payloads
    pointwise
    rfl
  rw [e, tile_token (i 0), BitVec.ofNat_add]
  rfl

/-- The window mean of the first group. -/
theorem pay15_apply (i : grid0.Coords) (a b : Vec Ideal S512x512 .f32) (r f : Fin 512) :
    k0_pay15 i a b (ix2 r f) = Ideal.div (a (ix2 r f) + b (ix2 r f)) (count 1#32 (k0_pay14 i (ix2 r 0))) := by
  unfold k0_pay15
  pointwise
  rfl

/-- Of the second. -/
theorem pay16_apply (i : grid0.Coords) (a b c d : Vec Ideal S512x512 .f32) (r f : Fin 512) :
    k0_pay16 i a b c d (ix2 r f)
      = Ideal.div (a (ix2 r f) + b (ix2 r f) + c (ix2 r f) + d (ix2 r f)) (count 2#32 (k0_pay14 i (ix2 r 0))) := by
  unfold k0_pay16
  pointwise
  rfl

/-- Of the third. -/
theorem pay1_apply (p : IVec S512x1 32) (a b c d a' b' c' d' : Vec Ideal S512x512 .f32) (r f : Fin 512) :
    k0_pay1 p a b c d a' b' c' d' (ix2 r f)
      = Ideal.div (a (ix2 r f) + b (ix2 r f) + c (ix2 r f) + d (ix2 r f) + a' (ix2 r f) + b' (ix2 r f) + c' (ix2 r f) + d' (ix2 r f))
          (count 4#32 (p (ix2 r 0))) := by
  unfold k0_pay1
  pointwise
  rfl

/-- Of the fourth: its first fifteen tokens, then the last. -/
theorem pay8_apply (a0 a1 a2 a3 a4 a5 a6 a7 a8 a9 a10 a11 a12 a13 a14 : Vec Ideal S512x512 .f32) (r f : Fin 512) :
    k0_pay8 a0 a1 a2 a3 a4 a5 a6 a7 a8 a9 a10 a11 a12 a13 a14 (ix2 r f)
      = a0 (ix2 r f) + a1 (ix2 r f) + a2 (ix2 r f) + a3 (ix2 r f) + a4 (ix2 r f) + a5 (ix2 r f) + a6 (ix2 r f) + a7 (ix2 r f)
        + a8 (ix2 r f) + a9 (ix2 r f) + a10 (ix2 r f) + a11 (ix2 r f) + a12 (ix2 r f) + a13 (ix2 r f) + a14 (ix2 r f) := by
  unfold_payloads
  pointwise

theorem pay2_apply (p : IVec S512x1 32) (s : FVec Ideal S512x512 .f32) (b : Vec Ideal S512x512 .f32) (r f : Fin 512) :
    k0_pay2 p s b (ix2 r f) = Ideal.div (s (ix2 r f) + b (ix2 r f)) (count 8#32 (p (ix2 r 0))) := by
  unfold k0_pay2
  pointwise
  rfl

theorem pay3_apply (mean own : Vec Ideal S512x512 .f32) (wg : Vec Ideal S1x512x512 .bf16) (sc : Vec Ideal S1x512 .f32)
    (acc : Vec Ideal S512x2048 .f32) (wo : Vec Ideal S512x2048 .bf16) (r : Fin 512) (n : Fin 2048) :
    k0_pay3 mean own wg sc acc wo (ix2 r n)
      = acc (ix2 r n) + ∑ f : Fin 512, ((∑ d : Fin 512, (mean (ix2 r d) - own (ix2 r d)) * wg (ix3 0 d f)) * sc (ix2 0 f)) * wo (ix2 f n) := by
  unfold_payloads
  pointwise

theorem pay4_apply (o x : Vec Ideal S512x2048 .f32) (g : Vec Ideal S1x2048 .f32) (r : Fin 512) (n : Fin 2048) :
    k0_pay4 o x g (ix2 r n) = residual (fun k => x (ix2 r k)) (fun k => o (ix2 r k)) (fun k => g (ix2 0 k)) n := by
  unfold_payloads
  pointwise
  rfl

/-! ## The window means -/

/-- What the window mean of group `g` is: of `2 * 2 ^ g` rows of the projected tile, the first `2 ^ g` before the row's. -/
def IsMean (g : Fin 4) (i : grid0.Coords) (mean : Vec Ideal S544x512 .f32 → Vec Ideal S512x512 .f32) : Prop :=
  ∀ (hh : Vec Ideal S544x512 .f32) (H : ℕ → Fin 512 → EReal), (∀ (q : Fin 544) (f : Fin 512), hh (ix2 q f) = H q.val f) →
    ∀ r f : Fin 512, mean hh (ix2 r f)
      = Ideal.div (∑ k ∈ Finset.range (2 * 2 ^ g.val), H (16 - 2 ^ g.val + k + r.val) f)
          (count (BitVec.ofNat 32 (2 ^ g.val)) (BitVec.ofNat 32 (512 * ((i 0).val % 32) + r.val)))

/-- Row `r` of 512 rows from `o` on. -/
theorem rowsAt_apply (hh : Vec Ideal S544x512 .f32) (H : ℕ → Fin 512 → EReal)
    (hH : ∀ (q : Fin 544) (f : Fin 512), hh (ix2 q f) = H q.val f) (o : ℕ) (inb) (r f : Fin 512) :
    rowsAt hh o inb (ix2 r f) = H (o + r.val) f := by
  have h0 : o + 512 ≤ 544 := inb 0
  have hr := r.isLt
  exact (ld_rows (φ := .f32) o hh inb r f (by omega)).trans (hH _ f)

theorem isMeanA (i : grid0.Coords) : IsMean 0 i (meanA i) := fun hh H hH r f => by
  show _ = Ideal.div (∑ k ∈ Finset.range 2, H (15 + k + r.val) f) (count 1#32 _)
  unfold meanA
  simp only [pay15_apply, pay14_apply, rowsAt_apply hh H hH, Finset.sum_range_succ, Finset.sum_range_zero, zero_add, Nat.reduceAdd]

theorem isMeanB (i : grid0.Coords) : IsMean 1 i (meanB i) := fun hh H hH r f => by
  show _ = Ideal.div (∑ k ∈ Finset.range 4, H (14 + k + r.val) f) (count 2#32 _)
  unfold meanB
  simp only [pay16_apply, pay14_apply, rowsAt_apply hh H hH, Finset.sum_range_succ, Finset.sum_range_zero, zero_add, Nat.reduceAdd]

theorem isMeanC (i : grid0.Coords) : IsMean 2 i (meanC i) := fun hh H hH r f => by
  show _ = Ideal.div (∑ k ∈ Finset.range 8, H (12 + k + r.val) f) (count 4#32 _)
  unfold meanC
  simp only [pay1_apply, pay14_apply, rowsAt_apply hh H hH, Finset.sum_range_succ, Finset.sum_range_zero, zero_add, Nat.reduceAdd]

theorem isMeanD (i : grid0.Coords) : IsMean 3 i (meanD i) := fun hh H hH r f => by
  show _ = Ideal.div (∑ k ∈ Finset.range 16, H (8 + k + r.val) f) (count 8#32 _)
  unfold meanD
  simp only [pay2_apply, pay8_apply, pay14_apply, rowsAt_apply hh H hH, Finset.sum_range_succ, Finset.sum_range_zero, zero_add,
    Nat.reduceAdd]

/-- The extended tile, row by row, from its three parts. -/
theorem filled_apply (i : grid0.Coords) (x0 : Vec Ideal S16x2048 .f32) (x1 : Vec Ideal S512x2048 .f32) (x2 : Vec Ideal S16x2048 .f32)
    (g : Vec Ideal S1x2048 .f32) (E : ℕ → Fin 2048 → EReal)
    (hb : ∀ (q : Fin 16) (k : Fin 2048), (if 0 < (i 0).val % 32 then rms (fun k => x0 (ix2 q k)) (fun k => g (ix2 0 k)) k else 0) = E q.val k)
    (hm : ∀ (r : Fin 512) (k : Fin 2048), rms (fun k => x1 (ix2 r k)) (fun k => g (ix2 0 k)) k = E (16 + r.val) k)
    (ha : ∀ (q : Fin 16) (k : Fin 2048), (if (i 0).val % 32 < 31 then rms (fun k => x2 (ix2 q k)) (fun k => g (ix2 0 k)) k else 0) = E (528 + q.val) k)
    (q : Fin 544) (k : Fin 2048) : filled i x0 x1 x2 g (ix2 q k) = E q.val k := by
  refine extended_apply _ _ _ _ _ _ E (fun q k => ?_) (fun r k => ?_) (fun q k => ?_) q k
  · rw [pay9_apply, pay6_apply, ← hb]
    exact if_congr (tile_first (i 0)) rfl rfl
  · rw [pay10_apply, hm]
  · rw [pay11_apply, pay7_apply, ← ha]
    exact if_congr (tile_last (i 0)) rfl rfl

end Cert.PoolKernelIdeal.Pay

end
-- ==== Proof.Pool.Blocks.lean ====
/-
  What the pooling kernel's input blocks hold at a grid point, read from the arguments: point `t` is row tile
  `t / 4`, channel group `t % 4`. Beside its own rows a tile is given the 16 rows before it and the 16 rows after it.
-/
module

public import proofs.«01_k».proof.Proof.Pool.Spec
public import proofs.«01_k».proof.Proof.Gen.PoolKernelIdeal.Frame
public import Idealize.ShloMosaic.Lib.Pipeline.ValueKit.Point
public import Idealize.ShloMosaic.Lib.Pointwise

@[expose] public section

noncomputable section

namespace Cert.PoolKernelIdeal.Blocks

open Cert.PoolKernelIdeal Cert.PoolKernelIdeal.Gen Idealize.ShloMosaic Idealize.ShloMosaic.TcCoe Idealize.SL.Sem Cert.Spec

variable (m : (ℓ : Loc nD τ sig) → Buf (Elt Ideal) ℓ) (c : Dev nD)

theorem idx0 : ∀ t : Fin cfg0.N, win0_0.index t 0 = t.val / 4 * 32 - 1 ∧ win0_0.index t 1 = 0 :=
  (by decide +kernel : ∀ t : Fin grid0.N, win0_0.index t 0 = t.val / 4 * 32 - 1 ∧ win0_0.index t 1 = 0)
theorem idx1 : ∀ t : Fin cfg0.N, win0_1.index t 0 = t.val / 4 ∧ win0_1.index t 1 = 0 :=
  (by decide +kernel : ∀ t : Fin grid0.N, win0_1.index t 0 = t.val / 4 ∧ win0_1.index t 1 = 0)
theorem idx2 : ∀ t : Fin cfg0.N, win0_2.index t 0 = min ((t.val / 4 + 1) * 32) 2047 ∧ win0_2.index t 1 = 0 :=
  (by decide +kernel : ∀ t : Fin grid0.N, win0_2.index t 0 = min ((t.val / 4 + 1) * 32) 2047 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = t.val % 4 :=
  (by decide +kernel : ∀ t : Fin grid0.N, win0_5.index t 0 = 0 ∧ win0_5.index t 1 = t.val % 4)
theorem idx6 : ∀ t : Fin cfg0.N, win0_6.index t 0 = t.val % 4 ∧ win0_6.index t 1 = 0 ∧ win0_6.index t 2 = 0 :=
  (by decide +kernel : ∀ t : Fin grid0.N, win0_6.index t 0 = t.val % 4 ∧ win0_6.index t 1 = 0 ∧ win0_6.index t 2 = 0)
theorem idx7 : ∀ t : Fin cfg0.N, win0_7.index t 0 = 0 ∧ win0_7.index t 1 = t.val % 4 :=
  (by decide +kernel : ∀ t : Fin grid0.N, win0_7.index t 0 = 0 ∧ win0_7.index t 1 = t.val % 4)
theorem idx8 : ∀ t : Fin cfg0.N, win0_8.index t 0 = t.val % 4 ∧ win0_8.index t 1 = 0 :=
  (by decide +kernel : ∀ t : Fin grid0.N, win0_8.index t 0 = t.val % 4 ∧ win0_8.index t 1 = 0)
theorem idx9 : ∀ t : Fin cfg0.N, win0_9.index t 0 = t.val / 4 ∧ win0_9.index t 1 = 0 :=
  (by decide +kernel : ∀ t : Fin grid0.N, win0_9.index t 0 = t.val / 4 ∧ win0_9.index t 1 = 0)

/-- The row tile a point's grid coordinate names. -/
theorem coord0 : ∀ t : Fin cfg0.N, (grid0.coords t 0).val = t.val / 4 :=
  (by decide +kernel : ∀ t : Fin grid0.N, (grid0.coords t 0).val = t.val / 4)

theorem lt_N (t : Fin cfg0.N) : t.val < 256 := lt_of_lt_of_eq t.isLt N_0

/-- The flattened row that row `r` of point `t`'s row tile is. -/
def rowOf (t : Fin cfg0.N) (r : Fin 512) : Fin 32768 := ⟨512 * (t.val / 4) + r.val, by have := lt_N t; have := r.isLt; omega⟩

/-- The channel group point `t` is about, and the channel that place `f` of it is. -/
def grp (t : Fin cfg0.N) : Fin 4 := ⟨t.val % 4, Nat.mod_lt _ (by decide)⟩
abbrev chanOf (t : Fin cfg0.N) (f : Fin 512) : Fin 2048 := chan (grp t) f

/-- Row `R` of the flattened input. -/
def xrow (R : Fin 32768) (k : Fin 2048) : EReal :=
  (m ((c : Thread nD τ).loc main_arg0) : S2x16384x2048.Idx → EReal) (ix3 (seqOf R) (tokOf R) k)

theorem blk_before (t : Fin cfg0.N) (q : Fin 16) (k : Fin 2048) :
    iblk m c 0 t (ix2 q k) = xrow m c ⟨16 * (t.val / 4 * 32 - 1) + q.val, by have := lt_N t; have := q.isLt; omega⟩ k := by
  have h := lt_N t
  have hq := q.isLt
  unfold xrow seqOf tokOf
  blk_ext! [iblk, V, idx0 t]

theorem blk_x (t : Fin cfg0.N) (r : Fin 512) (k : Fin 2048) : iblk m c 1 t (ix2 r k) = xrow m c (rowOf t r) k := by
  have h := lt_N t
  unfold xrow rowOf seqOf tokOf
  blk_ext! [iblk, V, idx1 t]

theorem blk_after (t : Fin cfg0.N) (q : Fin 16) (k : Fin 2048) :
    iblk m c 2 t (ix2 q k) = xrow m c ⟨16 * min ((t.val / 4 + 1) * 32) 2047 + q.val, by have := lt_N t; have := q.isLt; omega⟩ k := by
  have h := lt_N t
  have hq := q.isLt
  unfold xrow seqOf tokOf
  blk_ext! [iblk, V, idx2 t]

theorem blk_pre (t : Fin cfg0.N) (k : Fin 2048) :
    iblk m c 3 t (ix2 0 k) = (m ((c : Thread nD τ).loc main_arg1) : S2048.Idx → EReal) (ix1 k) := by
  blk_ext! [iblk, V, idx3 t]

theorem blk_post (t : Fin cfg0.N) (k : Fin 2048) :
    iblk m c 4 t (ix2 0 k) = (m ((c : Thread nD τ).loc main_arg2) : S2048.Idx → EReal) (ix1 k) := by
  blk_ext! [iblk, V, idx4 t]

theorem blk_wi (t : Fin cfg0.N) (k : Fin 2048) (f : Fin 512) :
    iblk m c 5 t (ix2 k f) = (m ((c : Thread nD τ).loc main_arg3) : S2048x2048.Idx → EReal) (ix2 k (chanOf t f)) := by
  unfold chanOf chan grp
  blk_ext! [iblk, V, idx5 t]

theorem blk_wg (t : Fin cfg0.N) (d f : Fin 512) :
    iblk m c 6 t (ix3 0 d f) = (m ((c : Thread nD τ).loc main_arg4) : S4x512x512.Idx → EReal) (ix3 (grp t) d f) := by
  unfold grp
  blk_ext! [iblk, V, idx6 t]

theorem blk_sc (t : Fin cfg0.N) (f : Fin 512) :
    iblk m c 7 t (ix2 0 f) = (m ((c : Thread nD τ).loc main_arg5) : S2048.Idx → EReal) (ix1 (chanOf t f)) := by
  unfold chanOf chan grp
  blk_ext! [iblk, V, idx7 t]

theorem blk_wo (t : Fin cfg0.N) (f : Fin 512) (n : Fin 2048) :
    iblk m c 8 t (ix2 f n) = (m ((c : Thread nD τ).loc main_arg6) : S2048x2048.Idx → EReal) (ix2 (chanOf t f) n) := by
  unfold chanOf chan grp
  blk_ext! [iblk, V, idx8 t]

end Cert.PoolKernelIdeal.Blocks

end
-- ==== Proof.Pool.Array.lean ====
/-
  What the pooling kernel's result array holds: at row `R`, column `n`, the sublayer's row applied to the
  flattened input. The groups are summed point by point; after the last of a row tile the sum is the whole one.
-/
module

public import proofs.«01_k».proof.Proof.Pool.Payloads
public import proofs.«01_k».proof.Proof.Pool.Blocks

@[expose] public section

noncomputable section

namespace Cert.PoolKernelIdeal.Array

open Cert.PoolKernelIdeal Cert.PoolKernelIdeal.Gen Cert.PoolKernelIdeal.Blocks Cert.PoolKernelIdeal.Pay Cert.PoolKernelIdeal.Cases
open Idealize.ShloMosaic Idealize.ShloMosaic.TcCoe Idealize.SL.Sem Cert.Spec

variable (m : (ℓ : Loc nD τ sig) → Buf (Elt Ideal) ℓ) (c : Dev nD)

/-- The gains and weights, as the functions of the mathematics. -/
def pre (k : Fin 2048) : EReal := (m ((c : Thread nD τ).loc main_arg1) : S2048.Idx → EReal) (ix1 k)
def post (k : Fin 2048) : EReal := (m ((c : Thread nD τ).loc main_arg2) : S2048.Idx → EReal) (ix1 k)
def wi (k f : Fin 2048) : EReal := (m ((c : Thread nD τ).loc main_arg3) : S2048x2048.Idx → EReal) (ix2 k f)
def wg (g : Fin 4) (d f : Fin 512) : EReal := (m ((c : Thread nD τ).loc main_arg4) : S4x512x512.Idx → EReal) (ix3 g d f)
def sc (f : Fin 2048) : EReal := (m ((c : Thread nD τ).loc main_arg5) : S2048.Idx → EReal) (ix1 f)
def wo (f n : Fin 2048) : EReal := (m ((c : Thread nD τ).loc main_arg6) : S2048x2048.Idx → EReal) (ix2 f n)

/-- The normed rows. -/
def nrm (R : Fin 32768) : Fin 2048 → EReal := rms (xrow m c R) (pre m c)

/-- What channel `f` contributes to column `n` of row `R`. -/
def contrib (R : Fin 32768) (n f : Fin 2048) : EReal :=
  poolHidden (nrm m c) (wi m c) (wg m c) (sc m c) R f * wo m c f n

theorem tile_lt (t : Fin cfg0.N) : t.val / 4 < 64 := by have := lt_N t; omega

/-- What the first scratch is given: the extended row tile, normed. -/
theorem extended (t : Fin cfg0.N) (q : Fin 544) (k : Fin 2048) :
    filled (grid0.coords t) (iblk m c 0 t) (iblk m c 1 t) (iblk m c 2 t) (iblk m c 3 t) (ix2 q k)
      = extRow (nrm m c) (t.val / 4) (tile_lt t) q.val k := by
  have ht := lt_N t
  have ec := coord0 t
  have eg : (fun k => iblk m c 3 t (ix2 0 k)) = pre m c := funext fun k => blk_pre m c t k
  refine filled_apply _ _ _ _ _ _ (fun q k => ?_) (fun r k => ?_) (fun q k => ?_) q k
  · have hq := q.isLt
    rw [ec]
    unfold extRow
    by_cases h : 0 < t.val / 4 % 32
    · rw [if_pos h, dif_pos (by omega), eg, show (fun k => iblk m c 0 t (ix2 q k)) = _ from funext fun k => blk_before m c t q k]
      exact congrArg (fun R => nrm m c R k) (Fin.ext (by show 16 * (t.val / 4 * 32 - 1) + q.val = 512 * (t.val / 4) + q.val - 16; omega))
    · rw [if_neg h, dif_neg (by omega)]
  · have hr := r.isLt
    unfold extRow
    rw [dif_pos (by omega), eg, show (fun k => iblk m c 1 t (ix2 r k)) = _ from funext fun k => blk_x m c t r k]
    exact congrArg (fun R => nrm m c R k) (Fin.ext (by show 512 * (t.val / 4) + r.val = 512 * (t.val / 4) + (16 + r.val) - 16; omega))
  · have hq := q.isLt
    rw [ec]
    unfold extRow
    by_cases h : t.val / 4 % 32 < 31
    · rw [if_pos h, dif_pos (by omega), eg, show (fun k => iblk m c 2 t (ix2 q k)) = _ from funext fun k => blk_after m c t q k]
      exact congrArg (fun R => nrm m c R k) (Fin.ext (by show 16 * min ((t.val / 4 + 1) * 32) 2047 + q.val = 512 * (t.val / 4) + (528 + q.val) - 16; omega))
    · rw [if_neg h, dif_neg (by omega)]

/-- The row itself in its extended tile. -/
theorem ext_self (t : Fin cfg0.N) (r : Fin 512) : extRow (nrm m c) (t.val / 4) (tile_lt t) (16 + r.val) = nrm m c (rowOf t r) := by
  have ht := lt_N t
  have hr := r.isLt
  unfold extRow
  rw [dif_pos (by omega)]
  exact congrArg (nrm m c) (Fin.ext (by show 512 * (t.val / 4) + (16 + r.val) - 16 = 512 * (t.val / 4) + r.val; omega))

/-- One group added to an accumulator, the first scratch holding the extended tile and `mean` the group's window mean. -/
theorem added (t : Fin cfg0.N) (mean : Vec Ideal S544x512 .f32 → Vec Ideal S512x512 .f32) (hm : IsMean (grp t) (grid0.coords t) mean)
    (xe : Vec Ideal S544x2048 .bf16) (acc : Vec Ideal S512x2048 .f32) (r : Fin 512) (n : Fin 2048)
    (hx : ∀ (q : Fin 544) (k : Fin 2048), xe (ix2 q k) = extRow (nrm m c) (t.val / 4) (tile_lt t) q.val k) :
    step mean xe (iblk m c 5 t) (iblk m c 6 t) (iblk m c 7 t) (iblk m c 8 t) acc (ix2 r n)
      = acc (ix2 r n) + ∑ f : Fin 512, contrib m c (rowOf t r) n (chanOf t f) := by
  have ht := lt_N t
  have hr := r.isLt
  have hg := (grp t).isLt
  have hH : ∀ (q : Fin 544) (d : Fin 512), k0_pay13 xe (iblk m c 5 t) (ix2 q d)
      = dot (extRow (nrm m c) (t.val / 4) (tile_lt t) q.val) (wi m c) (chanOf t d) := fun q d => by
    rw [pay13_apply]
    unfold dot wi
    simp only [hx, blk_wi]
  have hp : 2 ^ (grp t).val ≤ 16 := by
    have : ∀ g : Fin 4, 2 ^ g.val ≤ 16 := by decide
    exact this _
  unfold step
  rw [pay3_apply]
  refine congrArg (acc (ix2 r n) + ·) (Finset.sum_congr rfl fun f _ => ?_)
  unfold contrib poolHidden
  rw [blk_wo, blk_sc, groupOf_chan, placeOf_chan]
  refine congrArg (fun s => s * _ * _) (Finset.sum_congr rfl fun d _ => ?_)
  refine congrArg₂ (· * ·) ?_ (blk_wg m c t d f)
  rw [hm _ (fun e d => dot (extRow (nrm m c) (t.val / 4) (tile_lt t) e) (wi m c) (chanOf t d)) hH,
    rowsAt_apply _ (fun e d => dot (extRow (nrm m c) (t.val / 4) (tile_lt t) e) (wi m c) (chanOf t d)) hH, ext_self, coord0]
  unfold pooled window
  refine congrArg₂ (fun a b => Ideal.div a b - _) (Finset.sum_congr rfl fun k _ => ?_) (congrArg (fun s => count _ (BitVec.ofNat 32 s)) ?_)
  · exact ext_tap (nrm m c) _ _ (fun v => dot v (wi m c) (chanOf t d)) (dot_zero _ _) _ k _ r.val r.isLt hp (by omega) (rowOf t r) rfl
  · show 512 * (t.val / 4 % 32) + r.val = (512 * (t.val / 4) + r.val) % 16384
    omega

/-- Points of one row tile are about the same rows. -/
theorem rowOf_pred (t t' : Fin cfg0.N) (h : t.val / 4 = t'.val / 4) (r : Fin 512) : rowOf t r = rowOf t' r :=
  Fin.ext (by show 512 * (t.val / 4) + r.val = 512 * (t'.val / 4) + r.val; rw [h])

theorem extRow_pred (N : Fin 32768 → Fin 2048 → EReal) (i i' : ℕ) (hi : i < 64) (hi' : i' < 64) (h : i = i') (e : ℕ) :
    extRow N i hi e = extRow N i' hi' e := by subst h; rfl

/-- The tiles before point `t`'s and that tile make the tiles up to it. -/
theorem tiles_step (t : Fin cfg0.N) (g : Fin 2048 → EReal) :
    tiles g (t.val % 4) + ∑ f : Fin 512, g (chanOf t f) = tiles g (t.val % 4 + 1) :=
  (tiles_succ g (t.val % 4) (by have := Nat.mod_lt t.val (show 0 < 4 by decide); omega)).symm

/-- After every point: the first scratch holds the extended tile, the accumulator the groups so far. -/
theorem scratches : ∀ (t : ℕ) (h : t < cfg0.N),
    (∀ (q : Fin 544) (k : Fin 2048), (outsAt0 m c t h).2.1 (ix2 q k) = extRow (nrm m c) (t / 4) (tile_lt ⟨t, h⟩) q.val k)
    ∧ (∀ (r : Fin 512) (n : Fin 2048), (outsAt0 m c t h).2.2 (ix2 r n) = tiles (contrib m c (rowOf ⟨t, h⟩ r) n) (t % 4 + 1)) := by
  intro t
  induction t using Nat.strong_induction_on with
  | _ t ih =>
    intro h
    have hN : t < 256 := lt_N ⟨t, h⟩
    by_cases h0 : t % 4 = 0
    · have eg : grp ⟨t, h⟩ = 0 := Fin.ext h0
      rw [outsAt0_A m c ⟨t, h⟩ h0 h0 (by dsimp only; omega) (by dsimp only; omega) (by dsimp only; omega) (by dsimp only; omega)]
      dsimp only
      rw [first_normed, first_acc]
      refine ⟨fun q k => extended m c ⟨t, h⟩ q k, fun r n => ?_⟩
      rw [added m c ⟨t, h⟩ _ (eg ▸ isMeanA _) _ _ r n (fun q k => extended m c ⟨t, h⟩ q k), pay12_apply]
      have e := tiles_step ⟨t, h⟩ (contrib m c (rowOf ⟨t, h⟩ r) n)
      dsimp only at e
      rw [h0, tiles_zero] at e
      rw [h0]
      exact e
    · obtain ⟨ihx, iha⟩ := ih (t - 1) (by omega) (by omega)
      have ihx' : ∀ (q : Fin 544) (k : Fin 2048), (outsAt0 m c (t - 1) (by omega)).2.1 (ix2 q k)
          = extRow (nrm m c) (t / 4) (tile_lt ⟨t, h⟩) q.val k := fun q k =>
        (ihx q k).trans (congrFun (extRow_pred _ _ _ _ _ (by omega) _) k)
      have iha' : ∀ (r : Fin 512) (n : Fin 2048), (outsAt0 m c (t - 1) (by omega)).2.2 (ix2 r n)
          = tiles (contrib m c (rowOf ⟨t, h⟩ r) n) (t % 4) := fun r n => by
        rw [iha r n, rowOf_pred ⟨t - 1, by omega⟩ ⟨t, h⟩ (by dsimp only; omega) r, show (t - 1) % 4 + 1 = t % 4 by omega]
      by_cases h1 : t % 4 = 1
      · have eg : grp ⟨t, h⟩ = 1 := Fin.ext h1
        rw [outsAt0_B m c ⟨t, h⟩ h0 h0 h1 (by dsimp only; omega) (by dsimp only; omega) (by dsimp only; omega)]
        dsimp only
        rw [second_normed, second_acc]
        refine ⟨ihx', fun r n => ?_⟩
        rw [added m c ⟨t, h⟩ _ (eg ▸ isMeanB _) _ _ r n ihx', iha' r n]
        exact tiles_step ⟨t, h⟩ _
      by_cases h2 : t % 4 = 2
      · have eg : grp ⟨t, h⟩ = 2 := Fin.ext h2
        rw [outsAt0_C m c ⟨t, h⟩ h0 h0 h1 h2 (by dsimp only; omega) (by dsimp only; omega)]
        dsimp only
        rw [third_normed, third_acc]
        refine ⟨ihx', fun r n => ?_⟩
        rw [added m c ⟨t, h⟩ _ (eg ▸ isMeanC _) _ _ r n ihx', iha' r n]
        exact tiles_step ⟨t, h⟩ _
      · have h3 : t % 4 = 3 := by omega
        have eg : grp ⟨t, h⟩ = 3 := Fin.ext h3
        rw [outsAt0_D m c ⟨t, h⟩ h0 h0 h1 h2 h3 h3]
        dsimp only
        rw [last_normed, last_acc]
        refine ⟨ihx', fun r n => ?_⟩
        rw [added m c ⟨t, h⟩ _ (eg ▸ isMeanD _) _ _ r n ihx', iha' r n]
        exact tiles_step ⟨t, h⟩ _

/-- The sublayer's row of flattened row `R`. -/
def result (R : Fin 32768) : Fin 2048 → EReal :=
  poolRow (xrow m c) (pre m c) (post m c) (wi m c) (wg m c) (sc m c) (wo m c) R

/-- What the last point of a row tile writes back. -/
theorem written (t : Fin cfg0.N) (ht : t.val % 4 = 3) (r : Fin 512) (n : Fin 2048) :
    (outsAt0 m c t.val t.isLt).1 (ix2 r n) = result m c (rowOf t r) n := by
  have h0 : ¬t.val % 4 = 0 := by omega
  have hN := lt_N t
  have hp : t.val - 1 < cfg0.N := lt_of_le_of_lt (Nat.sub_le _ _) t.isLt
  obtain ⟨ihx, iha⟩ := scratches m c (t.val - 1) hp
  have ihx' : ∀ (q : Fin 544) (k : Fin 2048), (outsAt0 m c (t.val - 1) hp).2.1 (ix2 q k)
      = extRow (nrm m c) (t.val / 4) (tile_lt t) q.val k := fun q k =>
    (ihx q k).trans (congrFun (extRow_pred _ _ _ _ _ (by omega) _) k)
  rw [outsAt0_D m c t h0 h0 (by omega) (by omega) ht ht]
  dsimp only
  rw [last_out, pay4_apply]
  have eg : grp t = 3 := Fin.ext ht
  have eo : (fun k => step (meanD (grid0.coords t)) (outsAt0 m c (t.val - 1) hp).2.1 (iblk m c 5 t) (iblk m c 6 t) (iblk m c 7 t) (iblk m c 8 t)
      (outsAt0 m c (t.val - 1) hp).2.2 (ix2 r k))
      = poolMix (nrm m c) (wi m c) (wg m c) (sc m c) (wo m c) (rowOf t r) := by
    funext k
    rw [added m c t _ (eg ▸ isMeanD _) _ _ r k ihx', iha r k, rowOf_pred ⟨t.val - 1, hp⟩ t (by dsimp only; omega) r,
      show (t.val - 1) % 4 + 1 = t.val % 4 by omega, tiles_step t, ht]
    exact tiles_all _ 4 rfl
  rw [eo]
  exact congrArg₂ (fun x g => residual x _ g n) (funext fun k => blk_x m c t r k) (funext fun k => blk_post m c t k)

/-! ## The array, and the run -/

/-- THE ARRAY the kernel leaves. -/
def final : S32768x2048.Idx → EReal := fun i => result m c (i 0) (i 1)

/-- What a row tile's last point writes back is its block of the array. -/
theorem flushed (t : Fin cfg0.N) (hf : (cfg0.win 9).flush t = true) :
    (dats m 0 c).flushed 9 t = ((cfg0.win 9).blk t).view.read (Elt Ideal) (final m c) := by
  have ht : t.val % 4 = 3 := (flush0_9 t).mp hf
  show (cfg0.win 9).cut (grid0.coords t) ((dats m 0 c).after 9 t) = _
  rw [after0_9]
  obtain ⟨e0, e1⟩ := idx9 t
  funext y
  have hb0 : (((cfg0.win 9).blk t).view.emb y 0).val = win0_9.index t (0 : Fin 2) * 512 + 1 * (y 0).val := rfl
  have hb1 : (((cfg0.win 9).blk t).view.emb y 1).val = win0_9.index t (1 : Fin 2) * 2048 + 1 * (y 1).val := rfl
  have hy : (cfg0.win 9).xinj (grid0.coords t) y = ix2 (⟨(y 0).val, (y 0).isLt⟩ : Fin 512) (⟨(y 1).val, (y 1).isLt⟩ : Fin 2048) := by
    funext a
    match a with
    | ⟨0, _⟩ => rfl
    | ⟨1, _⟩ => rfl
  refine (congrArg (outsAt0 m c t.val t.isLt).1 hy).trans ((written m c t ht _ _).trans ?_)
  show _ = final m c (((cfg0.win 9).blk t).view.emb y)
  unfold final
  refine congr (congrArg (result m c) (Fin.ext ?_)) (Fin.ext ?_)
  · show 512 * (t.val / 4) + (y 0).val = _
    rw [hb0, e0]
    omega
  · show (y 1).val = _
    rw [hb1, e1]
    omega

/-- An index is in point `t`'s block when each coordinate is in the block's range on its axis. -/
theorem mem_block (t : Fin cfg0.N) (i : S32768x2048.Idx) : i ∈ ((cfg0.win 9).blk t).view.set ↔
    ∀ a : Fin 2, win0_9.index t a * S512x2048.size a ≤ (i a).val ∧ (i a).val < win0_9.index t a * S512x2048.size a + S512x2048.size a := by
  show i ∈ ((View.whole main_v7).slice (win0_9.rect t)).set ↔ _
  rw [View.set_slice_whole, Rect.mem_set_unit]
  exact Iff.rfl

/-- Every index lies in the block some row tile's last point writes back. -/
theorem covered (i : S32768x2048.Idx) : ∃ t : Fin cfg0.N, (cfg0.win 9).flush t = true ∧ i ∈ ((cfg0.win 9).blk t).view.set := by
  have h0 : (i 0).val < 32768 := (i 0).isLt
  have h1 : (i 1).val < 2048 := (i 1).isLt
  have hlt : 4 * ((i 0).val / 512) + 3 < cfg0.N := lt_of_lt_of_eq (by omega) N_0.symm
  obtain ⟨e0, e1⟩ := idx9 ⟨4 * ((i 0).val / 512) + 3, hlt⟩
  refine ⟨⟨4 * ((i 0).val / 512) + 3, hlt⟩, (flush0_9 _).mpr (by dsimp only; omega), ?_⟩
  rw [mem_block]
  intro a
  match a with
  | ⟨0, _⟩ =>
    show win0_9.index _ (0 : Fin 2) * 512 ≤ (i 0).val ∧ (i 0).val < win0_9.index _ (0 : Fin 2) * 512 + 512
    rw [e0]
    dsimp only
    omega
  | ⟨1, _⟩ =>
    show win0_9.index _ (1 : Fin 2) * 2048 ≤ (i 1).val ∧ (i 1).val < win0_9.index _ (1 : Fin 2) * 2048 + 2048
    rw [e1]
    omega

/-- The array after the run. -/
theorem array : (dats m 0 c).arrAt 9 cfg0.N = final m c :=
  (dats m 0 c).arrAt_eq_of_cover 9 _ (fun t hf => flushed m c t hf) (covered)

/-- An argument no window stages is left as it was. -/
theorem kept (r : PUnit × MemSt nD τ sig (Elt Ideal)) (h : Pipeline.FramePost cfgs (dats m) 0 (V m) r) (b : Ref sig .tc)
    (hs : b.isScoped = false) (ha : ∀ w, (spec0 w).arr.view.ref ≠ b) (hV : V m c b = m ((c : Thread nD τ).loc b)) :
    r.2.mem ((c : Thread nD τ).loc b) = m ((c : Thread nD τ).loc b) :=
  ((h c).2 b (Pipeline.mem_restRefs_of b hs ha)).trans hV

/-- The run: the result array, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v7) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans (array m c),
      kept m c r h main_arg0 (by decide) (by decide) (V_main_arg0 m c),
      kept m c r h main_arg1 (by decide) (by decide) (V_main_arg1 m c),
      kept m c r h main_arg2 (by decide) (by decide) (V_main_arg2 m c),
      kept m c r h main_arg3 (by decide) (by decide) (V_main_arg3 m c),
      kept m c r h main_arg4 (by decide) (by decide) (V_main_arg4 m c),
      kept m c r h main_arg5 (by decide) (by decide) (V_main_arg5 m c),
      kept m c r h main_arg6 (by decide) (by decide) (V_main_arg6 m c)⟩)
    (run_main m ρ)

end Cert.PoolKernelIdeal.Array

end
-- ==== Proof.Pool.Reference.lean ====
/-
  What the pooling reference computes, read at an index: the sublayer's row applied to the token's row and its
  neighbours'.
-/
module

public import proofs.«01_k».proof.Proof.Pool.Spec
public import proofs.«01_k».proof.Proof.Common.Index
public import proofs.«01_k».proof.Proof.Gen.PoolReferenceIdeal.Read
public import Idealize.ShloMosaic.Lib.Pointwise

@[expose] public section

noncomputable section

namespace Cert.PoolReferenceIdeal.Rows

open Cert.PoolReferenceIdeal Cert.PoolReferenceIdeal.Gen Cert.PoolReferenceIdeal.Read
open Idealize.ShloMosaic Idealize.ShloMosaic.TcCoe Idealize.SL.Sem Cert.Spec

variable (x : S2x16384x2048.Idx → EReal) (g h : S2048.Idx → EReal) (w : S2048x2048.Idx → EReal) (wg : S4x512x512.Idx → EReal)
  (sc : S2048.Idx → EReal) (wo : S2048x2048.Idx → EReal)

/-- The rows of the flattened input, and the gains and weights, as the functions of the mathematics. -/
abbrev rows (R : Fin 32768) : Fin 2048 → EReal := fun k => x (ix3 (seqOf R) (tokOf R) k)
abbrev gain (g : S2048.Idx → EReal) : Fin 2048 → EReal := fun k => g (ix1 k)
abbrev mat (w : S2048x2048.Idx → EReal) (k f : Fin 2048) : EReal := w (ix2 k f)
abbrev grpMat (u : Fin 4) (d f : Fin 512) : EReal := wg (ix3 u d f)

/-- The normed rows. -/
abbrev nrm (R : Fin 32768) : Fin 2048 → EReal := rms (rows x R) (gain g)

theorem rows_flat (b : Fin 2) (s : Fin 16384) : rows x (flat b s) = fun k => x (ix3 b s k) := by
  unfold rows
  rw [seqOf_flat, tokOf_flat]

theorem normed (b : Fin 2) (s : Fin 16384) (k : Fin 2048) :
    val_main_v12 (F := Ideal) x g (ix3 b s k) = nrm x g (flat b s) k := by
  have e1 : ∀ l, idx_main_v1 (idx_main_v2 (idx_main_v8 (ix3 b s k))) l = ix3 b s l := fun l => ext3 rfl rfl rfl
  have e2 : idx_main_v10 (idx_main_v11 (ix3 b s k)) = ix1 k := ext1 rfl
  unfold nrm
  rw [rows_flat]
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, e1, e2]
  pointwise
  rfl

/-- The input projection, at the channel that place `d` of group `u` is. -/
abbrev proj (u : Fin 4) (d : Fin 512) (R : Fin 32768) : EReal := dot (nrm x g R) (mat w) (chan u d)

theorem projected (b : Fin 2) (s : Fin 16384) (u : Fin 4) (d : Fin 512) :
    val_main_v14 (F := Ideal) x g w (ix4 b s u d) = proj x g w u d (flat b s) := by
  have hb := b.isLt
  have hs := s.isLt
  have hu := u.isLt
  have hd := d.isLt
  have e : idx_main_v14 (ix4 b s u d) = ix3 b s (chan u d) :=
    ext3 (Fin.ext (by show (((b.val * 16384 + s.val) * 4 + u.val) * 512 + d.val) / 33554432 = b.val; omega))
      (Fin.ext (by show (((b.val * 16384 + s.val) * 4 + u.val) * 512 + d.val) / 2048 % 16384 = s.val; omega))
      (Fin.ext (by show (((b.val * 16384 + s.val) * 4 + u.val) * 512 + d.val) % 2048 = 512 * u.val + d.val; omega))
  have e1 : ∀ k, lidx_main_v13 (ix3 b s (chan u d)) k = ix3 b s k := fun k => ext3 rfl rfl rfl
  have e2 : ∀ k, ridx_main_v13 (ix3 b s (chan u d)) k = ix2 k (chan u d) := fun k => ext2 rfl rfl
  simp only [val_main_v14_apply, e, val_main_v13_apply, e1, e2, normed]
  rfl

/-! ## The four groups' windows -/

/-- A group's slice drops the group's axis. -/
theorem dropped (b : Fin 2) (s : Fin 16384) (d : Fin 512) : idx_main_v17 (ix3 b s d) = ix4 b s 0 d := by
  have hb := b.isLt
  have hs := s.isLt
  have hd := d.isLt
  exact ext4 (Fin.ext (by show ((b.val * 16384 + s.val) * 512 + d.val) / 8388608 = b.val; omega))
    (Fin.ext (by show ((b.val * 16384 + s.val) * 512 + d.val) / 512 % 16384 = s.val; omega)) rfl
    (Fin.ext (by show ((b.val * 16384 + s.val) * 512 + d.val) % 512 = d.val; omega))

/-- The zero the sequence is padded with. -/
theorem pad_zero : FloatOps.sitofp (F := Ideal) .f32 (0#32) = (0 : EReal) := by
  show (((0#32 : BitVec 32).toInt : ℝ) : EReal) = 0
  simp

/-- A padded projection read at an index `k` places after a token. -/
theorem read_tap {M h : ℕ} {X : (⟨3, ![2, M, 512]⟩ : Shape).Idx → EReal} {P : Fin 32768 → EReal} {b : Fin 2} {s : Fin 16384} {d : Fin 512}
    (hX : ∀ (k : ℕ) (hk : s.val + k < M), X (ix3 b ⟨s.val + k, hk⟩ d) = tap h P (flat b s) k)
    (j : (⟨3, ![2, M, 512]⟩ : Shape).Idx) (k : ℕ) (h0 : j 0 = b) (h1 : (j 1).val = k + s.val) (h2 : j 2 = d) :
    X j = tap h P (flat b s) k := by
  have hk : s.val + k < M := by have : (j 1).val < M := (j 1).isLt; omega
  rw [← hX k hk]
  exact congrArg X (ext3 h0 (Fin.ext (by show (j 1).val = s.val + k; omega)) h2)

/-- Group 0: the padded projection, and the mean over its window. -/
theorem tapped0 (b : Fin 2) (s : Fin 16384) (d : Fin 512) (k : ℕ) (hk : s.val + k < 16386) :
    val_main_v18 (F := Ideal) x g w (ix3 b ⟨s.val + k, hk⟩ d) = tap 1 (proj x g w 0 d) (flat b s) k := by
  unfold val_main_v18
  refine (pad_tap (h := 1) (val_main_v17 (F := Ideal) x g w) (val_main_call0_v0 (F := Ideal)) _ _ ?_ b s k hk d).trans ?_
  · rw [val_main_call0_v0_apply, val_main_c_apply]
    exact pad_zero
  · refine congrArg (fun P => tap 1 P (flat b s) k) (funext fun R => ?_)
    have e : idx_main_v16 (idx_main_v17 (ix3 (seqOf R) (tokOf R) d)) = ix4 (seqOf R) (tokOf R) 0 d :=
      (congrArg idx_main_v16 (dropped _ _ _)).trans (ext4 rfl rfl rfl rfl)
    rw [val_main_v17_apply, val_main_v16_apply, e, projected, flat_of]

theorem mean0 (b : Fin 2) (s : Fin 16384) (d : Fin 512) :
    val_main_v36 (F := Ideal) x g w (ix3 b s d)
      = Ideal.div (window 1 (proj x g w 0 d) (flat b s)) (count 1#32 (BitVec.ofNat 32 s.val)) := by
  have rd := read_tap (tapped0 x g w b s d)
  have e : idx_main_v34 (idx_main_v35 (ix3 b s d)) = ix1 s := ext1 rfl
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_c_3_apply, val_main_c_4_apply, val_main_c_5_apply, val_main_c_6_apply, val_main_cst_2_apply, val_main_v15_apply,
    e]
  rw [rd (idx_main_v19 (ix3 b s d)) 0 rfl (Nat.zero_add _).symm rfl, rd (idx_main_v22 (ix3 b s d)) 1 rfl rfl rfl]
  unfold window Spec.count
  simp only [Finset.sum_range_succ, Finset.sum_range_zero]
  pointwise
  rfl

/-- Group 1: the padded projection, and the mean over its window. -/
theorem tapped1 (b : Fin 2) (s : Fin 16384) (d : Fin 512) (k : ℕ) (hk : s.val + k < 16388) :
    val_main_v39 (F := Ideal) x g w (ix3 b ⟨s.val + k, hk⟩ d) = tap 2 (proj x g w 1 d) (flat b s) k := by
  unfold val_main_v39
  refine (pad_tap (h := 2) (val_main_v38 (F := Ideal) x g w) (val_main_call1_v0 (F := Ideal)) _ _ ?_ b s k hk d).trans ?_
  · rw [val_main_call1_v0_apply, val_main_c_7_apply]
    exact pad_zero
  · refine congrArg (fun P => tap 2 P (flat b s) k) (funext fun R => ?_)
    have e : idx_main_v37 (idx_main_v38 (ix3 (seqOf R) (tokOf R) d)) = ix4 (seqOf R) (tokOf R) 1 d :=
      (congrArg idx_main_v37 (dropped _ _ _)).trans (ext4 rfl rfl rfl rfl)
    rw [val_main_v38_apply, val_main_v37_apply, e, projected, flat_of]

theorem mean1 (b : Fin 2) (s : Fin 16384) (d : Fin 512) :
    val_main_v61 (F := Ideal) x g w (ix3 b s d)
      = Ideal.div (window 2 (proj x g w 1 d) (flat b s)) (count 2#32 (BitVec.ofNat 32 s.val)) := by
  have rd := read_tap (tapped1 x g w b s d)
  have e : idx_main_v59 (idx_main_v60 (ix3 b s d)) = ix1 s := ext1 rfl
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_c_9_apply, val_main_c_10_apply,
    val_main_c_11_apply, val_main_c_12_apply, val_main_cst_8_apply, val_main_v15_apply, e]
  rw [rd (idx_main_v40 (ix3 b s d)) 0 rfl (Nat.zero_add _).symm rfl, rd (idx_main_v43 (ix3 b s d)) 1 rfl rfl rfl,
    rd (idx_main_v45 (ix3 b s d)) 2 rfl rfl rfl, rd (idx_main_v47 (ix3 b s d)) 3 rfl rfl rfl]
  unfold window Spec.count
  simp only [Finset.sum_range_succ, Finset.sum_range_zero]
  pointwise
  rfl

/-- Group 2: the padded projection, and the mean over its window. -/
theorem tapped2 (b : Fin 2) (s : Fin 16384) (d : Fin 512) (k : ℕ) (hk : s.val + k < 16392) :
    val_main_v64 (F := Ideal) x g w (ix3 b ⟨s.val + k, hk⟩ d) = tap 4 (proj x g w 2 d) (flat b s) k := by
  unfold val_main_v64
  refine (pad_tap (h := 4) (val_main_v63 (F := Ideal) x g w) (val_main_call2_v0 (F := Ideal)) _ _ ?_ b s k hk d).trans ?_
  · rw [val_main_call2_v0_apply, val_main_c_13_apply]
    exact pad_zero
  · refine congrArg (fun P => tap 4 P (flat b s) k) (funext fun R => ?_)
    have e : idx_main_v62 (idx_main_v63 (ix3 (seqOf R) (tokOf R) d)) = ix4 (seqOf R) (tokOf R) 2 d :=
      (congrArg idx_main_v62 (dropped _ _ _)).trans (ext4 rfl rfl rfl rfl)
    rw [val_main_v63_apply, val_main_v62_apply, e, projected, flat_of]

theorem mean2 (b : Fin 2) (s : Fin 16384) (d : Fin 512) :
    val_main_v94 (F := Ideal) x g w (ix3 b s d)
      = Ideal.div (window 4 (proj x g w 2 d) (flat b s)) (count 4#32 (BitVec.ofNat 32 s.val)) := by
  have rd := read_tap (tapped2 x g w b s d)
  have e : idx_main_v92 (idx_main_v93 (ix3 b s d)) = ix1 s := ext1 rfl
  simp only [val_main_v94_apply, val_main_v93_apply, val_main_v92_apply, val_main_v91_apply, val_main_v90_apply, val_main_v89_apply,
    val_main_v88_apply, val_main_v87_apply, val_main_v86_apply, val_main_v85_apply, val_main_v84_apply, val_main_v83_apply,
    val_main_v82_apply, val_main_v81_apply, val_main_v80_apply, val_main_v79_apply, val_main_v78_apply, val_main_v77_apply,
    val_main_v76_apply, val_main_v75_apply, val_main_v74_apply, val_main_v73_apply, val_main_v72_apply, val_main_v71_apply,
    val_main_v70_apply, val_main_v69_apply, val_main_v68_apply, val_main_v67_apply, val_main_v66_apply, val_main_v65_apply,
    val_main_c_15_apply, val_main_c_16_apply, val_main_c_17_apply, val_main_c_18_apply, val_main_cst_14_apply,
    val_main_v15_apply, e]
  rw [rd (idx_main_v65 (ix3 b s d)) 0 rfl (Nat.zero_add _).symm rfl, rd (idx_main_v68 (ix3 b s d)) 1 rfl rfl rfl,
    rd (idx_main_v70 (ix3 b s d)) 2 rfl rfl rfl, rd (idx_main_v72 (ix3 b s d)) 3 rfl rfl rfl,
    rd (idx_main_v74 (ix3 b s d)) 4 rfl rfl rfl, rd (idx_main_v76 (ix3 b s d)) 5 rfl rfl rfl,
    rd (idx_main_v78 (ix3 b s d)) 6 rfl rfl rfl, rd (idx_main_v80 (ix3 b s d)) 7 rfl rfl rfl]
  unfold window Spec.count
  simp only [Finset.sum_range_succ, Finset.sum_range_zero]
  pointwise
  rfl

/-- Group 3: the padded projection, and the mean over its window. -/
theorem tapped3 (b : Fin 2) (s : Fin 16384) (d : Fin 512) (k : ℕ) (hk : s.val + k < 16400) :
    val_main_v97 (F := Ideal) x g w (ix3 b ⟨s.val + k, hk⟩ d) = tap 8 (proj x g w 3 d) (flat b s) k := by
  unfold val_main_v97
  refine (pad_tap (h := 8) (val_main_v96 (F := Ideal) x g w) (val_main_call3_v0 (F := Ideal)) _ _ ?_ b s k hk d).trans ?_
  · rw [val_main_call3_v0_apply, val_main_c_19_apply]
    exact pad_zero
  · refine congrArg (fun P => tap 8 P (flat b s) k) (funext fun R => ?_)
    have e : idx_main_v95 (idx_main_v96 (ix3 (seqOf R) (tokOf R) d)) = ix4 (seqOf R) (tokOf R) 3 d :=
      (congrArg idx_main_v95 (dropped _ _ _)).trans (ext4 rfl rfl rfl rfl)
    rw [val_main_v96_apply, val_main_v95_apply, e, projected, flat_of]

theorem mean3 (b : Fin 2) (s : Fin 16384) (d : Fin 512) :
    val_main_v143 (F := Ideal) x g w (ix3 b s d)
      = Ideal.div (window 8 (proj x g w 3 d) (flat b s)) (count 8#32 (BitVec.ofNat 32 s.val)) := by
  have rd := read_tap (tapped3 x g w b s d)
  have e : idx_main_v141 (idx_main_v142 (ix3 b s d)) = ix1 s := ext1 rfl
  simp only [val_main_v143_apply, val_main_v142_apply, val_main_v141_apply, val_main_v140_apply, val_main_v139_apply,
    val_main_v138_apply, val_main_v137_apply, val_main_v136_apply, val_main_v135_apply, val_main_v134_apply,
    val_main_v133_apply, val_main_v132_apply, val_main_v131_apply, val_main_v130_apply, val_main_v129_apply,
    val_main_v128_apply, val_main_v127_apply, val_main_v126_apply, val_main_v125_apply, val_main_v124_apply,
    val_main_v123_apply, val_main_v122_apply, val_main_v121_apply, val_main_v120_apply, val_main_v119_apply,
    val_main_v118_apply, val_main_v117_apply, val_main_v116_apply, val_main_v115_apply, val_main_v114_apply,
    val_main_v113_apply, val_main_v112_apply, val_main_v111_apply, val_main_v110_apply, val_main_v109_apply,
    val_main_v108_apply, val_main_v107_apply, val_main_v106_apply, val_main_v105_apply, val_main_v104_apply,
    val_main_v103_apply, val_main_v102_apply, val_main_v101_apply, val_main_v100_apply, val_main_v99_apply, val_main_v98_apply,
    val_main_c_21_apply, val_main_c_22_apply, val_main_c_23_apply, val_main_c_24_apply, val_main_cst_20_apply,
    val_main_v15_apply, e]
  rw [rd (idx_main_v98 (ix3 b s d)) 0 rfl (Nat.zero_add _).symm rfl, rd (idx_main_v101 (ix3 b s d)) 1 rfl rfl rfl,
    rd (idx_main_v103 (ix3 b s d)) 2 rfl rfl rfl, rd (idx_main_v105 (ix3 b s d)) 3 rfl rfl rfl,
    rd (idx_main_v107 (ix3 b s d)) 4 rfl rfl rfl, rd (idx_main_v109 (ix3 b s d)) 5 rfl rfl rfl,
    rd (idx_main_v111 (ix3 b s d)) 6 rfl rfl rfl, rd (idx_main_v113 (ix3 b s d)) 7 rfl rfl rfl,
    rd (idx_main_v115 (ix3 b s d)) 8 rfl rfl rfl, rd (idx_main_v117 (ix3 b s d)) 9 rfl rfl rfl,
    rd (idx_main_v119 (ix3 b s d)) 10 rfl rfl rfl, rd (idx_main_v121 (ix3 b s d)) 11 rfl rfl rfl,
    rd (idx_main_v123 (ix3 b s d)) 12 rfl rfl rfl, rd (idx_main_v125 (ix3 b s d)) 13 rfl rfl rfl,
    rd (idx_main_v127 (ix3 b s d)) 14 rfl rfl rfl, rd (idx_main_v129 (ix3 b s d)) 15 rfl rfl rfl]
  unfold window Spec.count
  simp only [Finset.sum_range_succ, Finset.sum_range_zero]
  pointwise
  rfl

/-- The four groups together, less the projection. -/
theorem mean_pooled (b : Fin 2) (s : Fin 16384) (u : Fin 4) (d : Fin 512) :
    val_main_v149 (F := Ideal) x g w (ix4 b s u d) = pooled (nrm x g) (mat w) u (chan u d) (flat b s) := by
  have es : (flat b s).val % 16384 = s.val := congrArg Fin.val (tokOf_flat b s)
  rw [val_main_v149_apply, projected]
  refine congrArg (· - _) ?_
  rw [es]
  refine (concatenate_ofFn_unit_apply (s₁ := S2x16384x1x512) 2 ![val_main_v144 (F := Ideal) x g w, val_main_v145 (F := Ideal) x g w,
    val_main_v146 (F := Ideal) x g w, val_main_v147 (F := Ideal) x g w] concatenates_S2x16384x1x512_S2x16384x1x512_S2x16384x1x512_S2x16384x1x512_S2x16384x4x512_d2
    rfl rfl (ix4 b s u d) u rfl (ix4 b s 0 d) (fun a ha => ?_)).trans ?_
  · match a with
    | ⟨0, _⟩ => rfl
    | ⟨1, _⟩ => rfl
    | ⟨2, _⟩ => exact absurd rfl ha
    | ⟨3, _⟩ => rfl
  · have e : idx_main_v144 (ix4 b s 0 d) = ix3 b s d := ext3 rfl rfl rfl
    match u with
    | ⟨0, _⟩ => exact (val_main_v144_apply _ _ _ _).trans ((congrArg (val_main_v36 (F := Ideal) x g w) e).trans (mean0 x g w b s d))
    | ⟨1, _⟩ => exact (val_main_v145_apply _ _ _ _).trans ((congrArg (val_main_v61 (F := Ideal) x g w) e).trans (mean1 x g w b s d))
    | ⟨2, _⟩ => exact (val_main_v146_apply _ _ _ _).trans ((congrArg (val_main_v94 (F := Ideal) x g w) e).trans (mean2 x g w b s d))
    | ⟨3, _⟩ => exact (val_main_v147_apply _ _ _ _).trans ((congrArg (val_main_v143 (F := Ideal) x g w) e).trans (mean3 x g w b s d))

/-- The mixer's hidden unit. -/
theorem hidden (b : Fin 2) (s : Fin 16384) (f : Fin 2048) :
    val_main_v155 (F := Ideal) x g w wg sc (ix3 b s f) = poolHidden (nrm x g) (mat w) (grpMat wg) (gain sc) (flat b s) f := by
  have hb := b.isLt
  have hs := s.isLt
  have hf := f.isLt
  have e : idx_main_v152 (ix3 b s f) = ix4 b s (groupOf f) (placeOf f) :=
    ext4 (Fin.ext (by show ((b.val * 16384 + s.val) * 2048 + f.val) / 33554432 = b.val; omega))
      (Fin.ext (by show ((b.val * 16384 + s.val) * 2048 + f.val) / 2048 % 16384 = s.val; omega))
      (Fin.ext (by show ((b.val * 16384 + s.val) * 2048 + f.val) / 512 % 4 = f.val / 512; omega))
      (Fin.ext (by show ((b.val * 16384 + s.val) * 2048 + f.val) % 512 = f.val % 512; omega))
  have e1 : ∀ k, lidx_main_v150 (idx_main_v151 (ix4 b s (groupOf f) (placeOf f))) k = ix3 (groupOf f) k (placeOf f) :=
    fun k => ext3 rfl rfl rfl
  have e2 : ∀ k, ridx_main_v150 (idx_main_v151 (ix4 b s (groupOf f) (placeOf f))) k = ix4 b s (groupOf f) k :=
    fun k => ext4 rfl rfl rfl rfl
  have e3 : idx_main_v153 (idx_main_v154 (ix3 b s f)) = ix1 f := ext1 rfl
  simp only [val_main_v155_apply, val_main_v154_apply, val_main_v153_apply, val_main_v152_apply, val_main_v151_apply,
    val_main_v150_apply, e, e1, e2, e3, mean_pooled]
  unfold poolHidden
  exact congrArg (· * sc (ix1 f)) (Finset.sum_congr rfl fun d _ => mul_comm _ _)

/-- The mixer's output row. -/
theorem mixed (b : Fin 2) (s : Fin 16384) (n : Fin 2048) :
    val_main_v156 (F := Ideal) x g w wg sc wo (ix3 b s n)
      = poolMix (nrm x g) (mat w) (grpMat wg) (gain sc) (mat wo) (flat b s) n := by
  have e1 : ∀ f, lidx_main_v156 (ix3 b s n) f = ix3 b s f := fun k => ext3 rfl rfl rfl
  have e2 : ∀ f, ridx_main_v156 (ix3 b s n) f = ix2 f n := fun k => ext2 rfl rfl
  simp only [val_main_v156_apply, e1, e2, hidden]
  rfl

/-- The sublayer's row. -/
theorem closed (b : Fin 2) (s : Fin 16384) (n : Fin 2048) :
    val_main_v170 (F := Ideal) x g h w wg sc wo (ix3 b s n)
      = poolRow (rows x) (gain g) (gain h) (mat w) (grpMat wg) (gain sc) (mat wo)
          (flat b s) n := by
  have e1 : ∀ l, idx_main_v158 (idx_main_v159 (idx_main_v165 (ix3 b s n))) l = ix3 b s l := fun l => ext3 rfl rfl rfl
  have e2 : idx_main_v167 (idx_main_v168 (ix3 b s n)) = ix1 n := ext1 rfl
  unfold poolRow
  rw [rows_flat]
  simp only [val_main_v170_apply, val_main_v169_apply, val_main_v168_apply, val_main_v167_apply, val_main_v166_apply, val_main_v165_apply,
    val_main_v164_apply, val_main_v163_apply, val_main_v162_apply, val_main_cst_27_apply, val_main_v161_apply, val_main_v160_apply,
    val_main_cst_26_apply, val_main_v159_apply, val_main_v158_apply, val_main_cst_25_apply, val_main_v157_apply, e1, e2, mixed]
  pointwise
  rfl

/-- The returned array. -/
theorem returned (R : Fin 32768) (n : Fin 2048) :
    val_main_v171 (F := Ideal) x g h w wg sc wo (ix2 R n)
      = poolRow (rows x) (gain g) (gain h) (mat w) (grpMat wg) (gain sc) (mat wo) R n := by
  have hn := n.isLt
  have e : idx_main_v171 (ix2 R n) = ix3 (seqOf R) (tokOf R) n :=
    ext3 (Fin.ext (by show (R.val * 2048 + n.val) / 33554432 = R.val / 16384; omega))
      (Fin.ext (by show (R.val * 2048 + n.val) / 2048 % 16384 = R.val % 16384; omega))
      (Fin.ext (by show (R.val * 2048 + n.val) % 2048 = n.val; omega))
  rw [val_main_v171_apply, e, closed, flat_of]

end Cert.PoolReferenceIdeal.Rows

end
-- ==== Proof.Pool.Equation.lean ====
/-
  The pooling sublayer: the kernel's array is the reference's, and the reference runs cleanly.
-/
module

public import proofs.«01_k».proof.Defs
public import proofs.«01_k».proof.Proof.Pool.Array
public import proofs.«01_k».proof.Proof.Pool.Reference
public import proofs.«01_k».proof.Proof.Gen.PoolReferenceIdeal.Run
public import Idealize.ShloMosaic.Lib.Quiescent

@[expose] public section

noncomputable section

namespace Cert.Pool

open Idealize.ShloMosaic Idealize.ShloMosaic.TcCoe Idealize.SL.Sem Cert.Spec

/-- The reference terminates, keeps its arguments and leaves every counter at zero: it has no semaphores. -/
theorem reference_frame : Cert.quiescent_PoolReferenceIdeal := fun m ρ _ =>
  (θ_run Cert.PoolReferenceIdeal.defs _ _).mono
    (fun r h => ⟨fun c => (h c).2, Idealize.ShloMosaic.sem_eq_zero_of_no_sems (by decide) r.2⟩)
    (Cert.PoolReferenceIdeal.Value.run m ρ)

/-- From memories that agree on the seven arguments, kernel and reference leave the same array. -/
theorem equation : Cert.algebraic_PoolKernelIdeal_PoolReferenceIdeal := by
  intro m g m' g' _ agree
  refine ⟨fun c => Cert.PoolKernelIdeal.Array.final m c, Cert.PoolKernelIdeal.Array.run m g,
    (θ_run Cert.PoolReferenceIdeal.defs _ _).mono (fun r h c => ⟨(h c).1.trans ?_, (h c).2⟩)
      (Cert.PoolReferenceIdeal.Value.run m' g')⟩
  obtain ⟨a0, a1, a2, a3, a4, a5, a6⟩ := agree c
  rw [Cert.PoolReferenceIdeal.Read.val_main_v171_eq]
  iterate 7 rw [StableHlo.launchContents_devRef]
  rw [a0, a1, a2, a3, a4, a5, a6]
  funext i
  rw [eq_ix2 i]
  exact Cert.PoolReferenceIdeal.Rows.returned _ _ _ _ _ _ _ (i 0) (i 1)

end Cert.Pool

end
-- ==== Proof.Common.Norm.lean ====
/-
  The layer norm of a row, and its sums taken in four blocks of 512. A kernel multiplies by 1/2048 where the norm divides by
  2048; the constant is exact, so the two agree at every extended real.
-/
module

public import proofs.«01_k».proof.Proof.Common.Spec
public import proofs.«01_k».proof.Proof.Common.Index
public import proofs.«01_k».proof.Proof.Common.Rows
public import Idealize.ShloMosaic.Lib.Pointwise.Index

@[expose] public section

noncomputable section

namespace Cert.Spec

open Idealize.ShloMosaic

/-- The mean of a row. -/
def mean (y : Fin 2048 → EReal) : EReal := Ideal.div (∑ k : Fin 2048, y k) (Ideal.ofBits .f32 0x45000000#32)

/-- The inverse root of a row's variance. -/
def lnScale (y : Fin 2048 → EReal) : EReal :=
  Ideal.rsqrt (mean (fun k => (y k - mean y) * (y k - mean y)) + Ideal.ofBits .f32 0x358637BD#32)

/-- The layer norm of a row `y`, with gain `g` and offset `b`. -/
def layerNorm (y g b : Fin 2048 → EReal) (k : Fin 2048) : EReal := (y k - mean y) * lnScale y * g k + b k

theorem ofBits_width : Ideal.ofBits .f32 0x45000000#32 = ((2048 : ℝ) : EReal) := by
  simp [Ideal.ofBits, Ideal.ieee, -EReal.coe_mul]; norm_num

theorem ofBits_inv_width : Ideal.ofBits .f32 0x3A000000#32 = ((1 / 2048 : ℝ) : EReal) := by
  simp [Ideal.ofBits, Ideal.ieee, -EReal.coe_mul]; norm_num

/-- Multiplying by 1/2048 is dividing by 2048. -/
theorem times_inv_width (z : EReal) : z * Ideal.ofBits .f32 0x3A000000#32 = Ideal.div z (Ideal.ofBits .f32 0x45000000#32) := by
  rw [ofBits_width, ofBits_inv_width]
  unfold Ideal.div
  rw [if_neg (by exact_mod_cast (by norm_num : (2048 : ℝ) ≠ 0))]
  rw [one_div, EReal.coe_inv]

/-- Place `i` of block `c`. -/
def at4 (c : Fin 4) (i : Fin 512) : Fin 2048 := ⟨512 * c.val + i.val, by have := c.isLt; have := i.isLt; omega⟩

/-- The four blocks' sums make the whole sum. -/
theorem sum_four (g : Fin 2048 → EReal) :
    ((∑ i : Fin 512, g (at4 0 i) + ∑ i : Fin 512, g (at4 1 i)) + ∑ i : Fin 512, g (at4 2 i)) + ∑ i : Fin 512, g (at4 3 i)
      = ∑ k : Fin 2048, g k := by
  rw [← tiles_all g 4 rfl, tiles_succ g 3 (by decide), tiles_succ g 2 (by decide), tiles_succ g 1 (by decide), tiles_succ g 0 (by decide),
    tiles_zero, zero_add]
  rfl

/-- The row that four slabs hold, block by block. -/
def slabRow (Y : (⟨3, ![4, 512, 512]⟩ : Shape).Idx → EReal) (r : Fin 512) (k : Fin 2048) : EReal :=
  Y (ix3 ⟨k.val / 512, by have := k.isLt; omega⟩ r ⟨k.val % 512, Nat.mod_lt _ (by decide)⟩)

theorem slabRow_at (Y : (⟨3, ![4, 512, 512]⟩ : Shape).Idx → EReal) (r : Fin 512) (c : Fin 4) (i : Fin 512) :
    slabRow Y r (at4 c i) = Y (ix3 c r i) := by
  have hc := c.isLt
  have hi := i.isLt
  exact congrArg Y (ext3 (Fin.ext (by show (512 * c.val + i.val) / 512 = c.val; omega)) rfl
    (Fin.ext (by show (512 * c.val + i.val) % 512 = i.val; omega)))

/-- A load of one slab, and of one block of a row. -/
theorem ld_slab {φ : EltTy} (o : ℕ) (Y : Vec Ideal ⟨3, ![4, 512, 512]⟩ φ) (inb) (r f : Fin 512) (h : o < 4) :
    View.ld (Val := Elt Ideal) (e' := φ) Y (Rect.unit (s := ⟨3, ![4, 512, 512]⟩) ![o, 0, 0] ![1, 512, 512] inb) (ix3 0 r f)
      = Y (ix3 ⟨o, h⟩ r f) := by
  refine View.ld_unit_apply_of Y _ _ inb _ _ fun a => ?_
  match a with
  | ⟨0, _⟩ => rfl
  | ⟨1, _⟩ => exact (Nat.zero_add _).symm
  | ⟨2, _⟩ => exact (Nat.zero_add _).symm

theorem ld_block {φ : EltTy} (o : ℕ) (c : Fin 4) (hc : o = 512 * c.val) (g : Vec Ideal ⟨2, ![1, 2048]⟩ φ) (inb) (f : Fin 512) :
    View.ld (Val := Elt Ideal) (e' := φ) g (Rect.unit (s := ⟨2, ![1, 2048]⟩) ![0, o] ![1, 512] inb) (ix2 0 f) = g (ix2 0 (at4 c f)) := by
  subst hc
  refine View.ld_unit_apply_of g _ _ inb _ _ fun a => ?_
  match a with
  | ⟨0, _⟩ => rfl
  | ⟨1, _⟩ => rfl

end Cert.Spec

end
-- ==== Proof.Conf.Spec.lean ====
/-
  The conformer sublayer, one row at a time: a normed row's gated projection, 31 taps of it down the sequence, the layer
  norm and SiLU of the convolved row, the output weights, the closing residual norm.
-/
module

public import proofs.«01_k».proof.Proof.Common.Halo
public import proofs.«01_k».proof.Proof.Common.Norm

@[expose] public section

noncomputable section

namespace Cert.Spec

open Idealize.ShloMosaic

/-- The gated projection of a normed row at channel `f`. -/
def glu {n : ℕ} (xn : Fin 2048 → EReal) (wa wg : Fin 2048 → Fin n → EReal) (f : Fin n) : EReal :=
  dot xn wa f * Ideal.logistic (dot xn wg f)

theorem glu_zero {n : ℕ} (wa wg : Fin 2048 → Fin n → EReal) (f : Fin n) : glu (fun _ => 0) wa wg f = 0 := by
  unfold glu
  rw [dot_zero, zero_mul]

/-- 31 taps of `P`, with the tap weights `w`. -/
def taps (w : ℕ → EReal) (P : ℕ → EReal) (K : ℕ) : EReal := ∑ k ∈ Finset.range K, w k * P k

theorem taps_succ (w : ℕ → EReal) (P : ℕ → EReal) (K : ℕ) : taps w P (K + 1) = taps w P K + w K * P K := Finset.sum_range_succ _ K

/-- The convolved row. -/
def convRow (N : Fin 32768 → Fin 2048 → EReal) (wa wg : Fin 2048 → Fin 2048 → EReal) (cw : ℕ → Fin 2048 → EReal)
    (cb : Fin 2048 → EReal) (R : Fin 32768) (f : Fin 2048) : EReal :=
  taps (fun k => cw k f) (tap 15 (fun R => glu (N R) wa wg f) R) 31 + cb f

/-- A row through layer norm, SiLU and the output weights. -/
def normMix (y lg lb : Fin 2048 → EReal) (wo : Fin 2048 → Fin 2048 → EReal) (n : Fin 2048) : EReal :=
  ∑ f : Fin 2048, silu (layerNorm y lg lb f) * wo f n

/-- The sublayer's row. -/
def confRow (x : Fin 32768 → Fin 2048 → EReal) (pre post : Fin 2048 → EReal) (wa wg : Fin 2048 → Fin 2048 → EReal)
    (cw : ℕ → Fin 2048 → EReal) (cb lg lb : Fin 2048 → EReal) (wo : Fin 2048 → Fin 2048 → EReal) (R : Fin 32768) : Fin 2048 → EReal :=
  residual (x R) (normMix (convRow (fun R => rms (x R) pre) wa wg cw cb R) lg lb wo) post

end Cert.Spec

end
-- ==== Proof.Conf.Points.lean ====
/-
  The conformer kernel's grid points: at which channel block each is, where the windows are idle, and the buffers the body
  is called with.
-/
module

public import proofs.«01_k».proof.Proof.Gen.ConfKernelIdeal.Frame
public import proofs.«01_k».proof.Proof.Gen.ConfKernelIdeal.Skeleton

@[expose] public section

set_option maxRecDepth 16384

noncomputable section

namespace Cert.ConfKernelIdeal.Body

open Cert.ConfKernelIdeal Cert.ConfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch, from the grid coordinates (with the body's scalars
    put in). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 256 := Nat.lt_of_lt_of_eq t.isLt N_0
    have e0 : (grid0.coords t 0).val = t.val / 4 % 64 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's second branch, from the grid coordinates (with the body's scalars
    put in). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 256 := Nat.lt_of_lt_of_eq t.isLt N_0
    have e0 : (grid0.coords t 0).val = t.val / 4 % 64 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## Where the windows are idle (the table `Cfg.idle`) -/

/-- An input window is never idle. -/
theorem live_in (w : Fin 13) (hw : w.val < 12) (t : Fin cfg0.N) : cfg0.idle w (grid0.coords t) = false := by
  match w, hw with
  | 0, _ | 1, _ | 2, _ | 3, _ | 4, _ | 5, _ | 6, _ | 7, _ | 8, _ | 9, _ | 10, _ | 11, _ => rfl
/-- At the points of case A the table `Cfg.idle` calls output 12 idle: the case stores nothing into it. -/
theorem idleAt0_12_A : ∀ t : Fin cfg0.N, cond0_0 (grid0.coords t) → ¬cond0_1 (grid0.coords t) → cfg0.idle 12 (grid0.coords t) = true := by decide +kernel
/-- At the points of case A the pipeline does not write output 12's block back. -/
theorem noFlush0_12_A : ∀ t : Fin cfg0.N, cond0_0 (grid0.coords t) → ¬cond0_1 (grid0.coords t) → (cfg0.win 12).flush t = false := by decide +kernel
/-- At the points of case B the table `Cfg.idle` calls output 12 idle: the case stores nothing into it. -/
theorem idleAt0_12_B : ∀ t : Fin cfg0.N, ¬cond0_0 (grid0.coords t) → ¬cond0_1 (grid0.coords t) → cfg0.idle 12 (grid0.coords t) = true := by decide +kernel
/-- At the points of case B the pipeline does not write output 12's block back. -/
theorem noFlush0_12_B : ∀ t : Fin cfg0.N, ¬cond0_0 (grid0.coords t) → ¬cond0_1 (grid0.coords t) → (cfg0.win 12).flush t = false := by decide +kernel
/-- At the points of case C the table `Cfg.idle` calls output 12 live: the case stores into it. -/
theorem liveAt0_12_C : ∀ t : Fin cfg0.N, ¬cond0_0 (grid0.coords t) → cond0_1 (grid0.coords t) → cfg0.idle 12 (grid0.coords t) = false := by decide +kernel

/-- Each window's current staging memref at point `t`, spelled as the pipeline passes it (`bodyAt0`), and its wholeness. -/
abbrev ms0_0 (t : Fin cfg0.N) : Memref sig .tc .vmem S16x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S31x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x2048 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S544x2048 .bf16 := Memref.whole cc0_scratch0
abbrev scM0_1 : Memref sig .tc .vmem S544x512 .f32 := Memref.whole cc0_scratch1
abbrev scM0_2 : Memref sig .tc .vmem S4x512x512 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ConfKernelIdeal.Body

end
-- ==== Proof.Conf.RunA.lean ====
/-
  The conformer kernel's body at the first channel block of a row tile, run.
-/
module

public import proofs.«01_k».proof.Proof.Conf.Points

@[expose] public section

set_option maxRecDepth 16384

noncomputable section

namespace Cert.ConfKernelIdeal.Body

open Cert.ConfKernelIdeal Cert.ConfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S16x2048 .f32) (harg2 : arg2.IsWhole)
  (arg3 : Memref sig .tc .vmem S512x2048 .f32) (harg3 : arg3.IsWhole)
  (arg4 : Memref sig .tc .vmem S16x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S31x512 .f32) (harg9 : arg9.IsWhole)
  (arg10 : Memref sig .tc .vmem S1x512 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S2048x2048 .bf16) (harg13 : arg13.IsWhole)
  (arg14 : Memref sig .tc .vmem S512x2048 .f32) (harg14 : arg14.IsWhole)
  (arg15 : Memref sig .tc .vmem S544x2048 .bf16) (harg15 : arg15.IsWhole)
  (arg16 : Memref sig .tc .vmem S544x512 .f32) (harg16 : arg16.IsWhole)
  (arg17 : Memref sig .tc .vmem S4x512x512 .f32) (harg17 : arg17.IsWhole)
  (x0 : Vec F S16x2048 .f32) (x1 : Vec F S512x2048 .f32) (x2 : Vec F S16x2048 .f32) (x3 : Vec F S1x2048 .f32) (x4 : Vec F S1x2048 .f32) (x5 : Vec F S2048x512 .bf16) (x6 : Vec F S2048x512 .bf16) (x7 : Vec F S31x512 .f32) (x8 : Vec F S1x512 .f32) (x9 : Vec F S1x2048 .f32) (x10 : Vec F S1x2048 .f32) (x11 : Vec F S2048x2048 .bf16)

set_option maxHeartbeats 1000000 in
/-- The run of the body in this case: the list of stores each buffer ends with, and the run itself, over any contents of the
    buffers it need not know. -/
def runA (hc0 : cond0_0 i) (hc1 : ¬cond0_1 i)
    :
    Σ' (L12 : List (View.Piece (Elt F) S512x2048 .f32)), Σ' (LS0 : List (View.Piece (Elt F) S544x2048 .bf16)), Σ' (LS2 : List (View.Piece (Elt F) S4x512x512 .f32)), { LT1 : List (View.Piece (Elt F) S544x512 .f32) //
      ∀ (xi12 : Vec F S512x2048 .f32) (xs2 : Vec F S4x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d) ∗ (∃ d, owns (c : Thread nD τ) arg16 fullShare d) ∗ owns (c : Thread nD τ) arg17 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1) ∗ (arg17.view.loc (c : Thread nD τ) ↦[arg17.view.set]{fullShare} arg17.view.writes (Elt F) (harg17.unread xs2) LS2)) -∗ K ⟨⟩))
          ⊢ wp frame (wpE (defs₀ (F := F)) Variants.none c none) E (cc0_conformer_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, fun xi12 xs2 E K => ?run⟩
  case run =>
    simp only [cc0_conformer_mixer_eq_skeleton]; unfold cc0_conformer_mixer_skel
    simp only [k0_part6_eq_skeleton, k0_part1_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    iexact HS2

end Cert.ConfKernelIdeal.Body

end
-- ==== Proof.Conf.RunB.lean ====
/-
  The conformer kernel's body at a middle channel block, run.
-/
module

public import proofs.«01_k».proof.Proof.Conf.RunA

@[expose] public section

set_option maxRecDepth 16384

noncomputable section

namespace Cert.ConfKernelIdeal.Body

open Cert.ConfKernelIdeal Cert.ConfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S16x2048 .f32) (harg2 : arg2.IsWhole)
  (arg3 : Memref sig .tc .vmem S512x2048 .f32) (harg3 : arg3.IsWhole)
  (arg4 : Memref sig .tc .vmem S16x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S31x512 .f32) (harg9 : arg9.IsWhole)
  (arg10 : Memref sig .tc .vmem S1x512 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S2048x2048 .bf16) (harg13 : arg13.IsWhole)
  (arg14 : Memref sig .tc .vmem S512x2048 .f32) (harg14 : arg14.IsWhole)
  (arg15 : Memref sig .tc .vmem S544x2048 .bf16) (harg15 : arg15.IsWhole)
  (arg16 : Memref sig .tc .vmem S544x512 .f32) (harg16 : arg16.IsWhole)
  (arg17 : Memref sig .tc .vmem S4x512x512 .f32) (harg17 : arg17.IsWhole)
  (x0 : Vec F S16x2048 .f32) (x1 : Vec F S512x2048 .f32) (x2 : Vec F S16x2048 .f32) (x3 : Vec F S1x2048 .f32) (x4 : Vec F S1x2048 .f32) (x5 : Vec F S2048x512 .bf16) (x6 : Vec F S2048x512 .bf16) (x7 : Vec F S31x512 .f32) (x8 : Vec F S1x512 .f32) (x9 : Vec F S1x2048 .f32) (x10 : Vec F S1x2048 .f32) (x11 : Vec F S2048x2048 .bf16)

set_option maxHeartbeats 1000000 in
/-- The run of the body in this case: the list of stores each buffer ends with, and the run itself, over any contents of the
    buffers it need not know. -/
def runB (hc0 : ¬cond0_0 i) (hc1 : ¬cond0_1 i)
    (xs0 : Vec F S544x2048 .bf16) :
    Σ' (L12 : List (View.Piece (Elt F) S512x2048 .f32)), Σ' (LS0 : List (View.Piece (Elt F) S544x2048 .bf16)), Σ' (LS2 : List (View.Piece (Elt F) S4x512x512 .f32)), { LT1 : List (View.Piece (Elt F) S544x512 .f32) //
      ∀ (xi12 : Vec F S512x2048 .f32) (xs2 : Vec F S4x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ (∃ d, owns (c : Thread nD τ) arg16 fullShare d) ∗ owns (c : Thread nD τ) arg17 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ (∃ f, arg16.view.loc (c : Thread nD τ) ↦[arg16.view.set]{fullShare} arg16.view.writes (Elt F) f LT1) ∗ (arg17.view.loc (c : Thread nD τ) ↦[arg17.view.set]{fullShare} arg17.view.writes (Elt F) (harg17.unread xs2) LS2)) -∗ K ⟨⟩))
          ⊢ wp frame (wpE (defs₀ (F := F)) Variants.none c none) E (cc0_conformer_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, ?_, fun xi12 xs2 E K => ?run⟩
  case run =>
    simp only [cc0_conformer_mixer_eq_skeleton]; unfold cc0_conformer_mixer_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0; obtain rfl := harg17.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    isplitl [HS1]; · iexists _; iexact HS1
    iexact HS2

end Cert.ConfKernelIdeal.Body

end
-- ==== Proof.Conf.RunC.lean ====
/-
  The conformer kernel's body at the last channel block, run.
-/
module

public import proofs.«01_k».proof.Proof.Conf.RunB

@[expose] public section

set_option maxRecDepth 16384

noncomputable section

namespace Cert.ConfKernelIdeal.Body

open Cert.ConfKernelIdeal Cert.ConfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S16x2048 .f32) (harg2 : arg2.IsWhole)
  (arg3 : Memref sig .tc .vmem S512x2048 .f32) (harg3 : arg3.IsWhole)
  (arg4 : Memref sig .tc .vmem S16x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S31x512 .f32) (harg9 : arg9.IsWhole)
  (arg10 : Memref sig .tc .vmem S1x512 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S2048x2048 .bf16) (harg13 : arg13.IsWhole)
  (arg14 : Memref sig .tc .vmem S512x2048 .f32) (harg14 : arg14.IsWhole)
  (arg15 : Memref sig .tc .vmem S544x2048 .bf16) (harg15 : arg15.IsWhole)
  (arg16 : Memref sig .tc .vmem S544x512 .f32) (harg16 : arg16.IsWhole)
  (arg17 : Memref sig .tc .vmem S4x512x512 .f32) (harg17 : arg17.IsWhole)
  (x0 : Vec F S16x2048 .f32) (x1 : Vec F S512x2048 .f32) (x2 : Vec F S16x2048 .f32) (x3 : Vec F S1x2048 .f32) (x4 : Vec F S1x2048 .f32) (x5 : Vec F S2048x512 .bf16) (x6 : Vec F S2048x512 .bf16) (x7 : Vec F S31x512 .f32) (x8 : Vec F S1x512 .f32) (x9 : Vec F S1x2048 .f32) (x10 : Vec F S1x2048 .f32) (x11 : Vec F S2048x2048 .bf16)

set_option maxHeartbeats 1000000 in
/-- The run of the body in this case: the list of stores each buffer ends with, and the run itself, over any contents of the
    buffers it need not know. -/
def runC (hc0 : ¬cond0_0 i) (hc1 : cond0_1 i)
    (xs0 : Vec F S544x2048 .bf16) (xs2 : Vec F S4x512x512 .f32) :
    Σ' (L12 : List (View.Piece (Elt F) S512x2048 .f32)), Σ' (LS0 : List (View.Piece (Elt F) S544x2048 .bf16)), Σ' (LS2 : List (View.Piece (Elt F) S4x512x512 .f32)), { LT1 : List (View.Piece (Elt F) S544x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ (∃ d, owns (c : Thread nD τ) arg16 fullShare d) ∗ owns (c : Thread nD τ) arg17 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare xs0 ∗ (∃ f, arg16.view.loc (c : Thread nD τ) ↦[arg16.view.set]{fullShare} arg16.view.writes (Elt F) f LT1) ∗ (arg17.view.loc (c : Thread nD τ) ↦[arg17.view.set]{fullShare} arg17.view.writes (Elt F) (harg17.unread xs2) LS2)) -∗ K ⟨⟩))
          ⊢ wp frame (wpE (defs₀ (F := F)) Variants.none c none) E (cc0_conformer_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, ?_, fun E K => ?run⟩
  case run =>
    simp only [cc0_conformer_mixer_eq_skeleton]; unfold cc0_conformer_mixer_skel
    simp only [k0_part6_eq_skeleton, k0_part7_eq_skeleton, k0_part8_eq_skeleton, k0_part9_eq_skeleton, k0_part10_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0; obtain rfl := harg17.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]
    · iexists _; isplitr; · ipureintro; exact harg15.read_unread _
      iexact HS0
    isplitl [HS1]; · iexists _; iexact HS1
    iexact HS2

end Cert.ConfKernelIdeal.Body

end
-- ==== Proof.Common.Slabs.lean ====
/-
  Four slabs of a buffer filled one after another: what storing one slab leaves, and when two contents agree on the slabs
  filled so far.
-/
module

public import Idealize.ShloMosaic.Lib.WritesUnit
public import Idealize.ShloMosaic.Lib.Pipeline.Value
public import Idealize.ShloMosaic.Lib.Pointwise.Index

@[expose] public section

noncomputable section

namespace Cert.Slabs

open Idealize.ShloMosaic

variable {A : Type}

/-- The contents `Y` with slab `j` replaced by `q`. -/
def put (j : ℕ) (q : (⟨3, ![1, 512, 512]⟩ : Shape).Idx → A) (Y : (⟨3, ![4, 512, 512]⟩ : Shape).Idx → A) :
    (⟨3, ![4, 512, 512]⟩ : Shape).Idx → A :=
  fun y => if (y 0).val = j then q (ix3 0 (y 1) (y 2)) else Y y

/-- A store of slab `j` leaves `put j`. -/
theorem read_put {sg : RefSig} {κ : Kind} {sp : Space} {e : EltTy} {Val : EltTy → Type} (v : View sg κ sp ⟨3, ![4, 512, 512]⟩ e)
    (f : v.ty.Contents Val) (j : ℕ) (off : Fin 3 → ℕ) (inb) (h : off = ![j, 0, 0])
    (q : (⟨3, ![1, 512, 512]⟩ : Shape).Idx → Val e) :
    v.read Val (v.writes Val f [⟨Rect.unit (s := ⟨3, ![4, 512, 512]⟩) off ![1, 512, 512] inb, q⟩]) = put j q (v.read Val f) := by
  funext y
  unfold put
  by_cases hy : (y 0).val = j
  · rw [if_pos hy]
    refine View.read_writes_cons_unit_of_mem v f inb q [] y (ix3 0 (y 1) (y 2)) h fun a => ?_
    match a with
    | ⟨0, _⟩ => exact hy
    | ⟨1, _⟩ => exact (Nat.zero_add _).symm
    | ⟨2, _⟩ => exact (Nat.zero_add _).symm
  · rw [if_neg hy]
    refine (View.read_writes_cons_unit_of_not_mem v f inb q [] y h 0 ?_).trans rfl
    show (y 0).val < j ∨ j + 1 ≤ (y 0).val
    omega

/-- Two contents agree on the first `n` slabs. -/
def Agree (n : ℕ) (Y Z : (⟨3, ![4, 512, 512]⟩ : Shape).Idx → A) : Prop := ∀ y, (y 0).val < n → Y y = Z y

theorem agree_zero (Y Z : (⟨3, ![4, 512, 512]⟩ : Shape).Idx → A) : Agree 0 Y Z := fun _ h => absurd h (Nat.not_lt_zero _)

theorem agree_put {n : ℕ} {Y Z : (⟨3, ![4, 512, 512]⟩ : Shape).Idx → A} (q : (⟨3, ![1, 512, 512]⟩ : Shape).Idx → A)
    (h : Agree n Y Z) : Agree (n + 1) (put n q Y) (put n q Z) := fun y hy => by
  unfold put
  by_cases e : (y 0).val = n
  · rw [if_pos e, if_pos e]
  · rw [if_neg e, if_neg e]
    exact h y (by omega)

theorem agree_all {Y Z : (⟨3, ![4, 512, 512]⟩ : Shape).Idx → A} (h : Agree 4 Y Z) : Y = Z := funext fun y => h y (y 0).isLt

end Cert.Slabs

end
-- ==== Proof.Conf.Cases.lean ====
/-
  What the conformer kernel's body leaves at one grid point, in each of its three cases (a row tile's first channel block,
  which also fills the extended row tile; a middle block; the last block, which also closes).
-/
module

public import proofs.«01_k».proof.Proof.Conf.RunC
public import proofs.«01_k».proof.Proof.Common.Rows
public import proofs.«01_k».proof.Proof.Common.Slabs

@[expose] public section

noncomputable section

namespace Cert.ConfKernelIdeal.Body

open Cert.ConfKernelIdeal Cert.ConfKernelIdeal.Gen Idealize.ShloMosaic Idealize.ShloMosaic.TcCoe Idealize.SL.Sem Cert.Rows Cert.Slabs

variable {F : FTy → Type} [FloatOps F]

/-- The extended row tile: 16 rows before, the 512 rows, 16 rows after, each normed. -/
def filled (i : grid0.Coords) (x0 : Vec F S16x2048 .f32) (x1 : Vec F S512x2048 .f32) (x2 : Vec F S16x2048 .f32)
    (x3 : Vec F S1x2048 .f32) : Vec F S544x2048 .bf16 :=
  View.canon
    [⟨Rect.unit ![528, 0] ![16, 2048] inb_S544x2048_S16x2048_528_0, k0_pay21 (tileOf (i 0).val) (k0_pay5 x3 x2)⟩,
      ⟨Rect.unit ![16, 0] ![512, 2048] inb_S544x2048_S512x2048_16_0, k0_pay20 (k0_pay3 x3) x1⟩,
      ⟨Rect.unit ![0, 0] ![16, 2048] inb_S544x2048_S16x2048_0_0,
        k0_pay19 (k0_pay4 x3 x0) (Scalar.cmpi CmpIPredicate.sgt (tileOf (i 0).val) 0#32)⟩]

/-- 512 rows of the gated projection from row `o` on. -/
def rowsAt (hh : Vec F S544x512 .f32) (o : ℕ) (inb : ∀ a, (![o, 0] : Fin 2 → Nat) a + S512x512.size a ≤ S544x512.size a) : Vec F S512x512 .f32 :=
  View.ld (Val := Elt F) (e' := .f32) hh (Rect.unit (s := S544x512) ![o, 0] S512x512.size inb)

/-- One row of the tap weights. -/
def row (w : Vec F S31x512 .f32) (o : ℕ) (inb : ∀ a, (![o, 0] : Fin 2 → Nat) a + S1x512.size a ≤ S31x512.size a) : Vec F S1x512 .f32 :=
  View.ld (Val := Elt F) (e' := .f32) w (Rect.unit (s := S31x512) ![o, 0] S1x512.size inb)

/-- The taps over a gated projection, in the order the body sums them: taps 0 to 2, to 9, to 15, to 22, to 29. -/
def taps3 (x7 : Vec F S31x512 .f32) (hh : Vec F S544x512 .f32) : FVec F S512x512 .f32 :=
  k0_pay23 (row x7 0 inb_S31x512_S1x512_0_0) (rowsAt hh 1 inb_S544x512_S512x512_1_0)
      (row x7 1 inb_S31x512_S1x512_1_0) (rowsAt hh 2 inb_S544x512_S512x512_2_0)
      (row x7 2 inb_S31x512_S1x512_2_0) (rowsAt hh 3 inb_S544x512_S512x512_3_0)
def taps10 (x7 : Vec F S31x512 .f32) (hh : Vec F S544x512 .f32) : FVec F S512x512 .f32 :=
  k0_pay24 (taps3 x7 hh) (row x7 3 inb_S31x512_S1x512_3_0) (rowsAt hh 4 inb_S544x512_S512x512_4_0)
      (row x7 4 inb_S31x512_S1x512_4_0) (rowsAt hh 5 inb_S544x512_S512x512_5_0)
      (row x7 5 inb_S31x512_S1x512_5_0) (rowsAt hh 6 inb_S544x512_S512x512_6_0)
      (row x7 6 inb_S31x512_S1x512_6_0) (rowsAt hh 7 inb_S544x512_S512x512_7_0)
      (row x7 7 inb_S31x512_S1x512_7_0) (rowsAt hh 8 inb_S544x512_S512x512_8_0)
      (row x7 8 inb_S31x512_S1x512_8_0) (rowsAt hh 9 inb_S544x512_S512x512_9_0)
      (row x7 9 inb_S31x512_S1x512_9_0) (rowsAt hh 10 inb_S544x512_S512x512_10_0)
def taps16 (x7 : Vec F S31x512 .f32) (hh : Vec F S544x512 .f32) : FVec F S512x512 .f32 :=
  k0_pay25 (taps10 x7 hh) (row x7 10 inb_S31x512_S1x512_10_0) (rowsAt hh 11 inb_S544x512_S512x512_11_0)
      (row x7 11 inb_S31x512_S1x512_11_0) (rowsAt hh 12 inb_S544x512_S512x512_12_0)
      (row x7 12 inb_S31x512_S1x512_12_0) (rowsAt hh 13 inb_S544x512_S512x512_13_0)
      (row x7 13 inb_S31x512_S1x512_13_0) (rowsAt hh 14 inb_S544x512_S512x512_14_0)
      (row x7 14 inb_S31x512_S1x512_14_0) (rowsAt hh 15 inb_S544x512_S512x512_15_0)
      (row x7 15 inb_S31x512_S1x512_15_0) (rowsAt hh 16 inb_S544x512_S512x512_16_0)
def taps23 (x7 : Vec F S31x512 .f32) (hh : Vec F S544x512 .f32) : FVec F S512x512 .f32 :=
  k0_pay26 (taps16 x7 hh) (row x7 16 inb_S31x512_S1x512_16_0) (rowsAt hh 17 inb_S544x512_S512x512_17_0)
      (row x7 17 inb_S31x512_S1x512_17_0) (rowsAt hh 18 inb_S544x512_S512x512_18_0)
      (row x7 18 inb_S31x512_S1x512_18_0) (rowsAt hh 19 inb_S544x512_S512x512_19_0)
      (row x7 19 inb_S31x512_S1x512_19_0) (rowsAt hh 20 inb_S544x512_S512x512_20_0)
      (row x7 20 inb_S31x512_S1x512_20_0) (rowsAt hh 21 inb_S544x512_S512x512_21_0)
      (row x7 21 inb_S31x512_S1x512_21_0) (rowsAt hh 22 inb_S544x512_S512x512_22_0)
      (row x7 22 inb_S31x512_S1x512_22_0) (rowsAt hh 23 inb_S544x512_S512x512_23_0)
def taps30 (x7 : Vec F S31x512 .f32) (hh : Vec F S544x512 .f32) : FVec F S512x512 .f32 :=
  k0_pay27 (taps23 x7 hh) (row x7 23 inb_S31x512_S1x512_23_0) (rowsAt hh 24 inb_S544x512_S512x512_24_0)
      (row x7 24 inb_S31x512_S1x512_24_0) (rowsAt hh 25 inb_S544x512_S512x512_25_0)
      (row x7 25 inb_S31x512_S1x512_25_0) (rowsAt hh 26 inb_S544x512_S512x512_26_0)
      (row x7 26 inb_S31x512_S1x512_26_0) (rowsAt hh 27 inb_S544x512_S512x512_27_0)
      (row x7 27 inb_S31x512_S1x512_27_0) (rowsAt hh 28 inb_S544x512_S512x512_28_0)
      (row x7 28 inb_S31x512_S1x512_28_0) (rowsAt hh 29 inb_S544x512_S512x512_29_0)
      (row x7 29 inb_S31x512_S1x512_29_0) (rowsAt hh 30 inb_S544x512_S512x512_30_0)

/-- The convolved channel block one point stores. -/
def slab (xe : Vec F S544x2048 .bf16) (x5 x6 : Vec F S2048x512 .bf16) (x7 : Vec F S31x512 .f32) (x8 : Vec F S1x512 .f32) :
    FVec F S1x512x512 .f32 :=
  (fun hh => k0_pay1 (taps30 x7 hh) (row x7 30 inb_S31x512_S1x512_30_0) (rowsAt hh 31 inb_S544x512_S512x512_31_0) x8) (k0_pay22 xe x5 x6)

/-- One slab of the convolved rows; 512 channels of a scale or an offset; 512 rows of the output weights. -/
def yAt (Y : Vec F S4x512x512 .f32) (o : ℕ) (inb : ∀ a, (![o, 0, 0] : Fin 3 → Nat) a + S1x512x512.size a ≤ S4x512x512.size a) : Vec F S1x512x512 .f32 :=
  View.ld (Val := Elt F) (e' := .f32) Y (Rect.unit (s := S4x512x512) ![o, 0, 0] S1x512x512.size inb)
def vAt (g : Vec F S1x2048 .f32) (o : ℕ) (inb : ∀ a, (![0, o] : Fin 2 → Nat) a + S1x512.size a ≤ S1x2048.size a) : Vec F S1x512 .f32 :=
  View.ld (Val := Elt F) (e' := .f32) g (Rect.unit (s := S1x2048) ![0, o] S1x512.size inb)
def wAt (w : Vec F S2048x2048 .bf16) (o : ℕ) (inb : ∀ a, (![o, 0] : Fin 2 → Nat) a + S512x2048.size a ≤ S2048x2048.size a) : Vec F S512x2048 .bf16 :=
  View.ld (Val := Elt F) (e' := .bf16) w (Rect.unit (s := S2048x2048) ![o, 0] S512x2048.size inb)

abbrev y0 (Y : Vec F S4x512x512 .f32) := yAt Y 0 inb_S4x512x512_S1x512x512_0_0_0
abbrev y1 (Y : Vec F S4x512x512 .f32) := yAt Y 1 inb_S4x512x512_S1x512x512_1_0_0
abbrev y2 (Y : Vec F S4x512x512 .f32) := yAt Y 2 inb_S4x512x512_S1x512x512_2_0_0
abbrev y3 (Y : Vec F S4x512x512 .f32) := yAt Y 3 inb_S4x512x512_S1x512x512_3_0_0

/-- The mean of a convolved row, and the inverse root of its variance. -/
def mu (Y : Vec F S4x512x512 .f32) : FVec F S512x1 .f32 := k0_pay6 (y0 Y) (y1 Y) (y2 Y) (y3 Y)
def sq0 (Y : Vec F S4x512x512 .f32) : FVec F S512x1 .f32 := k0_pay7 (y0 Y) (y1 Y) (y2 Y) (y3 Y) (y0 Y)
def rstd (Y : Vec F S4x512x512 .f32) : FVec F S512x1 .f32 := k0_pay9 (mu Y) (sq0 Y) (k0_pay8 (y1 Y)) (y2 Y) (y3 Y)

/-- The first two channel blocks through the output weights; the third block normed, before its offset. -/
def half (x9 x10 : Vec F S1x2048 .f32) (x11 : Vec F S2048x2048 .bf16) (Y : Vec F S4x512x512 .f32) : FVec F S512x2048 .f32 :=
  k0_pay13 (mu Y) (rstd Y) k0_pay10
    (k0_pay11 (mu Y) (sq0 Y) (k0_pay8 (y1 Y)) (y2 Y) (y3 Y) (y0 Y) (vAt x9 0 inb_S1x2048_S1x512_0_0))
    (k0_pay12 (vAt x10 0 inb_S1x2048_S1x512_0_0)) (wAt x11 0 inb_S2048x2048_S512x2048_0_0)
    (y1 Y) (vAt x9 512 inb_S1x2048_S1x512_0_512) (vAt x10 512 inb_S1x2048_S1x512_0_512) (wAt x11 512 inb_S2048x2048_S512x2048_512_0)
def third (x9 : Vec F S1x2048 .f32) (Y : Vec F S4x512x512 .f32) : FVec F S512x512 .f32 :=
  k0_pay14 (mu Y) (rstd Y) (y2 Y) (vAt x9 1024 inb_S1x2048_S1x512_0_1024)

/-- What the last point of a row tile stores. -/
def closing (x1 : Vec F S512x2048 .f32) (x4 x9 x10 : Vec F S1x2048 .f32) (x11 : Vec F S2048x2048 .bf16) (Y : Vec F S4x512x512 .f32) :
    FVec F S512x2048 .f32 :=
  k0_pay2
    (k0_pay15 (mu Y) (rstd Y) (half x9 x10 x11 Y) (third x9 Y) (vAt x10 1024 inb_S1x2048_S1x512_0_1024)
      (wAt x11 1024 inb_S2048x2048_S512x2048_1024_0) (y3 Y) (vAt x9 1536 inb_S1x2048_S1x512_0_1536)
      (vAt x10 1536 inb_S1x2048_S1x512_0_1536) (wAt x11 1536 inb_S2048x2048_S512x2048_1536_0))
    (k0_pay16 x1) (k0_pay17 x4)
    (k0_pay18 (mu Y) (rstd Y) (half x9 x10 x11 Y) (third x9 Y) (vAt x10 1024 inb_S1x2048_S1x512_0_1024)
      (wAt x11 1024 inb_S2048x2048_S512x2048_1024_0) (y3 Y) (vAt x9 1536 inb_S1x2048_S1x512_0_1536)
      (vAt x10 1536 inb_S1x2048_S1x512_0_1536) (wAt x11 1536 inb_S2048x2048_S512x2048_1536_0))
    (Scalar.ofBits .f32 0x358637BD#32)

variable (c : Dev nD) (i : grid0.Coords)
  (a2 : Memref sig .tc .vmem S16x2048 .f32) (h2 : a2.IsWhole)
  (a3 : Memref sig .tc .vmem S512x2048 .f32) (h3 : a3.IsWhole)
  (a4 : Memref sig .tc .vmem S16x2048 .f32) (h4 : a4.IsWhole)
  (a5 : Memref sig .tc .vmem S1x2048 .f32) (h5 : a5.IsWhole)
  (a6 : Memref sig .tc .vmem S1x2048 .f32) (h6 : a6.IsWhole)
  (a7 : Memref sig .tc .vmem S2048x512 .bf16) (h7 : a7.IsWhole)
  (a8 : Memref sig .tc .vmem S2048x512 .bf16) (h8 : a8.IsWhole)
  (a9 : Memref sig .tc .vmem S31x512 .f32) (h9 : a9.IsWhole)
  (a10 : Memref sig .tc .vmem S1x512 .f32) (h10 : a10.IsWhole)
  (a11 : Memref sig .tc .vmem S1x2048 .f32) (h11 : a11.IsWhole)
  (a12 : Memref sig .tc .vmem S1x2048 .f32) (h12 : a12.IsWhole)
  (a13 : Memref sig .tc .vmem S2048x2048 .bf16) (h13 : a13.IsWhole)
  (a14 : Memref sig .tc .vmem S512x2048 .f32) (h14 : a14.IsWhole)
  (a15 : Memref sig .tc .vmem S544x2048 .bf16) (h15 : a15.IsWhole)
  (a16 : Memref sig .tc .vmem S544x512 .f32) (h16 : a16.IsWhole)
  (a17 : Memref sig .tc .vmem S4x512x512 .f32) (h17 : a17.IsWhole)
  (x0 : Vec F S16x2048 .f32) (x1 : Vec F S512x2048 .f32) (x2 : Vec F S16x2048 .f32) (x3 : Vec F S1x2048 .f32) (x4 : Vec F S1x2048 .f32) (x5 : Vec F S2048x512 .bf16) (x6 : Vec F S2048x512 .bf16) (x7 : Vec F S31x512 .f32) (x8 : Vec F S1x512 .f32) (x9 : Vec F S1x2048 .f32) (x10 : Vec F S1x2048 .f32) (x11 : Vec F S2048x2048 .bf16)
  (xs0 : Vec F S544x2048 .bf16)  (xs2 : Vec F S4x512x512 .f32)

/-- First block: the stores into the extended row tile cover it. -/
theorem coverA (hc0 : cond0_0 i) (hc1 : ¬cond0_1 i) :
    ∀ y, ∃ p ∈ (runA c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1).2.1, y ∈ p.1.set :=
  View.cover_of_tiledBy (runA c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1).2.1 ![16, 2048] (by sl_kernel_rfl)

/-- First block: the extended row tile it leaves. -/
theorem filledA (hc0 : cond0_0 i) (hc1 : ¬cond0_1 i) :
    View.canon (runA c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1).2.1 = filled i x0 x1 x2 x3 := by
  unfold runA
  dsimp only
  try sl_unfold_words
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h11.read_unread, h12.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, shapeCast_self]
  rfl

/-- First block: its one store into the convolved rows. -/
theorem slabA (hc0 : cond0_0 i) (hc1 : ¬cond0_1 i) :
    (runA c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1).2.2.1 = [⟨Rect.unit (s := S4x512x512) (k0_off1 i) S1x512x512.size (k0_off1_inb i), slab (filled i x0 x1 x2 x3) x5 x6 x7 x8⟩] := by
  unfold runA
  dsimp only
  try sl_unfold_words
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h11.read_unread, h12.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, shapeCast_self]
  rfl

/-- A middle block: its one store into the convolved rows. -/
theorem slabB (hc0 : ¬cond0_0 i) (hc1 : ¬cond0_1 i) :
    (runB c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1 xs0).2.2.1 = [⟨Rect.unit (s := S4x512x512) (k0_off1 i) S1x512x512.size (k0_off1_inb i), slab xs0 x5 x6 x7 x8⟩] := by
  unfold runB
  dsimp only
  try sl_unfold_words
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h11.read_unread, h12.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, shapeCast_self]
  rfl

/-- The last block: its one store into the convolved rows, -/
theorem slabC (hc0 : ¬cond0_0 i) (hc1 : cond0_1 i) :
    (runC c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1 xs0 xs2).2.2.1 = [⟨Rect.unit (s := S4x512x512) (k0_off1 i) S1x512x512.size (k0_off1_inb i), slab xs0 x5 x6 x7 x8⟩] := by
  unfold runC
  dsimp only
  try sl_unfold_words
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h11.read_unread, h12.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, shapeCast_self]
  rfl

/-- and its store of the tile's result. -/
theorem outC (hc0 : ¬cond0_0 i) (hc1 : cond0_1 i) :
    (runC c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1 xs0 xs2).1
      = [⟨Rect.unit (s := S512x2048) ![0, 0] S512x2048.size inb_S512x2048_S512x2048_0_0,
          closing x1 x4 x9 x10 x11 (a17.view.read (Elt F) (a17.view.writes (Elt F) (h17.unread xs2)
            [⟨Rect.unit (s := S4x512x512) (k0_off1 i) S1x512x512.size (k0_off1_inb i), slab xs0 x5 x6 x7 x8⟩]))⟩] := by
  unfold runC
  dsimp only
  try sl_unfold_words
  simp only [View.readCov_unit_zero (S := S512x2048) _ hz, View.readCov_unit_zero (S := S512x512) _ hz, readCov_ld,
    View.canon_unit_zero (S := S544x512) hz, View.canon_unit_zero (S := S512x512) hz,
    View.readAt_eq_ld, h2.read_unread, h3.read_unread, h4.read_unread, h5.read_unread, h6.read_unread, h7.read_unread,
    h8.read_unread, h9.read_unread, h10.read_unread, h11.read_unread, h12.read_unread, h13.read_unread, h15.read_unread,
    View.ld_unit_zero (S := S512x2048) hz, View.ld_unit_zero (S := S16x2048) hz, View.ld_unit_zero (S := S1x2048) hz,
    View.ld_unit_zero (S := S2048x512) hz, View.ld_unit_zero (S := S544x2048) hz, View.ld_unit_zero (S := S512x512) hz,
    View.ld_unit_zero (S := S1x512) hz, shapeCast_self]
  rfl

end Cert.ConfKernelIdeal.Body

end
-- ==== Proof.Conf.Payloads.lean ====
/-
  The conformer kernel's stored values read at an index, over the extended reals: the rows of the extended tile, one channel
  block of the convolved rows, the layer norm and the closing residual norm.
-/
module

public import proofs.«01_k».proof.Proof.Conf.Spec
public import proofs.«01_k».proof.Proof.Conf.Cases
public import Idealize.ShloMosaic.Lib.Pipeline.ValueKit.Tiles
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.ConfKernelIdeal.Pay

open Cert.ConfKernelIdeal Cert.ConfKernelIdeal.Gen Cert.ConfKernelIdeal.Body Idealize.ShloMosaic Cert.Spec Cert.Rows

/-- The 16 rows before a tile, normed; the 16 rows after it; its own rows. -/
theorem pay4_apply (g : Vec Ideal S1x2048 .f32) (x : Vec Ideal S16x2048 .f32) (r : Fin 16) (k : Fin 2048) :
    k0_pay4 g x (ix2 r k) = rms (fun k => x (ix2 r k)) (fun k => g (ix2 0 k)) k := by
  unfold_payloads
  pointwise
  rfl

theorem pay5_apply (g : Vec Ideal S1x2048 .f32) (x : Vec Ideal S16x2048 .f32) (r : Fin 16) (k : Fin 2048) :
    k0_pay5 g x (ix2 r k) = rms (fun k => x (ix2 r k)) (fun k => g (ix2 0 k)) k := by
  unfold_payloads
  pointwise
  rfl

theorem pay20_apply (g : Vec Ideal S1x2048 .f32) (x : Vec Ideal S512x2048 .f32) (r : Fin 512) (k : Fin 2048) :
    k0_pay20 (k0_pay3 g) x (ix2 r k) = rms (fun k => x (ix2 r k)) (fun k => g (ix2 0 k)) k := by
  unfold_payloads
  pointwise
  rfl

/-- The rows before, kept only past the first tile of a sequence; the rows after, only before the last. -/
theorem pay19_apply (X : FVec Ideal S16x2048 .f32) (b : BitVec 1) (r : Fin 16) (k : Fin 2048) :
    k0_pay19 X b (ix2 r k) = if b = 1#1 then X (ix2 r k) else 0 := by
  by_cases hb : b = 1#1
  · subst hb
    unfold_payloads
    pointwise
    rfl
  · obtain rfl : b = 0#1 := by revert hb; revert b; decide
    unfold_payloads
    pointwise
    exact (if_neg (by decide)).symm

theorem pay21_apply (v : BitVec 32) (X : FVec Ideal S16x2048 .f32) (r : Fin 16) (k : Fin 2048) :
    k0_pay21 v X (ix2 r k) = if Scalar.cmpi CmpIPredicate.slt v 31#32 = 1#1 then X (ix2 r k) else 0 := by
  unfold_payloads
  pointwise
  rfl

/-- The extended tile, row by row, from its three parts. -/
theorem filled_apply (i : grid0.Coords) (x0 : Vec Ideal S16x2048 .f32) (x1 : Vec Ideal S512x2048 .f32) (x2 : Vec Ideal S16x2048 .f32)
    (g : Vec Ideal S1x2048 .f32) (E : ℕ → Fin 2048 → EReal)
    (hb : ∀ (q : Fin 16) (k : Fin 2048), (if 0 < (i 0).val % 32 then rms (fun k => x0 (ix2 q k)) (fun k => g (ix2 0 k)) k else 0) = E q.val k)
    (hm : ∀ (r : Fin 512) (k : Fin 2048), rms (fun k => x1 (ix2 r k)) (fun k => g (ix2 0 k)) k = E (16 + r.val) k)
    (ha : ∀ (q : Fin 16) (k : Fin 2048), (if (i 0).val % 32 < 31 then rms (fun k => x2 (ix2 q k)) (fun k => g (ix2 0 k)) k else 0) = E (528 + q.val) k)
    (q : Fin 544) (k : Fin 2048) : filled i x0 x1 x2 g (ix2 q k) = E q.val k := by
  refine extended_apply _ _ _ _ _ _ E (fun q k => ?_) (fun r k => ?_) (fun q k => ?_) q k
  · rw [pay19_apply, pay4_apply, ← hb]
    exact if_congr (tile_first (i 0)) rfl rfl
  · rw [pay20_apply, hm]
  · rw [pay21_apply, pay5_apply, ← ha]
    exact if_congr (tile_last (i 0)) rfl rfl

/-- The gated projection over the extended tile. -/
theorem pay22_apply (xe : Vec Ideal S544x2048 .bf16) (wa wg : Vec Ideal S2048x512 .bf16) (q : Fin 544) (f : Fin 512) :
    k0_pay22 xe wa wg (ix2 q f) = glu (fun k => xe (ix2 q k)) (fun k f => wa (ix2 k f)) (fun k f => wg (ix2 k f)) f := by
  unfold_payloads
  pointwise
  rfl

/-! ## The taps -/

section taps

variable (cw : Vec Ideal S31x512 .f32) (hh : Vec Ideal S544x512 .f32) (r f : Fin 512)

/-- Tap weight `k`, and the projection `k` rows on; zero past their ends. -/
def wt (k : ℕ) : EReal := if h : k < 31 then cw (ix2 ⟨k, h⟩ f) else 0
def pr (k : ℕ) : EReal := if h : k + 1 + r.val < 544 then hh (ix2 ⟨k + 1 + r.val, h⟩ f) else 0

theorem row_apply (k : ℕ) (inb) (h : k < 31) : row cw k inb (ix2 0 f) = wt cw f k := by
  unfold wt
  rw [dif_pos h]
  exact ld_rows (φ := .f32) k cw inb (0 : Fin 1) f h

theorem rows_apply (k : ℕ) (inb) (h : k < 31) : rowsAt hh (k + 1) inb (ix2 r f) = pr hh r f k := by
  have hr : k + 1 + r.val < 544 := by have := r.isLt; omega
  unfold pr
  rw [dif_pos hr]
  exact ld_rows (φ := .f32) (k + 1) hh inb r f hr

theorem taps3_apply : taps3 cw hh (ix2 r f) = taps (wt cw f) (pr hh r f) 3 := by
  unfold taps3
  unfold_payloads
  pointwise
  rw [row_apply cw f 0 _ (by decide), row_apply cw f 1 _ (by decide), row_apply cw f 2 _ (by decide),
    rows_apply hh r f 0 _ (by decide), rows_apply hh r f 1 _ (by decide), rows_apply hh r f 2 _ (by decide)]
  simp only [taps, Finset.sum_range_succ, Finset.sum_range_zero, zero_add]

theorem taps10_apply : taps10 cw hh (ix2 r f) = taps (wt cw f) (pr hh r f) 10 := by
  unfold taps10
  unfold_payloads
  pointwise
  rw [taps3_apply, row_apply cw f 3 _ (by decide), row_apply cw f 4 _ (by decide), row_apply cw f 5 _ (by decide), row_apply cw f 6 _ (by decide), row_apply cw f 7 _ (by decide), row_apply cw f 8 _ (by decide), row_apply cw f 9 _ (by decide),
    rows_apply hh r f 3 _ (by decide), rows_apply hh r f 4 _ (by decide), rows_apply hh r f 5 _ (by decide), rows_apply hh r f 6 _ (by decide), rows_apply hh r f 7 _ (by decide), rows_apply hh r f 8 _ (by decide), rows_apply hh r f 9 _ (by decide)]
  simp only [taps_succ _ _ 3, taps_succ _ _ 4, taps_succ _ _ 5, taps_succ _ _ 6, taps_succ _ _ 7, taps_succ _ _ 8, taps_succ _ _ 9]

theorem taps16_apply : taps16 cw hh (ix2 r f) = taps (wt cw f) (pr hh r f) 16 := by
  unfold taps16
  unfold_payloads
  pointwise
  rw [taps10_apply, row_apply cw f 10 _ (by decide), row_apply cw f 11 _ (by decide), row_apply cw f 12 _ (by decide), row_apply cw f 13 _ (by decide), row_apply cw f 14 _ (by decide), row_apply cw f 15 _ (by decide),
    rows_apply hh r f 10 _ (by decide), rows_apply hh r f 11 _ (by decide), rows_apply hh r f 12 _ (by decide), rows_apply hh r f 13 _ (by decide), rows_apply hh r f 14 _ (by decide), rows_apply hh r f 15 _ (by decide)]
  simp only [taps_succ _ _ 10, taps_succ _ _ 11, taps_succ _ _ 12, taps_succ _ _ 13, taps_succ _ _ 14, taps_succ _ _ 15]

theorem taps23_apply : taps23 cw hh (ix2 r f) = taps (wt cw f) (pr hh r f) 23 := by
  unfold taps23
  unfold_payloads
  pointwise
  rw [taps16_apply, row_apply cw f 16 _ (by decide), row_apply cw f 17 _ (by decide), row_apply cw f 18 _ (by decide), row_apply cw f 19 _ (by decide), row_apply cw f 20 _ (by decide), row_apply cw f 21 _ (by decide), row_apply cw f 22 _ (by decide),
    rows_apply hh r f 16 _ (by decide), rows_apply hh r f 17 _ (by decide), rows_apply hh r f 18 _ (by decide), rows_apply hh r f 19 _ (by decide), rows_apply hh r f 20 _ (by decide), rows_apply hh r f 21 _ (by decide), rows_apply hh r f 22 _ (by decide)]
  simp only [taps_succ _ _ 16, taps_succ _ _ 17, taps_succ _ _ 18, taps_succ _ _ 19, taps_succ _ _ 20, taps_succ _ _ 21, taps_succ _ _ 22]

theorem taps30_apply : taps30 cw hh (ix2 r f) = taps (wt cw f) (pr hh r f) 30 := by
  unfold taps30
  unfold_payloads
  pointwise
  rw [taps23_apply, row_apply cw f 23 _ (by decide), row_apply cw f 24 _ (by decide), row_apply cw f 25 _ (by decide), row_apply cw f 26 _ (by decide), row_apply cw f 27 _ (by decide), row_apply cw f 28 _ (by decide), row_apply cw f 29 _ (by decide),
    rows_apply hh r f 23 _ (by decide), rows_apply hh r f 24 _ (by decide), rows_apply hh r f 25 _ (by decide), rows_apply hh r f 26 _ (by decide), rows_apply hh r f 27 _ (by decide), rows_apply hh r f 28 _ (by decide), rows_apply hh r f 29 _ (by decide)]
  simp only [taps_succ _ _ 23, taps_succ _ _ 24, taps_succ _ _ 25, taps_succ _ _ 26, taps_succ _ _ 27, taps_succ _ _ 28, taps_succ _ _ 29]

end taps

/-! ## The layer norm, and the closing -/

theorem pay6_apply (a b c d : Vec Ideal S1x512x512 .f32) (r : Fin 512) :
    k0_pay6 a b c d (ix2 r 0) = (((∑ f : Fin 512, a (ix3 0 r f) + ∑ f : Fin 512, b (ix3 0 r f)) + ∑ f : Fin 512, c (ix3 0 r f))
      + ∑ f : Fin 512, d (ix3 0 r f)) * Ideal.ofBits .f32 0x3A000000#32 := by
  unfold_payloads
  pointwise

theorem pay1_apply (X : FVec Ideal S512x512 .f32) (w : Vec Ideal S1x512 .f32) (p : Vec Ideal S512x512 .f32) (b : Vec Ideal S1x512 .f32)
    (r f : Fin 512) : k0_pay1 X w p b (ix3 0 r f) = X (ix2 r f) + w (ix2 0 f) * p (ix2 r f) + b (ix2 0 f) := by
  unfold_payloads
  pointwise

theorem pay7_apply (a b c d y : Vec Ideal S1x512x512 .f32) (r : Fin 512) :
    k0_pay7 a b c d y (ix2 r 0) = ∑ f : Fin 512, (y (ix3 0 r f) - k0_pay6 a b c d (ix2 r 0)) * (y (ix3 0 r f) - k0_pay6 a b c d (ix2 r 0)) := by
  unfold k0_pay7
  generalize k0_pay6 a b c d = m
  unfold_payloads
  pointwise

theorem pay9_apply (m q : FVec Ideal S512x1 .f32) (b c d : Vec Ideal S1x512x512 .f32) (r : Fin 512) :
    k0_pay9 m q (k0_pay8 b) c d (ix2 r 0) = Ideal.rsqrt ((((q (ix2 r 0)
      + ∑ f : Fin 512, (b (ix3 0 r f) - m (ix2 r 0)) * (b (ix3 0 r f) - m (ix2 r 0)))
      + ∑ f : Fin 512, (c (ix3 0 r f) - m (ix2 r 0)) * (c (ix3 0 r f) - m (ix2 r 0)))
      + ∑ f : Fin 512, (d (ix3 0 r f) - m (ix2 r 0)) * (d (ix3 0 r f) - m (ix2 r 0))) * Ideal.ofBits .f32 0x3A000000#32
      + Ideal.ofBits .f32 0x358637BD#32) := by
  unfold_payloads
  pointwise

theorem pay11_apply (m q : FVec Ideal S512x1 .f32) (a b c d : Vec Ideal S1x512x512 .f32) (g : Vec Ideal S1x512 .f32) (r f : Fin 512) :
    k0_pay11 m q (k0_pay8 b) c d a g (ix2 r f)
      = (a (ix3 0 r f) - m (ix2 r 0)) * k0_pay9 m q (k0_pay8 b) c d (ix2 r 0) * g (ix2 0 f) := by
  unfold k0_pay11
  generalize k0_pay9 m q (k0_pay8 b) c d = s
  unfold_payloads
  pointwise

theorem pay12_apply (b : Vec Ideal S1x512 .f32) (r f : Fin 512) : k0_pay12 b (ix2 r f) = b (ix2 0 f) := by
  unfold_payloads
  pointwise

theorem pay14_apply (m s : FVec Ideal S512x1 .f32) (y : Vec Ideal S1x512x512 .f32) (g : Vec Ideal S1x512 .f32) (r f : Fin 512) :
    k0_pay14 m s y g (ix2 r f) = (y (ix3 0 r f) - m (ix2 r 0)) * s (ix2 r 0) * g (ix2 0 f) := by
  unfold_payloads
  pointwise

theorem pay13_apply (m s : FVec Ideal S512x1 .f32) (z b : FVec Ideal S512x512 .f32) (w : Vec Ideal S512x2048 .bf16)
    (y : Vec Ideal S1x512x512 .f32) (g b' : Vec Ideal S1x512 .f32) (w' : Vec Ideal S512x2048 .bf16) (r : Fin 512) (n : Fin 2048) :
    k0_pay13 m s k0_pay10 z b w y g b' w' (ix2 r n)
      = ∑ f : Fin 512, silu (z (ix2 r f) + b (ix2 r f)) * w (ix2 f n)
        + ∑ f : Fin 512, silu ((y (ix3 0 r f) - m (ix2 r 0)) * s (ix2 r 0) * g (ix2 0 f) + b' (ix2 0 f)) * w' (ix2 f n) := by
  unfold_payloads
  pointwise
  rfl

theorem pay15_apply (m s : FVec Ideal S512x1 .f32) (acc : FVec Ideal S512x2048 .f32) (z : FVec Ideal S512x512 .f32)
    (b : Vec Ideal S1x512 .f32) (w : Vec Ideal S512x2048 .bf16)
    (y : Vec Ideal S1x512x512 .f32) (g b' : Vec Ideal S1x512 .f32) (w' : Vec Ideal S512x2048 .bf16) (r : Fin 512) (n : Fin 2048) :
    k0_pay15 m s acc z b w y g b' w' (ix2 r n)
      = acc (ix2 r n) + ∑ f : Fin 512, silu (z (ix2 r f) + b (ix2 0 f)) * w (ix2 f n)
        + ∑ f : Fin 512, silu ((y (ix3 0 r f) - m (ix2 r 0)) * s (ix2 r 0) * g (ix2 0 f) + b' (ix2 0 f)) * w' (ix2 f n) := by
  unfold_payloads
  pointwise
  rfl

/-- One channel block of the convolved rows. -/
theorem slab_apply (xe : Vec Ideal S544x2048 .bf16) (wa wg : Vec Ideal S2048x512 .bf16) (cw : Vec Ideal S31x512 .f32) (b : Vec Ideal S1x512 .f32)
    (r f : Fin 512) : slab xe wa wg cw b (ix3 0 r f) = taps (wt cw f) (pr (k0_pay22 xe wa wg) r f) 31 + b (ix2 0 f) := by
  unfold slab
  generalize k0_pay22 xe wa wg = hh
  dsimp only
  rw [pay1_apply, taps30_apply, row_apply cw f 30 _ (by decide), rows_apply hh r f 30 _ (by decide), taps_succ _ _ 30]

section closing

variable (x1 : Vec Ideal S512x2048 .f32) (x4 g b : Vec Ideal S1x2048 .f32) (w : Vec Ideal S2048x2048 .bf16) (Y : Vec Ideal S4x512x512 .f32)
  (r : Fin 512)

/-- The loads of the closing, at block `c`. -/
theorem y_apply (c : Fin 4) (inb) (f : Fin 512) : yAt Y c.val inb (ix3 0 r f) = slabRow Y r (at4 c f) :=
  (ld_slab (φ := .f32) c.val Y inb r f c.isLt).trans (slabRow_at Y r c f).symm
theorem y0_apply (f : Fin 512) : y0 Y (ix3 0 r f) = slabRow Y r (at4 0 f) := y_apply Y r 0 _ f
theorem y1_apply (f : Fin 512) : y1 Y (ix3 0 r f) = slabRow Y r (at4 1 f) := y_apply Y r 1 _ f
theorem y2_apply (f : Fin 512) : y2 Y (ix3 0 r f) = slabRow Y r (at4 2 f) := y_apply Y r 2 _ f
theorem y3_apply (f : Fin 512) : y3 Y (ix3 0 r f) = slabRow Y r (at4 3 f) := y_apply Y r 3 _ f
theorem v_apply (c : Fin 4) (o : ℕ) (ho : o = 512 * c.val) (inb) (f : Fin 512) : vAt g o inb (ix2 0 f) = g (ix2 0 (at4 c f)) :=
  ld_block (φ := .f32) o c ho g inb f
theorem w_apply (c : Fin 4) (o : ℕ) (ho : o = 512 * c.val) (inb) (f : Fin 512) (n : Fin 2048) :
    wAt w o inb (ix2 f n) = w (ix2 (at4 c f) n) := by
  subst ho
  exact ld_rows (φ := .bf16) _ w inb f n (by have := c.isLt; have := f.isLt; omega)

theorem mu_apply : mu Y (ix2 r 0) = mean (slabRow Y r) := by
  unfold mu mean
  rw [pay6_apply, times_inv_width, ← sum_four]
  simp only [y0_apply, y1_apply, y2_apply, y3_apply]

theorem sq0_apply : sq0 Y (ix2 r 0) = ∑ f : Fin 512, (slabRow Y r (at4 0 f) - mean (slabRow Y r)) * (slabRow Y r (at4 0 f) - mean (slabRow Y r)) := by
  have e := mu_apply Y r
  unfold mu at e
  unfold sq0
  rw [pay7_apply, e]
  simp only [y0_apply]

theorem rstd_apply : rstd Y (ix2 r 0) = lnScale (slabRow Y r) := by
  unfold rstd lnScale
  rw [pay9_apply, times_inv_width, sq0_apply, mu_apply]
  simp only [y1_apply, y2_apply, y3_apply]
  rw [sum_four (fun k => (slabRow Y r k - mean (slabRow Y r)) * (slabRow Y r k - mean (slabRow Y r)))]
  rfl

/-- What channel `k` contributes to column `n`. -/
def part (n k : Fin 2048) : EReal :=
  silu (layerNorm (slabRow Y r) (fun k => g (ix2 0 k)) (fun k => b (ix2 0 k)) k) * w (ix2 k n)

theorem half_apply (n : Fin 2048) : half g b w Y (ix2 r n)
    = ∑ f : Fin 512, part g b w Y r n (at4 0 f) + ∑ f : Fin 512, part g b w Y r n (at4 1 f) := by
  have e := rstd_apply Y r
  unfold rstd at e
  unfold half part layerNorm
  rw [pay13_apply]
  simp only [pay11_apply, pay12_apply, e, rstd_apply, mu_apply, y0_apply, y1_apply, v_apply _ 0 0 rfl, v_apply _ 1 512 rfl,
    w_apply w 0 0 rfl, w_apply w 1 512 rfl]

/-- The row the closing norms. -/
theorem mix_apply (n : Fin 2048) :
    k0_pay15 (mu Y) (rstd Y) (half g b w Y) (third g Y) (vAt b 1024 inb_S1x2048_S1x512_0_1024)
      (wAt w 1024 inb_S2048x2048_S512x2048_1024_0) (y3 Y) (vAt g 1536 inb_S1x2048_S1x512_0_1536)
      (vAt b 1536 inb_S1x2048_S1x512_0_1536) (wAt w 1536 inb_S2048x2048_S512x2048_1536_0) (ix2 r n)
      = normMix (slabRow Y r) (fun k => g (ix2 0 k)) (fun k => b (ix2 0 k)) (fun k n => w (ix2 k n)) n := by
  refine Eq.trans ?_ (sum_four (part g b w Y r n))
  rw [pay15_apply, half_apply]
  unfold third part layerNorm
  simp only [pay14_apply, rstd_apply, mu_apply, y2_apply, y3_apply, v_apply _ 2 1024 rfl, v_apply _ 3 1536 rfl,
    w_apply w 2 1024 rfl, w_apply w 3 1536 rfl]

theorem pay18_apply (m s : FVec Ideal S512x1 .f32) (acc : FVec Ideal S512x2048 .f32) (z : FVec Ideal S512x512 .f32)
    (b : Vec Ideal S1x512 .f32) (w : Vec Ideal S512x2048 .bf16)
    (y : Vec Ideal S1x512x512 .f32) (g b' : Vec Ideal S1x512 .f32) (w' : Vec Ideal S512x2048 .bf16) (r : Fin 512) :
    k0_pay18 m s acc z b w y g b' w' (ix2 r 0)
      = Ideal.div (∑ n : Fin 2048, k0_pay15 m s acc z b w y g b' w' (ix2 r n) * k0_pay15 m s acc z b w y g b' w' (ix2 r n))
          (Ideal.ofBits .f32 0x45000000#32) := by
  unfold k0_pay18
  generalize k0_pay15 m s acc z b w y g b' w' = X
  unfold_payloads
  pointwise

theorem pay2_apply (X : FVec Ideal S512x2048 .f32) (s : FVec Ideal S512x1 .f32) (e : Ideal .f32) (n : Fin 2048) :
    k0_pay2 X (k0_pay16 x1) (k0_pay17 x4) s e (ix2 r n)
      = x1 (ix2 r n) + X (ix2 r n) * Ideal.rsqrt (s (ix2 r 0) + e) * x4 (ix2 0 n) := by
  unfold_payloads
  pointwise

/-- What the last point of a row tile stores, from the rows the four slabs hold. -/
theorem closing_apply (n : Fin 2048) : closing x1 x4 g b w Y (ix2 r n)
    = residual (fun k => x1 (ix2 r k)) (normMix (slabRow Y r) (fun k => g (ix2 0 k)) (fun k => b (ix2 0 k)) (fun k n => w (ix2 k n)))
        (fun k => x4 (ix2 0 k)) n := by
  unfold closing
  rw [pay2_apply, pay18_apply]
  simp only [mix_apply]
  rfl

end closing

end Cert.ConfKernelIdeal.Pay

end
-- ==== Proof.Conf.Body.lean ====
/-
  The conformer kernel's body at one grid point, in each of its three cases, from what its buffers hold to what it leaves in
  them.
-/
module

public import proofs.«01_k».proof.Proof.Conf.Cases

@[expose] public section

set_option maxRecDepth 16384

noncomputable section

namespace Cert.ConfKernelIdeal.Body

open Cert.ConfKernelIdeal Cert.ConfKernelIdeal.Gen Cert.Rows Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a2 : Memref sig .tc .vmem S16x2048 .f32) (h2 : a2.IsWhole)
  (a3 : Memref sig .tc .vmem S512x2048 .f32) (h3 : a3.IsWhole)
  (a4 : Memref sig .tc .vmem S16x2048 .f32) (h4 : a4.IsWhole)
  (a5 : Memref sig .tc .vmem S1x2048 .f32) (h5 : a5.IsWhole)
  (a6 : Memref sig .tc .vmem S1x2048 .f32) (h6 : a6.IsWhole)
  (a7 : Memref sig .tc .vmem S2048x512 .bf16) (h7 : a7.IsWhole)
  (a8 : Memref sig .tc .vmem S2048x512 .bf16) (h8 : a8.IsWhole)
  (a9 : Memref sig .tc .vmem S31x512 .f32) (h9 : a9.IsWhole)
  (a10 : Memref sig .tc .vmem S1x512 .f32) (h10 : a10.IsWhole)
  (a11 : Memref sig .tc .vmem S1x2048 .f32) (h11 : a11.IsWhole)
  (a12 : Memref sig .tc .vmem S1x2048 .f32) (h12 : a12.IsWhole)
  (a13 : Memref sig .tc .vmem S2048x2048 .bf16) (h13 : a13.IsWhole)
  (a14 : Memref sig .tc .vmem S512x2048 .f32) (h14 : a14.IsWhole)
  (a15 : Memref sig .tc .vmem S544x2048 .bf16) (h15 : a15.IsWhole)
  (a16 : Memref sig .tc .vmem S544x512 .f32) (h16 : a16.IsWhole)
  (a17 : Memref sig .tc .vmem S4x512x512 .f32) (h17 : a17.IsWhole)
  (x0 : Vec F S16x2048 .f32) (x1 : Vec F S512x2048 .f32) (x2 : Vec F S16x2048 .f32) (x3 : Vec F S1x2048 .f32) (x4 : Vec F S1x2048 .f32) (x5 : Vec F S2048x512 .bf16) (x6 : Vec F S2048x512 .bf16) (x7 : Vec F S31x512 .f32) (x8 : Vec F S1x512 .f32) (x9 : Vec F S1x2048 .f32) (x10 : Vec F S1x2048 .f32) (x11 : Vec F S2048x2048 .bf16)

/-- The twelve input buffers at their blocks. -/
def Ins (c : Dev nD) (a2 : Memref sig .tc .vmem S16x2048 .f32) (a3 : Memref sig .tc .vmem S512x2048 .f32) (a4 : Memref sig .tc .vmem S16x2048 .f32) (a5 : Memref sig .tc .vmem S1x2048 .f32) (a6 : Memref sig .tc .vmem S1x2048 .f32) (a7 : Memref sig .tc .vmem S2048x512 .bf16) (a8 : Memref sig .tc .vmem S2048x512 .bf16) (a9 : Memref sig .tc .vmem S31x512 .f32) (a10 : Memref sig .tc .vmem S1x512 .f32) (a11 : Memref sig .tc .vmem S1x2048 .f32) (a12 : Memref sig .tc .vmem S1x2048 .f32) (a13 : Memref sig .tc .vmem S2048x2048 .bf16)
    (x0 : Vec F S16x2048 .f32) (x1 : Vec F S512x2048 .f32) (x2 : Vec F S16x2048 .f32) (x3 : Vec F S1x2048 .f32) (x4 : Vec F S1x2048 .f32) (x5 : Vec F S2048x512 .bf16) (x6 : Vec F S2048x512 .bf16) (x7 : Vec F S31x512 .f32) (x8 : Vec F S1x512 .f32) (x9 : Vec F S1x2048 .f32) (x10 : Vec F S1x2048 .f32) (x11 : Vec F S2048x2048 .bf16) : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11)

/-- What the one store into the convolved rows leaves. -/
theorem stored (j : ℕ) (hj : k0_off1 i = ![j, 0, 0]) (Y : Vec F S4x512x512 .f32) (q : Vec F S1x512x512 .f32)
    (L : List (View.Piece (Elt F) S4x512x512 .f32))
    (h : L = [⟨Rect.unit (s := S4x512x512) (k0_off1 i) S1x512x512.size (k0_off1_inb i), q⟩]) :
    a17.view.read (Elt F) (a17.view.writes (Elt F) (h17.unread Y) L) = put j q Y := by
  subst h
  exact (read_put a17.view (h17.unread Y) j (k0_off1 i) (k0_off1_inb i) hj q).trans (congrArg (put j q) (h17.read_unread Y))

/-- A tile's first channel block: it fills the extended row tile and stores its slab. -/
theorem tripleA (hc0 : cond0_0 i) (hc1 : ¬cond0_1 i) (j : ℕ) (hj : k0_off1 i = ![j, 0, 0])
    (xs0 : Vec F S544x2048 .bf16) (o : Vec F S512x2048 .f32) (Y : Vec F S4x512x512 .f32) (E : Set ℕ) (K : PUnit → sProp 𝕄) :
    iprop(Ins c a2 a3 a4 a5 a6 a7 a8 a9 a10 a11 a12 a13 x0 x1 x2 x3 x4 x5 x6 x7 x8 x9 x10 x11 ∗ owns (c : Thread nD τ) a14 fullShare o ∗ owns (c : Thread nD τ) a15 fullShare xs0
        ∗ (∃ d, owns (c : Thread nD τ) a16 fullShare d) ∗ owns (c : Thread nD τ) a17 fullShare Y
        ∗ (iprop(Ins c a2 a3 a4 a5 a6 a7 a8 a9 a10 a11 a12 a13 x0 x1 x2 x3 x4 x5 x6 x7 x8 x9 x10 x11 ∗ owns (c : Thread nD τ) a14 fullShare o
            ∗ owns (c : Thread nD τ) a15 fullShare (filled i x0 x1 x2 x3) ∗ (∃ d, owns (c : Thread nD τ) a16 fullShare d)
            ∗ owns (c : Thread nD τ) a17 fullShare (put j (slab (filled i x0 x1 x2 x3) x5 x6 x7 x8) Y)) -∗ K ⟨⟩))
      ⊢ wp frame (wpE (defs₀ (F := F)) Variants.none c none) E (cc0_conformer_mixer i a2 h2 a3 h3 a4 h4 a5 h5 a6 h6 a7 h7 a8 h8 a9 h9 a10 h10 a11 h11 a12 h12 a13 h13 a14 h14 a15 h15 a16 h16 a17 h17) K := by
  unfold Ins
  iintro ⟨⟨H0, H1, H2, H3, H4, H5, H6, H7, H8, H9, H10, H11⟩, H12, HS0, HS1, HS2, Hk⟩
  iapply ((runA c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1).2.2.2.2 o Y E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexists _; iexact HS0
  isplitl [HS1]; · iexact HS1
  isplitl [HS2]; · iexact HS2
  iintro ⟨H0, H1, H2, H3, H4, H5, H6, H7, H8, H9, H10, H11, H12, ⟨%es0, HS0⟩, ⟨%fT1, HS1⟩, HS2⟩
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  isplitl [HS0]
  · unfold owns; iexists _; isplitr
    swap; · iexact HS0
    ipureintro
    exact (View.read_writes_eq_canon _ _ _ (coverA _ _ _ _ _ _ _ _ _ _ _ _ _ _ _ _ _ _ _ _ _ _ _ _ _ _ _ _ _ _ _ _ _ _ _ _ _ _ _ _ _ _ _ _ _ _ _ _)).trans
      (filledA _ _ _ _ _ _ _ _ _ _ _ _ _ _ _ _ _ _ _ _ _ _ _ _ _ _ _ _ _ _ _ _ _ _ _ _ _ _ _ _ _ _ _ _ _ _ _ _)
  isplitl [HS1]
  · iexists _; unfold owns; iexists _; isplitr
    swap; · iexact HS1
    ipureintro; rfl
  unfold owns; iexists _; isplitr
  swap; · iexact HS2
  ipureintro
  exact stored i a17 h17 j hj Y _ _ (slabA _ _ _ _ _ _ _ _ _ _ _ _ _ _ _ _ _ _ _ _ _ _ _ _ _ _ _ _ _ _ _ _ _ _ _ _ _ _ _ _ _ _ _ _ _ _ _ _)

/-- A middle channel block: it stores its slab. -/
theorem tripleB (hc0 : ¬cond0_0 i) (hc1 : ¬cond0_1 i) (j : ℕ) (hj : k0_off1 i = ![j, 0, 0])
    (xs0 : Vec F S544x2048 .bf16) (o : Vec F S512x2048 .f32) (Y : Vec F S4x512x512 .f32) (E : Set ℕ) (K : PUnit → sProp 𝕄) :
    iprop(Ins c a2 a3 a4 a5 a6 a7 a8 a9 a10 a11 a12 a13 x0 x1 x2 x3 x4 x5 x6 x7 x8 x9 x10 x11 ∗ owns (c : Thread nD τ) a14 fullShare o ∗ owns (c : Thread nD τ) a15 fullShare xs0
        ∗ (∃ d, owns (c : Thread nD τ) a16 fullShare d) ∗ owns (c : Thread nD τ) a17 fullShare Y
        ∗ (iprop(Ins c a2 a3 a4 a5 a6 a7 a8 a9 a10 a11 a12 a13 x0 x1 x2 x3 x4 x5 x6 x7 x8 x9 x10 x11 ∗ owns (c : Thread nD τ) a14 fullShare o
            ∗ owns (c : Thread nD τ) a15 fullShare xs0 ∗ (∃ d, owns (c : Thread nD τ) a16 fullShare d)
            ∗ owns (c : Thread nD τ) a17 fullShare (put j (slab xs0 x5 x6 x7 x8) Y)) -∗ K ⟨⟩))
      ⊢ wp frame (wpE (defs₀ (F := F)) Variants.none c none) E (cc0_conformer_mixer i a2 h2 a3 h3 a4 h4 a5 h5 a6 h6 a7 h7 a8 h8 a9 h9 a10 h10 a11 h11 a12 h12 a13 h13 a14 h14 a15 h15 a16 h16 a17 h17) K := by
  unfold Ins
  iintro ⟨⟨H0, H1, H2, H3, H4, H5, H6, H7, H8, H9, H10, H11⟩, H12, HS0, HS1, HS2, Hk⟩
  iapply ((runB c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1 xs0).2.2.2.2 o Y E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, ⟨%fT1, HS1⟩, HS2⟩
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  isplitl [HS0]; · iexact HS0
  isplitl [HS1]
  · iexists _; unfold owns; iexists _; isplitr
    swap; · iexact HS1
    ipureintro; rfl
  unfold owns; iexists _; isplitr
  swap; · iexact HS2
  ipureintro
  exact stored i a17 h17 j hj Y _ _ (slabB _ _ _ _ _ _ _ _ _ _ _ _ _ _ _ _ _ _ _ _ _ _ _ _ _ _ _ _ _ _ _ _ _ _ _ _ _ _ _ _ _ _ _ _ _ _ _ _ _)

/-- The last channel block: it stores its slab and the result of the tile. -/
theorem tripleC (hc0 : ¬cond0_0 i) (hc1 : cond0_1 i) (j : ℕ) (hj : k0_off1 i = ![j, 0, 0])
    (xs0 : Vec F S544x2048 .bf16) (o : Vec F S512x2048 .f32) (Y : Vec F S4x512x512 .f32) (E : Set ℕ) (K : PUnit → sProp 𝕄) :
    iprop(Ins c a2 a3 a4 a5 a6 a7 a8 a9 a10 a11 a12 a13 x0 x1 x2 x3 x4 x5 x6 x7 x8 x9 x10 x11 ∗ owns (c : Thread nD τ) a14 fullShare o ∗ owns (c : Thread nD τ) a15 fullShare xs0
        ∗ (∃ d, owns (c : Thread nD τ) a16 fullShare d) ∗ owns (c : Thread nD τ) a17 fullShare Y
        ∗ (iprop(Ins c a2 a3 a4 a5 a6 a7 a8 a9 a10 a11 a12 a13 x0 x1 x2 x3 x4 x5 x6 x7 x8 x9 x10 x11 ∗ owns (c : Thread nD τ) a14 fullShare (closing x1 x4 x9 x10 x11 (put j (slab xs0 x5 x6 x7 x8) Y))
            ∗ owns (c : Thread nD τ) a15 fullShare xs0 ∗ (∃ d, owns (c : Thread nD τ) a16 fullShare d)
            ∗ owns (c : Thread nD τ) a17 fullShare (put j (slab xs0 x5 x6 x7 x8) Y)) -∗ K ⟨⟩))
      ⊢ wp frame (wpE (defs₀ (F := F)) Variants.none c none) E (cc0_conformer_mixer i a2 h2 a3 h3 a4 h4 a5 h5 a6 h6 a7 h7 a8 h8 a9 h9 a10 h10 a11 h11 a12 h12 a13 h13 a14 h14 a15 h15 a16 h16 a17 h17) K := by
  unfold Ins
  iintro ⟨⟨H0, H1, H2, H3, H4, H5, H6, H7, H8, H9, H10, H11⟩, H12, HS0, HS1, HS2, Hk⟩
  iapply ((runC c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 hc0 hc1 xs0 Y).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, ⟨%e12, H12⟩, HS0, ⟨%fT1, HS1⟩, HS2⟩
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]
  · unfold owns; iexists _; isplitr
    swap; · iexact H12
    ipureintro
    rw [outC]
    funext y
    refine (View.read_writes_cons_unit_of_mem a14.view _ _ _ [] y y rfl fun a => ?_).trans ?_
    · match a with
      | ⟨0, _⟩ => exact (Nat.zero_add _).symm
      | ⟨1, _⟩ => exact (Nat.zero_add _).symm
    · rw [stored i a17 h17 j hj Y _ _ rfl]
  isplitl [HS0]; · iexact HS0
  isplitl [HS1]
  · iexists _; unfold owns; iexists _; isplitr
    swap; · iexact HS1
    ipureintro; rfl
  unfold owns; iexists _; isplitr
  swap; · iexact HS2
  ipureintro
  exact stored i a17 h17 j hj Y _ _ (slabC _ _ _ _ _ _ _ _ _ _ _ _ _ _ _ _ _ _ _ _ _ _ _ _ _ _ _ _ _ _ _ _ _ _ _ _ _ _ _ _ _ _ _ _ _ _ _ _ _ _)

end Cert.ConfKernelIdeal.Body

end
-- ==== Proof.Conf.Frame.lean ====
/-
  The conformer kernel's whole launch: the contents of the extended row tile and of the convolved rows after each grid point, the
  pipeline run from the body's three cases, and the arguments left as they were.
-/
module

public import proofs.«01_k».proof.Proof.Conf.Body
public import Idealize.ShloMosaic.Lib.Claim

@[expose] public section

set_option maxRecDepth 16384

noncomputable section

namespace Cert.ConfKernelIdeal.Body

open Cert.ConfKernelIdeal Cert.ConfKernelIdeal.Gen Cert.Rows Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The extended row tile point `t` would fill, and the slab it computes from the tile `xe`. -/
def tileAt (c : Dev nD) (t : Fin cfg0.N) : Vec F S544x2048 .bf16 := filled (grid0.coords t) (iblk m c 0 t) (iblk m c 1 t) (iblk m c 2 t) (iblk m c 3 t)
def slabAt (c : Dev nD) (t : Fin cfg0.N) (xe : Vec F S544x2048 .bf16) : Vec F S1x512x512 .f32 :=
  slab xe (iblk m c 5 t) (iblk m c 6 t) (iblk m c 7 t) (iblk m c 8 t)

/-- The extended row tile after point `n`: filled at a tile's first point, kept at the others. -/
def xeAt (c : Dev nD) : (n : ℕ) → n < cfg0.N → Vec F S544x2048 .bf16
  | 0, h => tileAt m c ⟨0, h⟩
  | n + 1, h => if (n + 1) % 4 = 0 then tileAt m c ⟨n + 1, h⟩ else xeAt c n (Nat.lt_of_succ_lt h)

/-- The convolved rows after point `n`, where the point and those before it in its tile have stored. -/
def ysAt (c : Dev nD) : (n : ℕ) → n < cfg0.N → Vec F S4x512x512 .f32
  | 0, h => put 0 (slabAt m c ⟨0, h⟩ (xeAt m c 0 h)) (View.canon [])
  | n + 1, h => put ((n + 1) % 4) (slabAt m c ⟨n + 1, h⟩ (xeAt m c (n + 1) h)) (ysAt c n (Nat.lt_of_succ_lt h))

/-- The tile's result, from the convolved rows after the tile's last point. -/
def resultAt (c : Dev nD) (t : Fin cfg0.N) : Vec F S512x2048 .f32 :=
  closing (iblk m c 1 t) (iblk m c 4 t) (iblk m c 9 t) (iblk m c 10 t) (iblk m c 11 t) (ysAt m c t.val t.isLt)

theorem xeAt_first (c : Dev nD) (t : Fin cfg0.N) (h : t.val % 4 = 0) : xeAt m c t.val t.isLt = tileAt m c t := by
  obtain ⟨n, hn⟩ := t
  cases n with
  | zero => rfl
  | succ n => exact if_pos h

theorem xeAt_later (c : Dev nD) (n : ℕ) (hn : n + 1 < cfg0.N) (h : (n + 1) % 4 ≠ 0) :
    xeAt m c (n + 1) hn = xeAt m c n (Nat.lt_of_succ_lt hn) := if_neg h

/-- What the buffers hold before point `n`: after a point, the extended row tile, and rows that agree with the convolved rows on
    the slabs stored so far. -/
def PhiS (c : Dev nD) : (n : ℕ) → n ≤ cfg0.N → sProp 𝕄
  | 0, _ => Pipeline.ΦA spec0 c
  | n + 1, hn => iprop(iprop(owns (c : Thread nD τ) scM0_0 fullShare (xeAt m c n hn) ∗ (∃ d, owns (c : Thread nD τ) scM0_1 fullShare d)
      ∗ (∃ Y, ⌜Agree (n % 4 + 1) Y (ysAt m c n hn)⌝ ∗ owns (c : Thread nD τ) scM0_2 fullShare Y)) ∗ (∃ r, prngReg c r))

/-- Forgetting the contents. -/
theorem PhiS_any (c : Dev nD) (n : ℕ) (hn : n ≤ cfg0.N) : PhiS m c n hn ⊢ Pipeline.ΦA spec0 c := by
  cases n with
  | zero => exact .rfl
  | succ n =>
    rw [PhiA0_eq]
    unfold PhiS
    iintro ⟨⟨HS0, HS1, ⟨%Y, -, HS2⟩⟩, Hg⟩
    isplitl [HS0 HS1 HS2]
    · isplitl [HS0]
      · iexists _; iexact HS0
      isplitl [HS1]
      · iexact HS1
      iexists _; iexact HS2
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => resultAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = resultAt m c t := by dsimp only [dats]

/-- An input window is left at its block. -/
theorem leaves_in (c : Dev nD) (w : Fin 13) (hw : w.val < 12) (t : Fin cfg0.N) :
    (dats m 0 c).leavesExact w t = owns (c : Thread nD τ) ((cfg0.win w).stage (cfg0.slots t w)) fullShare ((dats m 0 c).after w t) := by
  unfold Dat.leavesExact; rw [live_in w hw t]

/-- The input buffers at their blocks at point `t`. -/
def InsAt (c : Dev nD) (t : Fin cfg0.N) : sProp 𝕄 :=
  Ins c (ms0_0 t) (ms0_1 t) (ms0_2 t) (ms0_3 t) (ms0_4 t) (ms0_5 t) (ms0_6 t) (ms0_7 t) (ms0_8 t) (ms0_9 t) (ms0_10 t) (ms0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The body finds the inputs at their blocks, -/
theorem pre_ins (c : Dev nD) (t : Fin cfg0.N) : bodyPre m c t ⊢ iprop(PhiS m c t.val (Nat.le_of_lt t.isLt) ∗ (dats m 0 c).owesAt () t.castSucc
      ∗ InsAt m c t ∗ (∃ d, owns (c : Thread nD τ) (ms0_12 t) fullShare ((dats m 0 c).before 12 t d))) := by
  unfold bodyPre InsAt Ins
  rw [PhiS_castSucc]
  simp only [before0_0_of m (dats m 0 c) (A_eq m c 0) (after0_0 m c) t, before0_1_of m (dats m 0 c) (A_eq m c 1) (after0_1 m c) t, before0_2_of m (dats m 0 c) (A_eq m c 2) (after0_2 m c) t, before0_3_of m (dats m 0 c) (A_eq m c 3) (after0_3 m c) t, before0_4_of m (dats m 0 c) (A_eq m c 4) (after0_4 m c) t, before0_5_of m (dats m 0 c) (A_eq m c 5) (after0_5 m c) t, before0_6_of m (dats m 0 c) (A_eq m c 6) (after0_6 m c) t, before0_7_of m (dats m 0 c) (A_eq m c 7) (after0_7 m c) t, before0_8_of m (dats m 0 c) (A_eq m c 8) (after0_8 m c) t, before0_9_of m (dats m 0 c) (A_eq m c 9) (after0_9 m c) t, before0_10_of m (dats m 0 c) (A_eq m c 10) (after0_10 m c) t, before0_11_of m (dats m 0 c) (A_eq m c 11) (after0_11 m c) t]
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  isplitl [Hf]; · iexact Hf
  isplitl [Ho]; · iexact Ho
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexists _; iexact H12

/-- and leaves them there. -/
theorem post_ins (c : Dev nD) (t : Fin cfg0.N) : iprop(PhiS m c (t.val + 1) t.isLt ∗ (dats m 0 c).owesAt () t.castSucc
      ∗ InsAt m c t ∗ (dats m 0 c).leavesExact 12 t) ⊢ bodyPost m c t := by
  unfold bodyPost InsAt Ins
  rw [show (dats m 0 c).owesAt () t.succ = (dats m 0 c).owesAt () t.castSucc from rfl]
  rw [show (dats m 0 c).Φ t.succ = PhiS m c (t.val + 1) t.isLt from rfl]
  rw [leaves_in m c 0 (by decide) t, after0_0, leaves_in m c 1 (by decide) t, after0_1, leaves_in m c 2 (by decide) t, after0_2, leaves_in m c 3 (by decide) t, after0_3, leaves_in m c 4 (by decide) t, after0_4, leaves_in m c 5 (by decide) t, after0_5, leaves_in m c 6 (by decide) t, after0_6, leaves_in m c 7 (by decide) t, after0_7, leaves_in m c 8 (by decide) t, after0_8, leaves_in m c 9 (by decide) t, after0_9, leaves_in m c 10 (by decide) t, after0_10, leaves_in m c 11 (by decide) t, after0_11]
  iintro ⟨Hf, Ho, ⟨H0, H1, H2, H3, H4, H5, H6, H7, H8, H9, H10, H11⟩, H12⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The slab a point stores into is its channel block's. -/
theorem slot_eq (t : Fin cfg0.N) : k0_off1 (grid0.coords t) = ![t.val % 4, 0, 0] := by
  have e1 : (grid0.coords t 1).val = t.val / 1 % 4 := Pipeline.Grid.coords_val t 1 (by decide) rfl
  have h : t.val % 4 < 4 := Nat.mod_lt _ (by decide)
  unfold k0_off1
  rw [e1, Nat.div_one]
  generalize t.val % 4 = j at h
  match j, h with
  | 0, _ | 1, _ | 2, _ | 3, _ => rfl

/-- The agreement after a point, from the one before it. -/
theorem agree_first (c : Dev nD) (t : Fin cfg0.N) (h : t.val % 4 = 0) (Y : Vec F S4x512x512 .f32) :
    Agree (t.val % 4 + 1) (put (t.val % 4) (slabAt m c t (tileAt m c t)) Y) (ysAt m c t.val t.isLt) := by
  rw [← xeAt_first m c t h]
  obtain ⟨n, hn⟩ := t
  cases n with
  | zero => exact agree_put _ (agree_zero _ _)
  | succ n =>
    refine agree_put (n := (n + 1) % 4) _ ?_
    dsimp only at h ⊢
    rw [h]
    exact agree_zero _ _

theorem agree_later (c : Dev nD) (n : ℕ) (hn : n + 1 < cfg0.N) (h : (n + 1) % 4 ≠ 0) (Y : Vec F S4x512x512 .f32)
    (hY : Agree (n % 4 + 1) Y (ysAt m c n (Nat.lt_of_succ_lt hn))) :
    Agree ((n + 1) % 4 + 1) (put ((n + 1) % 4) (slabAt m c ⟨n + 1, hn⟩ (xeAt m c n (Nat.lt_of_succ_lt hn))) Y) (ysAt m c (n + 1) hn) := by
  rw [← xeAt_later m c n hn h]
  refine agree_put (n := (n + 1) % 4) _ ?_
  rw [show (n + 1) % 4 = n % 4 + 1 by omega]
  exact hY

/-- A tile's first point. -/
theorem body_first (c : Dev nD) (t : Fin cfg0.N) (h0 : t.val % 4 = 0) :
    bodyPre m c t ⊢ wp frame (wpE (defs₀ (F := F)) Variants.none c none) Set.univ (bodyAt0 t) (fun _ => bodyPost m c t) := by
  have c0 := (hcond0_0 t).mpr h0
  have c1 : ¬cond0_1 (grid0.coords t) := fun h => by have := (hcond0_1 t).mp h; omega
  refine (pre_ins m c t).trans ((sep_mono_left ((PhiS_any m c _ _).trans (Entails.of_eq (PhiA0_eq c)))).trans ?_)
  unfold InsAt bodyAt0
  iintro ⟨⟨⟨⟨%xs0, HS0⟩, HS1, ⟨%Y, HS2⟩⟩, Hg⟩, Ho, Hi, ⟨%d12, H12⟩⟩
  iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 _ scM0_1 _ scM0_2 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) c0 c1 (t.val % 4) (slot_eq t) xs0 _ Y Set.univ (fun _ => bodyPost m c t))
  isplitl [Hi]; · iexact Hi
  isplitl [H12]; · iexact H12
  isplitl [HS0]; · iexact HS0
  isplitl [HS1]; · iexact HS1
  isplitl [HS2]; · iexact HS2
  iintro ⟨Hi, H12, HS0, HS1, HS2⟩
  iapply (post_ins m c t)
  unfold PhiS InsAt
  isplitl [HS0 HS1 HS2 Hg]
  · isplitl [HS0 HS1 HS2]
    · isplitl [HS0]
      · rw [xeAt_first m c t h0]
        iexact HS0
      isplitl [HS1]; · iexact HS1
      iexists _
      isplitr
      · ipureintro
        exact agree_first m c t h0 Y
      iexact HS2
    iexact Hg
  isplitl [Ho]; · iexact Ho
  isplitl [Hi]; · iexact Hi
  rw [Dat.leavesExact_idle (dats m 0 c) 12 t (idleAt0_12_A t c0 c1) (noFlush0_12_A t c0 c1)]
  iexists _; iexact H12

/-- A tile's middle points. -/
theorem body_middle (c : Dev nD) (t : Fin cfg0.N) (h0 : t.val % 4 ≠ 0) (h1 : t.val % 4 ≠ 3) :
    bodyPre m c t ⊢ wp frame (wpE (defs₀ (F := F)) Variants.none c none) Set.univ (bodyAt0 t) (fun _ => bodyPost m c t) := by
  have c0 : ¬cond0_0 (grid0.coords t) := fun h => h0 ((hcond0_0 t).mp h)
  have c1 : ¬cond0_1 (grid0.coords t) := fun h => h1 ((hcond0_1 t).mp h)
  refine (pre_ins m c t).trans ?_
  obtain ⟨n, hn⟩ := t
  cases n with
  | zero => exact absurd rfl h0
  | succ n =>
  let t : Fin cfg0.N := ⟨n + 1, hn⟩
  unfold InsAt bodyAt0 PhiS
  iintro ⟨⟨⟨HS0, HS1, ⟨%Y, %hY, HS2⟩⟩, Hg⟩, Ho, Hi, ⟨%d12, H12⟩⟩
  iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 _ scM0_1 _ scM0_2 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) c0 c1 (t.val % 4) (slot_eq t) (xeAt m c n (Nat.lt_of_succ_lt hn)) _ Y Set.univ (fun _ => bodyPost m c t))
  isplitl [Hi]; · iexact Hi
  isplitl [H12]; · iexact H12
  isplitl [HS0]; · iexact HS0
  isplitl [HS1]; · iexact HS1
  isplitl [HS2]; · iexact HS2
  iintro ⟨Hi, H12, HS0, HS1, HS2⟩
  iapply (post_ins m c t)
  unfold PhiS InsAt
  isplitl [HS0 HS1 HS2 Hg]
  · isplitl [HS0 HS1 HS2]
    · isplitl [HS0]
      · rw [xeAt_later m c n hn h0]
        iexact HS0
      isplitl [HS1]; · iexact HS1
      iexists _
      isplitr
      · ipureintro
        exact agree_later m c n hn h0 Y hY
      iexact HS2
    iexact Hg
  isplitl [Ho]; · iexact Ho
  isplitl [Hi]; · iexact Hi
  rw [Dat.leavesExact_idle (dats m 0 c) 12 t (idleAt0_12_B t c0 c1) (noFlush0_12_B t c0 c1)]
  iexists _; iexact H12

/-- A tile's last point. -/
theorem body_last (c : Dev nD) (t : Fin cfg0.N) (h1 : t.val % 4 = 3) :
    bodyPre m c t ⊢ wp frame (wpE (defs₀ (F := F)) Variants.none c none) Set.univ (bodyAt0 t) (fun _ => bodyPost m c t) := by
  have h0 : t.val % 4 ≠ 0 := by omega
  have c0 : ¬cond0_0 (grid0.coords t) := fun h => h0 ((hcond0_0 t).mp h)
  have c1 := (hcond0_1 t).mpr h1
  refine (pre_ins m c t).trans ?_
  obtain ⟨n, hn⟩ := t
  cases n with
  | zero => exact absurd rfl h0
  | succ n =>
  let t : Fin cfg0.N := ⟨n + 1, hn⟩
  unfold InsAt bodyAt0 PhiS
  iintro ⟨⟨⟨HS0, HS1, ⟨%Y, %hY, HS2⟩⟩, Hg⟩, Ho, Hi, ⟨%d12, H12⟩⟩
  iapply (tripleC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 _ scM0_1 _ scM0_2 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) c0 c1 (t.val % 4) (slot_eq t) (xeAt m c n (Nat.lt_of_succ_lt hn)) _ Y Set.univ (fun _ => bodyPost m c t))
  isplitl [Hi]; · iexact Hi
  isplitl [H12]; · iexact H12
  isplitl [HS0]; · iexact HS0
  isplitl [HS1]; · iexact HS1
  isplitl [HS2]; · iexact HS2
  iintro ⟨Hi, H12, HS0, HS1, HS2⟩
  iapply (post_ins m c t)
  unfold PhiS InsAt
  isplitl [HS0 HS1 HS2 Hg]
  · isplitl [HS0 HS1 HS2]
    · isplitl [HS0]
      · rw [xeAt_later m c n hn h0]
        iexact HS0
      isplitl [HS1]; · iexact HS1
      iexists _
      isplitr
      · ipureintro
        exact agree_later m c n hn h0 Y hY
      iexact HS2
    iexact Hg
  isplitl [Ho]; · iexact Ho
  isplitl [Hi]; · iexact Hi
  rw [show (dats m 0 c).leavesExact 12 t = owns (c : Thread nD τ) (ms0_12 t) fullShare (resultAt m c t) from by
    unfold Dat.leavesExact; rw [liveAt0_12_C t c0 c1, after0_12]]
  unfold resultAt
  rw [← show put (t.val % 4) (slabAt m c t (xeAt m c n (Nat.lt_of_succ_lt hn))) Y = ysAt m c t.val t.isLt from
    agree_all ((congrArg (fun k => Agree (k + 1) _ _) h1).mp (agree_later m c n hn h0 Y hY))]
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact body_first m c t h0
  · by_cases h1 : t.val % 4 = 3
    · exact body_last m c t h1
    · exact body_middle m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch: every array ends at what the proof data compute, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl)
    (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are left as they were, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.ConfKernelIdeal.Body

end
-- ==== Proof.Conf.Blocks.lean ====
/-
  What the conformer kernel's input blocks hold at a grid point, read from the arguments: point `t` is row tile
  `t / 4`, channel tile `t % 4`. Beside its own rows a tile is given the 16 rows before it and the 16 rows after it.
-/
module

public import proofs.«01_k».proof.Proof.Common.Halo
public import proofs.«01_k».proof.Proof.Conf.Frame
public import Idealize.ShloMosaic.Lib.Pipeline.ValueKit.Point
public import Idealize.ShloMosaic.Lib.Pointwise

@[expose] public section

noncomputable section

namespace Cert.ConfKernelIdeal.Blocks

open Cert.ConfKernelIdeal Cert.ConfKernelIdeal.Gen Idealize.ShloMosaic Idealize.ShloMosaic.TcCoe Idealize.SL.Sem Cert.Spec

variable (m : (ℓ : Loc nD τ sig) → Buf (Elt Ideal) ℓ) (c : Dev nD)

theorem idx0 : ∀ t : Fin cfg0.N, win0_0.index t 0 = t.val / 4 * 32 - 1 ∧ win0_0.index t 1 = 0 :=
  (by decide +kernel : ∀ t : Fin grid0.N, win0_0.index t 0 = t.val / 4 * 32 - 1 ∧ win0_0.index t 1 = 0)
theorem idx1 : ∀ t : Fin cfg0.N, win0_1.index t 0 = t.val / 4 ∧ win0_1.index t 1 = 0 :=
  (by decide +kernel : ∀ t : Fin grid0.N, win0_1.index t 0 = t.val / 4 ∧ win0_1.index t 1 = 0)
theorem idx2 : ∀ t : Fin cfg0.N, win0_2.index t 0 = min ((t.val / 4 + 1) * 32) 2047 ∧ win0_2.index t 1 = 0 :=
  (by decide +kernel : ∀ t : Fin grid0.N, win0_2.index t 0 = min ((t.val / 4 + 1) * 32) 2047 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = t.val % 4 :=
  (by decide +kernel : ∀ t : Fin grid0.N, win0_5.index t 0 = 0 ∧ win0_5.index t 1 = t.val % 4)
theorem idx6 : ∀ t : Fin cfg0.N, win0_6.index t 0 = 0 ∧ win0_6.index t 1 = 4 + t.val % 4 :=
  (by decide +kernel : ∀ t : Fin grid0.N, win0_6.index t 0 = 0 ∧ win0_6.index t 1 = 4 + t.val % 4)
theorem idx7 : ∀ t : Fin cfg0.N, win0_7.index t 0 = 0 ∧ win0_7.index t 1 = t.val % 4 :=
  (by decide +kernel : ∀ t : Fin grid0.N, win0_7.index t 0 = 0 ∧ win0_7.index t 1 = t.val % 4)
theorem idx8 : ∀ t : Fin cfg0.N, win0_8.index t 0 = 0 ∧ win0_8.index t 1 = t.val % 4 :=
  (by decide +kernel : ∀ t : Fin grid0.N, win0_8.index t 0 = 0 ∧ win0_8.index t 1 = t.val % 4)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = t.val / 4 ∧ win0_12.index t 1 = 0 :=
  (by decide +kernel : ∀ t : Fin grid0.N, win0_12.index t 0 = t.val / 4 ∧ win0_12.index t 1 = 0)

/-- The row tile a point's grid coordinate names. -/
theorem coord0 : ∀ t : Fin cfg0.N, (grid0.coords t 0).val = t.val / 4 :=
  (by decide +kernel : ∀ t : Fin grid0.N, (grid0.coords t 0).val = t.val / 4)

theorem lt_N (t : Fin cfg0.N) : t.val < 256 := lt_of_lt_of_eq t.isLt N_0

/-- The flattened row that row `r` of point `t`'s row tile is. -/
def rowOf (t : Fin cfg0.N) (r : Fin 512) : Fin 32768 := ⟨512 * (t.val / 4) + r.val, by have := lt_N t; have := r.isLt; omega⟩

/-- The channel that place `f` of point `t`'s channel tile is, and its columns in the input weights. -/
def chanOf (t : Fin cfg0.N) (f : Fin 512) : Fin 2048 := ⟨512 * (t.val % 4) + f.val, by have := f.isLt; omega⟩
def colOf (o : Fin 2) (f : Fin 2048) : Fin 4096 := ⟨2048 * o.val + f.val, by have := f.isLt; have := o.isLt; omega⟩

/-- Row `R` of the flattened input. -/
def xrow (R : Fin 32768) (k : Fin 2048) : EReal :=
  (m ((c : Thread nD τ).loc main_arg0) : S2x16384x2048.Idx → EReal) (ix3 (seqOf R) (tokOf R) k)

theorem blk_before (t : Fin cfg0.N) (q : Fin 16) (k : Fin 2048) :
    iblk m c 0 t (ix2 q k) = xrow m c ⟨16 * (t.val / 4 * 32 - 1) + q.val, by have := lt_N t; have := q.isLt; omega⟩ k := by
  have h := lt_N t
  have hq := q.isLt
  unfold xrow seqOf tokOf
  blk_ext! [iblk, V, idx0 t]

theorem blk_x (t : Fin cfg0.N) (r : Fin 512) (k : Fin 2048) : iblk m c 1 t (ix2 r k) = xrow m c (rowOf t r) k := by
  have h := lt_N t
  unfold xrow rowOf seqOf tokOf
  blk_ext! [iblk, V, idx1 t]

theorem blk_after (t : Fin cfg0.N) (q : Fin 16) (k : Fin 2048) :
    iblk m c 2 t (ix2 q k) = xrow m c ⟨16 * min ((t.val / 4 + 1) * 32) 2047 + q.val, by have := lt_N t; have := q.isLt; omega⟩ k := by
  have h := lt_N t
  have hq := q.isLt
  unfold xrow seqOf tokOf
  blk_ext! [iblk, V, idx2 t]

theorem blk_pre (t : Fin cfg0.N) (k : Fin 2048) :
    iblk m c 3 t (ix2 0 k) = (m ((c : Thread nD τ).loc main_arg1) : S2048.Idx → EReal) (ix1 k) := by
  blk_ext! [iblk, V, idx3 t]

theorem blk_post (t : Fin cfg0.N) (k : Fin 2048) :
    iblk m c 4 t (ix2 0 k) = (m ((c : Thread nD τ).loc main_arg2) : S2048.Idx → EReal) (ix1 k) := by
  blk_ext! [iblk, V, idx4 t]

theorem blk_wa (t : Fin cfg0.N) (k : Fin 2048) (f : Fin 512) :
    iblk m c 5 t (ix2 k f) = (m ((c : Thread nD τ).loc main_arg3) : S2048x4096.Idx → EReal) (ix2 k (colOf 0 (chanOf t f))) := by
  unfold colOf chanOf
  blk_ext! [iblk, V, idx5 t]

theorem blk_wg (t : Fin cfg0.N) (k : Fin 2048) (f : Fin 512) :
    iblk m c 6 t (ix2 k f) = (m ((c : Thread nD τ).loc main_arg3) : S2048x4096.Idx → EReal) (ix2 k (colOf 1 (chanOf t f))) := by
  unfold colOf chanOf
  blk_ext! [iblk, V, idx6 t]

theorem blk_cw (t : Fin cfg0.N) (a : Fin 31) (f : Fin 512) :
    iblk m c 7 t (ix2 a f) = (m ((c : Thread nD τ).loc main_arg4) : S31x2048.Idx → EReal) (ix2 a (chanOf t f)) := by
  unfold chanOf
  blk_ext! [iblk, V, idx7 t]

theorem blk_cb (t : Fin cfg0.N) (f : Fin 512) :
    iblk m c 8 t (ix2 0 f) = (m ((c : Thread nD τ).loc main_arg5) : S2048.Idx → EReal) (ix1 (chanOf t f)) := by
  unfold chanOf
  blk_ext! [iblk, V, idx8 t]

theorem blk_lg (t : Fin cfg0.N) (k : Fin 2048) :
    iblk m c 9 t (ix2 0 k) = (m ((c : Thread nD τ).loc main_arg6) : S2048.Idx → EReal) (ix1 k) := by
  blk_ext! [iblk, V, idx9 t]

theorem blk_lb (t : Fin cfg0.N) (k : Fin 2048) :
    iblk m c 10 t (ix2 0 k) = (m ((c : Thread nD τ).loc main_arg7) : S2048.Idx → EReal) (ix1 k) := by
  blk_ext! [iblk, V, idx10 t]

theorem blk_wo (t : Fin cfg0.N) (f n : Fin 2048) :
    iblk m c 11 t (ix2 f n) = (m ((c : Thread nD τ).loc main_arg8) : S2048x2048.Idx → EReal) (ix2 f n) := by
  blk_ext! [iblk, V, idx11 t]

end Cert.ConfKernelIdeal.Blocks

end
-- ==== Proof.Conf.Array.lean ====
/-
  What the conformer kernel's result array holds: at row `R`, column `n`, the sublayer's row applied to the
  flattened input. The channel blocks are stored point by point; after the last of a row tile the convolved rows are whole.
-/
module

public import proofs.«01_k».proof.Proof.Conf.Payloads
public import proofs.«01_k».proof.Proof.Conf.Blocks

@[expose] public section

noncomputable section

namespace Cert.ConfKernelIdeal.Array

open Cert.ConfKernelIdeal Cert.ConfKernelIdeal.Gen Cert.ConfKernelIdeal.Blocks Cert.ConfKernelIdeal.Pay Cert.ConfKernelIdeal.Body
open Idealize.ShloMosaic Idealize.ShloMosaic.TcCoe Idealize.SL.Sem Cert.Spec

variable (m : (ℓ : Loc nD τ sig) → Buf (Elt Ideal) ℓ) (c : Dev nD)

/-- The gains and weights, as the functions of the mathematics. -/
def pre (k : Fin 2048) : EReal := (m ((c : Thread nD τ).loc main_arg1) : S2048.Idx → EReal) (ix1 k)
def post (k : Fin 2048) : EReal := (m ((c : Thread nD τ).loc main_arg2) : S2048.Idx → EReal) (ix1 k)
def win (o : Fin 2) (k f : Fin 2048) : EReal := (m ((c : Thread nD τ).loc main_arg3) : S2048x4096.Idx → EReal) (ix2 k (colOf o f))
def cw (k : ℕ) (f : Fin 2048) : EReal :=
  if h : k < 31 then (m ((c : Thread nD τ).loc main_arg4) : S31x2048.Idx → EReal) (ix2 ⟨k, h⟩ f) else 0
def cb (f : Fin 2048) : EReal := (m ((c : Thread nD τ).loc main_arg5) : S2048.Idx → EReal) (ix1 f)
def lg (k : Fin 2048) : EReal := (m ((c : Thread nD τ).loc main_arg6) : S2048.Idx → EReal) (ix1 k)
def lb (k : Fin 2048) : EReal := (m ((c : Thread nD τ).loc main_arg7) : S2048.Idx → EReal) (ix1 k)
def wo (f n : Fin 2048) : EReal := (m ((c : Thread nD τ).loc main_arg8) : S2048x2048.Idx → EReal) (ix2 f n)

/-- The normed rows. -/
def nrm (R : Fin 32768) : Fin 2048 → EReal := rms (xrow m c R) (pre m c)

/-- The convolved rows. -/
def conv (R : Fin 32768) : Fin 2048 → EReal := convRow (nrm m c) (win m c 0) (win m c 1) (cw m c) (cb m c) R

theorem tile_lt (t : Fin cfg0.N) : t.val / 4 < 64 := by have := lt_N t; omega

/-- What the first scratch is given: the extended row tile, normed. -/
theorem extended (t : Fin cfg0.N) (q : Fin 544) (k : Fin 2048) :
    filled (grid0.coords t) (iblk m c 0 t) (iblk m c 1 t) (iblk m c 2 t) (iblk m c 3 t) (ix2 q k)
      = extRow (nrm m c) (t.val / 4) (tile_lt t) q.val k := by
  have ht := lt_N t
  have ec := coord0 t
  have eg : (fun k => iblk m c 3 t (ix2 0 k)) = pre m c := funext fun k => blk_pre m c t k
  refine filled_apply _ _ _ _ _ _ (fun q k => ?_) (fun r k => ?_) (fun q k => ?_) q k
  · have hq := q.isLt
    rw [ec]
    unfold extRow
    by_cases h : 0 < t.val / 4 % 32
    · rw [if_pos h, dif_pos (by omega), eg, show (fun k => iblk m c 0 t (ix2 q k)) = _ from funext fun k => blk_before m c t q k]
      exact congrArg (fun R => nrm m c R k) (Fin.ext (by show 16 * (t.val / 4 * 32 - 1) + q.val = 512 * (t.val / 4) + q.val - 16; omega))
    · rw [if_neg h, dif_neg (by omega)]
  · have hr := r.isLt
    unfold extRow
    rw [dif_pos (by omega), eg, show (fun k => iblk m c 1 t (ix2 r k)) = _ from funext fun k => blk_x m c t r k]
    exact congrArg (fun R => nrm m c R k) (Fin.ext (by show 512 * (t.val / 4) + r.val = 512 * (t.val / 4) + (16 + r.val) - 16; omega))
  · have hq := q.isLt
    rw [ec]
    unfold extRow
    by_cases h : t.val / 4 % 32 < 31
    · rw [if_pos h, dif_pos (by omega), eg, show (fun k => iblk m c 2 t (ix2 q k)) = _ from funext fun k => blk_after m c t q k]
      exact congrArg (fun R => nrm m c R k) (Fin.ext (by show 16 * min ((t.val / 4 + 1) * 32) 2047 + q.val = 512 * (t.val / 4) + (528 + q.val) - 16; omega))
    · rw [if_neg h, dif_neg (by omega)]

/-- The gated projection of the row `k - 15` places on, in the extended tile: a tap. -/
theorem glu_tap (t : Fin cfg0.N) (xe : Vec Ideal S544x2048 .bf16) (r f : Fin 512) (k : ℕ) (hk : k < 31)
    (hx : ∀ (q : Fin 544) (k : Fin 2048), xe (ix2 q k) = extRow (nrm m c) (t.val / 4) (tile_lt t) q.val k) :
    pr (k0_pay22 xe (iblk m c 5 t) (iblk m c 6 t)) r f k
      = tap 15 (fun R => glu (nrm m c R) (win m c 0) (win m c 1) (chanOf t f)) (rowOf t r) k := by
  have hr := r.isLt
  have e1 : glu (extRow (nrm m c) (t.val / 4) (tile_lt t) (k + 1 + r.val)) (fun k f => iblk m c 5 t (ix2 k f)) (fun k f => iblk m c 6 t (ix2 k f)) f
      = glu (extRow (nrm m c) (t.val / 4) (tile_lt t) (k + 1 + r.val)) (win m c 0) (win m c 1) (chanOf t f) := by
    unfold glu dot win
    simp only [blk_wa, blk_wg]
  unfold pr
  rw [dif_pos (by omega), pay22_apply]
  simp only [hx]
  rw [e1]
  exact ext_tap (nrm m c) _ _ (fun v => glu v (win m c 0) (win m c 1) (chanOf t f)) (glu_zero _ _ _) 15 k _ r.val r.isLt
    (by omega) (by omega) (rowOf t r) rfl

/-- A tap weight of a channel block. -/
theorem wt_blk (t : Fin cfg0.N) (f : Fin 512) (k : ℕ) : wt (iblk m c 7 t) f k = cw m c k (chanOf t f) := by
  unfold wt cw
  by_cases h : k < 31
  · rw [dif_pos h, dif_pos h, blk_cw]
  · rw [dif_neg h, dif_neg h]

/-- One channel block, the first scratch holding the extended tile. -/
theorem stored (t : Fin cfg0.N) (xe : Vec Ideal S544x2048 .bf16) (r f : Fin 512)
    (hx : ∀ (q : Fin 544) (k : Fin 2048), xe (ix2 q k) = extRow (nrm m c) (t.val / 4) (tile_lt t) q.val k) :
    slabAt m c t xe (ix3 0 r f) = conv m c (rowOf t r) (chanOf t f) := by
  unfold slabAt conv convRow
  rw [slab_apply, blk_cb]
  refine congrArg (· + cb m c (chanOf t f)) (Finset.sum_congr rfl fun k hk => ?_)
  rw [wt_blk, glu_tap m c t xe r f k (Finset.mem_range.mp hk) hx]

/-- Points of one row tile are about the same rows. -/
theorem rowOf_pred (t t' : Fin cfg0.N) (h : t.val / 4 = t'.val / 4) (r : Fin 512) : rowOf t r = rowOf t' r :=
  Fin.ext (by show 512 * (t.val / 4) + r.val = 512 * (t'.val / 4) + r.val; rw [h])

theorem extRow_pred (N : Fin 32768 → Fin 2048 → EReal) (i i' : ℕ) (hi : i < 64) (hi' : i' < 64) (h : i = i') (e : ℕ) :
    extRow N i hi e = extRow N i' hi' e := by subst h; rfl

/-- After every point the first scratch holds the extended tile. -/
theorem holds_tile : ∀ (n : ℕ) (h : n < cfg0.N) (q : Fin 544) (k : Fin 2048),
    xeAt m c n h (ix2 q k) = extRow (nrm m c) (n / 4) (tile_lt ⟨n, h⟩) q.val k := by
  intro n
  induction n with
  | zero =>
    intro h q k
    rw [xeAt_first m c ⟨0, h⟩ rfl]
    exact extended m c ⟨0, h⟩ q k
  | succ n ih =>
    intro h q k
    by_cases h0 : (n + 1) % 4 = 0
    · rw [xeAt_first m c ⟨n + 1, h⟩ h0]
      exact extended m c ⟨n + 1, h⟩ q k
    · rw [xeAt_later m c n h h0, ih]
      exact congrFun (extRow_pred _ _ _ _ _ (by omega) _) k

/-- After every point the second scratch holds the channel blocks so far. -/
theorem holds_slabs : ∀ (n : ℕ) (h : n < cfg0.N) (d : Fin 4) (_ : d.val ≤ n % 4) (r f : Fin 512),
    ysAt m c n h (ix3 d r f) = conv m c (rowOf ⟨n, h⟩ r) (at4 d f) := by
  have own : ∀ (n : ℕ) (h : n < cfg0.N) (d : Fin 4) (_ : d.val = n % 4) (r f : Fin 512),
      slabAt m c ⟨n, h⟩ (xeAt m c n h) (ix3 0 r f) = conv m c (rowOf ⟨n, h⟩ r) (at4 d f) := fun n h d e r f => by
    rw [stored m c ⟨n, h⟩ _ r f (holds_tile m c n h)]
    exact congrArg (conv m c _) (Fin.ext (by show 512 * (n % 4) + f.val = 512 * d.val + f.val; rw [e]))
  intro n
  induction n with
  | zero =>
    intro h d hd r f
    exact (if_pos (show d.val = 0 by omega)).trans (own 0 h d (by omega) r f)
  | succ n ih =>
    intro h d hd r f
    by_cases e : d.val = (n + 1) % 4
    · exact (if_pos e).trans (own (n + 1) h d e r f)
    · refine (if_neg e).trans ?_
      rw [ih (by omega) d (by omega) r f, rowOf_pred ⟨n, by omega⟩ ⟨n + 1, h⟩ (by dsimp only; omega) r]

/-- The sublayer's row of flattened row `R`. -/
def result (R : Fin 32768) : Fin 2048 → EReal :=
  confRow (xrow m c) (pre m c) (post m c) (win m c 0) (win m c 1) (cw m c) (cb m c) (lg m c) (lb m c) (wo m c) R

/-- What the last point of a row tile writes back. -/
theorem written (t : Fin cfg0.N) (ht : t.val % 4 = 3) (r : Fin 512) (n : Fin 2048) :
    resultAt m c t (ix2 r n) = result m c (rowOf t r) n := by
  have ey : slabRow (ysAt m c t.val t.isLt) r = conv m c (rowOf t r) := funext fun k => by
    have hk := k.isLt
    unfold slabRow
    rw [holds_slabs m c t.val t.isLt _ (by show k.val / 512 ≤ t.val % 4; omega)]
    exact congrArg (conv m c _) (Fin.ext (by show 512 * (k.val / 512) + k.val % 512 = k.val; omega))
  unfold resultAt result confRow
  rw [closing_apply, ey]
  simp only [blk_x, blk_post, blk_lg, blk_lb, blk_wo]
  rfl

/-! ## The array, and the run -/

/-- THE ARRAY the kernel leaves. -/
def final : S32768x2048.Idx → EReal := fun i => result m c (i 0) (i 1)

/-- What a row tile's last point writes back is its block of the array. -/
theorem flushed (t : Fin cfg0.N) (hf : (cfg0.win 12).flush t = true) :
    (dats m 0 c).flushed 12 t = ((cfg0.win 12).blk t).view.read (Elt Ideal) (final m c) := by
  have ht : t.val % 4 = 3 := (flush0_12 t).mp hf
  show (cfg0.win 12).cut (grid0.coords t) ((dats m 0 c).after 12 t) = _
  rw [after0_12]
  obtain ⟨e0, e1⟩ := idx12 t
  funext y
  have hb0 : (((cfg0.win 12).blk t).view.emb y 0).val = win0_12.index t (0 : Fin 2) * 512 + 1 * (y 0).val := rfl
  have hb1 : (((cfg0.win 12).blk t).view.emb y 1).val = win0_12.index t (1 : Fin 2) * 2048 + 1 * (y 1).val := rfl
  have hy : (cfg0.win 12).xinj (grid0.coords t) y = ix2 (⟨(y 0).val, (y 0).isLt⟩ : Fin 512) (⟨(y 1).val, (y 1).isLt⟩ : Fin 2048) := by
    funext a
    match a with
    | ⟨0, _⟩ => rfl
    | ⟨1, _⟩ => rfl
  refine (congrArg (resultAt m c t) hy).trans ((written m c t ht _ _).trans ?_)
  show _ = final m c (((cfg0.win 12).blk t).view.emb y)
  unfold final
  refine congr (congrArg (result m c) (Fin.ext ?_)) (Fin.ext ?_)
  · show 512 * (t.val / 4) + (y 0).val = _
    rw [hb0, e0]
    omega
  · show (y 1).val = _
    rw [hb1, e1]
    omega

/-- An index is in point `t`'s block when each coordinate is in the block's range on its axis. -/
theorem mem_block (t : Fin cfg0.N) (i : S32768x2048.Idx) : i ∈ ((cfg0.win 12).blk t).view.set ↔
    ∀ a : Fin 2, win0_12.index t a * S512x2048.size a ≤ (i a).val ∧ (i a).val < win0_12.index t a * S512x2048.size a + S512x2048.size a := by
  show i ∈ ((View.whole main_v8).slice (win0_12.rect t)).set ↔ _
  rw [View.set_slice_whole, Rect.mem_set_unit]
  exact Iff.rfl

/-- Every index lies in the block some row tile's last point writes back. -/
theorem covered (i : S32768x2048.Idx) : ∃ t : Fin cfg0.N, (cfg0.win 12).flush t = true ∧ i ∈ ((cfg0.win 12).blk t).view.set := by
  have h0 : (i 0).val < 32768 := (i 0).isLt
  have h1 : (i 1).val < 2048 := (i 1).isLt
  have hlt : 4 * ((i 0).val / 512) + 3 < cfg0.N := lt_of_lt_of_eq (by omega) N_0.symm
  obtain ⟨e0, e1⟩ := idx12 ⟨4 * ((i 0).val / 512) + 3, hlt⟩
  refine ⟨⟨4 * ((i 0).val / 512) + 3, hlt⟩, (flush0_12 _).mpr (by dsimp only; omega), ?_⟩
  rw [mem_block]
  intro a
  match a with
  | ⟨0, _⟩ =>
    show win0_12.index _ (0 : Fin 2) * 512 ≤ (i 0).val ∧ (i 0).val < win0_12.index _ (0 : Fin 2) * 512 + 512
    rw [e0]
    dsimp only
    omega
  | ⟨1, _⟩ =>
    show win0_12.index _ (1 : Fin 2) * 2048 ≤ (i 1).val ∧ (i 1).val < win0_12.index _ (1 : Fin 2) * 2048 + 2048
    rw [e1]
    omega

/-- The array after the run. -/
theorem array : (dats m 0 c).arrAt 12 cfg0.N = final m c :=
  (dats m 0 c).arrAt_eq_of_cover 12 _ (fun t hf => flushed m c t hf) (covered)

/-- An argument no window stages is left as it was. -/
theorem kept (r : PUnit × MemSt nD τ sig (Elt Ideal)) (h : Pipeline.FramePost cfgs (dats m) 0 (V m) r) (b : Ref sig .tc)
    (hs : b.isScoped = false) (ha : ∀ w, (spec0 w).arr.view.ref ≠ b) (hV : V m c b = m ((c : Thread nD τ).loc b)) :
    r.2.mem ((c : Thread nD τ).loc b) = m ((c : Thread nD τ).loc b) :=
  ((h c).2 b (Pipeline.mem_restRefs_of b hs ha)).trans hV

/-- The run: the result array, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v8) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 12).trans (array m c),
      kept m c r h main_arg0 (by decide) (by decide) (V_main_arg0 m c),
      kept m c r h main_arg1 (by decide) (by decide) (V_main_arg1 m c),
      kept m c r h main_arg2 (by decide) (by decide) (V_main_arg2 m c),
      kept m c r h main_arg3 (by decide) (by decide) (V_main_arg3 m c),
      ((h c).1 7).trans (((dats m 0 c).arrAt_in 7 rfl _).trans ((A_eq m c 7).trans (V_main_arg4 m c))),
      kept m c r h main_arg5 (by decide) (by decide) (V_main_arg5 m c),
      kept m c r h main_arg6 (by decide) (by decide) (V_main_arg6 m c),
      kept m c r h main_arg7 (by decide) (by decide) (V_main_arg7 m c),
      kept m c r h main_arg8 (by decide) (by decide) (V_main_arg8 m c)⟩)
    (run_main m ρ)

end Cert.ConfKernelIdeal.Array

end
-- ==== Proof.Conf.Reference.lean ====
/-
  What the conformer reference computes, read at an index: the sublayer's row applied to the token's row and its
  neighbours'.
-/
module

public import proofs.«01_k».proof.Proof.Conf.Spec
public import proofs.«01_k».proof.Proof.Common.Index
public import proofs.«01_k».proof.Proof.Gen.ConfReferenceIdeal.Read
public import Idealize.ShloMosaic.Lib.Pointwise

@[expose] public section

noncomputable section

namespace Cert.ConfReferenceIdeal.Rows

open Cert.ConfReferenceIdeal Cert.ConfReferenceIdeal.Gen Cert.ConfReferenceIdeal.Read
open Idealize.ShloMosaic Idealize.ShloMosaic.TcCoe Idealize.SL.Sem Cert.Spec

variable (x : S2x16384x2048.Idx → EReal) (g h : S2048.Idx → EReal) (w : S2048x4096.Idx → EReal) (cv : S31x2048.Idx → EReal)
  (cb lg lb : S2048.Idx → EReal) (wo : S2048x2048.Idx → EReal)

/-- The rows of the flattened input, and the gains and weights, as the functions of the mathematics. -/
abbrev rows (R : Fin 32768) : Fin 2048 → EReal := fun k => x (ix3 (seqOf R) (tokOf R) k)
abbrev gain (g : S2048.Idx → EReal) : Fin 2048 → EReal := fun k => g (ix1 k)
abbrev part (o : Fin 2) (k f : Fin 2048) : EReal :=
  w (ix2 k ⟨2048 * o.val + f.val, by have := f.isLt; have := o.isLt; omega⟩)
abbrev weight (k : ℕ) (f : Fin 2048) : EReal := if h : k < 31 then cv (ix2 ⟨k, h⟩ f) else 0

/-- The normed rows. -/
abbrev nrm (R : Fin 32768) : Fin 2048 → EReal := rms (rows x R) (gain g)

theorem rows_flat (b : Fin 2) (s : Fin 16384) : rows x (flat b s) = fun k => x (ix3 b s k) := by
  unfold rows
  rw [seqOf_flat, tokOf_flat]

theorem normed (b : Fin 2) (s : Fin 16384) (k : Fin 2048) :
    val_main_v12 (F := Ideal) x g (ix3 b s k) = nrm x g (flat b s) k := by
  have e1 : ∀ l, idx_main_v1 (idx_main_v2 (idx_main_v8 (ix3 b s k))) l = ix3 b s l := fun l => ext3 rfl rfl rfl
  have e2 : idx_main_v10 (idx_main_v11 (ix3 b s k)) = ix1 k := ext1 rfl
  unfold nrm
  rw [rows_flat]
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, e1, e2]
  pointwise
  rfl

/-- The input projection. -/
theorem projected (b : Fin 2) (s : Fin 16384) (f : Fin 4096) :
    val_main_v13 (F := Ideal) x g w (ix3 b s f) = dot (nrm x g (flat b s)) (fun k f => w (ix2 k f)) f := by
  have e1 : ∀ k, lidx_main_v13 (ix3 b s f) k = ix3 b s k := fun k => ext3 rfl rfl rfl
  have e2 : ∀ k, ridx_main_v13 (ix3 b s f) k = ix2 k f := fun k => ext2 rfl rfl
  simp only [val_main_v13_apply, e1, e2, normed]
  rfl

/-- The gated projection. -/
theorem product (b : Fin 2) (s : Fin 16384) (f : Fin 2048) :
    val_main_v22 (F := Ideal) x g w (ix3 b s f) = glu (nrm x g (flat b s)) (part w 0) (part w 1) f := by
  have hf := f.isLt
  have e1 : idx_main_v14 (ix3 b s f) = ix3 b s ⟨2048 * 0 + f.val, by omega⟩ :=
    ext3 (Fin.ext (by simp [idx_main_v14])) (Fin.ext (by simp [idx_main_v14])) (Fin.ext (by simp [idx_main_v14]))
  have e2 : idx_main_v15 (ix3 b s f) = ix3 b s ⟨2048 * 1 + f.val, by omega⟩ :=
    ext3 (Fin.ext (by simp [idx_main_v15])) (Fin.ext (by simp [idx_main_v15])) (Fin.ext (by simp [idx_main_v15]))
  have p1 : val_main_v14 (F := Ideal) x g w (ix3 b s f) = dot (nrm x g (flat b s)) (part w 0) f := by
    rw [val_main_v14_apply, e1, projected]
    rfl
  have p2 : val_main_v15 (F := Ideal) x g w (ix3 b s f) = dot (nrm x g (flat b s)) (part w 1) f := by
    rw [val_main_v15_apply, e2, projected]
    rfl
  simp only [val_main_v22_apply, val_main_v21_apply, val_main_v20_apply, val_main_cst_3_apply, val_main_v19_apply, val_main_v18_apply,
    val_main_cst_2_apply, val_main_v17_apply, val_main_v16_apply, p1, p2]
  pointwise
  rfl

/-- The padded projection read `k` places after a token. -/
theorem tapped (b : Fin 2) (s : Fin 16384) (f : Fin 2048) (k : ℕ) (hk : s.val + k < 16414) :
    val_main_v23 (F := Ideal) x g w (ix3 b ⟨s.val + k, hk⟩ f)
      = tap 15 (fun R => glu (nrm x g R) (part w 0) (part w 1) f) (flat b s) k := by
  unfold val_main_v23
  refine (pad_tap (h := 15) (val_main_v22 (F := Ideal) x g w) (val_main_call0_v0 (F := Ideal)) _ _ ?_ b s k hk f).trans ?_
  · rw [val_main_call0_v0_apply, val_main_c_apply]
    show (((0#32 : BitVec 32).toInt : ℝ) : EReal) = 0
    simp
  · refine congrArg (fun P => tap 15 P (flat b s) k) (funext fun R => ?_)
    rw [product, flat_of]

/-- The taps up to tap `k`, given those before it: the padded projection at `j` times the weight at `i`. -/
theorem more {X : S2x16414x2048.Idx → EReal} {P : Fin 32768 → EReal} {b : Fin 2} {s : Fin 16384} {f : Fin 2048}
    (hX : ∀ (k : ℕ) (hk : s.val + k < 16414), X (ix3 b ⟨s.val + k, hk⟩ f) = tap 15 P (flat b s) k)
    (A : EReal) (j : S2x16414x2048.Idx) (i : S31x2048.Idx) (k : ℕ)
    (hA : A = taps (fun k => weight cv k f) (tap 15 P (flat b s)) k)
    (h0 : j 0 = b) (h1 : (j 1).val = k + s.val) (h2 : j 2 = f) (i0 : (i 0).val = k) (i1 : (i 1).val = f.val % 2048) :
    A + X j * cv i = taps (fun k => weight cv k f) (tap 15 P (flat b s)) (k + 1) := by
  have hk : s.val + k < 16414 := by have : (j 1).val < 16414 := (j 1).isLt; omega
  have hk' : k < 31 := by have : (i 0).val < 31 := (i 0).isLt; omega
  have ej : X j = tap 15 P (flat b s) k := by
    rw [← hX k hk]
    exact congrArg X (ext3 h0 (Fin.ext (by show (j 1).val = s.val + k; omega)) h2)
  have ei : cv i = weight cv k f := by
    unfold weight
    rw [dif_pos hk']
    exact congrArg cv (ext2 (Fin.ext i0) (Fin.ext (i1.trans (Nat.mod_eq_of_lt f.isLt))))
  rw [hA, ej, ei, taps_succ, mul_comm (tap _ _ _ _)]

/-- The tap sums after taps 7, 15, 23 and 30, each from the one before it. -/
theorem taps8 (b : Fin 2) (s : Fin 16384) (f : Fin 2048) : val_main_v80 (F := Ideal) x g w cv (ix3 b s f)
    = taps (fun k => weight cv k f) (tap 15 (fun R => glu (nrm x g R) (part w 0) (part w 1) f) (flat b s)) 8 := by
  have rd := tapped x g w b s f
  simp only [
    val_main_v80_apply, val_main_v79_apply, val_main_v78_apply, val_main_v77_apply, val_main_v76_apply, val_main_v75_apply,
    val_main_v74_apply, val_main_v73_apply, val_main_v72_apply, val_main_v71_apply, val_main_v70_apply, val_main_v69_apply,
    val_main_v68_apply, val_main_v67_apply, val_main_v66_apply, val_main_v65_apply, val_main_v64_apply, val_main_v63_apply,
    val_main_v62_apply, val_main_v61_apply, val_main_v60_apply, val_main_v59_apply, val_main_v58_apply, val_main_v57_apply,
    val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, val_main_v25_apply, val_main_v24_apply, val_main_cst_4_apply]
  iterate 7 refine more cv rd _ _ _ _ ?_ rfl rfl rfl rfl rfl
  refine more cv rd _ _ _ 0 ?_ rfl (Nat.zero_add _).symm rfl rfl rfl
  pointwise
  rfl

theorem taps16 (b : Fin 2) (s : Fin 16384) (f : Fin 2048) : val_main_v136 (F := Ideal) x g w cv (ix3 b s f)
    = taps (fun k => weight cv k f) (tap 15 (fun R => glu (nrm x g R) (part w 0) (part w 1) f) (flat b s)) 16 := by
  have rd := tapped x g w b s f
  simp only [
    val_main_v136_apply, val_main_v135_apply, val_main_v134_apply, val_main_v133_apply, val_main_v132_apply, val_main_v131_apply,
    val_main_v130_apply, val_main_v129_apply, val_main_v128_apply, val_main_v127_apply, val_main_v126_apply, val_main_v125_apply,
    val_main_v124_apply, val_main_v123_apply, val_main_v122_apply, val_main_v121_apply, val_main_v120_apply, val_main_v119_apply,
    val_main_v118_apply, val_main_v117_apply, val_main_v116_apply, val_main_v115_apply, val_main_v114_apply, val_main_v113_apply,
    val_main_v112_apply, val_main_v111_apply, val_main_v110_apply, val_main_v109_apply, val_main_v108_apply, val_main_v107_apply,
    val_main_v106_apply, val_main_v105_apply, val_main_v104_apply, val_main_v103_apply, val_main_v102_apply, val_main_v101_apply,
    val_main_v100_apply, val_main_v99_apply, val_main_v98_apply, val_main_v97_apply, val_main_v96_apply, val_main_v95_apply,
    val_main_v94_apply, val_main_v93_apply, val_main_v92_apply, val_main_v91_apply, val_main_v90_apply, val_main_v89_apply,
    val_main_v88_apply, val_main_v87_apply, val_main_v86_apply, val_main_v85_apply, val_main_v84_apply, val_main_v83_apply,
    val_main_v82_apply, val_main_v81_apply]
  iterate 8 refine more cv rd _ _ _ _ ?_ rfl rfl rfl rfl rfl
  exact taps8 x g w cv b s f

theorem taps24 (b : Fin 2) (s : Fin 16384) (f : Fin 2048) : val_main_v192 (F := Ideal) x g w cv (ix3 b s f)
    = taps (fun k => weight cv k f) (tap 15 (fun R => glu (nrm x g R) (part w 0) (part w 1) f) (flat b s)) 24 := by
  have rd := tapped x g w b s f
  simp only [
    val_main_v192_apply, val_main_v191_apply, val_main_v190_apply, val_main_v189_apply, val_main_v188_apply, val_main_v187_apply,
    val_main_v186_apply, val_main_v185_apply, val_main_v184_apply, val_main_v183_apply, val_main_v182_apply, val_main_v181_apply,
    val_main_v180_apply, val_main_v179_apply, val_main_v178_apply, val_main_v177_apply, val_main_v176_apply, val_main_v175_apply,
    val_main_v174_apply, val_main_v173_apply, val_main_v172_apply, val_main_v171_apply, val_main_v170_apply, val_main_v169_apply,
    val_main_v168_apply, val_main_v167_apply, val_main_v166_apply, val_main_v165_apply, val_main_v164_apply, val_main_v163_apply,
    val_main_v162_apply, val_main_v161_apply, val_main_v160_apply, val_main_v159_apply, val_main_v158_apply, val_main_v157_apply,
    val_main_v156_apply, val_main_v155_apply, val_main_v154_apply, val_main_v153_apply, val_main_v152_apply, val_main_v151_apply,
    val_main_v150_apply, val_main_v149_apply, val_main_v148_apply, val_main_v147_apply, val_main_v146_apply, val_main_v145_apply,
    val_main_v144_apply, val_main_v143_apply, val_main_v142_apply, val_main_v141_apply, val_main_v140_apply, val_main_v139_apply,
    val_main_v138_apply, val_main_v137_apply]
  iterate 8 refine more cv rd _ _ _ _ ?_ rfl rfl rfl rfl rfl
  exact taps16 x g w cv b s f

theorem taps31 (b : Fin 2) (s : Fin 16384) (f : Fin 2048) : val_main_v241 (F := Ideal) x g w cv (ix3 b s f)
    = taps (fun k => weight cv k f) (tap 15 (fun R => glu (nrm x g R) (part w 0) (part w 1) f) (flat b s)) 31 := by
  have rd := tapped x g w b s f
  simp only [
    val_main_v241_apply, val_main_v240_apply, val_main_v239_apply, val_main_v238_apply, val_main_v237_apply, val_main_v236_apply,
    val_main_v235_apply, val_main_v234_apply, val_main_v233_apply, val_main_v232_apply, val_main_v231_apply, val_main_v230_apply,
    val_main_v229_apply, val_main_v228_apply, val_main_v227_apply, val_main_v226_apply, val_main_v225_apply, val_main_v224_apply,
    val_main_v223_apply, val_main_v222_apply, val_main_v221_apply, val_main_v220_apply, val_main_v219_apply, val_main_v218_apply,
    val_main_v217_apply, val_main_v216_apply, val_main_v215_apply, val_main_v214_apply, val_main_v213_apply, val_main_v212_apply,
    val_main_v211_apply, val_main_v210_apply, val_main_v209_apply, val_main_v208_apply, val_main_v207_apply, val_main_v206_apply,
    val_main_v205_apply, val_main_v204_apply, val_main_v203_apply, val_main_v202_apply, val_main_v201_apply, val_main_v200_apply,
    val_main_v199_apply, val_main_v198_apply, val_main_v197_apply, val_main_v196_apply, val_main_v195_apply, val_main_v194_apply,
    val_main_v193_apply]
  iterate 7 refine more cv rd _ _ _ _ ?_ rfl rfl rfl rfl rfl
  exact taps24 x g w cv b s f

/-- The convolved row. -/
theorem convolved (b : Fin 2) (s : Fin 16384) (f : Fin 2048) : val_main_v244 (F := Ideal) x g w cv cb (ix3 b s f)
    = convRow (nrm x g) (part w 0) (part w 1) (weight cv) (gain cb) (flat b s) f := by
  have e : idx_main_v242 (idx_main_v243 (ix3 b s f)) = ix1 f := ext1 rfl
  rw [val_main_v244_apply, taps31, val_main_v243_apply, val_main_v242_apply, e]
  rfl

/-- Its layer norm. -/
theorem centred (b : Fin 2) (s : Fin 16384) (f : Fin 2048) : val_main_v250 (F := Ideal) x g w cv cb (ix3 b s f)
    = convRow (nrm x g) (part w 0) (part w 1) (weight cv) (gain cb) (flat b s) f
      - mean (convRow (nrm x g) (part w 0) (part w 1) (weight cv) (gain cb) (flat b s)) := by
  have e : ∀ l, idx_main_v245 (idx_main_v246 (idx_main_v249 (ix3 b s f))) l = ix3 b s l := fun l => ext3 rfl rfl rfl
  simp only [val_main_v250_apply, val_main_v249_apply, val_main_v248_apply, val_main_v247_apply, val_main_cst_6_apply,
    val_main_v246_apply, val_main_v245_apply, val_main_cst_5_apply, e, convolved]
  pointwise
  rfl

theorem layered (b : Fin 2) (s : Fin 16384) (f : Fin 2048) : val_main_v266 (F := Ideal) x g w cv cb lg lb (ix3 b s f)
    = layerNorm (convRow (nrm x g) (part w 0) (part w 1) (weight cv) (gain cb) (flat b s)) (gain lg) (gain lb) f := by
  have e1 : ∀ l, idx_main_v252 (idx_main_v253 (idx_main_v259 (ix3 b s f))) l = ix3 b s l := fun l => ext3 rfl rfl rfl
  have e2 : idx_main_v261 (idx_main_v262 (ix3 b s f)) = ix1 f := ext1 rfl
  have e3 : idx_main_v264 (idx_main_v265 (ix3 b s f)) = ix1 f := ext1 rfl
  simp only [val_main_v266_apply, val_main_v265_apply, val_main_v264_apply, val_main_v263_apply, val_main_v262_apply,
    val_main_v261_apply, val_main_v260_apply, val_main_v259_apply, val_main_v258_apply, val_main_v257_apply, val_main_v256_apply,
    val_main_cst_9_apply, val_main_v255_apply, val_main_v254_apply, val_main_cst_8_apply, val_main_v253_apply, val_main_v252_apply,
    val_main_cst_7_apply, val_main_v251_apply, e1, e2, e3, centred]
  pointwise
  rfl

/-- The mixer's output row. -/
theorem mixed (b : Fin 2) (s : Fin 16384) (n : Fin 2048) :
    val_main_v268 (F := Ideal) x g w cv cb lg lb wo (ix3 b s n)
      = normMix (convRow (nrm x g) (part w 0) (part w 1) (weight cv) (gain cb) (flat b s)) (gain lg) (gain lb) (fun f n => wo (ix2 f n)) n := by
  have e1 : ∀ f, lidx_main_v268 (ix3 b s n) f = ix3 b s f := fun k => ext3 rfl rfl rfl
  have e2 : ∀ f, ridx_main_v268 (ix3 b s n) f = ix2 f n := fun k => ext2 rfl rfl
  simp only [val_main_v268_apply, e1, e2, val_main_v267_apply, val_main_call1_v5_apply, val_main_call1_v4_apply,
    val_main_call1_cst_0_apply, val_main_call1_v3_apply, val_main_call1_v2_apply, val_main_call1_cst_apply, val_main_call1_v1_apply,
    val_main_call1_v0_apply, layered]
  pointwise
  rfl

/-- The sublayer's row. -/
theorem closed (b : Fin 2) (s : Fin 16384) (n : Fin 2048) :
    val_main_v282 (F := Ideal) x g h w cv cb lg lb wo (ix3 b s n)
      = confRow (rows x) (gain g) (gain h) (part w 0) (part w 1) (weight cv) (gain cb) (gain lg) (gain lb) (fun f n => wo (ix2 f n))
          (flat b s) n := by
  have e1 : ∀ l, idx_main_v270 (idx_main_v271 (idx_main_v277 (ix3 b s n))) l = ix3 b s l := fun l => ext3 rfl rfl rfl
  have e2 : idx_main_v279 (idx_main_v280 (ix3 b s n)) = ix1 n := ext1 rfl
  unfold confRow
  rw [rows_flat]
  simp only [val_main_v282_apply, val_main_v281_apply, val_main_v280_apply, val_main_v279_apply, val_main_v278_apply,
    val_main_v277_apply, val_main_v276_apply, val_main_v275_apply, val_main_v274_apply, val_main_cst_12_apply, val_main_v273_apply,
    val_main_v272_apply, val_main_cst_11_apply, val_main_v271_apply, val_main_v270_apply, val_main_cst_10_apply, val_main_v269_apply,
    e1, e2, mixed]
  pointwise
  rfl

/-- The returned array. -/
theorem returned (R : Fin 32768) (n : Fin 2048) :
    val_main_v283 (F := Ideal) x g h w cv cb lg lb wo (ix2 R n)
      = confRow (rows x) (gain g) (gain h) (part w 0) (part w 1) (weight cv) (gain cb) (gain lg) (gain lb) (fun f n => wo (ix2 f n)) R n := by
  have hn := n.isLt
  have e : idx_main_v283 (ix2 R n) = ix3 (seqOf R) (tokOf R) n :=
    ext3 (Fin.ext (by show (R.val * 2048 + n.val) / 33554432 = R.val / 16384; omega))
      (Fin.ext (by show (R.val * 2048 + n.val) / 2048 % 16384 = R.val % 16384; omega))
      (Fin.ext (by show (R.val * 2048 + n.val) % 2048 = n.val; omega))
  rw [val_main_v283_apply, e, closed, flat_of]

end Cert.ConfReferenceIdeal.Rows

end
-- ==== Proof.Conf.Equation.lean ====
/-
  The conformer sublayer: the kernel's array is the reference's, and the reference and the printed kernel run cleanly.
-/
module

public import proofs.«01_k».proof.Defs
public import proofs.«01_k».proof.Proof.Conf.Array
public import proofs.«01_k».proof.Proof.Conf.Reference
public import proofs.«01_k».proof.Proof.Gen.ConfReferenceIdeal.Run
public import proofs.«01_k».proof.Proof.Gen.ConfKernel
public import Idealize.ShloMosaic.Lib.Quiescent

@[expose] public section

noncomputable section

namespace Cert.Conf

open Idealize.ShloMosaic Idealize.ShloMosaic.TcCoe Idealize.SL.Sem Cert.Spec

/-- The reference terminates, keeps its arguments and leaves every counter at zero: it has no semaphores. -/
theorem reference_frame : Cert.quiescent_ConfReferenceIdeal := fun m ρ _ =>
  (θ_run Cert.ConfReferenceIdeal.defs _ _).mono
    (fun r h => ⟨fun c => (h c).2, Idealize.ShloMosaic.sem_eq_zero_of_no_sems (by decide) r.2⟩)
    (Cert.ConfReferenceIdeal.Value.run m ρ)

/-- From memories that agree on the nine arguments, kernel and reference leave the same array. -/
theorem equation : Cert.algebraic_ConfKernelIdeal_ConfReferenceIdeal := by
  intro m g m' g' _ agree
  refine ⟨fun c => Cert.ConfKernelIdeal.Array.final m c, Cert.ConfKernelIdeal.Array.run m g,
    (θ_run Cert.ConfReferenceIdeal.defs _ _).mono (fun r h c => ⟨(h c).1.trans ?_, (h c).2⟩)
      (Cert.ConfReferenceIdeal.Value.run m' g')⟩
  obtain ⟨a0, a1, a2, a3, a4, a5, a6, a7, a8⟩ := agree c
  rw [Cert.ConfReferenceIdeal.Read.val_main_v283_eq]
  iterate 9 rw [StableHlo.launchContents_devRef]
  rw [a0, a1, a2, a3, a4, a5, a6, a7, a8]
  funext i
  rw [eq_ix2 i]
  exact Cert.ConfReferenceIdeal.Rows.returned _ _ _ _ _ _ _ _ _ (i 0) (i 1)

/-! ## The kernel as printed -/

/-- Its one kernel body, and its definitions, are the idealized kernel's read at the bit patterns. -/
theorem bodies [Cert.ConfKernel.Facts] [Cert.ConfKernelIdeal.Facts] :
    Cert.ConfKernel.defs₀ (F := Bits) = Cert.ConfKernelIdeal.defs₀ := by
  unfold Cert.ConfKernel.defs₀ Cert.ConfKernelIdeal.defs₀
  congr 1
  funext l x
  match l, x with
  | 0, (t, s) => rfl

theorem definitions [Cert.ConfKernel.Facts] [Cert.ConfKernelIdeal.Facts] :
    Cert.ConfKernel.defs (F := Bits) = Cert.ConfKernelIdeal.defs := by
  show Pipeline.defs _ Cert.ConfKernel.defs₀ = Pipeline.defs _ Cert.ConfKernelIdeal.defs₀
  rw [bodies]
  rfl

/-- So it terminates cleanly, since that proof is about any reading of the numbers. -/
theorem kernel_frame : Cert.quiescent_ConfKernel := fun m ρ _ => by
  rw [definitions]
  exact Cert.ConfKernelIdeal.Body.frame m ρ

end Cert.Conf

end
-- ==== Proof.Sgu.Spec.lean ====
/-
  The spatial-gating sublayer, one row at a time: a normed row's two projections through GELU, the layer norm of the second,
  its mixing with the 127 other tokens of its chunk, head by head, the product with the first, the output weights, the closing
  residual norm.
-/
module

public import proofs.«01_k».proof.Proof.Common.Halo
public import proofs.«01_k».proof.Proof.Common.Norm

@[expose] public section

noncomputable section

namespace Cert.Spec

open Idealize.ShloMosaic

/-- GELU, with the error function; the factor in its argument is the number nearest to the inverse root of two. -/
def gelu (z : EReal) : EReal :=
  Ideal.ofBits .f32 0x3F000000#32 * z * (1 + Ideal.erf (z * Ideal.ofBits .f32 0x3F3504F3#32))

/-- GELU written with the complement of the error function. -/
theorem gelu_erfc (z : EReal) :
    Ideal.ofBits .f32 0x3F000000#32 * z * Ideal.erfc (-z * Ideal.ofBits .f32 0x3F3504F3#32) = gelu z := by
  unfold gelu
  rw [neg_mul, Ideal.erfc_neg]

/-- A projection of a normed row, through GELU. -/
def geluDot {n : ℕ} (xn : Fin 2048 → EReal) (w : Fin 2048 → Fin n → EReal) (f : Fin n) : EReal := gelu (dot xn w f)

/-- The head of a channel. -/
def headOf (f : Fin 2048) : Fin 8 := ⟨f.val / 256, by have := f.isLt; omega⟩

/-- A token's place in its chunk of 128, and the token at place `q` of the same chunk. -/
def place {n : ℕ} (R : Fin n) : Fin 128 := ⟨R.val % 128, Nat.mod_lt _ (by decide)⟩
def peer {n : ℕ} (h : n % 128 = 0) (R : Fin n) (q : Fin 128) : Fin n :=
  ⟨128 * (R.val / 128) + q.val, by have := R.isLt; have := q.isLt; omega⟩

/-- The token at place `p` of a chunk after mixing: its head's weights over the rows `V` of the chunk, and its offset. -/
def mixAt (w : Fin 8 → Fin 128 → Fin 128 → EReal) (b : Fin 8 → Fin 128 → EReal) (V : Fin 128 → Fin 2048 → EReal) (p : Fin 128)
    (f : Fin 2048) : EReal :=
  ∑ q : Fin 128, w (headOf f) p q * V q f + b (headOf f) p

/-- A gated row through the output weights. -/
def gateMix (u s : Fin 2048 → EReal) (wo : Fin 2048 → Fin 2048 → EReal) (n : Fin 2048) : EReal := ∑ f : Fin 2048, u f * s f * wo f n

/-- The mixed gates of row `R`. -/
def mixedRow (N : Fin 32768 → Fin 2048 → EReal) (wv : Fin 2048 → Fin 2048 → EReal) (lg lb : Fin 2048 → EReal)
    (w : Fin 8 → Fin 128 → Fin 128 → EReal) (b : Fin 8 → Fin 128 → EReal) (R : Fin 32768) : Fin 2048 → EReal :=
  mixAt w b (fun q => layerNorm (geluDot (N (peer rfl R q)) wv) lg lb) (place R)

/-- The sublayer's row. -/
def sguRow (x : Fin 32768 → Fin 2048 → EReal) (pre post : Fin 2048 → EReal) (wu wv : Fin 2048 → Fin 2048 → EReal)
    (lg lb : Fin 2048 → EReal) (w : Fin 8 → Fin 128 → Fin 128 → EReal) (b : Fin 8 → Fin 128 → EReal)
    (wo : Fin 2048 → Fin 2048 → EReal) (R : Fin 32768) : Fin 2048 → EReal :=
  residual (x R) (gateMix (geluDot (rms (x R) pre) wu) (mixedRow (fun R => rms (x R) pre) wv lg lb w b R) wo) post

end Cert.Spec

end
-- ==== Proof.Sgu.Points.lean ====
/-
  The spatial-gating kernel's grid points: at which column block each is, where the windows are idle, and the buffers the body
  is called with.
-/
module

public import proofs.«01_k».proof.Proof.Gen.SguKernelIdeal.Frame
public import proofs.«01_k».proof.Proof.Gen.SguKernelIdeal.Skeleton

@[expose] public section

set_option maxRecDepth 16384

noncomputable section

namespace Cert.SguKernelIdeal.Body

open Cert.SguKernelIdeal Cert.SguKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 256 := Nat.lt_of_lt_of_eq t.isLt N_0
    have e0 : (grid0.coords t 0).val = t.val / 4 % 64 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 256 := Nat.lt_of_lt_of_eq t.isLt N_0
    have e0 : (grid0.coords t 0).val = t.val / 4 % 64 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## Where the windows are idle (the printed configuration's table `Cfg.idle`) -/

/-- An input window is never idle. -/
theorem live_in (w : Fin 11) (hw : w.val < 10) (t : Fin cfg0.N) : cfg0.idle w (grid0.coords t) = false := by
  match w, hw with
  | 0, _ | 1, _ | 2, _ | 3, _ | 4, _ | 5, _ | 6, _ | 7, _ | 8, _ | 9, _ => rfl
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S512x2048 .bf16 := Memref.whole cc0_scratch0
abbrev scM0_1 : Memref sig .tc .vmem S4x512x512 .f32 := Memref.whole cc0_scratch1
abbrev scM0_2 : Memref sig .tc .vmem S4x512x512 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.SguKernelIdeal.Body

end
-- ==== Proof.Sgu.RunA.lean ====
/-
  The spatial-gating kernel's body at the first column block of a row tile, run.
-/
module

public import proofs.«01_k».proof.Proof.Sgu.Points

@[expose] public section

set_option maxRecDepth 16384

noncomputable section

namespace Cert.SguKernelIdeal.Body

open Cert.SguKernelIdeal Cert.SguKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S8x128x128 .bf16) (harg9 : arg9.IsWhole)
  (arg10 : Memref sig .tc .vmem S128x8 .f32) (harg10 : arg10.IsWhole)
  (arg11 : Memref sig .tc .vmem S2048x2048 .bf16) (harg11 : arg11.IsWhole)
  (arg12 : Memref sig .tc .vmem S512x2048 .f32) (harg12 : arg12.IsWhole)
  (arg13 : Memref sig .tc .vmem S512x2048 .bf16) (harg13 : arg13.IsWhole)
  (arg14 : Memref sig .tc .vmem S4x512x512 .f32) (harg14 : arg14.IsWhole)
  (arg15 : Memref sig .tc .vmem S4x512x512 .f32) (harg15 : arg15.IsWhole)
  (x0 : Vec F S512x2048 .f32) (x1 : Vec F S1x2048 .f32) (x2 : Vec F S1x2048 .f32) (x3 : Vec F S2048x512 .bf16) (x4 : Vec F S2048x512 .bf16) (x5 : Vec F S1x2048 .f32) (x6 : Vec F S1x2048 .f32) (x7 : Vec F S8x128x128 .bf16) (x8 : Vec F S128x8 .f32) (x9 : Vec F S2048x2048 .bf16)

set_option maxHeartbeats 1000000 in
/-- The run of the body in this case: the list of stores each buffer ends with, and the run itself, over any contents of the
    buffers it need not know. -/
def runA (hc0 : cond0_0 i) (hc1 : ¬cond0_1 i)
    :
    Σ' (L10 : List (View.Piece (Elt F) S512x2048 .f32)), Σ' (LS0 : List (View.Piece (Elt F) S512x2048 .bf16)), Σ' (LS1 : List (View.Piece (Elt F) S4x512x512 .f32)), { LS2 : List (View.Piece (Elt F) S4x512x512 .f32) //
      ∀ (xi10 : Vec F S512x2048 .f32) (xs1 : Vec F S4x512x512 .f32) (xs2 : Vec F S4x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2)) -∗ K ⟨⟩))
          ⊢ wp frame (wpE (defs₀ (F := F)) Variants.none c none) E (cc0_sgu_mixer i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, fun xi10 xs1 xs2 E K => ?run⟩
  case run =>
    simp only [cc0_sgu_mixer_eq_skeleton]; unfold cc0_sgu_mixer_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs1; obtain rfl := harg15.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexact HS1
    iexact HS2

end Cert.SguKernelIdeal.Body

end
-- ==== Proof.Sgu.RunB.lean ====
/-
  The spatial-gating kernel's body at a middle column block, run.
-/
module

public import proofs.«01_k».proof.Proof.Sgu.Points

@[expose] public section

set_option maxRecDepth 16384

noncomputable section

namespace Cert.SguKernelIdeal.Body

open Cert.SguKernelIdeal Cert.SguKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S8x128x128 .bf16) (harg9 : arg9.IsWhole)
  (arg10 : Memref sig .tc .vmem S128x8 .f32) (harg10 : arg10.IsWhole)
  (arg11 : Memref sig .tc .vmem S2048x2048 .bf16) (harg11 : arg11.IsWhole)
  (arg12 : Memref sig .tc .vmem S512x2048 .f32) (harg12 : arg12.IsWhole)
  (arg13 : Memref sig .tc .vmem S512x2048 .bf16) (harg13 : arg13.IsWhole)
  (arg14 : Memref sig .tc .vmem S4x512x512 .f32) (harg14 : arg14.IsWhole)
  (arg15 : Memref sig .tc .vmem S4x512x512 .f32) (harg15 : arg15.IsWhole)
  (x0 : Vec F S512x2048 .f32) (x1 : Vec F S1x2048 .f32) (x2 : Vec F S1x2048 .f32) (x3 : Vec F S2048x512 .bf16) (x4 : Vec F S2048x512 .bf16) (x5 : Vec F S1x2048 .f32) (x6 : Vec F S1x2048 .f32) (x7 : Vec F S8x128x128 .bf16) (x8 : Vec F S128x8 .f32) (x9 : Vec F S2048x2048 .bf16)

set_option maxHeartbeats 1000000 in
/-- The run of the body in this case: the list of stores each buffer ends with, and the run itself, over any contents of the
    buffers it need not know. -/
def runB (hc0 : ¬cond0_0 i) (hc1 : ¬cond0_1 i)
    (xs0 : Vec F S512x2048 .bf16) :
    Σ' (L10 : List (View.Piece (Elt F) S512x2048 .f32)), Σ' (LS0 : List (View.Piece (Elt F) S512x2048 .bf16)), Σ' (LS1 : List (View.Piece (Elt F) S4x512x512 .f32)), { LS2 : List (View.Piece (Elt F) S4x512x512 .f32) //
      ∀ (xi10 : Vec F S512x2048 .f32) (xs1 : Vec F S4x512x512 .f32) (xs2 : Vec F S4x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0 ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2)) -∗ K ⟨⟩))
          ⊢ wp frame (wpE (defs₀ (F := F)) Variants.none c none) E (cc0_sgu_mixer i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xs1 xs2 E K => ?run⟩
  case run =>
    simp only [cc0_sgu_mixer_eq_skeleton]; unfold cc0_sgu_mixer_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]
    · iexists _; isplitr; · ipureintro; exact harg13.read_unread _
      iexact HS0
    isplitl [HS1]; · iexact HS1
    iexact HS2

end Cert.SguKernelIdeal.Body

end
-- ==== Proof.Sgu.RunC.lean ====
/-
  The spatial-gating kernel's body at the last column block, run.
-/
module

public import proofs.«01_k».proof.Proof.Sgu.Points

@[expose] public section

set_option maxRecDepth 16384

noncomputable section

namespace Cert.SguKernelIdeal.Body

open Cert.SguKernelIdeal Cert.SguKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S8x128x128 .bf16) (harg9 : arg9.IsWhole)
  (arg10 : Memref sig .tc .vmem S128x8 .f32) (harg10 : arg10.IsWhole)
  (arg11 : Memref sig .tc .vmem S2048x2048 .bf16) (harg11 : arg11.IsWhole)
  (arg12 : Memref sig .tc .vmem S512x2048 .f32) (harg12 : arg12.IsWhole)
  (arg13 : Memref sig .tc .vmem S512x2048 .bf16) (harg13 : arg13.IsWhole)
  (arg14 : Memref sig .tc .vmem S4x512x512 .f32) (harg14 : arg14.IsWhole)
  (arg15 : Memref sig .tc .vmem S4x512x512 .f32) (harg15 : arg15.IsWhole)
  (x0 : Vec F S512x2048 .f32) (x1 : Vec F S1x2048 .f32) (x2 : Vec F S1x2048 .f32) (x3 : Vec F S2048x512 .bf16) (x4 : Vec F S2048x512 .bf16) (x5 : Vec F S1x2048 .f32) (x6 : Vec F S1x2048 .f32) (x7 : Vec F S8x128x128 .bf16) (x8 : Vec F S128x8 .f32) (x9 : Vec F S2048x2048 .bf16)

set_option maxHeartbeats 1000000 in
/-- The run of the body in this case: the list of stores each buffer ends with, and the run itself, over any contents of the
    buffers it need not know. -/
def runC (hc0 : ¬cond0_0 i) (hc1 : cond0_1 i)
    (xs0 : Vec F S512x2048 .bf16) (xs1 : Vec F S4x512x512 .f32) (xs2 : Vec F S4x512x512 .f32) :
    Σ' (L10 : List (View.Piece (Elt F) S512x2048 .f32)), Σ' (LS0 : List (View.Piece (Elt F) S512x2048 .bf16)), Σ' (LS1 : List (View.Piece (Elt F) S4x512x512 .f32)), { LS2 : List (View.Piece (Elt F) S4x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs0 ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2)) -∗ K ⟨⟩))
          ⊢ wp frame (wpE (defs₀ (F := F)) Variants.none c none) E (cc0_sgu_mixer i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, fun E K => ?run⟩
  case run =>
    simp only [cc0_sgu_mixer_eq_skeleton]; unfold cc0_sgu_mixer_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1; obtain rfl := harg15.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    isplitl [HS1]; · iexact HS1
    iexact HS2

end Cert.SguKernelIdeal.Body

end
-- ==== Proof.Sgu.Cases.lean ====
/-
  What the spatial-gating kernel's body leaves at one grid point, in each of its three cases (a row tile's first column block,
  which also norms the tile's rows; a middle block; the last block, which also closes).
-/
module

public import proofs.«01_k».proof.Proof.Sgu.RunA
public import proofs.«01_k».proof.Proof.Sgu.RunB
public import proofs.«01_k».proof.Proof.Sgu.RunC
public import proofs.«01_k».proof.Proof.Common.Rows
public import proofs.«01_k».proof.Proof.Common.Slabs

@[expose] public section

noncomputable section

namespace Cert.SguKernelIdeal.Body

open Cert.SguKernelIdeal Cert.SguKernelIdeal.Gen Idealize.ShloMosaic Idealize.ShloMosaic.TcCoe Idealize.SL.Sem Cert.Rows Cert.Slabs

variable {F : FTy → Type} [FloatOps F]

/-- One slab of the gates; 512 columns of a scale or an offset; 512 rows of the output weights; one head's token weights; one head's
    token offsets. -/
def yAt (Y : Vec F S4x512x512 .f32) (o : ℕ) (inb : ∀ a, (![o, 0, 0] : Fin 3 → Nat) a + S1x512x512.size a ≤ S4x512x512.size a) : Vec F S1x512x512 .f32 :=
  View.ld (Val := Elt F) (e' := .f32) Y (Rect.unit (s := S4x512x512) ![o, 0, 0] S1x512x512.size inb)
def vAt (g : Vec F S1x2048 .f32) (o : ℕ) (inb : ∀ a, (![0, o] : Fin 2 → Nat) a + S1x512.size a ≤ S1x2048.size a) : Vec F S1x512 .f32 :=
  View.ld (Val := Elt F) (e' := .f32) g (Rect.unit (s := S1x2048) ![0, o] S1x512.size inb)
def wAt (w : Vec F S2048x2048 .bf16) (o : ℕ) (inb : ∀ a, (![o, 0] : Fin 2 → Nat) a + S512x2048.size a ≤ S2048x2048.size a) : Vec F S512x2048 .bf16 :=
  View.ld (Val := Elt F) (e' := .bf16) w (Rect.unit (s := S2048x2048) ![o, 0] S512x2048.size inb)
def sAt (w : Vec F S8x128x128 .bf16) (o : ℕ) (inb : ∀ a, (![o, 0, 0] : Fin 3 → Nat) a + S1x128x128.size a ≤ S8x128x128.size a) : Vec F S1x128x128 .bf16 :=
  View.ld (Val := Elt F) (e' := .bf16) w (Rect.unit (s := S8x128x128) ![o, 0, 0] S1x128x128.size inb)
def bAt (b : Vec F S128x8 .f32) (o : ℕ) (inb : ∀ a, (![0, o] : Fin 2 → Nat) a + S128x1.size a ≤ S128x8.size a) : Vec F S128x1 .f32 :=
  View.ld (Val := Elt F) (e' := .f32) b (Rect.unit (s := S128x8) ![0, o] S128x1.size inb)

abbrev y0 (Y : Vec F S4x512x512 .f32) := yAt Y 0 inb_S4x512x512_S1x512x512_0_0_0
abbrev y1 (Y : Vec F S4x512x512 .f32) := yAt Y 1 inb_S4x512x512_S1x512x512_1_0_0
abbrev y2 (Y : Vec F S4x512x512 .f32) := yAt Y 2 inb_S4x512x512_S1x512x512_2_0_0
abbrev y3 (Y : Vec F S4x512x512 .f32) := yAt Y 3 inb_S4x512x512_S1x512x512_3_0_0

/-- The mean of a gate row, and the inverse root of its variance. -/
def mu (Y : Vec F S4x512x512 .f32) : FVec F S512x1 .f32 := k0_pay2 (y0 Y) (y1 Y) (y2 Y) (y3 Y)
def sq0 (Y : Vec F S4x512x512 .f32) : FVec F S512x1 .f32 := k0_pay3 (y0 Y) (y1 Y) (y2 Y) (y3 Y) (y0 Y)
def rstd (Y : Vec F S4x512x512 .f32) : FVec F S512x1 .f32 := k0_pay5 (mu Y) (sq0 Y) (k0_pay4 (y1 Y)) (y2 Y) (y3 Y)

/-- 128 tokens of one head, from row `o 0` and column `o 1` of a normed block on, mixed. -/
def head (vn : FVec F S512x512 .bf16) (o : Fin 2 → ℕ) (h : S512x512.Slices o S128x256) (w : Vec F S1x128x128 .bf16)
    (b : Vec F S128x1 .f32) : FVec F S128x256 .f32 :=
  addf (matmul dot_S128x128_S128x256_S128x256_1_0_0_1_n_n none (shapeCast S128x128 w shapeCasts_S1x128x128_S128x128)
      (extractStridedSlice S128x256 o vn h) (constant S128x256 .f32 0x00000000#32))
    (broadcastTo S128x256 (shapeCast S128x1 b shapeCasts_S128x1_S128x1) broadcasts_S128x1_S128x256)

/-- Its two heads side by side. -/
def chunk (vn : FVec F S512x512 .bf16) (r : ℕ) (h0 : S512x512.Slices ![r, 0] S128x256) (h1 : S512x512.Slices ![r, 256] S128x256)
    (w : Vec F S1x128x128 .bf16) (b : Vec F S128x1 .f32) (w' : Vec F S1x128x128 .bf16) (b' : Vec F S128x1 .f32) : FVec F S128x512 .f32 :=
  concatenate S128x512 1 [⟨S128x256, head vn ![r, 0] h0 w b⟩, ⟨S128x256, head vn ![r, 256] h1 w' b'⟩] concatenates_S128x256_S128x256_S128x512_d1

/-- The four chunks of a tile. -/
def mixed (vn : FVec F S512x512 .bf16) (w : Vec F S1x128x128 .bf16) (b : Vec F S128x1 .f32) (w' : Vec F S1x128x128 .bf16)
    (b' : Vec F S128x1 .f32) : FVec F S512x512 .f32 :=
  concatenate S512x512 0 [⟨S128x512, chunk vn 0 slices_S512x512_o0_0_S128x256 slices_S512x512_o0_256_S128x256 w b w' b'⟩,
    ⟨S128x512, chunk vn 128 slices_S512x512_o128_0_S128x256 slices_S512x512_o128_256_S128x256 w b w' b'⟩,
    ⟨S128x512, chunk vn 256 slices_S512x512_o256_0_S128x256 slices_S512x512_o256_256_S128x256 w b w' b'⟩,
    ⟨S128x512, chunk vn 384 slices_S512x512_o384_0_S128x256 slices_S512x512_o384_256_S128x256 w b w' b'⟩]
    concatenates_S128x512_S128x512_S128x512_S128x512_S512x512_d0

/-- One column block of the gates, normed, mixed and through its rows of the output weights, added to `acc`. -/
def accum (acc : FVec F S512x2048 .f32) (m s : FVec F S512x1 .f32) (y : Vec F S1x512x512 .f32) (g o : Vec F S1x512 .f32)
    (w : Vec F S1x128x128 .bf16) (b : Vec F S128x1 .f32) (w' : Vec F S1x128x128 .bf16) (b' : Vec F S128x1 .f32)
    (u : Vec F S1x512x512 .f32) (wo : Vec F S512x2048 .bf16) : FVec F S512x2048 .f32 :=
  k0_pay13 acc (mixed (k0_pay14 m s y g o) w b w' b') u wo

/-- The column blocks one after another. -/
def upto0 (x5 x6 : Vec F S1x2048 .f32) (x7 : Vec F S8x128x128 .bf16) (x8 : Vec F S128x8 .f32) (x9 : Vec F S2048x2048 .bf16)
    (U Y : Vec F S4x512x512 .f32) : FVec F S512x2048 .f32 :=
  accum k0_pay6 (mu Y) (rstd Y) (y0 Y) (vAt x5 0 inb_S1x2048_S1x512_0_0) (vAt x6 0 inb_S1x2048_S1x512_0_0)
    (sAt x7 0 inb_S8x128x128_S1x128x128_0_0_0) (bAt x8 0 inb_S128x8_S128x1_0_0)
    (sAt x7 1 inb_S8x128x128_S1x128x128_1_0_0) (bAt x8 1 inb_S128x8_S128x1_0_1)
    (y0 U) (wAt x9 0 inb_S2048x2048_S512x2048_0_0)
def upto1 (x5 x6 : Vec F S1x2048 .f32) (x7 : Vec F S8x128x128 .bf16) (x8 : Vec F S128x8 .f32) (x9 : Vec F S2048x2048 .bf16)
    (U Y : Vec F S4x512x512 .f32) : FVec F S512x2048 .f32 :=
  accum (upto0 x5 x6 x7 x8 x9 U Y) (mu Y) (rstd Y) (y1 Y) (vAt x5 512 inb_S1x2048_S1x512_0_512) (vAt x6 512 inb_S1x2048_S1x512_0_512)
    (sAt x7 2 inb_S8x128x128_S1x128x128_2_0_0) (bAt x8 2 inb_S128x8_S128x1_0_2)
    (sAt x7 3 inb_S8x128x128_S1x128x128_3_0_0) (bAt x8 3 inb_S128x8_S128x1_0_3)
    (y1 U) (wAt x9 512 inb_S2048x2048_S512x2048_512_0)
def upto2 (x5 x6 : Vec F S1x2048 .f32) (x7 : Vec F S8x128x128 .bf16) (x8 : Vec F S128x8 .f32) (x9 : Vec F S2048x2048 .bf16)
    (U Y : Vec F S4x512x512 .f32) : FVec F S512x2048 .f32 :=
  accum (upto1 x5 x6 x7 x8 x9 U Y) (mu Y) (rstd Y) (y2 Y) (vAt x5 1024 inb_S1x2048_S1x512_0_1024) (vAt x6 1024 inb_S1x2048_S1x512_0_1024)
    (sAt x7 4 inb_S8x128x128_S1x128x128_4_0_0) (bAt x8 4 inb_S128x8_S128x1_0_4)
    (sAt x7 5 inb_S8x128x128_S1x128x128_5_0_0) (bAt x8 5 inb_S128x8_S128x1_0_5)
    (y2 U) (wAt x9 1024 inb_S2048x2048_S512x2048_1024_0)
def upto3 (x5 x6 : Vec F S1x2048 .f32) (x7 : Vec F S8x128x128 .bf16) (x8 : Vec F S128x8 .f32) (x9 : Vec F S2048x2048 .bf16)
    (U Y : Vec F S4x512x512 .f32) : FVec F S512x2048 .f32 :=
  accum (upto2 x5 x6 x7 x8 x9 U Y) (mu Y) (rstd Y) (y3 Y) (vAt x5 1536 inb_S1x2048_S1x512_0_1536) (vAt x6 1536 inb_S1x2048_S1x512_0_1536)
    (sAt x7 6 inb_S8x128x128_S1x128x128_6_0_0) (bAt x8 6 inb_S128x8_S128x1_0_6)
    (sAt x7 7 inb_S8x128x128_S1x128x128_7_0_0) (bAt x8 7 inb_S128x8_S128x1_0_7)
    (y3 U) (wAt x9 1536 inb_S2048x2048_S512x2048_1536_0)

/-- What the last point of a row tile stores. -/
def closing (x0 : Vec F S512x2048 .f32) (x2 x5 x6 : Vec F S1x2048 .f32) (x7 : Vec F S8x128x128 .bf16) (x8 : Vec F S128x8 .f32)
    (x9 : Vec F S2048x2048 .bf16) (U Y : Vec F S4x512x512 .f32) : FVec F S512x2048 .f32 :=
  k0_pay1 (upto3 x5 x6 x7 x8 x9 U Y) (k0_pay43 x0) (k0_pay44 x2)

variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S2048x512 .bf16) (h5 : a5.IsWhole)
  (a6 : Memref sig .tc .vmem S2048x512 .bf16) (h6 : a6.IsWhole)
  (a7 : Memref sig .tc .vmem S1x2048 .f32) (h7 : a7.IsWhole)
  (a8 : Memref sig .tc .vmem S1x2048 .f32) (h8 : a8.IsWhole)
  (a9 : Memref sig .tc .vmem S8x128x128 .bf16) (h9 : a9.IsWhole)
  (a10 : Memref sig .tc .vmem S128x8 .f32) (h10 : a10.IsWhole)
  (a11 : Memref sig .tc .vmem S2048x2048 .bf16) (h11 : a11.IsWhole)
  (a12 : Memref sig .tc .vmem S512x2048 .f32) (h12 : a12.IsWhole)
  (a13 : Memref sig .tc .vmem S512x2048 .bf16) (h13 : a13.IsWhole)
  (a14 : Memref sig .tc .vmem S4x512x512 .f32) (h14 : a14.IsWhole)
  (a15 : Memref sig .tc .vmem S4x512x512 .f32) (h15 : a15.IsWhole)
  (x0 : Vec F S512x2048 .f32) (x1 : Vec F S1x2048 .f32) (x2 : Vec F S1x2048 .f32) (x3 : Vec F S2048x512 .bf16) (x4 : Vec F S2048x512 .bf16) (x5 : Vec F S1x2048 .f32) (x6 : Vec F S1x2048 .f32) (x7 : Vec F S8x128x128 .bf16) (x8 : Vec F S128x8 .f32) (x9 : Vec F S2048x2048 .bf16)
  (xs0 : Vec F S512x2048 .bf16) (xs1 xs2 : Vec F S4x512x512 .f32)
/-- First block: the store of the normed rows covers them. -/
theorem coverA (hc0 : cond0_0 i) (hc1 : ¬cond0_1 i) :
    ∀ y, ∃ p ∈ (runA c i a2 h2 a3 h3 a4 h4 a5 h5 a6 h6 a7 h7 a8 h8 a9 h9 a10 h10 a11 h11 a12 h12 a13 h13 a14 h14 a15 h15 x0 x1 x2 x3 x4 x5 x6 x7 x8 x9 hc0 hc1).2.1, y ∈ p.1.set :=
  View.cover_of_tiledBy (runA c i a2 h2 a3 h3 a4 h4 a5 h5 a6 h6 a7 h7 a8 h8 a9 h9 a10 h10 a11 h11 a12 h12 a13 h13 a14 h14 a15 h15 x0 x1 x2 x3 x4 x5 x6 x7 x8 x9 hc0 hc1).2.1 ![512, 2048] (by sl_kernel_rfl)

/-- First block: the normed rows it leaves. -/
theorem normedA (hc0 : cond0_0 i) (hc1 : ¬cond0_1 i) : View.canon (runA c i a2 h2 a3 h3 a4 h4 a5 h5 a6 h6 a7 h7 a8 h8 a9 h9 a10 h10 a11 h11 a12 h12 a13 h13 a14 h14 a15 h15 x0 x1 x2 x3 x4 x5 x6 x7 x8 x9 hc0 hc1).2.1 = k0_pay45 x0 x1 := by
  unfold runA
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- First block: its one store into the gated half, -/
theorem slabUA (hc0 : cond0_0 i) (hc1 : ¬cond0_1 i) :
    (runA c i a2 h2 a3 h3 a4 h4 a5 h5 a6 h6 a7 h7 a8 h8 a9 h9 a10 h10 a11 h11 a12 h12 a13 h13 a14 h14 a15 h15 x0 x1 x2 x3 x4 x5 x6 x7 x8 x9 hc0 hc1).2.2.1 = [⟨Rect.unit (s := S4x512x512) (k0_off1 i) S1x512x512.size (k0_off1_inb i), k0_pay46 (k0_pay45 x0 x1) x3⟩] := by
  unfold runA
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- First block: and into the gates. -/
theorem slabVA (hc0 : cond0_0 i) (hc1 : ¬cond0_1 i) :
    (runA c i a2 h2 a3 h3 a4 h4 a5 h5 a6 h6 a7 h7 a8 h8 a9 h9 a10 h10 a11 h11 a12 h12 a13 h13 a14 h14 a15 h15 x0 x1 x2 x3 x4 x5 x6 x7 x8 x9 hc0 hc1).2.2.2.1 = [⟨Rect.unit (s := S4x512x512) (k0_off1 i) S1x512x512.size (k0_off1_inb i), k0_pay47 (k0_pay45 x0 x1) x4⟩] := by
  unfold runA
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- A middle block: its one store into the gated half, -/
theorem slabUB (hc0 : ¬cond0_0 i) (hc1 : ¬cond0_1 i) :
    (runB c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0).2.2.1 = [⟨Rect.unit (s := S4x512x512) (k0_off1 i) S1x512x512.size (k0_off1_inb i), k0_pay46 xs0 x3⟩] := by
  unfold runB
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- A middle block: and into the gates. -/
theorem slabVB (hc0 : ¬cond0_0 i) (hc1 : ¬cond0_1 i) :
    (runB c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0).2.2.2.1 = [⟨Rect.unit (s := S4x512x512) (k0_off1 i) S1x512x512.size (k0_off1_inb i), k0_pay47 xs0 x4⟩] := by
  unfold runB
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- The last block: its one store into the gated half, -/
theorem slabUC (hc0 : ¬cond0_0 i) (hc1 : cond0_1 i) :
    (runC c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0 xs1 xs2).2.2.1 = [⟨Rect.unit (s := S4x512x512) (k0_off1 i) S1x512x512.size (k0_off1_inb i), k0_pay46 xs0 x3⟩] := by
  unfold runC
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- The last block: and into the gates. -/
theorem slabVC (hc0 : ¬cond0_0 i) (hc1 : cond0_1 i) :
    (runC c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0 xs1 xs2).2.2.2.1 = [⟨Rect.unit (s := S4x512x512) (k0_off1 i) S1x512x512.size (k0_off1_inb i), k0_pay47 xs0 x4⟩] := by
  unfold runC
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]

/-- The last block: its store of the tile's result. -/
theorem outC (hc0 : ¬cond0_0 i) (hc1 : cond0_1 i) :
    (runC c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0 xs1 xs2).1
      = [⟨Rect.unit (s := S512x2048) ![0, 0] S512x2048.size inb_S512x2048_S512x2048_0_0,
          closing x0 x2 x5 x6 x7 x8 x9 (a14.view.read (Elt F) (a14.view.writes (Elt F) (h14.unread xs1)
            [⟨Rect.unit (s := S4x512x512) (k0_off1 i) S1x512x512.size (k0_off1_inb i), k0_pay46 xs0 x3⟩]))
            (a15.view.read (Elt F) (a15.view.writes (Elt F) (h15.unread xs2)
            [⟨Rect.unit (s := S4x512x512) (k0_off1 i) S1x512x512.size (k0_off1_inb i), k0_pay47 xs0 x4⟩]))⟩] := by
  unfold runC
  dsimp only
  try sl_unfold_words
  simp only [View.readCov_unit_zero (S := S512x2048) _ hz, readCov_ld, View.canon_unit_zero (S := S512x2048) hz,
    View.readAt_eq_ld, h2.read_unread, h3.read_unread, h4.read_unread, h5.read_unread, h6.read_unread, h7.read_unread,
    h8.read_unread, h9.read_unread, h10.read_unread, h11.read_unread, h13.read_unread,
    View.ld_unit_zero (S := S512x2048) hz, View.ld_unit_zero (S := S1x2048) hz, View.ld_unit_zero (S := S2048x512) hz, shapeCast_self]
  rfl

end Cert.SguKernelIdeal.Body

end
-- ==== Proof.Sgu.Payloads.lean ====
/-
  The spatial-gating kernel's stored values read at an index, over the extended reals: the normed rows, the two projections,
  the layer norm, the mixing of a chunk's tokens, and the closing residual norm.
-/
module

public import proofs.«01_k».proof.Proof.Sgu.Spec
public import proofs.«01_k».proof.Proof.Sgu.Cases
public import Idealize.ShloMosaic.Lib.Pipeline.ValueKit.Tiles
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

noncomputable section

namespace Cert.SguKernelIdeal.Pay

open Cert.SguKernelIdeal Cert.SguKernelIdeal.Gen Cert.SguKernelIdeal.Body Idealize.ShloMosaic Cert.Spec Cert.Rows

/-- The normed rows of a tile. -/
theorem pay45_apply (x : Vec Ideal S512x2048 .f32) (g : Vec Ideal S1x2048 .f32) (r : Fin 512) (k : Fin 2048) :
    k0_pay45 x g (ix2 r k) = rms (fun k => x (ix2 r k)) (fun k => g (ix2 0 k)) k := by
  unfold_payloads
  pointwise
  rfl

/-- A slab of the gated half, and of the gates. -/
theorem pay46_apply (xn : Vec Ideal S512x2048 .bf16) (w : Vec Ideal S2048x512 .bf16) (r f : Fin 512) :
    k0_pay46 xn w (ix3 0 r f) = geluDot (fun k => xn (ix2 r k)) (fun k f => w (ix2 k f)) f := by
  unfold_payloads
  pointwise
  simp only [Ideal.erf_def]
  rfl

theorem pay47_apply (xn : Vec Ideal S512x2048 .bf16) (w : Vec Ideal S2048x512 .bf16) (r f : Fin 512) :
    k0_pay47 xn w (ix3 0 r f) = geluDot (fun k => xn (ix2 r k)) (fun k f => w (ix2 k f)) f := by
  unfold_payloads
  pointwise
  simp only [Ideal.erf_def]
  rfl

/-! ## The layer norm -/

theorem pay2_apply (a b c d : Vec Ideal S1x512x512 .f32) (r : Fin 512) :
    k0_pay2 a b c d (ix2 r 0) = (((∑ f : Fin 512, a (ix3 0 r f) + ∑ f : Fin 512, b (ix3 0 r f)) + ∑ f : Fin 512, c (ix3 0 r f))
      + ∑ f : Fin 512, d (ix3 0 r f)) * Ideal.ofBits .f32 0x3A000000#32 := by
  unfold_payloads
  pointwise

theorem pay3_apply (a b c d y : Vec Ideal S1x512x512 .f32) (r : Fin 512) :
    k0_pay3 a b c d y (ix2 r 0) = ∑ f : Fin 512, (y (ix3 0 r f) - k0_pay2 a b c d (ix2 r 0)) * (y (ix3 0 r f) - k0_pay2 a b c d (ix2 r 0)) := by
  unfold k0_pay3
  generalize k0_pay2 a b c d = m
  unfold_payloads
  pointwise

theorem pay5_apply (m q : FVec Ideal S512x1 .f32) (b c d : Vec Ideal S1x512x512 .f32) (r : Fin 512) :
    k0_pay5 m q (k0_pay4 b) c d (ix2 r 0) = Ideal.rsqrt ((((q (ix2 r 0)
      + ∑ f : Fin 512, (b (ix3 0 r f) - m (ix2 r 0)) * (b (ix3 0 r f) - m (ix2 r 0)))
      + ∑ f : Fin 512, (c (ix3 0 r f) - m (ix2 r 0)) * (c (ix3 0 r f) - m (ix2 r 0)))
      + ∑ f : Fin 512, (d (ix3 0 r f) - m (ix2 r 0)) * (d (ix3 0 r f) - m (ix2 r 0))) * Ideal.ofBits .f32 0x3A000000#32
      + Ideal.ofBits .f32 0x358637BD#32) := by
  unfold_payloads
  pointwise

theorem pay14_apply (m s : FVec Ideal S512x1 .f32) (y : Vec Ideal S1x512x512 .f32) (g o : Vec Ideal S1x512 .f32) (r f : Fin 512) :
    k0_pay14 m s y g o (ix2 r f) = (y (ix3 0 r f) - m (ix2 r 0)) * s (ix2 r 0) * g (ix2 0 f) + o (ix2 0 f) := by
  unfold_payloads
  pointwise

theorem pay13_apply (acc : FVec Ideal S512x2048 .f32) (sv : FVec Ideal S512x512 .f32) (u : Vec Ideal S1x512x512 .f32)
    (w : Vec Ideal S512x2048 .bf16) (r : Fin 512) (n : Fin 2048) :
    k0_pay13 acc sv u w (ix2 r n) = acc (ix2 r n) + ∑ f : Fin 512, u (ix3 0 r f) * sv (ix2 r f) * w (ix2 f n) := by
  unfold_payloads
  pointwise

theorem pay6_apply (r : Fin 512) (n : Fin 2048) : k0_pay6 (F := Ideal) (ix2 r n) = 0 := by
  unfold_payloads
  pointwise

theorem pay1_apply (X : FVec Ideal S512x2048 .f32) (x : Vec Ideal S512x2048 .f32) (g : Vec Ideal S1x2048 .f32) (r : Fin 512) (n : Fin 2048) :
    k0_pay1 X (k0_pay43 x) (k0_pay44 g) (ix2 r n)
      = residual (fun k => x (ix2 r k)) (fun k => X (ix2 r k)) (fun k => g (ix2 0 k)) n := by
  unfold_payloads
  pointwise
  rfl

/-! ## The mixing of a chunk's tokens -/

section mixing

variable (vn : FVec Ideal S512x512 .bf16) (w w' : Vec Ideal S1x128x128 .bf16) (b b' : Vec Ideal S128x1 .f32)

/-- One head's weights over the rows of row `r`'s chunk, at column `f`, and the offset. -/
def headRow (w : Vec Ideal S1x128x128 .bf16) (b : Vec Ideal S128x1 .f32) (r f : Fin 512) : EReal :=
  ∑ q : Fin 128, w (ix3 0 (place r) q) * vn (ix2 (peer rfl r q) f) + b (ix2 (place r) 0)

theorem head_apply (a d : ℕ) (h : S512x512.Slices ![a, d] S128x256) (r f : Fin 512) (p : Fin 128) (k : Fin 256)
    (hp : p = place r) (ha : a = 128 * (r.val / 128)) (hk : d + k.val = f.val) :
    head vn ![a, d] h w b (ix2 p k) = headRow vn w b r f := by
  subst hp
  have e : ∀ q : Fin 128, extractStridedSlice S128x256 ![a, d] vn h (ix2 q k) = vn (ix2 (peer rfl r q) f) := fun q =>
    extractStridedSlice_apply ![a, d] vn h (ix2 q k) (ix2 (peer rfl r q) f) fun x => by
      match x with
      | ⟨0, _⟩ => show 128 * (r.val / 128) + q.val = a + q.val; rw [ha]
      | ⟨1, _⟩ => exact hk.symm
  unfold head headRow
  simp only [← e]
  generalize extractStridedSlice S128x256 ![a, d] vn h = X
  pointwise

theorem chunk_apply (a : ℕ) (h0 : S512x512.Slices ![a, 0] S128x256) (h1 : S512x512.Slices ![a, 256] S128x256) (r f : Fin 512)
    (ha : a = 128 * (r.val / 128)) :
    chunk vn a h0 h1 w b w' b' (ix2 (place r) f) = if f.val < 256 then headRow vn w b r f else headRow vn w' b' r f := by
  have hf := f.isLt
  unfold chunk
  by_cases h : f.val < 256
  · rw [if_pos h, ← head_apply vn w b a 0 h0 r f (place r) ⟨f.val, h⟩ rfl ha (Nat.zero_add _)]
    exact concatenate_pair_apply_left (s₁ := S128x256) (s₂ := S128x256) 1 _ _ _ (ix2 (place r) f) rfl (ix2 (place r) (⟨f.val, h⟩ : Fin 256)) fun x => by
      match x with
      | ⟨0, _⟩ => rfl
      | ⟨1, _⟩ => rfl
  · rw [if_neg h, ← head_apply vn w' b' a 256 h1 r f (place r) ⟨f.val - 256, by omega⟩ rfl ha (by show 256 + (f.val - 256) = _; omega)]
    refine concatenate_pair_apply_right (s₁ := S128x256) (s₂ := S128x256) 1 _ _ _ (ix2 (place r) f) rfl rfl
      (ix2 (place r) (⟨f.val - 256, by omega⟩ : Fin 256)) (fun x hx => ?_) ?_
    · match x with
      | ⟨0, _⟩ => rfl
      | ⟨1, _⟩ => exact absurd rfl hx
    · show f.val - 256 + 256 = f.val
      omega

theorem mixed_apply (r f : Fin 512) :
    mixed vn w b w' b' (ix2 r f) = if f.val < 256 then headRow vn w b r f else headRow vn w' b' r f := by
  have hr := r.isLt
  have off : ∀ x : Fin 2, x ≠ 0 → ((ix2 (place r) f : S128x512.Idx) x).val = ((ix2 r f : S512x512.Idx) x).val := fun x hx => by
    match x with
    | ⟨0, _⟩ => exact absurd rfl hx
    | ⟨1, _⟩ => rfl
  unfold mixed
  obtain h | h | h | h : r.val / 128 = 0 ∨ r.val / 128 = 1 ∨ r.val / 128 = 2 ∨ r.val / 128 = 3 := by omega
  · rw [← chunk_apply vn w w' b b' 0 slices_S512x512_o0_0_S128x256 slices_S512x512_o0_256_S128x256 r f (by omega)]
    exact concatenate_apply_piece 0 _ _ (ix2 r f) 0 (by show 0 < 4; decide) S128x512 _ rfl rfl 0 rfl (ix2 (place r) f) off
      (by show 0 + r.val % 128 = r.val; omega)
  · rw [← chunk_apply vn w w' b b' 128 slices_S512x512_o128_0_S128x256 slices_S512x512_o128_256_S128x256 r f (by omega)]
    exact concatenate_apply_piece 0 _ _ (ix2 r f) 1 (by show 1 < 4; decide) S128x512 _ rfl rfl 128 rfl (ix2 (place r) f) off
      (by show 128 + r.val % 128 = r.val; omega)
  · rw [← chunk_apply vn w w' b b' 256 slices_S512x512_o256_0_S128x256 slices_S512x512_o256_256_S128x256 r f (by omega)]
    exact concatenate_apply_piece 0 _ _ (ix2 r f) 2 (by show 2 < 4; decide) S128x512 _ rfl rfl 256 rfl (ix2 (place r) f) off
      (by show 256 + r.val % 128 = r.val; omega)
  · rw [← chunk_apply vn w w' b b' 384 slices_S512x512_o384_0_S128x256 slices_S512x512_o384_256_S128x256 r f (by omega)]
    exact concatenate_apply_piece 0 _ _ (ix2 r f) 3 (by show 3 < 4; decide) S128x512 _ rfl rfl 384 rfl (ix2 (place r) f) off
      (by show 384 + r.val % 128 = r.val; omega)

end mixing

/-! ## The closing -/

section closing

variable (x0 : Vec Ideal S512x2048 .f32) (x2 g b : Vec Ideal S1x2048 .f32) (ws : Vec Ideal S8x128x128 .bf16) (bs : Vec Ideal S128x8 .f32)
  (w : Vec Ideal S2048x2048 .bf16) (U Y : Vec Ideal S4x512x512 .f32) (r : Fin 512)

/-- The loads of the closing, at block `c` and at head `a`. -/
theorem y_apply (c : Fin 4) (inb) (f : Fin 512) : yAt Y c.val inb (ix3 0 r f) = slabRow Y r (at4 c f) :=
  (ld_slab (φ := .f32) c.val Y inb r f c.isLt).trans (slabRow_at Y r c f).symm

theorem y0_apply (f : Fin 512) : y0 Y (ix3 0 r f) = slabRow Y r (at4 0 f) := y_apply Y r 0 _ f
theorem y1_apply (f : Fin 512) : y1 Y (ix3 0 r f) = slabRow Y r (at4 1 f) := y_apply Y r 1 _ f
theorem y2_apply (f : Fin 512) : y2 Y (ix3 0 r f) = slabRow Y r (at4 2 f) := y_apply Y r 2 _ f
theorem y3_apply (f : Fin 512) : y3 Y (ix3 0 r f) = slabRow Y r (at4 3 f) := y_apply Y r 3 _ f

theorem v_apply (c : Fin 4) (o : ℕ) (ho : o = 512 * c.val) (inb) (f : Fin 512) : vAt g o inb (ix2 0 f) = g (ix2 0 (at4 c f)) :=
  ld_block (φ := .f32) o c ho g inb f

theorem w_apply (c : Fin 4) (o : ℕ) (ho : o = 512 * c.val) (inb) (f : Fin 512) (n : Fin 2048) :
    wAt w o inb (ix2 f n) = w (ix2 (at4 c f) n) := by
  subst ho
  exact ld_rows (φ := .bf16) _ w inb f n (by have := c.isLt; have := f.isLt; omega)

theorem s_apply (a : Fin 8) (o : ℕ) (ho : o = a.val) (inb) (p q : Fin 128) : sAt ws o inb (ix3 0 p q) = ws (ix3 a p q) := by
  subst ho
  refine View.ld_unit_apply_of ws _ _ inb _ _ fun x => ?_
  match x with
  | ⟨0, _⟩ => rfl
  | ⟨1, _⟩ => exact (Nat.zero_add _).symm
  | ⟨2, _⟩ => exact (Nat.zero_add _).symm

theorem b_apply (a : Fin 8) (o : ℕ) (ho : o = a.val) (inb) (p : Fin 128) : bAt bs o inb (ix2 p 0) = bs (ix2 p a) := by
  subst ho
  refine View.ld_unit_apply_of bs _ _ inb _ _ fun x => ?_
  match x with
  | ⟨0, _⟩ => exact (Nat.zero_add _).symm
  | ⟨1, _⟩ => rfl

theorem mu_apply : mu Y (ix2 r 0) = mean (slabRow Y r) := by
  unfold mu mean
  rw [pay2_apply, times_inv_width, ← sum_four]
  simp only [y0_apply, y1_apply, y2_apply, y3_apply]

theorem sq0_apply : sq0 Y (ix2 r 0) = ∑ f : Fin 512, (slabRow Y r (at4 0 f) - mean (slabRow Y r)) * (slabRow Y r (at4 0 f) - mean (slabRow Y r)) := by
  have e := mu_apply Y r
  unfold mu at e
  unfold sq0
  rw [pay3_apply, e]
  simp only [y0_apply]

theorem rstd_apply : rstd Y (ix2 r 0) = lnScale (slabRow Y r) := by
  unfold rstd lnScale
  rw [pay5_apply, times_inv_width, sq0_apply, mu_apply]
  simp only [y1_apply, y2_apply, y3_apply]
  rw [sum_four (fun k => (slabRow Y r k - mean (slabRow Y r)) * (slabRow Y r k - mean (slabRow Y r)))]
  rfl

/-- The mixed gates of row `r` of a tile. -/
def gates : Fin 2048 → EReal :=
  mixAt (fun a p q => ws (ix3 a p q)) (fun a p => bs (ix2 p a))
    (fun q => layerNorm (slabRow Y (peer rfl r q)) (fun k => g (ix2 0 k)) (fun k => b (ix2 0 k))) (place r)

/-- What channel `k` contributes to column `n`. -/
def part (n k : Fin 2048) : EReal := slabRow U r k * gates g b ws bs Y r k * w (ix2 k n)

/-- One column block added. -/
theorem accum_apply (c : Fin 4) (acc : FVec Ideal S512x2048 .f32) (o s s' : ℕ) (ho : o = 512 * c.val) (hs : s = 2 * c.val)
    (hs' : s' = 2 * c.val + 1) (i0 i1 i2 i3 i4 i5 i6 i7 i8) (n : Fin 2048) :
    accum acc (mu Y) (rstd Y) (yAt Y c.val i0) (vAt g o i1) (vAt b o i2) (sAt ws s i3) (bAt bs s i4) (sAt ws s' i5) (bAt bs s' i6)
        (yAt U c.val i7) (wAt w o i8) (ix2 r n)
      = acc (ix2 r n) + ∑ f : Fin 512, part g b ws bs w U Y r n (at4 c f) := by
  have hc := c.isLt
  unfold accum
  rw [pay13_apply]
  refine congrArg (acc (ix2 r n) + ·) (Finset.sum_congr rfl fun f _ => ?_)
  have hf := f.isLt
  unfold part
  rw [y_apply, w_apply w c o ho, mixed_apply]
  refine congrArg (slabRow U r (at4 c f) * · * w (ix2 (at4 c f) n)) ?_
  unfold gates mixAt headRow layerNorm
  simp only [pay14_apply, mu_apply, rstd_apply, y_apply, v_apply g c o ho, v_apply b c o ho]
  by_cases h : f.val < 256
  · have e : headOf (at4 c f) = ⟨2 * c.val, by omega⟩ := Fin.ext (by show (512 * c.val + f.val) / 256 = 2 * c.val; omega)
    rw [if_pos h, e]
    simp only [s_apply ws ⟨2 * c.val, by omega⟩ s hs, b_apply bs ⟨2 * c.val, by omega⟩ s hs]
  · have e : headOf (at4 c f) = ⟨2 * c.val + 1, by omega⟩ := Fin.ext (by show (512 * c.val + f.val) / 256 = 2 * c.val + 1; omega)
    rw [if_neg h, e]
    simp only [s_apply ws ⟨2 * c.val + 1, by omega⟩ s' hs', b_apply bs ⟨2 * c.val + 1, by omega⟩ s' hs']

/-- The row the closing norms. -/
theorem mix_apply (n : Fin 2048) : upto3 g b ws bs w U Y (ix2 r n)
    = gateMix (slabRow U r) (gates g b ws bs Y r) (fun k n => w (ix2 k n)) n := by
  refine Eq.trans ?_ (sum_four (part g b ws bs w U Y r n))
  refine (accum_apply g b ws bs w U Y r 3 _ 1536 6 7 rfl rfl rfl _ _ _ _ _ _ _ _ _ n).trans (congrArg (· + _) ?_)
  refine (accum_apply g b ws bs w U Y r 2 _ 1024 4 5 rfl rfl rfl _ _ _ _ _ _ _ _ _ n).trans (congrArg (· + _) ?_)
  refine (accum_apply g b ws bs w U Y r 1 _ 512 2 3 rfl rfl rfl _ _ _ _ _ _ _ _ _ n).trans (congrArg (· + _) ?_)
  refine (accum_apply g b ws bs w U Y r 0 _ 0 0 1 rfl rfl rfl _ _ _ _ _ _ _ _ _ n).trans ?_
  rw [pay6_apply, zero_add]

/-- What the last point of a row tile stores, from the rows the slabs hold. -/
theorem closing_apply (n : Fin 2048) : closing x0 x2 g b ws bs w U Y (ix2 r n)
    = residual (fun k => x0 (ix2 r k)) (gateMix (slabRow U r) (gates g b ws bs Y r) (fun k n => w (ix2 k n))) (fun k => x2 (ix2 0 k)) n := by
  unfold closing
  rw [pay1_apply]
  simp only [mix_apply]

end closing

end Cert.SguKernelIdeal.Pay

end
-- ==== Proof.Sgu.Body.lean ====
/-
  The spatial-gating kernel's body at one grid point, in each of its three cases, from what its buffers hold to what it leaves
  in them.
-/
module

public import proofs.«01_k».proof.Proof.Sgu.Cases

@[expose] public section

set_option maxRecDepth 16384

noncomputable section

namespace Cert.SguKernelIdeal.Body

open Cert.SguKernelIdeal Cert.SguKernelIdeal.Gen Cert.Rows Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S2048x512 .bf16) (h5 : a5.IsWhole)
  (a6 : Memref sig .tc .vmem S2048x512 .bf16) (h6 : a6.IsWhole)
  (a7 : Memref sig .tc .vmem S1x2048 .f32) (h7 : a7.IsWhole)
  (a8 : Memref sig .tc .vmem S1x2048 .f32) (h8 : a8.IsWhole)
  (a9 : Memref sig .tc .vmem S8x128x128 .bf16) (h9 : a9.IsWhole)
  (a10 : Memref sig .tc .vmem S128x8 .f32) (h10 : a10.IsWhole)
  (a11 : Memref sig .tc .vmem S2048x2048 .bf16) (h11 : a11.IsWhole)
  (a12 : Memref sig .tc .vmem S512x2048 .f32) (h12 : a12.IsWhole)
  (a13 : Memref sig .tc .vmem S512x2048 .bf16) (h13 : a13.IsWhole)
  (a14 : Memref sig .tc .vmem S4x512x512 .f32) (h14 : a14.IsWhole)
  (a15 : Memref sig .tc .vmem S4x512x512 .f32) (h15 : a15.IsWhole)
  (x0 : Vec F S512x2048 .f32) (x1 : Vec F S1x2048 .f32) (x2 : Vec F S1x2048 .f32) (x3 : Vec F S2048x512 .bf16) (x4 : Vec F S2048x512 .bf16) (x5 : Vec F S1x2048 .f32) (x6 : Vec F S1x2048 .f32) (x7 : Vec F S8x128x128 .bf16) (x8 : Vec F S128x8 .f32) (x9 : Vec F S2048x2048 .bf16)

/-- The ten input buffers at their blocks. -/
def Ins (c : Dev nD) (a2 : Memref sig .tc .vmem S512x2048 .f32) (a3 : Memref sig .tc .vmem S1x2048 .f32) (a4 : Memref sig .tc .vmem S1x2048 .f32) (a5 : Memref sig .tc .vmem S2048x512 .bf16) (a6 : Memref sig .tc .vmem S2048x512 .bf16) (a7 : Memref sig .tc .vmem S1x2048 .f32) (a8 : Memref sig .tc .vmem S1x2048 .f32) (a9 : Memref sig .tc .vmem S8x128x128 .bf16) (a10 : Memref sig .tc .vmem S128x8 .f32) (a11 : Memref sig .tc .vmem S2048x2048 .bf16)
    (x0 : Vec F S512x2048 .f32) (x1 : Vec F S1x2048 .f32) (x2 : Vec F S1x2048 .f32) (x3 : Vec F S2048x512 .bf16) (x4 : Vec F S2048x512 .bf16) (x5 : Vec F S1x2048 .f32) (x6 : Vec F S1x2048 .f32) (x7 : Vec F S8x128x128 .bf16) (x8 : Vec F S128x8 .f32) (x9 : Vec F S2048x2048 .bf16) : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9)

/-- What the one store of a point into a buffer of four slabs leaves. -/
theorem stored (a : Memref sig .tc .vmem S4x512x512 .f32) (h : a.IsWhole) (j : ℕ) (hj : k0_off1 i = ![j, 0, 0])
    (Y : Vec F S4x512x512 .f32) (q : Vec F S1x512x512 .f32) (L : List (View.Piece (Elt F) S4x512x512 .f32))
    (e : L = [⟨Rect.unit (s := S4x512x512) (k0_off1 i) S1x512x512.size (k0_off1_inb i), q⟩]) :
    a.view.read (Elt F) (a.view.writes (Elt F) (h.unread Y) L) = put j q Y := by
  subst e
  exact (read_put a.view (h.unread Y) j (k0_off1 i) (k0_off1_inb i) hj q).trans (congrArg (put j q) (h.read_unread Y))

/-- A tile's first column block: it norms the tile's rows and stores its two slabs. -/
theorem tripleA (hc0 : cond0_0 i) (hc1 : ¬cond0_1 i) (j : ℕ) (hj : k0_off1 i = ![j, 0, 0])
    (xs0 : Vec F S512x2048 .bf16) (o : Vec F S512x2048 .f32) (U Y : Vec F S4x512x512 .f32) (E : Set ℕ) (K : PUnit → sProp 𝕄) :
    iprop(Ins c a2 a3 a4 a5 a6 a7 a8 a9 a10 a11 x0 x1 x2 x3 x4 x5 x6 x7 x8 x9 ∗ owns (c : Thread nD τ) a12 fullShare o ∗ owns (c : Thread nD τ) a13 fullShare xs0
        ∗ owns (c : Thread nD τ) a14 fullShare U ∗ owns (c : Thread nD τ) a15 fullShare Y
        ∗ (iprop(Ins c a2 a3 a4 a5 a6 a7 a8 a9 a10 a11 x0 x1 x2 x3 x4 x5 x6 x7 x8 x9 ∗ owns (c : Thread nD τ) a12 fullShare o
            ∗ owns (c : Thread nD τ) a13 fullShare (k0_pay45 x0 x1) ∗ owns (c : Thread nD τ) a14 fullShare (put j (k0_pay46 (k0_pay45 x0 x1) x3) U)
            ∗ owns (c : Thread nD τ) a15 fullShare (put j (k0_pay47 (k0_pay45 x0 x1) x4) Y)) -∗ K ⟨⟩))
      ⊢ wp frame (wpE (defs₀ (F := F)) Variants.none c none) E (cc0_sgu_mixer i a2 h2 a3 h3 a4 h4 a5 h5 a6 h6 a7 h7 a8 h8 a9 h9 a10 h10 a11 h11 a12 h12 a13 h13 a14 h14 a15 h15) K := by
  unfold Ins
  iintro ⟨⟨H0, H1, H2, H3, H4, H5, H6, H7, H8, H9⟩, H10, HS0, HS1, HS2, Hk⟩
  iapply ((runA c i a2 h2 a3 h3 a4 h4 a5 h5 a6 h6 a7 h7 a8 h8 a9 h9 a10 h10 a11 h11 a12 h12 a13 h13 a14 h14 a15 h15 x0 x1 x2 x3 x4 x5 x6 x7 x8 x9 hc0 hc1).2.2.2.2 o U Y E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexists _; iexact HS0
  isplitl [HS1]; · iexact HS1
  isplitl [HS2]; · iexact HS2
  iintro ⟨H0, H1, H2, H3, H4, H5, H6, H7, H8, H9, H10, ⟨%es0, HS0⟩, HS1, HS2⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]
  · unfold owns; iexists _; isplitr
    swap; · iexact HS0
    ipureintro
    exact (View.read_writes_eq_canon _ _ _ (coverA _ _ _ _ _ _ _ _ _ _ _ _ _ _ _ _ _ _ _ _ _ _ _ _ _ _ _ _ _ _ _ _ _ _ _ _ _ _ _ _ _ _)).trans
      (normedA _ _ _ _ _ _ _ _ _ _ _ _ _ _ _ _ _ _ _ _ _ _ _ _ _ _ _ _ _ _ _ _ _ _ _ _ _ _ _ _ _ _)
  isplitl [HS1]
  · unfold owns; iexists _; isplitr
    swap; · iexact HS1
    ipureintro
    exact stored i a14 h14 j hj U _ _ (slabUA _ _ _ _ _ _ _ _ _ _ _ _ _ _ _ _ _ _ _ _ _ _ _ _ _ _ _ _ _ _ _ _ _ _ _ _ _ _ _ _ _ _)
  unfold owns; iexists _; isplitr
  swap; · iexact HS2
  ipureintro
  exact stored i a15 h15 j hj Y _ _ (slabVA _ _ _ _ _ _ _ _ _ _ _ _ _ _ _ _ _ _ _ _ _ _ _ _ _ _ _ _ _ _ _ _ _ _ _ _ _ _ _ _ _ _)

/-- A middle column block: it stores its two slabs. -/
theorem tripleB (hc0 : ¬cond0_0 i) (hc1 : ¬cond0_1 i) (j : ℕ) (hj : k0_off1 i = ![j, 0, 0])
    (xs0 : Vec F S512x2048 .bf16) (o : Vec F S512x2048 .f32) (U Y : Vec F S4x512x512 .f32) (E : Set ℕ) (K : PUnit → sProp 𝕄) :
    iprop(Ins c a2 a3 a4 a5 a6 a7 a8 a9 a10 a11 x0 x1 x2 x3 x4 x5 x6 x7 x8 x9 ∗ owns (c : Thread nD τ) a12 fullShare o ∗ owns (c : Thread nD τ) a13 fullShare xs0
        ∗ owns (c : Thread nD τ) a14 fullShare U ∗ owns (c : Thread nD τ) a15 fullShare Y
        ∗ (iprop(Ins c a2 a3 a4 a5 a6 a7 a8 a9 a10 a11 x0 x1 x2 x3 x4 x5 x6 x7 x8 x9 ∗ owns (c : Thread nD τ) a12 fullShare o
            ∗ owns (c : Thread nD τ) a13 fullShare xs0 ∗ owns (c : Thread nD τ) a14 fullShare (put j (k0_pay46 xs0 x3) U)
            ∗ owns (c : Thread nD τ) a15 fullShare (put j (k0_pay47 xs0 x4) Y)) -∗ K ⟨⟩))
      ⊢ wp frame (wpE (defs₀ (F := F)) Variants.none c none) E (cc0_sgu_mixer i a2 h2 a3 h3 a4 h4 a5 h5 a6 h6 a7 h7 a8 h8 a9 h9 a10 h10 a11 h11 a12 h12 a13 h13 a14 h14 a15 h15) K := by
  unfold Ins
  iintro ⟨⟨H0, H1, H2, H3, H4, H5, H6, H7, H8, H9⟩, H10, HS0, HS1, HS2, Hk⟩
  iapply ((runB c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0).2.2.2.2 o U Y E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]; · iexact HS0
  isplitl [HS1]
  · unfold owns; iexists _; isplitr
    swap; · iexact HS1
    ipureintro
    exact stored i a14 h14 j hj U _ _ (slabUB _ _ _ _ _ _ _ _ _ _ _ _ _ _ _ _ _ _ _ _ _ _ _ _ _ _ _ _ _ _ _ _ _ _ _ _ _ _ _ _ _ _ _)
  unfold owns; iexists _; isplitr
  swap; · iexact HS2
  ipureintro
  exact stored i a15 h15 j hj Y _ _ (slabVB _ _ _ _ _ _ _ _ _ _ _ _ _ _ _ _ _ _ _ _ _ _ _ _ _ _ _ _ _ _ _ _ _ _ _ _ _ _ _ _ _ _ _)

/-- The last column block: it stores its two slabs and the result of the tile. -/
theorem tripleC (hc0 : ¬cond0_0 i) (hc1 : cond0_1 i) (j : ℕ) (hj : k0_off1 i = ![j, 0, 0])
    (xs0 : Vec F S512x2048 .bf16) (o : Vec F S512x2048 .f32) (U Y : Vec F S4x512x512 .f32) (E : Set ℕ) (K : PUnit → sProp 𝕄) :
    iprop(Ins c a2 a3 a4 a5 a6 a7 a8 a9 a10 a11 x0 x1 x2 x3 x4 x5 x6 x7 x8 x9 ∗ owns (c : Thread nD τ) a12 fullShare o ∗ owns (c : Thread nD τ) a13 fullShare xs0
        ∗ owns (c : Thread nD τ) a14 fullShare U ∗ owns (c : Thread nD τ) a15 fullShare Y
        ∗ (iprop(Ins c a2 a3 a4 a5 a6 a7 a8 a9 a10 a11 x0 x1 x2 x3 x4 x5 x6 x7 x8 x9 ∗ owns (c : Thread nD τ) a12 fullShare (closing x0 x2 x5 x6 x7 x8 x9 (put j (k0_pay46 xs0 x3) U) (put j (k0_pay47 xs0 x4) Y))
            ∗ owns (c : Thread nD τ) a13 fullShare xs0 ∗ owns (c : Thread nD τ) a14 fullShare (put j (k0_pay46 xs0 x3) U)
            ∗ owns (c : Thread nD τ) a15 fullShare (put j (k0_pay47 xs0 x4) Y)) -∗ K ⟨⟩))
      ⊢ wp frame (wpE (defs₀ (F := F)) Variants.none c none) E (cc0_sgu_mixer i a2 h2 a3 h3 a4 h4 a5 h5 a6 h6 a7 h7 a8 h8 a9 h9 a10 h10 a11 h11 a12 h12 a13 h13 a14 h14 a15 h15) K := by
  unfold Ins
  iintro ⟨⟨H0, H1, H2, H3, H4, H5, H6, H7, H8, H9⟩, H10, HS0, HS1, HS2, Hk⟩
  iapply ((runC c i a2 h2 a3 h3 a4 h4 a5 h5 a6 h6 a7 h7 a8 h8 a9 h9 a10 h10 a11 h11 a12 h12 a13 h13 a14 h14 a15 h15 x0 x1 x2 x3 x4 x5 x6 x7 x8 x9 hc0 hc1 xs0 U Y).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  iintro ⟨H0, H1, H2, H3, H4, H5, H6, H7, H8, H9, ⟨%e10, H10⟩, HS0, HS1, HS2⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · unfold owns; iexists _; isplitr
    swap; · iexact H10
    ipureintro
    rw [outC]
    funext y
    refine (View.read_writes_cons_unit_of_mem a12.view _ _ _ [] y y rfl fun a => ?_).trans ?_
    · match a with
      | ⟨0, _⟩ => exact (Nat.zero_add _).symm
      | ⟨1, _⟩ => exact (Nat.zero_add _).symm
    · rw [stored i a14 h14 j hj U _ _ rfl, stored i a15 h15 j hj Y _ _ rfl]
  isplitl [HS0]; · iexact HS0
  isplitl [HS1]
  · unfold owns; iexists _; isplitr
    swap; · iexact HS1
    ipureintro
    exact stored i a14 h14 j hj U _ _ (slabUC _ _ _ _ _ _ _ _ _ _ _ _ _ _ _ _ _ _ _ _ _ _ _ _ _ _ _ _ _ _ _ _ _ _ _ _ _ _ _ _ _ _ _ _ _)
  unfold owns; iexists _; isplitr
  swap; · iexact HS2
  ipureintro
  exact stored i a15 h15 j hj Y _ _ (slabVC _ _ _ _ _ _ _ _ _ _ _ _ _ _ _ _ _ _ _ _ _ _ _ _ _ _ _ _ _ _ _ _ _ _ _ _ _ _ _ _ _ _ _ _ _)

end Cert.SguKernelIdeal.Body

end
-- ==== Proof.Sgu.Frame.lean ====
/-
  The spatial-gating kernel's whole launch: the contents of the normed rows, of the gated half and of the gates after each grid
  point, the
  pipeline run from the body's three cases, and the arguments left as they were.
-/
module

public import proofs.«01_k».proof.Proof.Sgu.Body
public import Idealize.ShloMosaic.Lib.Claim

@[expose] public section

set_option maxRecDepth 16384

noncomputable section

namespace Cert.SguKernelIdeal.Body

open Cert.SguKernelIdeal Cert.SguKernelIdeal.Gen Cert.Rows Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The normed rows point `t` would leave, and the two slabs it computes from the rows `xn`. -/
def tileAt (c : Dev nD) (t : Fin cfg0.N) : Vec F S512x2048 .bf16 := k0_pay45 (iblk m c 0 t) (iblk m c 1 t)
def slabUAt (c : Dev nD) (t : Fin cfg0.N) (xn : Vec F S512x2048 .bf16) : Vec F S1x512x512 .f32 := k0_pay46 xn (iblk m c 3 t)
def slabVAt (c : Dev nD) (t : Fin cfg0.N) (xn : Vec F S512x2048 .bf16) : Vec F S1x512x512 .f32 := k0_pay47 xn (iblk m c 4 t)

/-- The normed rows after point `n`: written at a tile's first point, kept at the others. -/
def xeAt (c : Dev nD) : (n : ℕ) → n < cfg0.N → Vec F S512x2048 .bf16
  | 0, h => tileAt m c ⟨0, h⟩
  | n + 1, h => if (n + 1) % 4 = 0 then tileAt m c ⟨n + 1, h⟩ else xeAt c n (Nat.lt_of_succ_lt h)

/-- Four slabs after point `n`, where the point and those before it in its tile have stored the slabs `q` computes. -/
def slabsAt (q : Dev nD → (t : Fin cfg0.N) → Vec F S512x2048 .bf16 → Vec F S1x512x512 .f32) (c : Dev nD) :
    (n : ℕ) → n < cfg0.N → Vec F S4x512x512 .f32
  | 0, h => put 0 (q c ⟨0, h⟩ (xeAt m c 0 h)) (View.canon [])
  | n + 1, h => put ((n + 1) % 4) (q c ⟨n + 1, h⟩ (xeAt m c (n + 1) h)) (slabsAt q c n (Nat.lt_of_succ_lt h))

/-- The gated half, and the gates. -/
def usAt (c : Dev nD) (n : ℕ) (hn : n < cfg0.N) : Vec F S4x512x512 .f32 := slabsAt m (slabUAt m) c n hn
def vsAt (c : Dev nD) (n : ℕ) (hn : n < cfg0.N) : Vec F S4x512x512 .f32 := slabsAt m (slabVAt m) c n hn

/-- The tile's result, from the slabs after the tile's last point. -/
def resultAt (c : Dev nD) (t : Fin cfg0.N) : Vec F S512x2048 .f32 :=
  closing (iblk m c 0 t) (iblk m c 2 t) (iblk m c 5 t) (iblk m c 6 t) (iblk m c 7 t) (iblk m c 8 t) (iblk m c 9 t) (usAt m c t.val t.isLt) (vsAt m c t.val t.isLt)

theorem xeAt_first (c : Dev nD) (t : Fin cfg0.N) (h : t.val % 4 = 0) : xeAt m c t.val t.isLt = tileAt m c t := by
  obtain ⟨n, hn⟩ := t
  cases n with
  | zero => rfl
  | succ n => exact if_pos h

theorem xeAt_later (c : Dev nD) (n : ℕ) (hn : n + 1 < cfg0.N) (h : (n + 1) % 4 ≠ 0) :
    xeAt m c (n + 1) hn = xeAt m c n (Nat.lt_of_succ_lt hn) := if_neg h

/-- What the buffers hold before point `n`: after a point, the normed rows, and contents that agree with the gated half and the
    gates on the slabs stored so far. -/
def PhiS (c : Dev nD) : (n : ℕ) → n ≤ cfg0.N → sProp 𝕄
  | 0, _ => Pipeline.ΦA spec0 c
  | n + 1, hn => iprop(iprop(owns (c : Thread nD τ) scM0_0 fullShare (xeAt m c n hn)
      ∗ (∃ U, ⌜Agree (n % 4 + 1) U (usAt m c n hn)⌝ ∗ owns (c : Thread nD τ) scM0_1 fullShare U)
      ∗ (∃ Y, ⌜Agree (n % 4 + 1) Y (vsAt m c n hn)⌝ ∗ owns (c : Thread nD τ) scM0_2 fullShare Y)) ∗ (∃ r, prngReg c r))

/-- Forgetting the contents. -/
theorem PhiS_any (c : Dev nD) (n : ℕ) (hn : n ≤ cfg0.N) : PhiS m c n hn ⊢ Pipeline.ΦA spec0 c := by
  cases n with
  | zero => exact .rfl
  | succ n =>
    rw [PhiA0_eq]
    unfold PhiS
    iintro ⟨⟨HS0, ⟨%U, -, HS1⟩, ⟨%Y, -, HS2⟩⟩, Hg⟩
    isplitl [HS0 HS1 HS2]
    · isplitl [HS0]
      · iexists _; iexact HS0
      isplitl [HS1]
      · iexists _; iexact HS1
      iexists _; iexact HS2
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => resultAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = resultAt m c t := by dsimp only [dats]

/-- An input window is left at its block. -/
theorem leaves_in (c : Dev nD) (w : Fin 11) (hw : w.val < 10) (t : Fin cfg0.N) :
    (dats m 0 c).leavesExact w t = owns (c : Thread nD τ) ((cfg0.win w).stage (cfg0.slots t w)) fullShare ((dats m 0 c).after w t) := by
  unfold Dat.leavesExact; rw [live_in w hw t]

/-- The input buffers at their blocks at point `t`. -/
def InsAt (c : Dev nD) (t : Fin cfg0.N) : sProp 𝕄 :=
  Ins c (ms0_0 t) (ms0_1 t) (ms0_2 t) (ms0_3 t) (ms0_4 t) (ms0_5 t) (ms0_6 t) (ms0_7 t) (ms0_8 t) (ms0_9 t) (iblk m c 0 t) (iblk m c 1 t) (iblk m c 2 t) (iblk m c 3 t) (iblk m c 4 t) (iblk m c 5 t) (iblk m c 6 t) (iblk m c 7 t) (iblk m c 8 t) (iblk m c 9 t)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The body finds the inputs at their blocks, -/
theorem pre_ins (c : Dev nD) (t : Fin cfg0.N) : bodyPre m c t ⊢ iprop(PhiS m c t.val (Nat.le_of_lt t.isLt) ∗ (dats m 0 c).owesAt () t.castSucc
      ∗ InsAt m c t ∗ (∃ d, owns (c : Thread nD τ) (ms0_10 t) fullShare ((dats m 0 c).before 10 t d))) := by
  unfold bodyPre InsAt Ins
  rw [PhiS_castSucc]
  simp only [before0_0_of m (dats m 0 c) (A_eq m c 0) (after0_0 m c) t, before0_1_of m (dats m 0 c) (A_eq m c 1) (after0_1 m c) t, before0_2_of m (dats m 0 c) (A_eq m c 2) (after0_2 m c) t, before0_3_of m (dats m 0 c) (A_eq m c 3) (after0_3 m c) t, before0_4_of m (dats m 0 c) (A_eq m c 4) (after0_4 m c) t, before0_5_of m (dats m 0 c) (A_eq m c 5) (after0_5 m c) t, before0_6_of m (dats m 0 c) (A_eq m c 6) (after0_6 m c) t, before0_7_of m (dats m 0 c) (A_eq m c 7) (after0_7 m c) t, before0_8_of m (dats m 0 c) (A_eq m c 8) (after0_8 m c) t, before0_9_of m (dats m 0 c) (A_eq m c 9) (after0_9 m c) t]
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  isplitl [Hf]; · iexact Hf
  isplitl [Ho]; · iexact Ho
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexists _; iexact H10

/-- and leaves them there. -/
theorem post_ins (c : Dev nD) (t : Fin cfg0.N) : iprop(PhiS m c (t.val + 1) t.isLt ∗ (dats m 0 c).owesAt () t.castSucc
      ∗ InsAt m c t ∗ (dats m 0 c).leavesExact 10 t) ⊢ bodyPost m c t := by
  unfold bodyPost InsAt Ins
  rw [show (dats m 0 c).owesAt () t.succ = (dats m 0 c).owesAt () t.castSucc from rfl]
  rw [show (dats m 0 c).Φ t.succ = PhiS m c (t.val + 1) t.isLt from rfl]
  rw [leaves_in m c 0 (by decide) t, after0_0, leaves_in m c 1 (by decide) t, after0_1, leaves_in m c 2 (by decide) t, after0_2, leaves_in m c 3 (by decide) t, after0_3, leaves_in m c 4 (by decide) t, after0_4, leaves_in m c 5 (by decide) t, after0_5, leaves_in m c 6 (by decide) t, after0_6, leaves_in m c 7 (by decide) t, after0_7, leaves_in m c 8 (by decide) t, after0_8, leaves_in m c 9 (by decide) t, after0_9]
  iintro ⟨Hf, Ho, ⟨H0, H1, H2, H3, H4, H5, H6, H7, H8, H9⟩, H10⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The slab a point stores into is its column block's. -/
theorem slot_eq (t : Fin cfg0.N) : k0_off1 (grid0.coords t) = ![t.val % 4, 0, 0] := by
  have e1 : (grid0.coords t 1).val = t.val / 1 % 4 := Pipeline.Grid.coords_val t 1 (by decide) rfl
  have h : t.val % 4 < 4 := Nat.mod_lt _ (by decide)
  unfold k0_off1
  rw [e1, Nat.div_one]
  generalize t.val % 4 = j at h
  match j, h with
  | 0, _ | 1, _ | 2, _ | 3, _ => rfl

/-- The agreement after a point, from the one before it. -/
theorem agree_first (q : Dev nD → (t : Fin cfg0.N) → Vec F S512x2048 .bf16 → Vec F S1x512x512 .f32) (c : Dev nD) (t : Fin cfg0.N)
    (h : t.val % 4 = 0) (Y : Vec F S4x512x512 .f32) :
    Agree (t.val % 4 + 1) (put (t.val % 4) (q c t (tileAt m c t)) Y) (slabsAt m q c t.val t.isLt) := by
  rw [← xeAt_first m c t h]
  obtain ⟨n, hn⟩ := t
  cases n with
  | zero => exact agree_put _ (agree_zero _ _)
  | succ n =>
    refine agree_put (n := (n + 1) % 4) _ ?_
    dsimp only at h ⊢
    rw [h]
    exact agree_zero _ _

theorem agree_later (q : Dev nD → (t : Fin cfg0.N) → Vec F S512x2048 .bf16 → Vec F S1x512x512 .f32) (c : Dev nD) (n : ℕ)
    (hn : n + 1 < cfg0.N) (h : (n + 1) % 4 ≠ 0) (Y : Vec F S4x512x512 .f32)
    (hY : Agree (n % 4 + 1) Y (slabsAt m q c n (Nat.lt_of_succ_lt hn))) :
    Agree ((n + 1) % 4 + 1) (put ((n + 1) % 4) (q c ⟨n + 1, hn⟩ (xeAt m c n (Nat.lt_of_succ_lt hn))) Y) (slabsAt m q c (n + 1) hn) := by
  rw [← xeAt_later m c n hn h]
  refine agree_put (n := (n + 1) % 4) _ ?_
  rw [show (n + 1) % 4 = n % 4 + 1 by omega]
  exact hY

/-- A tile's first point. -/
theorem body_first (c : Dev nD) (t : Fin cfg0.N) (h0 : t.val % 4 = 0) :
    bodyPre m c t ⊢ wp frame (wpE (defs₀ (F := F)) Variants.none c none) Set.univ (bodyAt0 t) (fun _ => bodyPost m c t) := by
  have c0 := (hcond0_0 t).mpr h0
  have c1 : ¬cond0_1 (grid0.coords t) := fun h => by have := (hcond0_1 t).mp h; omega
  refine (pre_ins m c t).trans ((sep_mono_left ((PhiS_any m c _ _).trans (Entails.of_eq (PhiA0_eq c)))).trans ?_)
  unfold InsAt bodyAt0
  iintro ⟨⟨⟨⟨%xs0, HS0⟩, ⟨%U, HS1⟩, ⟨%Y, HS2⟩⟩, Hg⟩, Ho, Hi, ⟨%d10, H10⟩⟩
  iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 _ scM0_1 _ scM0_2 _ (iblk m c 0 t) (iblk m c 1 t) (iblk m c 2 t) (iblk m c 3 t) (iblk m c 4 t) (iblk m c 5 t) (iblk m c 6 t) (iblk m c 7 t) (iblk m c 8 t) (iblk m c 9 t) c0 c1 (t.val % 4) (slot_eq t) xs0 _ U Y Set.univ (fun _ => bodyPost m c t))
  isplitl [Hi]; · iexact Hi
  isplitl [H10]; · iexact H10
  isplitl [HS0]; · iexact HS0
  isplitl [HS1]; · iexact HS1
  isplitl [HS2]; · iexact HS2
  iintro ⟨Hi, H10, HS0, HS1, HS2⟩
  iapply (post_ins m c t)
  unfold PhiS InsAt
  isplitl [HS0 HS1 HS2 Hg]
  · isplitl [HS0 HS1 HS2]
    · isplitl [HS0]
      · rw [xeAt_first m c t h0]
        iexact HS0
      isplitl [HS1]
      · iexists _
        isplitr
        · ipureintro
          exact agree_first m (slabUAt m) c t h0 U
        iexact HS1
      iexists _
      isplitr
      · ipureintro
        exact agree_first m (slabVAt m) c t h0 Y
      iexact HS2
    iexact Hg
  isplitl [Ho]; · iexact Ho
  isplitl [Hi]; · iexact Hi
  rw [Dat.leavesExact_idle (dats m 0 c) 10 t (idleAt0_10_A t c0 c1) (noFlush0_10_A t c0 c1)]
  iexists _; iexact H10

/-- A tile's middle points. -/
theorem body_middle (c : Dev nD) (t : Fin cfg0.N) (h0 : t.val % 4 ≠ 0) (h1 : t.val % 4 ≠ 3) :
    bodyPre m c t ⊢ wp frame (wpE (defs₀ (F := F)) Variants.none c none) Set.univ (bodyAt0 t) (fun _ => bodyPost m c t) := by
  have c0 : ¬cond0_0 (grid0.coords t) := fun h => h0 ((hcond0_0 t).mp h)
  have c1 : ¬cond0_1 (grid0.coords t) := fun h => h1 ((hcond0_1 t).mp h)
  refine (pre_ins m c t).trans ?_
  obtain ⟨n, hn⟩ := t
  cases n with
  | zero => exact absurd rfl h0
  | succ n =>
  let t : Fin cfg0.N := ⟨n + 1, hn⟩
  unfold InsAt bodyAt0 PhiS
  iintro ⟨⟨⟨HS0, ⟨%U, %hU, HS1⟩, ⟨%Y, %hY, HS2⟩⟩, Hg⟩, Ho, Hi, ⟨%d10, H10⟩⟩
  iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 _ scM0_1 _ scM0_2 _ (iblk m c 0 t) (iblk m c 1 t) (iblk m c 2 t) (iblk m c 3 t) (iblk m c 4 t) (iblk m c 5 t) (iblk m c 6 t) (iblk m c 7 t) (iblk m c 8 t) (iblk m c 9 t) c0 c1 (t.val % 4) (slot_eq t) (xeAt m c n (Nat.lt_of_succ_lt hn)) _ U Y Set.univ (fun _ => bodyPost m c t))
  isplitl [Hi]; · iexact Hi
  isplitl [H10]; · iexact H10
  isplitl [HS0]; · iexact HS0
  isplitl [HS1]; · iexact HS1
  isplitl [HS2]; · iexact HS2
  iintro ⟨Hi, H10, HS0, HS1, HS2⟩
  iapply (post_ins m c t)
  unfold PhiS InsAt
  isplitl [HS0 HS1 HS2 Hg]
  · isplitl [HS0 HS1 HS2]
    · isplitl [HS0]
      · rw [xeAt_later m c n hn h0]
        iexact HS0
      isplitl [HS1]
      · iexists _
        isplitr
        · ipureintro
          exact agree_later m (slabUAt m) c n hn h0 U hU
        iexact HS1
      iexists _
      isplitr
      · ipureintro
        exact agree_later m (slabVAt m) c n hn h0 Y hY
      iexact HS2
    iexact Hg
  isplitl [Ho]; · iexact Ho
  isplitl [Hi]; · iexact Hi
  rw [Dat.leavesExact_idle (dats m 0 c) 10 t (idleAt0_10_B t c0 c1) (noFlush0_10_B t c0 c1)]
  iexists _; iexact H10

/-- A tile's last point. -/
theorem body_last (c : Dev nD) (t : Fin cfg0.N) (h1 : t.val % 4 = 3) :
    bodyPre m c t ⊢ wp frame (wpE (defs₀ (F := F)) Variants.none c none) Set.univ (bodyAt0 t) (fun _ => bodyPost m c t) := by
  have h0 : t.val % 4 ≠ 0 := by omega
  have c0 : ¬cond0_0 (grid0.coords t) := fun h => h0 ((hcond0_0 t).mp h)
  have c1 := (hcond0_1 t).mpr h1
  refine (pre_ins m c t).trans ?_
  obtain ⟨n, hn⟩ := t
  cases n with
  | zero => exact absurd rfl h0
  | succ n =>
  let t : Fin cfg0.N := ⟨n + 1, hn⟩
  unfold InsAt bodyAt0 PhiS
  iintro ⟨⟨⟨HS0, ⟨%U, %hU, HS1⟩, ⟨%Y, %hY, HS2⟩⟩, Hg⟩, Ho, Hi, ⟨%d10, H10⟩⟩
  iapply (tripleC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 _ scM0_1 _ scM0_2 _ (iblk m c 0 t) (iblk m c 1 t) (iblk m c 2 t) (iblk m c 3 t) (iblk m c 4 t) (iblk m c 5 t) (iblk m c 6 t) (iblk m c 7 t) (iblk m c 8 t) (iblk m c 9 t) c0 c1 (t.val % 4) (slot_eq t) (xeAt m c n (Nat.lt_of_succ_lt hn)) _ U Y Set.univ (fun _ => bodyPost m c t))
  isplitl [Hi]; · iexact Hi
  isplitl [H10]; · iexact H10
  isplitl [HS0]; · iexact HS0
  isplitl [HS1]; · iexact HS1
  isplitl [HS2]; · iexact HS2
  iintro ⟨Hi, H10, HS0, HS1, HS2⟩
  iapply (post_ins m c t)
  unfold PhiS InsAt
  isplitl [HS0 HS1 HS2 Hg]
  · isplitl [HS0 HS1 HS2]
    · isplitl [HS0]
      · rw [xeAt_later m c n hn h0]
        iexact HS0
      isplitl [HS1]
      · iexists _
        isplitr
        · ipureintro
          exact agree_later m (slabUAt m) c n hn h0 U hU
        iexact HS1
      iexists _
      isplitr
      · ipureintro
        exact agree_later m (slabVAt m) c n hn h0 Y hY
      iexact HS2
    iexact Hg
  isplitl [Ho]; · iexact Ho
  isplitl [Hi]; · iexact Hi
  rw [show (dats m 0 c).leavesExact 10 t = owns (c : Thread nD τ) (ms0_10 t) fullShare (resultAt m c t) from by
    unfold Dat.leavesExact; rw [liveAt0_10_C t c0 c1, after0_10]]
  unfold resultAt
  rw [← show put (t.val % 4) (slabUAt m c t (xeAt m c n (Nat.lt_of_succ_lt hn))) U = usAt m c t.val t.isLt from
      agree_all ((congrArg (fun k => Agree (k + 1) _ _) h1).mp (agree_later m (slabUAt m) c n hn h0 U hU)),
    ← show put (t.val % 4) (slabVAt m c t (xeAt m c n (Nat.lt_of_succ_lt hn))) Y = vsAt m c t.val t.isLt from
      agree_all ((congrArg (fun k => Agree (k + 1) _ _) h1).mp (agree_later m (slabVAt m) c n hn h0 Y hY))]
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact body_first m c t h0
  · by_cases h1 : t.val % 4 = 3
    · exact body_last m c t h1
    · exact body_middle m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch: every array ends at what the proof data compute, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl)
    (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are left as they were, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.SguKernelIdeal.Body

end
-- ==== Proof.Sgu.Blocks.lean ====
/-
  What the spatial-gating kernel's input blocks hold at a grid point, read from the arguments: point `t` is row tile
  `t / 4`, column block `t % 4`.
-/
module

public import proofs.«01_k».proof.Proof.Common.Halo
public import proofs.«01_k».proof.Proof.Sgu.Frame
public import Idealize.ShloMosaic.Lib.Pipeline.ValueKit.Point
public import Idealize.ShloMosaic.Lib.Pointwise

@[expose] public section

noncomputable section

namespace Cert.SguKernelIdeal.Blocks

open Cert.SguKernelIdeal Cert.SguKernelIdeal.Gen Idealize.ShloMosaic Idealize.ShloMosaic.TcCoe Idealize.SL.Sem Cert.Spec

variable (m : (ℓ : Loc nD τ sig) → Buf (Elt Ideal) ℓ) (c : Dev nD)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = t.val % 4 :=
  (by decide +kernel : ∀ t : Fin grid0.N, win0_3.index t 0 = 0 ∧ win0_3.index t 1 = t.val % 4)
theorem idx4 : ∀ t : Fin cfg0.N, win0_4.index t 0 = 0 ∧ win0_4.index t 1 = 4 + t.val % 4 :=
  (by decide +kernel : ∀ t : Fin grid0.N, win0_4.index t 0 = 0 ∧ win0_4.index t 1 = 4 + t.val % 4)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = t.val / 4 ∧ win0_10.index t 1 = 0 :=
  (by decide +kernel : ∀ t : Fin grid0.N, win0_10.index t 0 = t.val / 4 ∧ win0_10.index t 1 = 0)

theorem lt_N (t : Fin cfg0.N) : t.val < 256 := lt_of_lt_of_eq t.isLt N_0

/-- The flattened row that row `r` of point `t`'s row tile is. -/
def rowOf (t : Fin cfg0.N) (r : Fin 512) : Fin 32768 := ⟨512 * (t.val / 4) + r.val, by have := lt_N t; have := r.isLt; omega⟩

/-- The column that place `f` of point `t`'s block is, and its columns in the input weights. -/
def chanOf (t : Fin cfg0.N) (f : Fin 512) : Fin 2048 := ⟨512 * (t.val % 4) + f.val, by have := f.isLt; omega⟩
def colOf (o : Fin 2) (f : Fin 2048) : Fin 4096 := ⟨2048 * o.val + f.val, by have := f.isLt; have := o.isLt; omega⟩

/-- Row `R` of the flattened input. -/
def xrow (R : Fin 32768) (k : Fin 2048) : EReal :=
  (m ((c : Thread nD τ).loc main_arg0) : S2x16384x2048.Idx → EReal) (ix3 (seqOf R) (tokOf R) k)

theorem blk_x (t : Fin cfg0.N) (r : Fin 512) (k : Fin 2048) : iblk m c 0 t (ix2 r k) = xrow m c (rowOf t r) k := by
  have h := lt_N t
  unfold xrow rowOf seqOf tokOf
  blk_ext! [iblk, V, idx0 t]

theorem blk_pre (t : Fin cfg0.N) (k : Fin 2048) :
    iblk m c 1 t (ix2 0 k) = (m ((c : Thread nD τ).loc main_arg1) : S2048.Idx → EReal) (ix1 k) := by
  blk_ext! [iblk, V, idx1 t]

theorem blk_post (t : Fin cfg0.N) (k : Fin 2048) :
    iblk m c 2 t (ix2 0 k) = (m ((c : Thread nD τ).loc main_arg2) : S2048.Idx → EReal) (ix1 k) := by
  blk_ext! [iblk, V, idx2 t]

theorem blk_lg (t : Fin cfg0.N) (k : Fin 2048) :
    iblk m c 5 t (ix2 0 k) = (m ((c : Thread nD τ).loc main_arg4) : S2048.Idx → EReal) (ix1 k) := by
  blk_ext! [iblk, V, idx5 t]

theorem blk_lb (t : Fin cfg0.N) (k : Fin 2048) :
    iblk m c 6 t (ix2 0 k) = (m ((c : Thread nD τ).loc main_arg5) : S2048.Idx → EReal) (ix1 k) := by
  blk_ext! [iblk, V, idx6 t]

theorem blk_wu (t : Fin cfg0.N) (k : Fin 2048) (f : Fin 512) :
    iblk m c 3 t (ix2 k f) = (m ((c : Thread nD τ).loc main_arg3) : S2048x4096.Idx → EReal) (ix2 k (colOf 0 (chanOf t f))) := by
  unfold colOf chanOf
  blk_ext! [iblk, V, idx3 t]

theorem blk_wv (t : Fin cfg0.N) (k : Fin 2048) (f : Fin 512) :
    iblk m c 4 t (ix2 k f) = (m ((c : Thread nD τ).loc main_arg3) : S2048x4096.Idx → EReal) (ix2 k (colOf 1 (chanOf t f))) := by
  unfold colOf chanOf
  blk_ext! [iblk, V, idx4 t]

theorem blk_ws (t : Fin cfg0.N) (a : Fin 8) (p q : Fin 128) :
    iblk m c 7 t (ix3 a p q) = (m ((c : Thread nD τ).loc main_arg6) : S8x128x128.Idx → EReal) (ix3 a p q) := by
  blk_ext! [iblk, V, idx7 t]

theorem blk_bs (t : Fin cfg0.N) (p : Fin 128) (a : Fin 8) :
    iblk m c 8 t (ix2 p a) = (m ((c : Thread nD τ).loc main_arg7) : S8x128.Idx → EReal) (ix2 a p) := by
  blk_ext! [iblk, V, idx8 t]

theorem blk_wo (t : Fin cfg0.N) (f n : Fin 2048) :
    iblk m c 9 t (ix2 f n) = (m ((c : Thread nD τ).loc main_arg8) : S2048x2048.Idx → EReal) (ix2 f n) := by
  blk_ext! [iblk, V, idx9 t]

end Cert.SguKernelIdeal.Blocks

end
-- ==== Proof.Sgu.Array.lean ====
/-
  What the spatial-gating kernel's result array holds: at row `R`, column `n`, the sublayer's row applied to the
  flattened input. The column blocks are stored point by point; after the last of a row tile the two halves are whole.
-/
module

public import proofs.«01_k».proof.Proof.Sgu.Payloads
public import proofs.«01_k».proof.Proof.Sgu.Blocks

@[expose] public section

noncomputable section

namespace Cert.SguKernelIdeal.Array

open Cert.SguKernelIdeal Cert.SguKernelIdeal.Gen Cert.SguKernelIdeal.Blocks Cert.SguKernelIdeal.Pay Cert.SguKernelIdeal.Body
open Idealize.ShloMosaic Idealize.ShloMosaic.TcCoe Idealize.SL.Sem Cert.Spec

variable (m : (ℓ : Loc nD τ sig) → Buf (Elt Ideal) ℓ) (c : Dev nD)

/-- The gains and weights, as the functions of the mathematics. -/
def pre (k : Fin 2048) : EReal := (m ((c : Thread nD τ).loc main_arg1) : S2048.Idx → EReal) (ix1 k)
def post (k : Fin 2048) : EReal := (m ((c : Thread nD τ).loc main_arg2) : S2048.Idx → EReal) (ix1 k)
def win (o : Fin 2) (k f : Fin 2048) : EReal := (m ((c : Thread nD τ).loc main_arg3) : S2048x4096.Idx → EReal) (ix2 k (colOf o f))
def lg (k : Fin 2048) : EReal := (m ((c : Thread nD τ).loc main_arg4) : S2048.Idx → EReal) (ix1 k)
def lb (k : Fin 2048) : EReal := (m ((c : Thread nD τ).loc main_arg5) : S2048.Idx → EReal) (ix1 k)
def ws (a : Fin 8) (p q : Fin 128) : EReal := (m ((c : Thread nD τ).loc main_arg6) : S8x128x128.Idx → EReal) (ix3 a p q)
def bs (a : Fin 8) (p : Fin 128) : EReal := (m ((c : Thread nD τ).loc main_arg7) : S8x128.Idx → EReal) (ix2 a p)
def wo (f n : Fin 2048) : EReal := (m ((c : Thread nD τ).loc main_arg8) : S2048x2048.Idx → EReal) (ix2 f n)

/-- The normed rows, and their two projections. -/
def nrm (R : Fin 32768) : Fin 2048 → EReal := rms (xrow m c R) (pre m c)
def proj (o : Fin 2) (R : Fin 32768) : Fin 2048 → EReal := geluDot (nrm m c R) (win m c o)

/-- What the normed rows' buffer is given: the row tile, normed. -/
theorem tile (t : Fin cfg0.N) (r : Fin 512) (k : Fin 2048) : tileAt m c t (ix2 r k) = nrm m c (rowOf t r) k := by
  have eg : (fun k => iblk m c 1 t (ix2 0 k)) = pre m c := funext fun k => blk_pre m c t k
  have ex : (fun k => iblk m c 0 t (ix2 r k)) = xrow m c (rowOf t r) := funext fun k => blk_x m c t r k
  unfold tileAt nrm
  rw [pay45_apply, eg, ex]

/-- The two slabs a point stores, the first buffer holding the normed tile. -/
theorem storedU (t : Fin cfg0.N) (xn : Vec Ideal S512x2048 .bf16) (r f : Fin 512)
    (hx : ∀ (r : Fin 512) (k : Fin 2048), xn (ix2 r k) = nrm m c (rowOf t r) k) :
    slabUAt m c t xn (ix3 0 r f) = proj m c 0 (rowOf t r) (chanOf t f) := by
  unfold slabUAt proj
  rw [pay46_apply]
  unfold geluDot dot win
  simp only [hx, blk_wu]

theorem storedV (t : Fin cfg0.N) (xn : Vec Ideal S512x2048 .bf16) (r f : Fin 512)
    (hx : ∀ (r : Fin 512) (k : Fin 2048), xn (ix2 r k) = nrm m c (rowOf t r) k) :
    slabVAt m c t xn (ix3 0 r f) = proj m c 1 (rowOf t r) (chanOf t f) := by
  unfold slabVAt proj
  rw [pay47_apply]
  unfold geluDot dot win
  simp only [hx, blk_wv]

/-- Points of one row tile are about the same rows. -/
theorem rowOf_pred (t t' : Fin cfg0.N) (h : t.val / 4 = t'.val / 4) (r : Fin 512) : rowOf t r = rowOf t' r :=
  Fin.ext (by show 512 * (t.val / 4) + r.val = 512 * (t'.val / 4) + r.val; rw [h])

/-- After every point the first buffer holds the normed tile. -/
theorem holds_tile : ∀ (n : ℕ) (h : n < cfg0.N) (r : Fin 512) (k : Fin 2048), xeAt m c n h (ix2 r k) = nrm m c (rowOf ⟨n, h⟩ r) k := by
  intro n
  induction n with
  | zero =>
    intro h r k
    rw [xeAt_first m c ⟨0, h⟩ rfl]
    exact tile m c ⟨0, h⟩ r k
  | succ n ih =>
    intro h r k
    by_cases h0 : (n + 1) % 4 = 0
    · rw [xeAt_first m c ⟨n + 1, h⟩ h0]
      exact tile m c ⟨n + 1, h⟩ r k
    · rw [xeAt_later m c n h h0, ih, rowOf_pred ⟨n, by omega⟩ ⟨n + 1, h⟩ (by dsimp only; omega) r]

/-- After every point a four-slab buffer holds the slabs so far of the projection its stores compute. -/
theorem holds_slabs (o : Fin 2) (q : Dev nD → (t : Fin cfg0.N) → Vec Ideal S512x2048 .bf16 → Vec Ideal S1x512x512 .f32)
    (hq : ∀ (t : Fin cfg0.N) (xn : Vec Ideal S512x2048 .bf16) (r f : Fin 512),
      (∀ (r : Fin 512) (k : Fin 2048), xn (ix2 r k) = nrm m c (rowOf t r) k) →
        q c t xn (ix3 0 r f) = proj m c o (rowOf t r) (chanOf t f)) :
    ∀ (n : ℕ) (h : n < cfg0.N) (d : Fin 4) (_ : d.val ≤ n % 4) (r f : Fin 512),
      slabsAt m q c n h (ix3 d r f) = proj m c o (rowOf ⟨n, h⟩ r) (at4 d f) := by
  have own : ∀ (n : ℕ) (h : n < cfg0.N) (d : Fin 4) (_ : d.val = n % 4) (r f : Fin 512),
      q c ⟨n, h⟩ (xeAt m c n h) (ix3 0 r f) = proj m c o (rowOf ⟨n, h⟩ r) (at4 d f) := fun n h d e r f => by
    rw [hq ⟨n, h⟩ _ r f (holds_tile m c n h)]
    exact congrArg (proj m c o _) (Fin.ext (by show 512 * (n % 4) + f.val = 512 * d.val + f.val; rw [e]))
  intro n
  induction n with
  | zero =>
    intro h d hd r f
    exact (if_pos (show d.val = 0 by omega)).trans (own 0 h d (by omega) r f)
  | succ n ih =>
    intro h d hd r f
    by_cases e : d.val = (n + 1) % 4
    · exact (if_pos e).trans (own (n + 1) h d e r f)
    · refine (if_neg e).trans ?_
      rw [ih (by omega) d (by omega) r f, rowOf_pred ⟨n, by omega⟩ ⟨n + 1, h⟩ (by dsimp only; omega) r]

/-- The rows a four-slab buffer holds after a tile's last point. -/
theorem holds_rows (o : Fin 2) (q : Dev nD → (t : Fin cfg0.N) → Vec Ideal S512x2048 .bf16 → Vec Ideal S1x512x512 .f32)
    (hq : ∀ (t : Fin cfg0.N) (xn : Vec Ideal S512x2048 .bf16) (r f : Fin 512),
      (∀ (r : Fin 512) (k : Fin 2048), xn (ix2 r k) = nrm m c (rowOf t r) k) →
        q c t xn (ix3 0 r f) = proj m c o (rowOf t r) (chanOf t f))
    (t : Fin cfg0.N) (ht : t.val % 4 = 3) (r : Fin 512) :
    slabRow (slabsAt m q c t.val t.isLt) r = proj m c o (rowOf t r) := funext fun k => by
  have hk := k.isLt
  unfold slabRow
  rw [holds_slabs m c o q hq t.val t.isLt _ (by show k.val / 512 ≤ t.val % 4; omega)]
  exact congrArg (proj m c o _) (Fin.ext (by show 512 * (k.val / 512) + k.val % 512 = k.val; omega))

/-- The sublayer's row of flattened row `R`. -/
def result (R : Fin 32768) : Fin 2048 → EReal :=
  sguRow (xrow m c) (pre m c) (post m c) (win m c 0) (win m c 1) (lg m c) (lb m c) (ws m c) (bs m c) (wo m c) R

/-- The mixed gates of a tile's row are those of the flattened row. -/
theorem gates_row (t : Fin cfg0.N) (Y : Vec Ideal S4x512x512 .f32) (hY : ∀ r, slabRow Y r = proj m c 1 (rowOf t r)) (r : Fin 512) :
    gates (iblk m c 5 t) (iblk m c 6 t) (iblk m c 7 t) (iblk m c 8 t) Y r
      = mixedRow (nrm m c) (win m c 1) (lg m c) (lb m c) (ws m c) (bs m c) (rowOf t r) := by
  have ht := lt_N t
  have hr := r.isLt
  have e1 : ∀ q : Fin 128, rowOf t (peer rfl r q) = peer rfl (rowOf t r) q := fun q => Fin.ext (by
    show 512 * (t.val / 4) + (128 * (r.val / 128) + q.val) = 128 * ((512 * (t.val / 4) + r.val) / 128) + q.val
    omega)
  have e2 : place r = place (rowOf t r) := Fin.ext (by
    show r.val % 128 = (512 * (t.val / 4) + r.val) % 128
    omega)
  unfold gates mixedRow
  simp only [hY, e1, e2, blk_lg, blk_lb, blk_ws, blk_bs]
  rfl

/-- What the last point of a row tile writes back. -/
theorem written (t : Fin cfg0.N) (ht : t.val % 4 = 3) (r : Fin 512) (n : Fin 2048) :
    resultAt m c t (ix2 r n) = result m c (rowOf t r) n := by
  have eu := holds_rows m c 0 (slabUAt m) (storedU m c) t ht r
  have ev := holds_rows m c 1 (slabVAt m) (storedV m c) t ht
  unfold resultAt usAt vsAt result sguRow
  rw [closing_apply, eu, gates_row m c t _ ev]
  simp only [blk_x, blk_post, blk_wo]
  rfl

/-! ## The array, and the run -/

/-- THE ARRAY the kernel leaves. -/
def final : S32768x2048.Idx → EReal := fun i => result m c (i 0) (i 1)

/-- What a row tile's last point writes back is its block of the array. -/
theorem flushed (t : Fin cfg0.N) (hf : (cfg0.win 10).flush t = true) :
    (dats m 0 c).flushed 10 t = ((cfg0.win 10).blk t).view.read (Elt Ideal) (final m c) := by
  have ht : t.val % 4 = 3 := (flush0_10 t).mp hf
  show (cfg0.win 10).cut (grid0.coords t) ((dats m 0 c).after 10 t) = _
  rw [after0_10]
  obtain ⟨e0, e1⟩ := idx10 t
  funext y
  have hb0 : (((cfg0.win 10).blk t).view.emb y 0).val = win0_10.index t (0 : Fin 2) * 512 + 1 * (y 0).val := rfl
  have hb1 : (((cfg0.win 10).blk t).view.emb y 1).val = win0_10.index t (1 : Fin 2) * 2048 + 1 * (y 1).val := rfl
  have hy : (cfg0.win 10).xinj (grid0.coords t) y = ix2 (⟨(y 0).val, (y 0).isLt⟩ : Fin 512) (⟨(y 1).val, (y 1).isLt⟩ : Fin 2048) := by
    funext a
    match a with
    | ⟨0, _⟩ => rfl
    | ⟨1, _⟩ => rfl
  refine (congrArg (resultAt m c t) hy).trans ((written m c t ht _ _).trans ?_)
  show _ = final m c (((cfg0.win 10).blk t).view.emb y)
  unfold final
  refine congr (congrArg (result m c) (Fin.ext ?_)) (Fin.ext ?_)
  · show 512 * (t.val / 4) + (y 0).val = _
    rw [hb0, e0]
    omega
  · show (y 1).val = _
    rw [hb1, e1]
    omega

/-- An index is in point `t`'s block when each coordinate is in the block's range on its axis. -/
theorem mem_block (t : Fin cfg0.N) (i : S32768x2048.Idx) : i ∈ ((cfg0.win 10).blk t).view.set ↔
    ∀ a : Fin 2, win0_10.index t a * S512x2048.size a ≤ (i a).val ∧ (i a).val < win0_10.index t a * S512x2048.size a + S512x2048.size a := by
  show i ∈ ((View.whole main_v9).slice (win0_10.rect t)).set ↔ _
  rw [View.set_slice_whole, Rect.mem_set_unit]
  exact Iff.rfl

/-- Every index lies in the block some row tile's last point writes back. -/
theorem covered (i : S32768x2048.Idx) : ∃ t : Fin cfg0.N, (cfg0.win 10).flush t = true ∧ i ∈ ((cfg0.win 10).blk t).view.set := by
  have h0 : (i 0).val < 32768 := (i 0).isLt
  have h1 : (i 1).val < 2048 := (i 1).isLt
  have hlt : 4 * ((i 0).val / 512) + 3 < cfg0.N := lt_of_lt_of_eq (by omega) N_0.symm
  obtain ⟨e0, e1⟩ := idx10 ⟨4 * ((i 0).val / 512) + 3, hlt⟩
  refine ⟨⟨4 * ((i 0).val / 512) + 3, hlt⟩, (flush0_10 _).mpr (by dsimp only; omega), ?_⟩
  rw [mem_block]
  intro a
  match a with
  | ⟨0, _⟩ =>
    show win0_10.index _ (0 : Fin 2) * 512 ≤ (i 0).val ∧ (i 0).val < win0_10.index _ (0 : Fin 2) * 512 + 512
    rw [e0]
    dsimp only
    omega
  | ⟨1, _⟩ =>
    show win0_10.index _ (1 : Fin 2) * 2048 ≤ (i 1).val ∧ (i 1).val < win0_10.index _ (1 : Fin 2) * 2048 + 2048
    rw [e1]
    omega

/-- The array after the run. -/
theorem array : (dats m 0 c).arrAt 10 cfg0.N = final m c :=
  (dats m 0 c).arrAt_eq_of_cover 10 _ (fun t hf => flushed m c t hf) (covered)

/-- An argument no window stages is left as it was. -/
theorem kept (r : PUnit × MemSt nD τ sig (Elt Ideal)) (h : Pipeline.FramePost cfgs (dats m) 0 (V m) r) (b : Ref sig .tc)
    (hs : b.isScoped = false) (ha : ∀ w, (spec0 w).arr.view.ref ≠ b) (hV : V m c b = m ((c : Thread nD τ).loc b)) :
    r.2.mem ((c : Thread nD τ).loc b) = m ((c : Thread nD τ).loc b) :=
  ((h c).2 b (Pipeline.mem_restRefs_of b hs ha)).trans hV

/-- The run: the result array, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v9) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 10).trans (array m c),
      kept m c r h main_arg0 (by decide) (by decide) (V_main_arg0 m c),
      kept m c r h main_arg1 (by decide) (by decide) (V_main_arg1 m c),
      kept m c r h main_arg2 (by decide) (by decide) (V_main_arg2 m c),
      kept m c r h main_arg3 (by decide) (by decide) (V_main_arg3 m c),
      kept m c r h main_arg4 (by decide) (by decide) (V_main_arg4 m c),
      kept m c r h main_arg5 (by decide) (by decide) (V_main_arg5 m c),
      kept m c r h main_arg6 (by decide) (by decide) (V_main_arg6 m c),
      kept m c r h main_arg7 (by decide) (by decide) (V_main_arg7 m c),
      kept m c r h main_arg8 (by decide) (by decide) (V_main_arg8 m c)⟩)
    (run_main m ρ)

end Cert.SguKernelIdeal.Array

end
-- ==== Proof.Sgu.Reference.lean ====
/-
  What the spatial-gating reference computes, read at an index: the sublayer's row applied to the token's row and the rows of
  its chunk.
-/
module

public import proofs.«01_k».proof.Proof.Sgu.Spec
public import proofs.«01_k».proof.Proof.Common.Index
public import proofs.«01_k».proof.Proof.Gen.SguReferenceIdeal.Read
public import Idealize.ShloMosaic.Lib.Pointwise

@[expose] public section

noncomputable section

namespace Cert.SguReferenceIdeal.Rows

open Cert.SguReferenceIdeal Cert.SguReferenceIdeal.Gen Cert.SguReferenceIdeal.Read
open Idealize.ShloMosaic Idealize.ShloMosaic.TcCoe Idealize.SL.Sem Cert.Spec

variable (x : S2x16384x2048.Idx → EReal) (g h : S2048.Idx → EReal) (w : S2048x4096.Idx → EReal) (lg lb : S2048.Idx → EReal)
  (ws : S8x128x128.Idx → EReal) (bs : S8x128.Idx → EReal) (wo : S2048x2048.Idx → EReal)

/-- The rows of the flattened input, and the gains and weights, as the functions of the mathematics. -/
abbrev rows (R : Fin 32768) : Fin 2048 → EReal := fun k => x (ix3 (seqOf R) (tokOf R) k)
abbrev gain (g : S2048.Idx → EReal) : Fin 2048 → EReal := fun k => g (ix1 k)
abbrev part (o : Fin 2) (k f : Fin 2048) : EReal :=
  w (ix2 k ⟨2048 * o.val + f.val, by have := f.isLt; have := o.isLt; omega⟩)
abbrev heads (a : Fin 8) (p q : Fin 128) : EReal := ws (ix3 a p q)
abbrev offsets (a : Fin 8) (p : Fin 128) : EReal := bs (ix2 a p)

/-- The normed rows. -/
abbrev nrm (R : Fin 32768) : Fin 2048 → EReal := rms (rows x R) (gain g)

theorem rows_flat (b : Fin 2) (s : Fin 16384) : rows x (flat b s) = fun k => x (ix3 b s k) := by
  unfold rows
  rw [seqOf_flat, tokOf_flat]

theorem normed (b : Fin 2) (s : Fin 16384) (k : Fin 2048) :
    val_main_v12 (F := Ideal) x g (ix3 b s k) = nrm x g (flat b s) k := by
  have e1 : ∀ l, idx_main_v1 (idx_main_v2 (idx_main_v8 (ix3 b s k))) l = ix3 b s l := fun l => ext3 rfl rfl rfl
  have e2 : idx_main_v10 (idx_main_v11 (ix3 b s k)) = ix1 k := ext1 rfl
  unfold nrm
  rw [rows_flat]
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v0_apply, e1, e2]
  pointwise
  rfl

/-- The input projection, through GELU. -/
theorem projected (b : Fin 2) (s : Fin 16384) (f : Fin 4096) :
    val_main_v20 (F := Ideal) x g w (ix3 b s f) = geluDot (nrm x g (flat b s)) (fun k f => w (ix2 k f)) f := by
  have e1 : ∀ k, lidx_main_v13 (ix3 b s f) k = ix3 b s k := fun k => ext3 rfl rfl rfl
  have e2 : ∀ k, ridx_main_v13 (ix3 b s f) k = ix2 k f := fun k => ext2 rfl rfl
  have p : val_main_v13 (F := Ideal) x g w (ix3 b s f) = dot (nrm x g (flat b s)) (fun k f => w (ix2 k f)) f := by
    simp only [val_main_v13_apply, e1, e2, normed]
    rfl
  unfold geluDot
  rw [← gelu_erfc]
  simp only [val_main_v20_apply, val_main_v19_apply, val_main_v18_apply, val_main_v17_apply, val_main_cst_3_apply, val_main_v16_apply,
    val_main_v15_apply, val_main_v14_apply, val_main_cst_2_apply, p, Ideal.mulf_def, Ideal.hostUnary_erfc_def, Ideal.hostNegf_def,
    Ideal.negf_def, Ideal.ofBits_def]

/-- Its two halves: the gated one, and the gates. -/
theorem gated (b : Fin 2) (s : Fin 16384) (f : Fin 2048) :
    val_main_v21 (F := Ideal) x g w (ix3 b s f) = geluDot (nrm x g (flat b s)) (part w 0) f := by
  have hf := f.isLt
  have e : idx_main_v21 (ix3 b s f) = ix3 b s ⟨2048 * 0 + f.val, by omega⟩ :=
    ext3 (Fin.ext (by simp [idx_main_v21])) (Fin.ext (by simp [idx_main_v21])) (Fin.ext (by simp [idx_main_v21]))
  rw [val_main_v21_apply, e, projected]
  rfl

theorem gate (b : Fin 2) (s : Fin 16384) (f : Fin 2048) :
    val_main_v22 (F := Ideal) x g w (ix3 b s f) = geluDot (nrm x g (flat b s)) (part w 1) f := by
  have hf := f.isLt
  have e : idx_main_v22 (ix3 b s f) = ix3 b s ⟨2048 * 1 + f.val, by omega⟩ :=
    ext3 (Fin.ext (by simp [idx_main_v22])) (Fin.ext (by simp [idx_main_v22])) (Fin.ext (by simp [idx_main_v22]))
  rw [val_main_v22_apply, e, projected]
  rfl

/-- The layer norm of the gates. -/
theorem centred (b : Fin 2) (s : Fin 16384) (f : Fin 2048) : val_main_v28 (F := Ideal) x g w (ix3 b s f)
    = geluDot (nrm x g (flat b s)) (part w 1) f - mean (geluDot (nrm x g (flat b s)) (part w 1)) := by
  have e : ∀ l, idx_main_v23 (idx_main_v24 (idx_main_v27 (ix3 b s f))) l = ix3 b s l := fun l => ext3 rfl rfl rfl
  simp only [val_main_v28_apply, val_main_v27_apply, val_main_v26_apply, val_main_v25_apply, val_main_cst_5_apply,
    val_main_v24_apply, val_main_v23_apply, val_main_cst_4_apply, e, gate]
  pointwise
  rfl

theorem layered (b : Fin 2) (s : Fin 16384) (f : Fin 2048) : val_main_v44 (F := Ideal) x g w lg lb (ix3 b s f)
    = layerNorm (geluDot (nrm x g (flat b s)) (part w 1)) (gain lg) (gain lb) f := by
  have e1 : ∀ l, idx_main_v30 (idx_main_v31 (idx_main_v37 (ix3 b s f))) l = ix3 b s l := fun l => ext3 rfl rfl rfl
  have e2 : idx_main_v39 (idx_main_v40 (ix3 b s f)) = ix1 f := ext1 rfl
  have e3 : idx_main_v42 (idx_main_v43 (ix3 b s f)) = ix1 f := ext1 rfl
  simp only [val_main_v44_apply, val_main_v43_apply, val_main_v42_apply, val_main_v41_apply, val_main_v40_apply,
    val_main_v39_apply, val_main_v38_apply, val_main_v37_apply, val_main_v36_apply, val_main_v35_apply, val_main_v34_apply,
    val_main_cst_8_apply, val_main_v33_apply, val_main_v32_apply, val_main_cst_7_apply, val_main_v31_apply, val_main_v30_apply,
    val_main_cst_6_apply, val_main_v29_apply, e1, e2, e3, centred]
  pointwise
  rfl

/-- The mixed gates. -/
theorem mixed (b : Fin 2) (s : Fin 16384) (f : Fin 2048) : val_main_v53 (F := Ideal) x g w lg lb ws bs (ix3 b s f)
    = mixedRow (nrm x g) (part w 1) (gain lg) (gain lb) (heads ws) (offsets bs) (flat b s) f := by
  have hb := b.isLt
  have hs := s.isLt
  have hf := f.isLt
  have e1 : ∀ q, idx_main_v45 (ridx_main_v46 (idx_main_v47 (idx_main_v53 (ix3 b s f))) q)
      = ix3 b ⟨128 * (s.val / 128) + q.val, by have := q.isLt; omega⟩ f := fun q => by
    have hq := q.isLt
    refine ext3 (Fin.ext ?_) (Fin.ext ?_) (Fin.ext ?_)
    · show ((((((b.val * 16384 + s.val) * 2048 + f.val) / 33554432 * 128 + ((b.val * 16384 + s.val) * 2048 + f.val) / 262144 % 128) * 128
        + q.val) * 8 + ((b.val * 16384 + s.val) * 2048 + f.val) / 256 % 8) * 256 + ((b.val * 16384 + s.val) * 2048 + f.val) % 256) / 33554432 = b.val
      omega
    · show ((((((b.val * 16384 + s.val) * 2048 + f.val) / 33554432 * 128 + ((b.val * 16384 + s.val) * 2048 + f.val) / 262144 % 128) * 128
        + q.val) * 8 + ((b.val * 16384 + s.val) * 2048 + f.val) / 256 % 8) * 256 + ((b.val * 16384 + s.val) * 2048 + f.val) % 256) / 2048 % 16384
        = 128 * (s.val / 128) + q.val
      omega
    · show ((((((b.val * 16384 + s.val) * 2048 + f.val) / 33554432 * 128 + ((b.val * 16384 + s.val) * 2048 + f.val) / 262144 % 128) * 128
        + q.val) * 8 + ((b.val * 16384 + s.val) * 2048 + f.val) / 256 % 8) * 256 + ((b.val * 16384 + s.val) * 2048 + f.val) % 256) % 2048 = f.val
      omega
  have e2 : ∀ q, lidx_main_v46 (idx_main_v47 (idx_main_v53 (ix3 b s f))) q = ix3 (headOf f) (place (flat b s)) q := fun q => by
    refine ext3 (Fin.ext ?_) (Fin.ext ?_) rfl
    · show ((b.val * 16384 + s.val) * 2048 + f.val) / 256 % 8 = f.val / 256
      omega
    · show ((b.val * 16384 + s.val) * 2048 + f.val) / 2048 % 128 = (16384 * b.val + s.val) % 128
      omega
  have e3 : idx_main_v48 (idx_main_v49 (idx_main_v50 (idx_main_v51 (idx_main_v53 (ix3 b s f))))) = ix2 (headOf f) (place (flat b s)) := by
    refine ext2 (Fin.ext ?_) (Fin.ext ?_)
    · show ((b.val * 16384 + s.val) * 2048 + f.val) / 256 % 8 = f.val / 256
      omega
    · show ((b.val * 16384 + s.val) * 2048 + f.val) / 2048 % 128 = (16384 * b.val + s.val) % 128
      omega
  have e4 : ∀ q : Fin 128, flat b ⟨128 * (s.val / 128) + q.val, by have := q.isLt; omega⟩ = peer rfl (flat b s) q := fun q =>
    Fin.ext (by show 16384 * b.val + (128 * (s.val / 128) + q.val) = 128 * ((16384 * b.val + s.val) / 128) + q.val; omega)
  simp only [val_main_v53_apply, val_main_v52_apply, val_main_v51_apply, val_main_v50_apply, val_main_v49_apply, val_main_v48_apply,
    val_main_v47_apply, val_main_v46_apply, val_main_v45_apply, e1, e2, e3, layered, e4]
  rfl

/-- The mixer's output row. -/
theorem output (b : Fin 2) (s : Fin 16384) (n : Fin 2048) :
    val_main_v55 (F := Ideal) x g w lg lb ws bs wo (ix3 b s n)
      = gateMix (geluDot (nrm x g (flat b s)) (part w 0))
          (mixedRow (nrm x g) (part w 1) (gain lg) (gain lb) (heads ws) (offsets bs) (flat b s)) (fun f n => wo (ix2 f n)) n := by
  have e1 : ∀ f, lidx_main_v55 (ix3 b s n) f = ix3 b s f := fun k => ext3 rfl rfl rfl
  have e2 : ∀ f, ridx_main_v55 (ix3 b s n) f = ix2 f n := fun k => ext2 rfl rfl
  simp only [val_main_v55_apply, e1, e2, val_main_v54_apply, gated, mixed]
  rfl

/-- The sublayer's row. -/
theorem closed (b : Fin 2) (s : Fin 16384) (n : Fin 2048) :
    val_main_v69 (F := Ideal) x g h w lg lb ws bs wo (ix3 b s n)
      = sguRow (rows x) (gain g) (gain h) (part w 0) (part w 1) (gain lg) (gain lb) (heads ws) (offsets bs) (fun f n => wo (ix2 f n))
          (flat b s) n := by
  have e1 : ∀ l, idx_main_v57 (idx_main_v58 (idx_main_v64 (ix3 b s n))) l = ix3 b s l := fun l => ext3 rfl rfl rfl
  have e2 : idx_main_v66 (idx_main_v67 (ix3 b s n)) = ix1 n := ext1 rfl
  have e3 : x (ix3 b s n) = rows x (flat b s) n := (congrFun (rows_flat x b s) n).symm
  simp only [val_main_v69_apply, val_main_v68_apply, val_main_v67_apply, val_main_v66_apply, val_main_v65_apply,
    val_main_v64_apply, val_main_v63_apply, val_main_v62_apply, val_main_v61_apply, val_main_cst_11_apply, val_main_v60_apply,
    val_main_v59_apply, val_main_cst_10_apply, val_main_v58_apply, val_main_v57_apply, val_main_cst_9_apply, val_main_v56_apply,
    e1, e2, e3, output]
  pointwise
  rfl

/-- The returned array. -/
theorem returned (R : Fin 32768) (n : Fin 2048) :
    val_main_v70 (F := Ideal) x g h w lg lb ws bs wo (ix2 R n)
      = sguRow (rows x) (gain g) (gain h) (part w 0) (part w 1) (gain lg) (gain lb) (heads ws) (offsets bs) (fun f n => wo (ix2 f n)) R n := by
  have hn := n.isLt
  have e : idx_main_v70 (ix2 R n) = ix3 (seqOf R) (tokOf R) n :=
    ext3 (Fin.ext (by show (R.val * 2048 + n.val) / 33554432 = R.val / 16384; omega))
      (Fin.ext (by show (R.val * 2048 + n.val) / 2048 % 16384 = R.val % 16384; omega))
      (Fin.ext (by show (R.val * 2048 + n.val) % 2048 = n.val; omega))
  rw [val_main_v70_apply, e, closed, flat_of]

end Cert.SguReferenceIdeal.Rows

end
-- ==== Proof.Sgu.Equation.lean ====
/-
  The spatial-gating sublayer: the kernel's array is the reference's, and the reference and the printed kernel run cleanly.
-/
module

public import proofs.«01_k».proof.Defs
public import proofs.«01_k».proof.Proof.Sgu.Array
public import proofs.«01_k».proof.Proof.Sgu.Reference
public import proofs.«01_k».proof.Proof.Gen.SguReferenceIdeal.Run
public import proofs.«01_k».proof.Proof.Gen.SguKernel
public import Idealize.ShloMosaic.Lib.Quiescent

@[expose] public section

noncomputable section

namespace Cert.Sgu

open Idealize.ShloMosaic Idealize.ShloMosaic.TcCoe Idealize.SL.Sem Cert.Spec

/-- The reference terminates, keeps its arguments and leaves every counter at zero: it has no semaphores. -/
theorem reference_frame : Cert.quiescent_SguReferenceIdeal := fun m ρ _ =>
  (θ_run Cert.SguReferenceIdeal.defs _ _).mono
    (fun r h => ⟨fun c => (h c).2, Idealize.ShloMosaic.sem_eq_zero_of_no_sems (by decide) r.2⟩)
    (Cert.SguReferenceIdeal.Value.run m ρ)

/-- From memories that agree on the nine arguments, kernel and reference leave the same array. -/
theorem equation : Cert.algebraic_SguKernelIdeal_SguReferenceIdeal := by
  intro m g m' g' _ agree
  refine ⟨fun c => Cert.SguKernelIdeal.Array.final m c, Cert.SguKernelIdeal.Array.run m g,
    (θ_run Cert.SguReferenceIdeal.defs _ _).mono (fun r h c => ⟨(h c).1.trans ?_, (h c).2⟩)
      (Cert.SguReferenceIdeal.Value.run m' g')⟩
  obtain ⟨a0, a1, a2, a3, a4, a5, a6, a7, a8⟩ := agree c
  rw [Cert.SguReferenceIdeal.Read.val_main_v70_eq]
  rw [a0, a1, a2, a3, a4, a5, a6, a7, a8]
  funext i
  rw [eq_ix2 i]
  exact Cert.SguReferenceIdeal.Rows.returned _ _ _ _ _ _ _ _ _ (i 0) (i 1)

/-! ## The kernel as printed -/

/-- Its one kernel body, and its definitions, are the idealized kernel's read at the bit patterns. -/
theorem bodies [Cert.SguKernel.Facts] [Cert.SguKernelIdeal.Facts] :
    Cert.SguKernel.defs₀ (F := Bits) = Cert.SguKernelIdeal.defs₀ := by
  unfold Cert.SguKernel.defs₀ Cert.SguKernelIdeal.defs₀
  congr 1
  funext l x
  match l, x with
  | 0, (t, s) => rfl

theorem definitions [Cert.SguKernel.Facts] [Cert.SguKernelIdeal.Facts] :
    Cert.SguKernel.defs (F := Bits) = Cert.SguKernelIdeal.defs := by
  show Pipeline.defs _ Cert.SguKernel.defs₀ = Pipeline.defs _ Cert.SguKernelIdeal.defs₀
  rw [bodies]
  rfl

/-- So it terminates cleanly, since that proof is about any reading of the numbers. -/
theorem kernel_frame : Cert.quiescent_SguKernel := fun m ρ _ => by
  rw [definitions]
  exact Cert.SguKernelIdeal.Body.frame m ρ

end Cert.Sgu

end
-- ==== Proof.lean ====
/-
  The certificate of the feed-forward, short-convolution, pooling, conformer and spatial-gating calls: their frames, and the equation of
  kernel and reference over the extended reals.
-/
module

public import proofs.«01_k».proof.Defs
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Frame
public import proofs.«01_k».proof.Proof.Gen.FfnReferenceIdeal
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.SconvKernel
public import proofs.«01_k».proof.Proof.Gen.SconvKernel.Frame
public import proofs.«01_k».proof.Proof.Gen.SconvKernelIdeal
public import proofs.«01_k».proof.Proof.Gen.SconvKernelIdeal.Frame
public import proofs.«01_k».proof.Proof.Gen.SconvReferenceIdeal
public import proofs.«01_k».proof.Proof.Gen.SconvReferenceIdeal.Run
public import proofs.«01_k».proof.Proof.Gen.SconvReferenceIdeal.Read
public import proofs.«01_k».proof.Proof.Gen.PoolKernel
public import proofs.«01_k».proof.Proof.Gen.PoolKernel.Frame
public import proofs.«01_k».proof.Proof.Gen.PoolKernelIdeal
public import proofs.«01_k».proof.Proof.Gen.PoolKernelIdeal.Frame
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.ConfKernel
public import proofs.«01_k».proof.Proof.Gen.ConfKernelIdeal
public import proofs.«01_k».proof.Proof.Gen.ConfKernelIdeal.Launch
public import proofs.«01_k».proof.Proof.Gen.ConfKernelIdeal.Points
public import proofs.«01_k».proof.Proof.Gen.ConfKernelIdeal.Skeleton
public import proofs.«01_k».proof.Proof.Gen.ConfReferenceIdeal
public import proofs.«01_k».proof.Proof.Gen.ConfReferenceIdeal.Run
public import proofs.«01_k».proof.Proof.Gen.ConfReferenceIdeal.Read
public import proofs.«01_k».proof.Proof.Gen.SguKernel
public import proofs.«01_k».proof.Proof.Gen.SguKernelIdeal
public import proofs.«01_k».proof.Proof.Gen.SguKernelIdeal.Launch
public import proofs.«01_k».proof.Proof.Gen.SguKernelIdeal.Points
public import proofs.«01_k».proof.Proof.Gen.SguKernelIdeal.Skeleton
public import proofs.«01_k».proof.Proof.Gen.SguReferenceIdeal
public import proofs.«01_k».proof.Proof.Gen.SguReferenceIdeal.Run
public import proofs.«01_k».proof.Proof.Gen.SguReferenceIdeal.Read
public import proofs.«01_k».proof.Proof.Ffn.Equation
public import proofs.«01_k».proof.Proof.Sconv.Equation
public import proofs.«01_k».proof.Proof.Pool.Equation
public import proofs.«01_k».proof.Proof.Conf.Equation
public import proofs.«01_k».proof.Proof.Sgu.Equation

@[expose] public section

noncomputable section

namespace Cert.Proof

open Idealize.ShloMosaic

/-- Everything claimed. -/
theorem claim : Cert.Claim :=
  ⟨Cert.FfnKernel.Gen.facts, Cert.FfnKernelIdeal.Gen.facts, Cert.FfnReferenceIdeal.Gen.facts,
    Cert.SconvKernel.Gen.facts, Cert.SconvKernelIdeal.Gen.facts, Cert.SconvReferenceIdeal.Gen.facts,
    Cert.PoolKernel.Gen.facts, Cert.PoolKernelIdeal.Gen.facts, Cert.PoolReferenceIdeal.Gen.facts,
    Cert.ConfKernel.Gen.facts, Cert.ConfKernelIdeal.Gen.facts, Cert.ConfReferenceIdeal.Gen.facts,
    Cert.SguKernel.Gen.facts, Cert.SguKernelIdeal.Gen.facts, Cert.SguReferenceIdeal.Gen.facts,
    fun m ρ _ => Cert.FfnKernel.Gen.frame m ρ, fun m ρ _ => Cert.FfnKernelIdeal.Gen.frame m ρ, Cert.Ffn.reference_frame,
    fun m ρ _ => Cert.SconvKernel.Gen.frame m ρ, fun m ρ _ => Cert.SconvKernelIdeal.Gen.frame m ρ, Cert.Sconv.reference_frame,
    fun m ρ _ => Cert.PoolKernel.Gen.frame m ρ, fun m ρ _ => Cert.PoolKernelIdeal.Gen.frame m ρ, Cert.Pool.reference_frame,
    Cert.Conf.kernel_frame, fun m ρ _ => Cert.ConfKernelIdeal.Body.frame m ρ, Cert.Conf.reference_frame,
    Cert.Sgu.kernel_frame, fun m ρ _ => Cert.SguKernelIdeal.Body.frame m ρ, Cert.Sgu.reference_frame,
    trivial, Cert.Ffn.equation, trivial, Cert.Sconv.equation, trivial, Cert.Pool.equation, trivial, Cert.Conf.equation, trivial, Cert.Sgu.equation⟩

end Cert.Proof

end
